-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelW1Fwd (m : (ℓ : Loc Cert.KernelW1Fwd.nD Cert.KernelW1Fwd.τ Cert.KernelW1Fwd.sig) → Buf (Elt Bits) ℓ) : Prop :=
  True

def Pre_KernelW1FwdIdeal (m : (ℓ : Loc Cert.KernelW1FwdIdeal.nD Cert.KernelW1FwdIdeal.τ Cert.KernelW1FwdIdeal.sig) → Buf (Elt Ideal) ℓ) : Prop :=
  True

def Pre_ReferenceW1FwdIdeal (m : (ℓ : Loc Cert.ReferenceW1FwdIdeal.nD Cert.ReferenceW1FwdIdeal.τ Cert.ReferenceW1FwdIdeal.sig) → Buf (Elt Ideal) ℓ) : Prop :=
  True

def Pre_KernelW2Fwd (m : (ℓ : Loc Cert.KernelW2Fwd.nD Cert.KernelW2Fwd.τ Cert.KernelW2Fwd.sig) → Buf (Elt Bits) ℓ) : Prop :=
  True

def Pre_KernelW2FwdIdeal (m : (ℓ : Loc Cert.KernelW2FwdIdeal.nD Cert.KernelW2FwdIdeal.τ Cert.KernelW2FwdIdeal.sig) → Buf (Elt Ideal) ℓ) : Prop :=
  True

def Pre_ReferenceW2FwdIdeal (m : (ℓ : Loc Cert.ReferenceW2FwdIdeal.nD Cert.ReferenceW2FwdIdeal.τ Cert.ReferenceW2FwdIdeal.sig) → Buf (Elt Ideal) ℓ) : Prop :=
  True

def Pre_KernelW2Dw (m : (ℓ : Loc Cert.KernelW2Dw.nD Cert.KernelW2Dw.τ Cert.KernelW2Dw.sig) → Buf (Elt Bits) ℓ) : Prop :=
  True

def Pre_KernelW2DwIdeal (m : (ℓ : Loc Cert.KernelW2DwIdeal.nD Cert.KernelW2DwIdeal.τ Cert.KernelW2DwIdeal.sig) → Buf (Elt Ideal) ℓ) : Prop :=
  True

def Pre_ReferenceW2DwIdeal (m : (ℓ : Loc Cert.ReferenceW2DwIdeal.nD Cert.ReferenceW2DwIdeal.τ Cert.ReferenceW2DwIdeal.sig) → Buf (Elt Ideal) ℓ) : Prop :=
  True

def Pre_KernelW2Dx (m : (ℓ : Loc Cert.KernelW2Dx.nD Cert.KernelW2Dx.τ Cert.KernelW2Dx.sig) → Buf (Elt Bits) ℓ) : Prop :=
  True

def Pre_KernelW2DxIdeal (m : (ℓ : Loc Cert.KernelW2DxIdeal.nD Cert.KernelW2DxIdeal.τ Cert.KernelW2DxIdeal.sig) → Buf (Elt Ideal) ℓ) : Prop :=
  True

def Pre_ReferenceW2DxIdeal (m : (ℓ : Loc Cert.ReferenceW2DxIdeal.nD Cert.ReferenceW2DxIdeal.τ Cert.ReferenceW2DxIdeal.sig) → Buf (Elt Ideal) ℓ) : Prop :=
  True

def Pre_KernelW1Dw (m : (ℓ : Loc Cert.KernelW1Dw.nD Cert.KernelW1Dw.τ Cert.KernelW1Dw.sig) → Buf (Elt Bits) ℓ) : Prop :=
  True

def Pre_KernelW1DwIdeal (m : (ℓ : Loc Cert.KernelW1DwIdeal.nD Cert.KernelW1DwIdeal.τ Cert.KernelW1DwIdeal.sig) → Buf (Elt Ideal) ℓ) : Prop :=
  True

def Pre_ReferenceW1DwIdeal (m : (ℓ : Loc Cert.ReferenceW1DwIdeal.nD Cert.ReferenceW1DwIdeal.τ Cert.ReferenceW1DwIdeal.sig) → Buf (Elt Ideal) ℓ) : Prop :=
  True

def Pre_KernelW1Dx (m : (ℓ : Loc Cert.KernelW1Dx.nD Cert.KernelW1Dx.τ Cert.KernelW1Dx.sig) → Buf (Elt Bits) ℓ) : Prop :=
  True

def Pre_KernelW1DxIdeal (m : (ℓ : Loc Cert.KernelW1DxIdeal.nD Cert.KernelW1DxIdeal.τ Cert.KernelW1DxIdeal.sig) → Buf (Elt Ideal) ℓ) : Prop :=
  True

def Pre_ReferenceW1DxIdeal (m : (ℓ : Loc Cert.ReferenceW1DxIdeal.nD Cert.ReferenceW1DxIdeal.τ Cert.ReferenceW1DxIdeal.sig) → Buf (Elt Ideal) ℓ) : Prop :=
  True

def Pre_KernelInFwd (m : (ℓ : Loc Cert.KernelInFwd.nD Cert.KernelInFwd.τ Cert.KernelInFwd.sig) → Buf (Elt Bits) ℓ) : Prop :=
  True

def Pre_KernelInFwdIdeal (m : (ℓ : Loc Cert.KernelInFwdIdeal.nD Cert.KernelInFwdIdeal.τ Cert.KernelInFwdIdeal.sig) → Buf (Elt Ideal) ℓ) : Prop :=
  True

def Pre_ReferenceInFwdIdeal (m : (ℓ : Loc Cert.ReferenceInFwdIdeal.nD Cert.ReferenceInFwdIdeal.τ Cert.ReferenceInFwdIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelEvInFwd (m : (ℓ : Loc Cert.KernelEvInFwd.nD Cert.KernelEvInFwd.τ Cert.KernelEvInFwd.sig) → Buf (Elt Bits) ℓ) : Prop :=
  True

def Pre_KernelEvInFwdIdeal (m : (ℓ : Loc Cert.KernelEvInFwdIdeal.nD Cert.KernelEvInFwdIdeal.τ Cert.KernelEvInFwdIdeal.sig) → Buf (Elt Ideal) ℓ) : Prop :=
  True

def Pre_ReferenceEvInFwdIdeal (m : (ℓ : Loc Cert.ReferenceEvInFwdIdeal.nD Cert.ReferenceEvInFwdIdeal.τ Cert.ReferenceEvInFwdIdeal.sig) → Buf (Elt Ideal) ℓ) : Prop :=
  True

def Pre_KernelEvInDw (m : (ℓ : Loc Cert.KernelEvInDw.nD Cert.KernelEvInDw.τ Cert.KernelEvInDw.sig) → Buf (Elt Bits) ℓ) : Prop :=
  True

def Pre_KernelEvInDwIdeal (m : (ℓ : Loc Cert.KernelEvInDwIdeal.nD Cert.KernelEvInDwIdeal.τ Cert.KernelEvInDwIdeal.sig) → Buf (Elt Ideal) ℓ) : Prop :=
  True

def Pre_ReferenceEvInDwIdeal (m : (ℓ : Loc Cert.ReferenceEvInDwIdeal.nD Cert.ReferenceEvInDwIdeal.τ Cert.ReferenceEvInDwIdeal.sig) → Buf (Elt Ideal) ℓ) : Prop :=
  True

def Pre_KernelEvInDx (m : (ℓ : Loc Cert.KernelEvInDx.nD Cert.KernelEvInDx.τ Cert.KernelEvInDx.sig) → Buf (Elt Bits) ℓ) : Prop :=
  True

def Pre_KernelEvInDxIdeal (m : (ℓ : Loc Cert.KernelEvInDxIdeal.nD Cert.KernelEvInDxIdeal.τ Cert.KernelEvInDxIdeal.sig) → Buf (Elt Ideal) ℓ) : Prop :=
  True

def Pre_ReferenceEvInDxIdeal (m : (ℓ : Loc Cert.ReferenceEvInDxIdeal.nD Cert.ReferenceEvInDxIdeal.τ Cert.ReferenceEvInDxIdeal.sig) → Buf (Elt Ideal) ℓ) : Prop :=
  True

def Pre_KernelEvOutFwd (m : (ℓ : Loc Cert.KernelEvOutFwd.nD Cert.KernelEvOutFwd.τ Cert.KernelEvOutFwd.sig) → Buf (Elt Bits) ℓ) : Prop :=
  True

def Pre_KernelEvOutFwdIdeal (m : (ℓ : Loc Cert.KernelEvOutFwdIdeal.nD Cert.KernelEvOutFwdIdeal.τ Cert.KernelEvOutFwdIdeal.sig) → Buf (Elt Ideal) ℓ) : Prop :=
  True

def Pre_ReferenceEvOutFwdIdeal (m : (ℓ : Loc Cert.ReferenceEvOutFwdIdeal.nD Cert.ReferenceEvOutFwdIdeal.τ Cert.ReferenceEvOutFwdIdeal.sig) → Buf (Elt Ideal) ℓ) : Prop :=
  True

def Pre_KernelEvOutDw (m : (ℓ : Loc Cert.KernelEvOutDw.nD Cert.KernelEvOutDw.τ Cert.KernelEvOutDw.sig) → Buf (Elt Bits) ℓ) : Prop :=
  True

def Pre_KernelEvOutDwIdeal (m : (ℓ : Loc Cert.KernelEvOutDwIdeal.nD Cert.KernelEvOutDwIdeal.τ Cert.KernelEvOutDwIdeal.sig) → Buf (Elt Ideal) ℓ) : Prop :=
  True

def Pre_ReferenceEvOutDwIdeal (m : (ℓ : Loc Cert.ReferenceEvOutDwIdeal.nD Cert.ReferenceEvOutDwIdeal.τ Cert.ReferenceEvOutDwIdeal.sig) → Buf (Elt Ideal) ℓ) : Prop :=
  True

def Pre_KernelEvOutDx (m : (ℓ : Loc Cert.KernelEvOutDx.nD Cert.KernelEvOutDx.τ Cert.KernelEvOutDx.sig) → Buf (Elt Bits) ℓ) : Prop :=
  True

def Pre_KernelEvOutDxIdeal (m : (ℓ : Loc Cert.KernelEvOutDxIdeal.nD Cert.KernelEvOutDxIdeal.τ Cert.KernelEvOutDxIdeal.sig) → Buf (Elt Ideal) ℓ) : Prop :=
  True

def Pre_ReferenceEvOutDxIdeal (m : (ℓ : Loc Cert.ReferenceEvOutDxIdeal.nD Cert.ReferenceEvOutDxIdeal.τ Cert.ReferenceEvOutDxIdeal.sig) → Buf (Elt Ideal) ℓ) : Prop :=
  True

def Pre_KernelLnBwd (m : (ℓ : Loc Cert.KernelLnBwd.nD Cert.KernelLnBwd.τ Cert.KernelLnBwd.sig) → Buf (Elt Bits) ℓ) : Prop :=
  True

def Pre_KernelLnBwdIdeal (m : (ℓ : Loc Cert.KernelLnBwdIdeal.nD Cert.KernelLnBwdIdeal.τ Cert.KernelLnBwdIdeal.sig) → Buf (Elt Ideal) ℓ) : Prop :=
  True

def Pre_ReferenceLnBwdIdeal (m : (ℓ : Loc Cert.ReferenceLnBwdIdeal.nD Cert.ReferenceLnBwdIdeal.τ Cert.ReferenceLnBwdIdeal.sig) → Buf (Elt Ideal) ℓ) : Prop :=
  True

def Pre_KernelAttnBwd (m : (ℓ : Loc Cert.KernelAttnBwd.nD Cert.KernelAttnBwd.τ Cert.KernelAttnBwd.sig) → Buf (Elt Bits) ℓ) : Prop :=
  True

def Pre_KernelAttnBwdIdeal (m : (ℓ : Loc Cert.KernelAttnBwdIdeal.nD Cert.KernelAttnBwdIdeal.τ Cert.KernelAttnBwdIdeal.sig) → Buf (Elt Ideal) ℓ) : Prop :=
  True

def Pre_KernelAttnBwdIdeal_finite_attn_args [hPre_finite_attn_args : Cert.Pre_finite_attn_args.Facts] (m : (ℓ : Loc Cert.KernelAttnBwdIdeal.nD Cert.KernelAttnBwdIdeal.τ Cert.KernelAttnBwdIdeal.sig) → Buf (Elt Ideal) ℓ) : Prop :=
  ∀ c : Dev Cert.KernelAttnBwdIdeal.nD,
    (Cert.Pre_finite_attn_args.fn (F := Ideal) (m ((c.tc : Thread Cert.KernelAttnBwdIdeal.nD Cert.KernelAttnBwdIdeal.τ).loc Cert.KernelAttnBwdIdeal.main_arg0)) (m ((c.tc : Thread Cert.KernelAttnBwdIdeal.nD Cert.KernelAttnBwdIdeal.τ).loc Cert.KernelAttnBwdIdeal.main_arg1)) (m ((c.tc : Thread Cert.KernelAttnBwdIdeal.nD Cert.KernelAttnBwdIdeal.τ).loc Cert.KernelAttnBwdIdeal.main_arg2)) (m ((c.tc : Thread Cert.KernelAttnBwdIdeal.nD Cert.KernelAttnBwdIdeal.τ).loc Cert.KernelAttnBwdIdeal.main_arg3))).1 = (fun _ => 1#1)
    ∧ (Cert.Pre_finite_attn_args.fn (F := Ideal) (m ((c.tc : Thread Cert.KernelAttnBwdIdeal.nD Cert.KernelAttnBwdIdeal.τ).loc Cert.KernelAttnBwdIdeal.main_arg0)) (m ((c.tc : Thread Cert.KernelAttnBwdIdeal.nD Cert.KernelAttnBwdIdeal.τ).loc Cert.KernelAttnBwdIdeal.main_arg1)) (m ((c.tc : Thread Cert.KernelAttnBwdIdeal.nD Cert.KernelAttnBwdIdeal.τ).loc Cert.KernelAttnBwdIdeal.main_arg2)) (m ((c.tc : Thread Cert.KernelAttnBwdIdeal.nD Cert.KernelAttnBwdIdeal.τ).loc Cert.KernelAttnBwdIdeal.main_arg3))).2.1 = (fun _ => 1#1)
    ∧ (Cert.Pre_finite_attn_args.fn (F := Ideal) (m ((c.tc : Thread Cert.KernelAttnBwdIdeal.nD Cert.KernelAttnBwdIdeal.τ).loc Cert.KernelAttnBwdIdeal.main_arg0)) (m ((c.tc : Thread Cert.KernelAttnBwdIdeal.nD Cert.KernelAttnBwdIdeal.τ).loc Cert.KernelAttnBwdIdeal.main_arg1)) (m ((c.tc : Thread Cert.KernelAttnBwdIdeal.nD Cert.KernelAttnBwdIdeal.τ).loc Cert.KernelAttnBwdIdeal.main_arg2)) (m ((c.tc : Thread Cert.KernelAttnBwdIdeal.nD Cert.KernelAttnBwdIdeal.τ).loc Cert.KernelAttnBwdIdeal.main_arg3))).2.2 = (fun _ => 1#1)

def Pre_ReferenceAttnBwdIdeal (m : (ℓ : Loc Cert.ReferenceAttnBwdIdeal.nD Cert.ReferenceAttnBwdIdeal.τ Cert.ReferenceAttnBwdIdeal.sig) → Buf (Elt Ideal) ℓ) : Prop :=
  True

def Pre_ReferenceAttnBwdIdeal_finite_attn_args [hPre_finite_attn_args : Cert.Pre_finite_attn_args.Facts] (m : (ℓ : Loc Cert.ReferenceAttnBwdIdeal.nD Cert.ReferenceAttnBwdIdeal.τ Cert.ReferenceAttnBwdIdeal.sig) → Buf (Elt Ideal) ℓ) : Prop :=
  ∀ c : Dev Cert.ReferenceAttnBwdIdeal.nD,
    (Cert.Pre_finite_attn_args.fn (F := Ideal) (m ((c.tc : Thread Cert.ReferenceAttnBwdIdeal.nD Cert.ReferenceAttnBwdIdeal.τ).loc Cert.ReferenceAttnBwdIdeal.main_arg0)) (m ((c.tc : Thread Cert.ReferenceAttnBwdIdeal.nD Cert.ReferenceAttnBwdIdeal.τ).loc Cert.ReferenceAttnBwdIdeal.main_arg1)) (m ((c.tc : Thread Cert.ReferenceAttnBwdIdeal.nD Cert.ReferenceAttnBwdIdeal.τ).loc Cert.ReferenceAttnBwdIdeal.main_arg2)) (m ((c.tc : Thread Cert.ReferenceAttnBwdIdeal.nD Cert.ReferenceAttnBwdIdeal.τ).loc Cert.ReferenceAttnBwdIdeal.main_arg3))).1 = (fun _ => 1#1)
    ∧ (Cert.Pre_finite_attn_args.fn (F := Ideal) (m ((c.tc : Thread Cert.ReferenceAttnBwdIdeal.nD Cert.ReferenceAttnBwdIdeal.τ).loc Cert.ReferenceAttnBwdIdeal.main_arg0)) (m ((c.tc : Thread Cert.ReferenceAttnBwdIdeal.nD Cert.ReferenceAttnBwdIdeal.τ).loc Cert.ReferenceAttnBwdIdeal.main_arg1)) (m ((c.tc : Thread Cert.ReferenceAttnBwdIdeal.nD Cert.ReferenceAttnBwdIdeal.τ).loc Cert.ReferenceAttnBwdIdeal.main_arg2)) (m ((c.tc : Thread Cert.ReferenceAttnBwdIdeal.nD Cert.ReferenceAttnBwdIdeal.τ).loc Cert.ReferenceAttnBwdIdeal.main_arg3))).2.1 = (fun _ => 1#1)
    ∧ (Cert.Pre_finite_attn_args.fn (F := Ideal) (m ((c.tc : Thread Cert.ReferenceAttnBwdIdeal.nD Cert.ReferenceAttnBwdIdeal.τ).loc Cert.ReferenceAttnBwdIdeal.main_arg0)) (m ((c.tc : Thread Cert.ReferenceAttnBwdIdeal.nD Cert.ReferenceAttnBwdIdeal.τ).loc Cert.ReferenceAttnBwdIdeal.main_arg1)) (m ((c.tc : Thread Cert.ReferenceAttnBwdIdeal.nD Cert.ReferenceAttnBwdIdeal.τ).loc Cert.ReferenceAttnBwdIdeal.main_arg2)) (m ((c.tc : Thread Cert.ReferenceAttnBwdIdeal.nD Cert.ReferenceAttnBwdIdeal.τ).loc Cert.ReferenceAttnBwdIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelW1Fwd [hKernelW1Fwd : Cert.KernelW1Fwd.Facts] : Prop :=
  ∀ (m : (ℓ : Loc Cert.KernelW1Fwd.nD Cert.KernelW1Fwd.τ Cert.KernelW1Fwd.sig) → Buf (Elt Bits) ℓ) (g : Dev Cert.KernelW1Fwd.nD → PrngReg), Pre_KernelW1Fwd m →
    θ_run (Cert.KernelW1Fwd.defs (F := Bits)) (onTc (τ := Cert.KernelW1Fwd.τ) (Cert.KernelW1Fwd.main (F := Bits))) ⟨m, fun _ => 0, g⟩ (fun r => (∀ c : Dev Cert.KernelW1Fwd.nD,
      r.2.mem ((c.tc : Thread Cert.KernelW1Fwd.nD Cert.KernelW1Fwd.τ).loc Cert.KernelW1Fwd.main_arg0) = m ((c.tc : Thread Cert.KernelW1Fwd.nD Cert.KernelW1Fwd.τ).loc Cert.KernelW1Fwd.main_arg0)
      ∧ r.2.mem ((c.tc : Thread Cert.KernelW1Fwd.nD Cert.KernelW1Fwd.τ).loc Cert.KernelW1Fwd.main_arg1) = m ((c.tc : Thread Cert.KernelW1Fwd.nD Cert.KernelW1Fwd.τ).loc Cert.KernelW1Fwd.main_arg1))
      ∧ r.2.sem = fun _ => 0)

def quiescent_KernelW1FwdIdeal [hKernelW1FwdIdeal : Cert.KernelW1FwdIdeal.Facts] : Prop :=
  ∀ (m : (ℓ : Loc Cert.KernelW1FwdIdeal.nD Cert.KernelW1FwdIdeal.τ Cert.KernelW1FwdIdeal.sig) → Buf (Elt Ideal) ℓ) (g : Dev Cert.KernelW1FwdIdeal.nD → PrngReg), Pre_KernelW1FwdIdeal m →
    θ_run (Cert.KernelW1FwdIdeal.defs (F := Ideal)) (onTc (τ := Cert.KernelW1FwdIdeal.τ) (Cert.KernelW1FwdIdeal.main (F := Ideal))) ⟨m, fun _ => 0, g⟩ (fun r => (∀ c : Dev Cert.KernelW1FwdIdeal.nD,
      r.2.mem ((c.tc : Thread Cert.KernelW1FwdIdeal.nD Cert.KernelW1FwdIdeal.τ).loc Cert.KernelW1FwdIdeal.main_arg0) = m ((c.tc : Thread Cert.KernelW1FwdIdeal.nD Cert.KernelW1FwdIdeal.τ).loc Cert.KernelW1FwdIdeal.main_arg0)
      ∧ r.2.mem ((c.tc : Thread Cert.KernelW1FwdIdeal.nD Cert.KernelW1FwdIdeal.τ).loc Cert.KernelW1FwdIdeal.main_arg1) = m ((c.tc : Thread Cert.KernelW1FwdIdeal.nD Cert.KernelW1FwdIdeal.τ).loc Cert.KernelW1FwdIdeal.main_arg1))
      ∧ r.2.sem = fun _ => 0)

def quiescent_ReferenceW1FwdIdeal [hReferenceW1FwdIdeal : Cert.ReferenceW1FwdIdeal.Facts] : Prop :=
  ∀ (m : (ℓ : Loc Cert.ReferenceW1FwdIdeal.nD Cert.ReferenceW1FwdIdeal.τ Cert.ReferenceW1FwdIdeal.sig) → Buf (Elt Ideal) ℓ) (g : Dev Cert.ReferenceW1FwdIdeal.nD → PrngReg), Pre_ReferenceW1FwdIdeal m →
    θ_run (Cert.ReferenceW1FwdIdeal.defs (F := Ideal)) (onTc (τ := Cert.ReferenceW1FwdIdeal.τ) (Cert.ReferenceW1FwdIdeal.main (F := Ideal))) ⟨m, fun _ => 0, g⟩ (fun r => (∀ c : Dev Cert.ReferenceW1FwdIdeal.nD,
      r.2.mem ((c.tc : Thread Cert.ReferenceW1FwdIdeal.nD Cert.ReferenceW1FwdIdeal.τ).loc Cert.ReferenceW1FwdIdeal.main_arg0) = m ((c.tc : Thread Cert.ReferenceW1FwdIdeal.nD Cert.ReferenceW1FwdIdeal.τ).loc Cert.ReferenceW1FwdIdeal.main_arg0)
      ∧ r.2.mem ((c.tc : Thread Cert.ReferenceW1FwdIdeal.nD Cert.ReferenceW1FwdIdeal.τ).loc Cert.ReferenceW1FwdIdeal.main_arg1) = m ((c.tc : Thread Cert.ReferenceW1FwdIdeal.nD Cert.ReferenceW1FwdIdeal.τ).loc Cert.ReferenceW1FwdIdeal.main_arg1))
      ∧ r.2.sem = fun _ => 0)

def quiescent_KernelW2Fwd [hKernelW2Fwd : Cert.KernelW2Fwd.Facts] : Prop :=
  ∀ (m : (ℓ : Loc Cert.KernelW2Fwd.nD Cert.KernelW2Fwd.τ Cert.KernelW2Fwd.sig) → Buf (Elt Bits) ℓ) (g : Dev Cert.KernelW2Fwd.nD → PrngReg), Pre_KernelW2Fwd m →
    θ_run (Cert.KernelW2Fwd.defs (F := Bits)) (onTc (τ := Cert.KernelW2Fwd.τ) (Cert.KernelW2Fwd.main (F := Bits))) ⟨m, fun _ => 0, g⟩ (fun r => (∀ c : Dev Cert.KernelW2Fwd.nD,
      r.2.mem ((c.tc : Thread Cert.KernelW2Fwd.nD Cert.KernelW2Fwd.τ).loc Cert.KernelW2Fwd.main_arg0) = m ((c.tc : Thread Cert.KernelW2Fwd.nD Cert.KernelW2Fwd.τ).loc Cert.KernelW2Fwd.main_arg0)
      ∧ r.2.mem ((c.tc : Thread Cert.KernelW2Fwd.nD Cert.KernelW2Fwd.τ).loc Cert.KernelW2Fwd.main_arg1) = m ((c.tc : Thread Cert.KernelW2Fwd.nD Cert.KernelW2Fwd.τ).loc Cert.KernelW2Fwd.main_arg1))
      ∧ r.2.sem = fun _ => 0)

def quiescent_KernelW2FwdIdeal [hKernelW2FwdIdeal : Cert.KernelW2FwdIdeal.Facts] : Prop :=
  ∀ (m : (ℓ : Loc Cert.KernelW2FwdIdeal.nD Cert.KernelW2FwdIdeal.τ Cert.KernelW2FwdIdeal.sig) → Buf (Elt Ideal) ℓ) (g : Dev Cert.KernelW2FwdIdeal.nD → PrngReg), Pre_KernelW2FwdIdeal m →
    θ_run (Cert.KernelW2FwdIdeal.defs (F := Ideal)) (onTc (τ := Cert.KernelW2FwdIdeal.τ) (Cert.KernelW2FwdIdeal.main (F := Ideal))) ⟨m, fun _ => 0, g⟩ (fun r => (∀ c : Dev Cert.KernelW2FwdIdeal.nD,
      r.2.mem ((c.tc : Thread Cert.KernelW2FwdIdeal.nD Cert.KernelW2FwdIdeal.τ).loc Cert.KernelW2FwdIdeal.main_arg0) = m ((c.tc : Thread Cert.KernelW2FwdIdeal.nD Cert.KernelW2FwdIdeal.τ).loc Cert.KernelW2FwdIdeal.main_arg0)
      ∧ r.2.mem ((c.tc : Thread Cert.KernelW2FwdIdeal.nD Cert.KernelW2FwdIdeal.τ).loc Cert.KernelW2FwdIdeal.main_arg1) = m ((c.tc : Thread Cert.KernelW2FwdIdeal.nD Cert.KernelW2FwdIdeal.τ).loc Cert.KernelW2FwdIdeal.main_arg1))
      ∧ r.2.sem = fun _ => 0)

def quiescent_ReferenceW2FwdIdeal [hReferenceW2FwdIdeal : Cert.ReferenceW2FwdIdeal.Facts] : Prop :=
  ∀ (m : (ℓ : Loc Cert.ReferenceW2FwdIdeal.nD Cert.ReferenceW2FwdIdeal.τ Cert.ReferenceW2FwdIdeal.sig) → Buf (Elt Ideal) ℓ) (g : Dev Cert.ReferenceW2FwdIdeal.nD → PrngReg), Pre_ReferenceW2FwdIdeal m →
    θ_run (Cert.ReferenceW2FwdIdeal.defs (F := Ideal)) (onTc (τ := Cert.ReferenceW2FwdIdeal.τ) (Cert.ReferenceW2FwdIdeal.main (F := Ideal))) ⟨m, fun _ => 0, g⟩ (fun r => (∀ c : Dev Cert.ReferenceW2FwdIdeal.nD,
      r.2.mem ((c.tc : Thread Cert.ReferenceW2FwdIdeal.nD Cert.ReferenceW2FwdIdeal.τ).loc Cert.ReferenceW2FwdIdeal.main_arg0) = m ((c.tc : Thread Cert.ReferenceW2FwdIdeal.nD Cert.ReferenceW2FwdIdeal.τ).loc Cert.ReferenceW2FwdIdeal.main_arg0)
      ∧ r.2.mem ((c.tc : Thread Cert.ReferenceW2FwdIdeal.nD Cert.ReferenceW2FwdIdeal.τ).loc Cert.ReferenceW2FwdIdeal.main_arg1) = m ((c.tc : Thread Cert.ReferenceW2FwdIdeal.nD Cert.ReferenceW2FwdIdeal.τ).loc Cert.ReferenceW2FwdIdeal.main_arg1))
      ∧ r.2.sem = fun _ => 0)

def quiescent_KernelW2Dw [hKernelW2Dw : Cert.KernelW2Dw.Facts] : Prop :=
  ∀ (m : (ℓ : Loc Cert.KernelW2Dw.nD Cert.KernelW2Dw.τ Cert.KernelW2Dw.sig) → Buf (Elt Bits) ℓ) (g : Dev Cert.KernelW2Dw.nD → PrngReg), Pre_KernelW2Dw m →
    θ_run (Cert.KernelW2Dw.defs (F := Bits)) (onTc (τ := Cert.KernelW2Dw.τ) (Cert.KernelW2Dw.main (F := Bits))) ⟨m, fun _ => 0, g⟩ (fun r => (∀ c : Dev Cert.KernelW2Dw.nD,
      r.2.mem ((c.tc : Thread Cert.KernelW2Dw.nD Cert.KernelW2Dw.τ).loc Cert.KernelW2Dw.main_arg0) = m ((c.tc : Thread Cert.KernelW2Dw.nD Cert.KernelW2Dw.τ).loc Cert.KernelW2Dw.main_arg0)
      ∧ r.2.mem ((c.tc : Thread Cert.KernelW2Dw.nD Cert.KernelW2Dw.τ).loc Cert.KernelW2Dw.main_arg1) = m ((c.tc : Thread Cert.KernelW2Dw.nD Cert.KernelW2Dw.τ).loc Cert.KernelW2Dw.main_arg1))
      ∧ r.2.sem = fun _ => 0)

def quiescent_KernelW2DwIdeal [hKernelW2DwIdeal : Cert.KernelW2DwIdeal.Facts] : Prop :=
  ∀ (m : (ℓ : Loc Cert.KernelW2DwIdeal.nD Cert.KernelW2DwIdeal.τ Cert.KernelW2DwIdeal.sig) → Buf (Elt Ideal) ℓ) (g : Dev Cert.KernelW2DwIdeal.nD → PrngReg), Pre_KernelW2DwIdeal m →
    θ_run (Cert.KernelW2DwIdeal.defs (F := Ideal)) (onTc (τ := Cert.KernelW2DwIdeal.τ) (Cert.KernelW2DwIdeal.main (F := Ideal))) ⟨m, fun _ => 0, g⟩ (fun r => (∀ c : Dev Cert.KernelW2DwIdeal.nD,
      r.2.mem ((c.tc : Thread Cert.KernelW2DwIdeal.nD Cert.KernelW2DwIdeal.τ).loc Cert.KernelW2DwIdeal.main_arg0) = m ((c.tc : Thread Cert.KernelW2DwIdeal.nD Cert.KernelW2DwIdeal.τ).loc Cert.KernelW2DwIdeal.main_arg0)
      ∧ r.2.mem ((c.tc : Thread Cert.KernelW2DwIdeal.nD Cert.KernelW2DwIdeal.τ).loc Cert.KernelW2DwIdeal.main_arg1) = m ((c.tc : Thread Cert.KernelW2DwIdeal.nD Cert.KernelW2DwIdeal.τ).loc Cert.KernelW2DwIdeal.main_arg1))
      ∧ r.2.sem = fun _ => 0)

def quiescent_ReferenceW2DwIdeal [hReferenceW2DwIdeal : Cert.ReferenceW2DwIdeal.Facts] : Prop :=
  ∀ (m : (ℓ : Loc Cert.ReferenceW2DwIdeal.nD Cert.ReferenceW2DwIdeal.τ Cert.ReferenceW2DwIdeal.sig) → Buf (Elt Ideal) ℓ) (g : Dev Cert.ReferenceW2DwIdeal.nD → PrngReg), Pre_ReferenceW2DwIdeal m →
    θ_run (Cert.ReferenceW2DwIdeal.defs (F := Ideal)) (onTc (τ := Cert.ReferenceW2DwIdeal.τ) (Cert.ReferenceW2DwIdeal.main (F := Ideal))) ⟨m, fun _ => 0, g⟩ (fun r => (∀ c : Dev Cert.ReferenceW2DwIdeal.nD,
      r.2.mem ((c.tc : Thread Cert.ReferenceW2DwIdeal.nD Cert.ReferenceW2DwIdeal.τ).loc Cert.ReferenceW2DwIdeal.main_arg0) = m ((c.tc : Thread Cert.ReferenceW2DwIdeal.nD Cert.ReferenceW2DwIdeal.τ).loc Cert.ReferenceW2DwIdeal.main_arg0)
      ∧ r.2.mem ((c.tc : Thread Cert.ReferenceW2DwIdeal.nD Cert.ReferenceW2DwIdeal.τ).loc Cert.ReferenceW2DwIdeal.main_arg1) = m ((c.tc : Thread Cert.ReferenceW2DwIdeal.nD Cert.ReferenceW2DwIdeal.τ).loc Cert.ReferenceW2DwIdeal.main_arg1))
      ∧ r.2.sem = fun _ => 0)

def quiescent_KernelW2Dx [hKernelW2Dx : Cert.KernelW2Dx.Facts] : Prop :=
  ∀ (m : (ℓ : Loc Cert.KernelW2Dx.nD Cert.KernelW2Dx.τ Cert.KernelW2Dx.sig) → Buf (Elt Bits) ℓ) (g : Dev Cert.KernelW2Dx.nD → PrngReg), Pre_KernelW2Dx m →
    θ_run (Cert.KernelW2Dx.defs (F := Bits)) (onTc (τ := Cert.KernelW2Dx.τ) (Cert.KernelW2Dx.main (F := Bits))) ⟨m, fun _ => 0, g⟩ (fun r => (∀ c : Dev Cert.KernelW2Dx.nD,
      r.2.mem ((c.tc : Thread Cert.KernelW2Dx.nD Cert.KernelW2Dx.τ).loc Cert.KernelW2Dx.main_arg0) = m ((c.tc : Thread Cert.KernelW2Dx.nD Cert.KernelW2Dx.τ).loc Cert.KernelW2Dx.main_arg0)
      ∧ r.2.mem ((c.tc : Thread Cert.KernelW2Dx.nD Cert.KernelW2Dx.τ).loc Cert.KernelW2Dx.main_arg1) = m ((c.tc : Thread Cert.KernelW2Dx.nD Cert.KernelW2Dx.τ).loc Cert.KernelW2Dx.main_arg1)
      ∧ r.2.mem ((c.tc : Thread Cert.KernelW2Dx.nD Cert.KernelW2Dx.τ).loc Cert.KernelW2Dx.main_arg2) = m ((c.tc : Thread Cert.KernelW2Dx.nD Cert.KernelW2Dx.τ).loc Cert.KernelW2Dx.main_arg2))
      ∧ r.2.sem = fun _ => 0)

def quiescent_KernelW2DxIdeal [hKernelW2DxIdeal : Cert.KernelW2DxIdeal.Facts] : Prop :=
  ∀ (m : (ℓ : Loc Cert.KernelW2DxIdeal.nD Cert.KernelW2DxIdeal.τ Cert.KernelW2DxIdeal.sig) → Buf (Elt Ideal) ℓ) (g : Dev Cert.KernelW2DxIdeal.nD → PrngReg), Pre_KernelW2DxIdeal m →
    θ_run (Cert.KernelW2DxIdeal.defs (F := Ideal)) (onTc (τ := Cert.KernelW2DxIdeal.τ) (Cert.KernelW2DxIdeal.main (F := Ideal))) ⟨m, fun _ => 0, g⟩ (fun r => (∀ c : Dev Cert.KernelW2DxIdeal.nD,
      r.2.mem ((c.tc : Thread Cert.KernelW2DxIdeal.nD Cert.KernelW2DxIdeal.τ).loc Cert.KernelW2DxIdeal.main_arg0) = m ((c.tc : Thread Cert.KernelW2DxIdeal.nD Cert.KernelW2DxIdeal.τ).loc Cert.KernelW2DxIdeal.main_arg0)
      ∧ r.2.mem ((c.tc : Thread Cert.KernelW2DxIdeal.nD Cert.KernelW2DxIdeal.τ).loc Cert.KernelW2DxIdeal.main_arg1) = m ((c.tc : Thread Cert.KernelW2DxIdeal.nD Cert.KernelW2DxIdeal.τ).loc Cert.KernelW2DxIdeal.main_arg1)
      ∧ r.2.mem ((c.tc : Thread Cert.KernelW2DxIdeal.nD Cert.KernelW2DxIdeal.τ).loc Cert.KernelW2DxIdeal.main_arg2) = m ((c.tc : Thread Cert.KernelW2DxIdeal.nD Cert.KernelW2DxIdeal.τ).loc Cert.KernelW2DxIdeal.main_arg2))
      ∧ r.2.sem = fun _ => 0)

def quiescent_ReferenceW2DxIdeal [hReferenceW2DxIdeal : Cert.ReferenceW2DxIdeal.Facts] : Prop :=
  ∀ (m : (ℓ : Loc Cert.ReferenceW2DxIdeal.nD Cert.ReferenceW2DxIdeal.τ Cert.ReferenceW2DxIdeal.sig) → Buf (Elt Ideal) ℓ) (g : Dev Cert.ReferenceW2DxIdeal.nD → PrngReg), Pre_ReferenceW2DxIdeal m →
    θ_run (Cert.ReferenceW2DxIdeal.defs (F := Ideal)) (onTc (τ := Cert.ReferenceW2DxIdeal.τ) (Cert.ReferenceW2DxIdeal.main (F := Ideal))) ⟨m, fun _ => 0, g⟩ (fun r => (∀ c : Dev Cert.ReferenceW2DxIdeal.nD,
      r.2.mem ((c.tc : Thread Cert.ReferenceW2DxIdeal.nD Cert.ReferenceW2DxIdeal.τ).loc Cert.ReferenceW2DxIdeal.main_arg0) = m ((c.tc : Thread Cert.ReferenceW2DxIdeal.nD Cert.ReferenceW2DxIdeal.τ).loc Cert.ReferenceW2DxIdeal.main_arg0)
      ∧ r.2.mem ((c.tc : Thread Cert.ReferenceW2DxIdeal.nD Cert.ReferenceW2DxIdeal.τ).loc Cert.ReferenceW2DxIdeal.main_arg1) = m ((c.tc : Thread Cert.ReferenceW2DxIdeal.nD Cert.ReferenceW2DxIdeal.τ).loc Cert.ReferenceW2DxIdeal.main_arg1)
      ∧ r.2.mem ((c.tc : Thread Cert.ReferenceW2DxIdeal.nD Cert.ReferenceW2DxIdeal.τ).loc Cert.ReferenceW2DxIdeal.main_arg2) = m ((c.tc : Thread Cert.ReferenceW2DxIdeal.nD Cert.ReferenceW2DxIdeal.τ).loc Cert.ReferenceW2DxIdeal.main_arg2))
      ∧ r.2.sem = fun _ => 0)

def quiescent_KernelW1Dw [hKernelW1Dw : Cert.KernelW1Dw.Facts] : Prop :=
  ∀ (m : (ℓ : Loc Cert.KernelW1Dw.nD Cert.KernelW1Dw.τ Cert.KernelW1Dw.sig) → Buf (Elt Bits) ℓ) (g : Dev Cert.KernelW1Dw.nD → PrngReg), Pre_KernelW1Dw m →
    θ_run (Cert.KernelW1Dw.defs (F := Bits)) (onTc (τ := Cert.KernelW1Dw.τ) (Cert.KernelW1Dw.main (F := Bits))) ⟨m, fun _ => 0, g⟩ (fun r => (∀ c : Dev Cert.KernelW1Dw.nD,
      r.2.mem ((c.tc : Thread Cert.KernelW1Dw.nD Cert.KernelW1Dw.τ).loc Cert.KernelW1Dw.main_arg0) = m ((c.tc : Thread Cert.KernelW1Dw.nD Cert.KernelW1Dw.τ).loc Cert.KernelW1Dw.main_arg0)
      ∧ r.2.mem ((c.tc : Thread Cert.KernelW1Dw.nD Cert.KernelW1Dw.τ).loc Cert.KernelW1Dw.main_arg1) = m ((c.tc : Thread Cert.KernelW1Dw.nD Cert.KernelW1Dw.τ).loc Cert.KernelW1Dw.main_arg1))
      ∧ r.2.sem = fun _ => 0)

def quiescent_KernelW1DwIdeal [hKernelW1DwIdeal : Cert.KernelW1DwIdeal.Facts] : Prop :=
  ∀ (m : (ℓ : Loc Cert.KernelW1DwIdeal.nD Cert.KernelW1DwIdeal.τ Cert.KernelW1DwIdeal.sig) → Buf (Elt Ideal) ℓ) (g : Dev Cert.KernelW1DwIdeal.nD → PrngReg), Pre_KernelW1DwIdeal m →
    θ_run (Cert.KernelW1DwIdeal.defs (F := Ideal)) (onTc (τ := Cert.KernelW1DwIdeal.τ) (Cert.KernelW1DwIdeal.main (F := Ideal))) ⟨m, fun _ => 0, g⟩ (fun r => (∀ c : Dev Cert.KernelW1DwIdeal.nD,
      r.2.mem ((c.tc : Thread Cert.KernelW1DwIdeal.nD Cert.KernelW1DwIdeal.τ).loc Cert.KernelW1DwIdeal.main_arg0) = m ((c.tc : Thread Cert.KernelW1DwIdeal.nD Cert.KernelW1DwIdeal.τ).loc Cert.KernelW1DwIdeal.main_arg0)
      ∧ r.2.mem ((c.tc : Thread Cert.KernelW1DwIdeal.nD Cert.KernelW1DwIdeal.τ).loc Cert.KernelW1DwIdeal.main_arg1) = m ((c.tc : Thread Cert.KernelW1DwIdeal.nD Cert.KernelW1DwIdeal.τ).loc Cert.KernelW1DwIdeal.main_arg1))
      ∧ r.2.sem = fun _ => 0)

def quiescent_ReferenceW1DwIdeal [hReferenceW1DwIdeal : Cert.ReferenceW1DwIdeal.Facts] : Prop :=
  ∀ (m : (ℓ : Loc Cert.ReferenceW1DwIdeal.nD Cert.ReferenceW1DwIdeal.τ Cert.ReferenceW1DwIdeal.sig) → Buf (Elt Ideal) ℓ) (g : Dev Cert.ReferenceW1DwIdeal.nD → PrngReg), Pre_ReferenceW1DwIdeal m →
    θ_run (Cert.ReferenceW1DwIdeal.defs (F := Ideal)) (onTc (τ := Cert.ReferenceW1DwIdeal.τ) (Cert.ReferenceW1DwIdeal.main (F := Ideal))) ⟨m, fun _ => 0, g⟩ (fun r => (∀ c : Dev Cert.ReferenceW1DwIdeal.nD,
      r.2.mem ((c.tc : Thread Cert.ReferenceW1DwIdeal.nD Cert.ReferenceW1DwIdeal.τ).loc Cert.ReferenceW1DwIdeal.main_arg0) = m ((c.tc : Thread Cert.ReferenceW1DwIdeal.nD Cert.ReferenceW1DwIdeal.τ).loc Cert.ReferenceW1DwIdeal.main_arg0)
      ∧ r.2.mem ((c.tc : Thread Cert.ReferenceW1DwIdeal.nD Cert.ReferenceW1DwIdeal.τ).loc Cert.ReferenceW1DwIdeal.main_arg1) = m ((c.tc : Thread Cert.ReferenceW1DwIdeal.nD Cert.ReferenceW1DwIdeal.τ).loc Cert.ReferenceW1DwIdeal.main_arg1))
      ∧ r.2.sem = fun _ => 0)

def quiescent_KernelW1Dx [hKernelW1Dx : Cert.KernelW1Dx.Facts] : Prop :=
  ∀ (m : (ℓ : Loc Cert.KernelW1Dx.nD Cert.KernelW1Dx.τ Cert.KernelW1Dx.sig) → Buf (Elt Bits) ℓ) (g : Dev Cert.KernelW1Dx.nD → PrngReg), Pre_KernelW1Dx m →
    θ_run (Cert.KernelW1Dx.defs (F := Bits)) (onTc (τ := Cert.KernelW1Dx.τ) (Cert.KernelW1Dx.main (F := Bits))) ⟨m, fun _ => 0, g⟩ (fun r => (∀ c : Dev Cert.KernelW1Dx.nD,
      r.2.mem ((c.tc : Thread Cert.KernelW1Dx.nD Cert.KernelW1Dx.τ).loc Cert.KernelW1Dx.main_arg0) = m ((c.tc : Thread Cert.KernelW1Dx.nD Cert.KernelW1Dx.τ).loc Cert.KernelW1Dx.main_arg0)
      ∧ r.2.mem ((c.tc : Thread Cert.KernelW1Dx.nD Cert.KernelW1Dx.τ).loc Cert.KernelW1Dx.main_arg1) = m ((c.tc : Thread Cert.KernelW1Dx.nD Cert.KernelW1Dx.τ).loc Cert.KernelW1Dx.main_arg1))
      ∧ r.2.sem = fun _ => 0)

def quiescent_KernelW1DxIdeal [hKernelW1DxIdeal : Cert.KernelW1DxIdeal.Facts] : Prop :=
  ∀ (m : (ℓ : Loc Cert.KernelW1DxIdeal.nD Cert.KernelW1DxIdeal.τ Cert.KernelW1DxIdeal.sig) → Buf (Elt Ideal) ℓ) (g : Dev Cert.KernelW1DxIdeal.nD → PrngReg), Pre_KernelW1DxIdeal m →
    θ_run (Cert.KernelW1DxIdeal.defs (F := Ideal)) (onTc (τ := Cert.KernelW1DxIdeal.τ) (Cert.KernelW1DxIdeal.main (F := Ideal))) ⟨m, fun _ => 0, g⟩ (fun r => (∀ c : Dev Cert.KernelW1DxIdeal.nD,
      r.2.mem ((c.tc : Thread Cert.KernelW1DxIdeal.nD Cert.KernelW1DxIdeal.τ).loc Cert.KernelW1DxIdeal.main_arg0) = m ((c.tc : Thread Cert.KernelW1DxIdeal.nD Cert.KernelW1DxIdeal.τ).loc Cert.KernelW1DxIdeal.main_arg0)
      ∧ r.2.mem ((c.tc : Thread Cert.KernelW1DxIdeal.nD Cert.KernelW1DxIdeal.τ).loc Cert.KernelW1DxIdeal.main_arg1) = m ((c.tc : Thread Cert.KernelW1DxIdeal.nD Cert.KernelW1DxIdeal.τ).loc Cert.KernelW1DxIdeal.main_arg1))
      ∧ r.2.sem = fun _ => 0)

def quiescent_ReferenceW1DxIdeal [hReferenceW1DxIdeal : Cert.ReferenceW1DxIdeal.Facts] : Prop :=
  ∀ (m : (ℓ : Loc Cert.ReferenceW1DxIdeal.nD Cert.ReferenceW1DxIdeal.τ Cert.ReferenceW1DxIdeal.sig) → Buf (Elt Ideal) ℓ) (g : Dev Cert.ReferenceW1DxIdeal.nD → PrngReg), Pre_ReferenceW1DxIdeal m →
    θ_run (Cert.ReferenceW1DxIdeal.defs (F := Ideal)) (onTc (τ := Cert.ReferenceW1DxIdeal.τ) (Cert.ReferenceW1DxIdeal.main (F := Ideal))) ⟨m, fun _ => 0, g⟩ (fun r => (∀ c : Dev Cert.ReferenceW1DxIdeal.nD,
      r.2.mem ((c.tc : Thread Cert.ReferenceW1DxIdeal.nD Cert.ReferenceW1DxIdeal.τ).loc Cert.ReferenceW1DxIdeal.main_arg0) = m ((c.tc : Thread Cert.ReferenceW1DxIdeal.nD Cert.ReferenceW1DxIdeal.τ).loc Cert.ReferenceW1DxIdeal.main_arg0)
      ∧ r.2.mem ((c.tc : Thread Cert.ReferenceW1DxIdeal.nD Cert.ReferenceW1DxIdeal.τ).loc Cert.ReferenceW1DxIdeal.main_arg1) = m ((c.tc : Thread Cert.ReferenceW1DxIdeal.nD Cert.ReferenceW1DxIdeal.τ).loc Cert.ReferenceW1DxIdeal.main_arg1))
      ∧ r.2.sem = fun _ => 0)

def quiescent_KernelInFwd [hKernelInFwd : Cert.KernelInFwd.Facts] : Prop :=
  ∀ (m : (ℓ : Loc Cert.KernelInFwd.nD Cert.KernelInFwd.τ Cert.KernelInFwd.sig) → Buf (Elt Bits) ℓ) (g : Dev Cert.KernelInFwd.nD → PrngReg), Pre_KernelInFwd m →
    θ_run (Cert.KernelInFwd.defs (F := Bits)) (onTc (τ := Cert.KernelInFwd.τ) (Cert.KernelInFwd.main (F := Bits))) ⟨m, fun _ => 0, g⟩ (fun r => (∀ c : Dev Cert.KernelInFwd.nD,
      r.2.mem ((c.tc : Thread Cert.KernelInFwd.nD Cert.KernelInFwd.τ).loc Cert.KernelInFwd.main_arg0) = m ((c.tc : Thread Cert.KernelInFwd.nD Cert.KernelInFwd.τ).loc Cert.KernelInFwd.main_arg0)
      ∧ r.2.mem ((c.tc : Thread Cert.KernelInFwd.nD Cert.KernelInFwd.τ).loc Cert.KernelInFwd.main_arg1) = m ((c.tc : Thread Cert.KernelInFwd.nD Cert.KernelInFwd.τ).loc Cert.KernelInFwd.main_arg1))
      ∧ r.2.sem = fun _ => 0)

def quiescent_KernelInFwdIdeal [hKernelInFwdIdeal : Cert.KernelInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg), Pre_KernelInFwdIdeal m →
    θ_run (Cert.KernelInFwdIdeal.defs (F := Ideal)) (onTc (τ := Cert.KernelInFwdIdeal.τ) (Cert.KernelInFwdIdeal.main (F := Ideal))) ⟨m, fun _ => 0, g⟩ (fun r => (∀ c : Dev Cert.KernelInFwdIdeal.nD,
      r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
      ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1))
      ∧ r.2.sem = fun _ => 0)

def quiescent_ReferenceInFwdIdeal [hReferenceInFwdIdeal : Cert.ReferenceInFwdIdeal.Facts] : Prop :=
  ∀ (m : (ℓ : Loc Cert.ReferenceInFwdIdeal.nD Cert.ReferenceInFwdIdeal.τ Cert.ReferenceInFwdIdeal.sig) → Buf (Elt Ideal) ℓ) (g : Dev Cert.ReferenceInFwdIdeal.nD → PrngReg), Pre_ReferenceInFwdIdeal m →
    θ_run (Cert.ReferenceInFwdIdeal.defs (F := Ideal)) (onTc (τ := Cert.ReferenceInFwdIdeal.τ) (Cert.ReferenceInFwdIdeal.main (F := Ideal))) ⟨m, fun _ => 0, g⟩ (fun r => (∀ c : Dev Cert.ReferenceInFwdIdeal.nD,
      r.2.mem ((c.tc : Thread Cert.ReferenceInFwdIdeal.nD Cert.ReferenceInFwdIdeal.τ).loc Cert.ReferenceInFwdIdeal.main_arg0) = m ((c.tc : Thread Cert.ReferenceInFwdIdeal.nD Cert.ReferenceInFwdIdeal.τ).loc Cert.ReferenceInFwdIdeal.main_arg0)
      ∧ r.2.mem ((c.tc : Thread Cert.ReferenceInFwdIdeal.nD Cert.ReferenceInFwdIdeal.τ).loc Cert.ReferenceInFwdIdeal.main_arg1) = m ((c.tc : Thread Cert.ReferenceInFwdIdeal.nD Cert.ReferenceInFwdIdeal.τ).loc Cert.ReferenceInFwdIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelEvInFwd [hKernelEvInFwd : Cert.KernelEvInFwd.Facts] : Prop :=
  ∀ (m : (ℓ : Loc Cert.KernelEvInFwd.nD Cert.KernelEvInFwd.τ Cert.KernelEvInFwd.sig) → Buf (Elt Bits) ℓ) (g : Dev Cert.KernelEvInFwd.nD → PrngReg), Pre_KernelEvInFwd m →
    θ_run (Cert.KernelEvInFwd.defs (F := Bits)) (onTc (τ := Cert.KernelEvInFwd.τ) (Cert.KernelEvInFwd.main (F := Bits))) ⟨m, fun _ => 0, g⟩ (fun r => (∀ c : Dev Cert.KernelEvInFwd.nD,
      r.2.mem ((c.tc : Thread Cert.KernelEvInFwd.nD Cert.KernelEvInFwd.τ).loc Cert.KernelEvInFwd.main_arg0) = m ((c.tc : Thread Cert.KernelEvInFwd.nD Cert.KernelEvInFwd.τ).loc Cert.KernelEvInFwd.main_arg0)
      ∧ r.2.mem ((c.tc : Thread Cert.KernelEvInFwd.nD Cert.KernelEvInFwd.τ).loc Cert.KernelEvInFwd.main_arg1) = m ((c.tc : Thread Cert.KernelEvInFwd.nD Cert.KernelEvInFwd.τ).loc Cert.KernelEvInFwd.main_arg1))
      ∧ r.2.sem = fun _ => 0)

def quiescent_KernelEvInFwdIdeal [hKernelEvInFwdIdeal : Cert.KernelEvInFwdIdeal.Facts] : Prop :=
  ∀ (m : (ℓ : Loc Cert.KernelEvInFwdIdeal.nD Cert.KernelEvInFwdIdeal.τ Cert.KernelEvInFwdIdeal.sig) → Buf (Elt Ideal) ℓ) (g : Dev Cert.KernelEvInFwdIdeal.nD → PrngReg), Pre_KernelEvInFwdIdeal m →
    θ_run (Cert.KernelEvInFwdIdeal.defs (F := Ideal)) (onTc (τ := Cert.KernelEvInFwdIdeal.τ) (Cert.KernelEvInFwdIdeal.main (F := Ideal))) ⟨m, fun _ => 0, g⟩ (fun r => (∀ c : Dev Cert.KernelEvInFwdIdeal.nD,
      r.2.mem ((c.tc : Thread Cert.KernelEvInFwdIdeal.nD Cert.KernelEvInFwdIdeal.τ).loc Cert.KernelEvInFwdIdeal.main_arg0) = m ((c.tc : Thread Cert.KernelEvInFwdIdeal.nD Cert.KernelEvInFwdIdeal.τ).loc Cert.KernelEvInFwdIdeal.main_arg0)
      ∧ r.2.mem ((c.tc : Thread Cert.KernelEvInFwdIdeal.nD Cert.KernelEvInFwdIdeal.τ).loc Cert.KernelEvInFwdIdeal.main_arg1) = m ((c.tc : Thread Cert.KernelEvInFwdIdeal.nD Cert.KernelEvInFwdIdeal.τ).loc Cert.KernelEvInFwdIdeal.main_arg1))
      ∧ r.2.sem = fun _ => 0)

def quiescent_ReferenceEvInFwdIdeal [hReferenceEvInFwdIdeal : Cert.ReferenceEvInFwdIdeal.Facts] : Prop :=
  ∀ (m : (ℓ : Loc Cert.ReferenceEvInFwdIdeal.nD Cert.ReferenceEvInFwdIdeal.τ Cert.ReferenceEvInFwdIdeal.sig) → Buf (Elt Ideal) ℓ) (g : Dev Cert.ReferenceEvInFwdIdeal.nD → PrngReg), Pre_ReferenceEvInFwdIdeal m →
    θ_run (Cert.ReferenceEvInFwdIdeal.defs (F := Ideal)) (onTc (τ := Cert.ReferenceEvInFwdIdeal.τ) (Cert.ReferenceEvInFwdIdeal.main (F := Ideal))) ⟨m, fun _ => 0, g⟩ (fun r => (∀ c : Dev Cert.ReferenceEvInFwdIdeal.nD,
      r.2.mem ((c.tc : Thread Cert.ReferenceEvInFwdIdeal.nD Cert.ReferenceEvInFwdIdeal.τ).loc Cert.ReferenceEvInFwdIdeal.main_arg0) = m ((c.tc : Thread Cert.ReferenceEvInFwdIdeal.nD Cert.ReferenceEvInFwdIdeal.τ).loc Cert.ReferenceEvInFwdIdeal.main_arg0)
      ∧ r.2.mem ((c.tc : Thread Cert.ReferenceEvInFwdIdeal.nD Cert.ReferenceEvInFwdIdeal.τ).loc Cert.ReferenceEvInFwdIdeal.main_arg1) = m ((c.tc : Thread Cert.ReferenceEvInFwdIdeal.nD Cert.ReferenceEvInFwdIdeal.τ).loc Cert.ReferenceEvInFwdIdeal.main_arg1))
      ∧ r.2.sem = fun _ => 0)

def quiescent_KernelEvInDw [hKernelEvInDw : Cert.KernelEvInDw.Facts] : Prop :=
  ∀ (m : (ℓ : Loc Cert.KernelEvInDw.nD Cert.KernelEvInDw.τ Cert.KernelEvInDw.sig) → Buf (Elt Bits) ℓ) (g : Dev Cert.KernelEvInDw.nD → PrngReg), Pre_KernelEvInDw m →
    θ_run (Cert.KernelEvInDw.defs (F := Bits)) (onTc (τ := Cert.KernelEvInDw.τ) (Cert.KernelEvInDw.main (F := Bits))) ⟨m, fun _ => 0, g⟩ (fun r => (∀ c : Dev Cert.KernelEvInDw.nD,
      r.2.mem ((c.tc : Thread Cert.KernelEvInDw.nD Cert.KernelEvInDw.τ).loc Cert.KernelEvInDw.main_arg0) = m ((c.tc : Thread Cert.KernelEvInDw.nD Cert.KernelEvInDw.τ).loc Cert.KernelEvInDw.main_arg0)
      ∧ r.2.mem ((c.tc : Thread Cert.KernelEvInDw.nD Cert.KernelEvInDw.τ).loc Cert.KernelEvInDw.main_arg1) = m ((c.tc : Thread Cert.KernelEvInDw.nD Cert.KernelEvInDw.τ).loc Cert.KernelEvInDw.main_arg1))
      ∧ r.2.sem = fun _ => 0)

def quiescent_KernelEvInDwIdeal [hKernelEvInDwIdeal : Cert.KernelEvInDwIdeal.Facts] : Prop :=
  ∀ (m : (ℓ : Loc Cert.KernelEvInDwIdeal.nD Cert.KernelEvInDwIdeal.τ Cert.KernelEvInDwIdeal.sig) → Buf (Elt Ideal) ℓ) (g : Dev Cert.KernelEvInDwIdeal.nD → PrngReg), Pre_KernelEvInDwIdeal m →
    θ_run (Cert.KernelEvInDwIdeal.defs (F := Ideal)) (onTc (τ := Cert.KernelEvInDwIdeal.τ) (Cert.KernelEvInDwIdeal.main (F := Ideal))) ⟨m, fun _ => 0, g⟩ (fun r => (∀ c : Dev Cert.KernelEvInDwIdeal.nD,
      r.2.mem ((c.tc : Thread Cert.KernelEvInDwIdeal.nD Cert.KernelEvInDwIdeal.τ).loc Cert.KernelEvInDwIdeal.main_arg0) = m ((c.tc : Thread Cert.KernelEvInDwIdeal.nD Cert.KernelEvInDwIdeal.τ).loc Cert.KernelEvInDwIdeal.main_arg0)
      ∧ r.2.mem ((c.tc : Thread Cert.KernelEvInDwIdeal.nD Cert.KernelEvInDwIdeal.τ).loc Cert.KernelEvInDwIdeal.main_arg1) = m ((c.tc : Thread Cert.KernelEvInDwIdeal.nD Cert.KernelEvInDwIdeal.τ).loc Cert.KernelEvInDwIdeal.main_arg1))
      ∧ r.2.sem = fun _ => 0)

def quiescent_ReferenceEvInDwIdeal [hReferenceEvInDwIdeal : Cert.ReferenceEvInDwIdeal.Facts] : Prop :=
  ∀ (m : (ℓ : Loc Cert.ReferenceEvInDwIdeal.nD Cert.ReferenceEvInDwIdeal.τ Cert.ReferenceEvInDwIdeal.sig) → Buf (Elt Ideal) ℓ) (g : Dev Cert.ReferenceEvInDwIdeal.nD → PrngReg), Pre_ReferenceEvInDwIdeal m →
    θ_run (Cert.ReferenceEvInDwIdeal.defs (F := Ideal)) (onTc (τ := Cert.ReferenceEvInDwIdeal.τ) (Cert.ReferenceEvInDwIdeal.main (F := Ideal))) ⟨m, fun _ => 0, g⟩ (fun r => (∀ c : Dev Cert.ReferenceEvInDwIdeal.nD,
      r.2.mem ((c.tc : Thread Cert.ReferenceEvInDwIdeal.nD Cert.ReferenceEvInDwIdeal.τ).loc Cert.ReferenceEvInDwIdeal.main_arg0) = m ((c.tc : Thread Cert.ReferenceEvInDwIdeal.nD Cert.ReferenceEvInDwIdeal.τ).loc Cert.ReferenceEvInDwIdeal.main_arg0)
      ∧ r.2.mem ((c.tc : Thread Cert.ReferenceEvInDwIdeal.nD Cert.ReferenceEvInDwIdeal.τ).loc Cert.ReferenceEvInDwIdeal.main_arg1) = m ((c.tc : Thread Cert.ReferenceEvInDwIdeal.nD Cert.ReferenceEvInDwIdeal.τ).loc Cert.ReferenceEvInDwIdeal.main_arg1))
      ∧ r.2.sem = fun _ => 0)

def quiescent_KernelEvInDx [hKernelEvInDx : Cert.KernelEvInDx.Facts] : Prop :=
  ∀ (m : (ℓ : Loc Cert.KernelEvInDx.nD Cert.KernelEvInDx.τ Cert.KernelEvInDx.sig) → Buf (Elt Bits) ℓ) (g : Dev Cert.KernelEvInDx.nD → PrngReg), Pre_KernelEvInDx m →
    θ_run (Cert.KernelEvInDx.defs (F := Bits)) (onTc (τ := Cert.KernelEvInDx.τ) (Cert.KernelEvInDx.main (F := Bits))) ⟨m, fun _ => 0, g⟩ (fun r => (∀ c : Dev Cert.KernelEvInDx.nD,
      r.2.mem ((c.tc : Thread Cert.KernelEvInDx.nD Cert.KernelEvInDx.τ).loc Cert.KernelEvInDx.main_arg0) = m ((c.tc : Thread Cert.KernelEvInDx.nD Cert.KernelEvInDx.τ).loc Cert.KernelEvInDx.main_arg0)
      ∧ r.2.mem ((c.tc : Thread Cert.KernelEvInDx.nD Cert.KernelEvInDx.τ).loc Cert.KernelEvInDx.main_arg1) = m ((c.tc : Thread Cert.KernelEvInDx.nD Cert.KernelEvInDx.τ).loc Cert.KernelEvInDx.main_arg1))
      ∧ r.2.sem = fun _ => 0)

def quiescent_KernelEvInDxIdeal [hKernelEvInDxIdeal : Cert.KernelEvInDxIdeal.Facts] : Prop :=
  ∀ (m : (ℓ : Loc Cert.KernelEvInDxIdeal.nD Cert.KernelEvInDxIdeal.τ Cert.KernelEvInDxIdeal.sig) → Buf (Elt Ideal) ℓ) (g : Dev Cert.KernelEvInDxIdeal.nD → PrngReg), Pre_KernelEvInDxIdeal m →
    θ_run (Cert.KernelEvInDxIdeal.defs (F := Ideal)) (onTc (τ := Cert.KernelEvInDxIdeal.τ) (Cert.KernelEvInDxIdeal.main (F := Ideal))) ⟨m, fun _ => 0, g⟩ (fun r => (∀ c : Dev Cert.KernelEvInDxIdeal.nD,
      r.2.mem ((c.tc : Thread Cert.KernelEvInDxIdeal.nD Cert.KernelEvInDxIdeal.τ).loc Cert.KernelEvInDxIdeal.main_arg0) = m ((c.tc : Thread Cert.KernelEvInDxIdeal.nD Cert.KernelEvInDxIdeal.τ).loc Cert.KernelEvInDxIdeal.main_arg0)
      ∧ r.2.mem ((c.tc : Thread Cert.KernelEvInDxIdeal.nD Cert.KernelEvInDxIdeal.τ).loc Cert.KernelEvInDxIdeal.main_arg1) = m ((c.tc : Thread Cert.KernelEvInDxIdeal.nD Cert.KernelEvInDxIdeal.τ).loc Cert.KernelEvInDxIdeal.main_arg1))
      ∧ r.2.sem = fun _ => 0)

def quiescent_ReferenceEvInDxIdeal [hReferenceEvInDxIdeal : Cert.ReferenceEvInDxIdeal.Facts] : Prop :=
  ∀ (m : (ℓ : Loc Cert.ReferenceEvInDxIdeal.nD Cert.ReferenceEvInDxIdeal.τ Cert.ReferenceEvInDxIdeal.sig) → Buf (Elt Ideal) ℓ) (g : Dev Cert.ReferenceEvInDxIdeal.nD → PrngReg), Pre_ReferenceEvInDxIdeal m →
    θ_run (Cert.ReferenceEvInDxIdeal.defs (F := Ideal)) (onTc (τ := Cert.ReferenceEvInDxIdeal.τ) (Cert.ReferenceEvInDxIdeal.main (F := Ideal))) ⟨m, fun _ => 0, g⟩ (fun r => (∀ c : Dev Cert.ReferenceEvInDxIdeal.nD,
      r.2.mem ((c.tc : Thread Cert.ReferenceEvInDxIdeal.nD Cert.ReferenceEvInDxIdeal.τ).loc Cert.ReferenceEvInDxIdeal.main_arg0) = m ((c.tc : Thread Cert.ReferenceEvInDxIdeal.nD Cert.ReferenceEvInDxIdeal.τ).loc Cert.ReferenceEvInDxIdeal.main_arg0)
      ∧ r.2.mem ((c.tc : Thread Cert.ReferenceEvInDxIdeal.nD Cert.ReferenceEvInDxIdeal.τ).loc Cert.ReferenceEvInDxIdeal.main_arg1) = m ((c.tc : Thread Cert.ReferenceEvInDxIdeal.nD Cert.ReferenceEvInDxIdeal.τ).loc Cert.ReferenceEvInDxIdeal.main_arg1))
      ∧ r.2.sem = fun _ => 0)

def quiescent_KernelEvOutFwd [hKernelEvOutFwd : Cert.KernelEvOutFwd.Facts] : Prop :=
  ∀ (m : (ℓ : Loc Cert.KernelEvOutFwd.nD Cert.KernelEvOutFwd.τ Cert.KernelEvOutFwd.sig) → Buf (Elt Bits) ℓ) (g : Dev Cert.KernelEvOutFwd.nD → PrngReg), Pre_KernelEvOutFwd m →
    θ_run (Cert.KernelEvOutFwd.defs (F := Bits)) (onTc (τ := Cert.KernelEvOutFwd.τ) (Cert.KernelEvOutFwd.main (F := Bits))) ⟨m, fun _ => 0, g⟩ (fun r => (∀ c : Dev Cert.KernelEvOutFwd.nD,
      r.2.mem ((c.tc : Thread Cert.KernelEvOutFwd.nD Cert.KernelEvOutFwd.τ).loc Cert.KernelEvOutFwd.main_arg0) = m ((c.tc : Thread Cert.KernelEvOutFwd.nD Cert.KernelEvOutFwd.τ).loc Cert.KernelEvOutFwd.main_arg0)
      ∧ r.2.mem ((c.tc : Thread Cert.KernelEvOutFwd.nD Cert.KernelEvOutFwd.τ).loc Cert.KernelEvOutFwd.main_arg1) = m ((c.tc : Thread Cert.KernelEvOutFwd.nD Cert.KernelEvOutFwd.τ).loc Cert.KernelEvOutFwd.main_arg1))
      ∧ r.2.sem = fun _ => 0)

def quiescent_KernelEvOutFwdIdeal [hKernelEvOutFwdIdeal : Cert.KernelEvOutFwdIdeal.Facts] : Prop :=
  ∀ (m : (ℓ : Loc Cert.KernelEvOutFwdIdeal.nD Cert.KernelEvOutFwdIdeal.τ Cert.KernelEvOutFwdIdeal.sig) → Buf (Elt Ideal) ℓ) (g : Dev Cert.KernelEvOutFwdIdeal.nD → PrngReg), Pre_KernelEvOutFwdIdeal m →
    θ_run (Cert.KernelEvOutFwdIdeal.defs (F := Ideal)) (onTc (τ := Cert.KernelEvOutFwdIdeal.τ) (Cert.KernelEvOutFwdIdeal.main (F := Ideal))) ⟨m, fun _ => 0, g⟩ (fun r => (∀ c : Dev Cert.KernelEvOutFwdIdeal.nD,
      r.2.mem ((c.tc : Thread Cert.KernelEvOutFwdIdeal.nD Cert.KernelEvOutFwdIdeal.τ).loc Cert.KernelEvOutFwdIdeal.main_arg0) = m ((c.tc : Thread Cert.KernelEvOutFwdIdeal.nD Cert.KernelEvOutFwdIdeal.τ).loc Cert.KernelEvOutFwdIdeal.main_arg0)
      ∧ r.2.mem ((c.tc : Thread Cert.KernelEvOutFwdIdeal.nD Cert.KernelEvOutFwdIdeal.τ).loc Cert.KernelEvOutFwdIdeal.main_arg1) = m ((c.tc : Thread Cert.KernelEvOutFwdIdeal.nD Cert.KernelEvOutFwdIdeal.τ).loc Cert.KernelEvOutFwdIdeal.main_arg1))
      ∧ r.2.sem = fun _ => 0)

def quiescent_ReferenceEvOutFwdIdeal [hReferenceEvOutFwdIdeal : Cert.ReferenceEvOutFwdIdeal.Facts] : Prop :=
  ∀ (m : (ℓ : Loc Cert.ReferenceEvOutFwdIdeal.nD Cert.ReferenceEvOutFwdIdeal.τ Cert.ReferenceEvOutFwdIdeal.sig) → Buf (Elt Ideal) ℓ) (g : Dev Cert.ReferenceEvOutFwdIdeal.nD → PrngReg), Pre_ReferenceEvOutFwdIdeal m →
    θ_run (Cert.ReferenceEvOutFwdIdeal.defs (F := Ideal)) (onTc (τ := Cert.ReferenceEvOutFwdIdeal.τ) (Cert.ReferenceEvOutFwdIdeal.main (F := Ideal))) ⟨m, fun _ => 0, g⟩ (fun r => (∀ c : Dev Cert.ReferenceEvOutFwdIdeal.nD,
      r.2.mem ((c.tc : Thread Cert.ReferenceEvOutFwdIdeal.nD Cert.ReferenceEvOutFwdIdeal.τ).loc Cert.ReferenceEvOutFwdIdeal.main_arg0) = m ((c.tc : Thread Cert.ReferenceEvOutFwdIdeal.nD Cert.ReferenceEvOutFwdIdeal.τ).loc Cert.ReferenceEvOutFwdIdeal.main_arg0)
      ∧ r.2.mem ((c.tc : Thread Cert.ReferenceEvOutFwdIdeal.nD Cert.ReferenceEvOutFwdIdeal.τ).loc Cert.ReferenceEvOutFwdIdeal.main_arg1) = m ((c.tc : Thread Cert.ReferenceEvOutFwdIdeal.nD Cert.ReferenceEvOutFwdIdeal.τ).loc Cert.ReferenceEvOutFwdIdeal.main_arg1))
      ∧ r.2.sem = fun _ => 0)

def quiescent_KernelEvOutDw [hKernelEvOutDw : Cert.KernelEvOutDw.Facts] : Prop :=
  ∀ (m : (ℓ : Loc Cert.KernelEvOutDw.nD Cert.KernelEvOutDw.τ Cert.KernelEvOutDw.sig) → Buf (Elt Bits) ℓ) (g : Dev Cert.KernelEvOutDw.nD → PrngReg), Pre_KernelEvOutDw m →
    θ_run (Cert.KernelEvOutDw.defs (F := Bits)) (onTc (τ := Cert.KernelEvOutDw.τ) (Cert.KernelEvOutDw.main (F := Bits))) ⟨m, fun _ => 0, g⟩ (fun r => (∀ c : Dev Cert.KernelEvOutDw.nD,
      r.2.mem ((c.tc : Thread Cert.KernelEvOutDw.nD Cert.KernelEvOutDw.τ).loc Cert.KernelEvOutDw.main_arg0) = m ((c.tc : Thread Cert.KernelEvOutDw.nD Cert.KernelEvOutDw.τ).loc Cert.KernelEvOutDw.main_arg0)
      ∧ r.2.mem ((c.tc : Thread Cert.KernelEvOutDw.nD Cert.KernelEvOutDw.τ).loc Cert.KernelEvOutDw.main_arg1) = m ((c.tc : Thread Cert.KernelEvOutDw.nD Cert.KernelEvOutDw.τ).loc Cert.KernelEvOutDw.main_arg1))
      ∧ r.2.sem = fun _ => 0)

def quiescent_KernelEvOutDwIdeal [hKernelEvOutDwIdeal : Cert.KernelEvOutDwIdeal.Facts] : Prop :=
  ∀ (m : (ℓ : Loc Cert.KernelEvOutDwIdeal.nD Cert.KernelEvOutDwIdeal.τ Cert.KernelEvOutDwIdeal.sig) → Buf (Elt Ideal) ℓ) (g : Dev Cert.KernelEvOutDwIdeal.nD → PrngReg), Pre_KernelEvOutDwIdeal m →
    θ_run (Cert.KernelEvOutDwIdeal.defs (F := Ideal)) (onTc (τ := Cert.KernelEvOutDwIdeal.τ) (Cert.KernelEvOutDwIdeal.main (F := Ideal))) ⟨m, fun _ => 0, g⟩ (fun r => (∀ c : Dev Cert.KernelEvOutDwIdeal.nD,
      r.2.mem ((c.tc : Thread Cert.KernelEvOutDwIdeal.nD Cert.KernelEvOutDwIdeal.τ).loc Cert.KernelEvOutDwIdeal.main_arg0) = m ((c.tc : Thread Cert.KernelEvOutDwIdeal.nD Cert.KernelEvOutDwIdeal.τ).loc Cert.KernelEvOutDwIdeal.main_arg0)
      ∧ r.2.mem ((c.tc : Thread Cert.KernelEvOutDwIdeal.nD Cert.KernelEvOutDwIdeal.τ).loc Cert.KernelEvOutDwIdeal.main_arg1) = m ((c.tc : Thread Cert.KernelEvOutDwIdeal.nD Cert.KernelEvOutDwIdeal.τ).loc Cert.KernelEvOutDwIdeal.main_arg1))
      ∧ r.2.sem = fun _ => 0)

def quiescent_ReferenceEvOutDwIdeal [hReferenceEvOutDwIdeal : Cert.ReferenceEvOutDwIdeal.Facts] : Prop :=
  ∀ (m : (ℓ : Loc Cert.ReferenceEvOutDwIdeal.nD Cert.ReferenceEvOutDwIdeal.τ Cert.ReferenceEvOutDwIdeal.sig) → Buf (Elt Ideal) ℓ) (g : Dev Cert.ReferenceEvOutDwIdeal.nD → PrngReg), Pre_ReferenceEvOutDwIdeal m →
    θ_run (Cert.ReferenceEvOutDwIdeal.defs (F := Ideal)) (onTc (τ := Cert.ReferenceEvOutDwIdeal.τ) (Cert.ReferenceEvOutDwIdeal.main (F := Ideal))) ⟨m, fun _ => 0, g⟩ (fun r => (∀ c : Dev Cert.ReferenceEvOutDwIdeal.nD,
      r.2.mem ((c.tc : Thread Cert.ReferenceEvOutDwIdeal.nD Cert.ReferenceEvOutDwIdeal.τ).loc Cert.ReferenceEvOutDwIdeal.main_arg0) = m ((c.tc : Thread Cert.ReferenceEvOutDwIdeal.nD Cert.ReferenceEvOutDwIdeal.τ).loc Cert.ReferenceEvOutDwIdeal.main_arg0)
      ∧ r.2.mem ((c.tc : Thread Cert.ReferenceEvOutDwIdeal.nD Cert.ReferenceEvOutDwIdeal.τ).loc Cert.ReferenceEvOutDwIdeal.main_arg1) = m ((c.tc : Thread Cert.ReferenceEvOutDwIdeal.nD Cert.ReferenceEvOutDwIdeal.τ).loc Cert.ReferenceEvOutDwIdeal.main_arg1))
      ∧ r.2.sem = fun _ => 0)

def quiescent_KernelEvOutDx [hKernelEvOutDx : Cert.KernelEvOutDx.Facts] : Prop :=
  ∀ (m : (ℓ : Loc Cert.KernelEvOutDx.nD Cert.KernelEvOutDx.τ Cert.KernelEvOutDx.sig) → Buf (Elt Bits) ℓ) (g : Dev Cert.KernelEvOutDx.nD → PrngReg), Pre_KernelEvOutDx m →
    θ_run (Cert.KernelEvOutDx.defs (F := Bits)) (onTc (τ := Cert.KernelEvOutDx.τ) (Cert.KernelEvOutDx.main (F := Bits))) ⟨m, fun _ => 0, g⟩ (fun r => (∀ c : Dev Cert.KernelEvOutDx.nD,
      r.2.mem ((c.tc : Thread Cert.KernelEvOutDx.nD Cert.KernelEvOutDx.τ).loc Cert.KernelEvOutDx.main_arg0) = m ((c.tc : Thread Cert.KernelEvOutDx.nD Cert.KernelEvOutDx.τ).loc Cert.KernelEvOutDx.main_arg0)
      ∧ r.2.mem ((c.tc : Thread Cert.KernelEvOutDx.nD Cert.KernelEvOutDx.τ).loc Cert.KernelEvOutDx.main_arg1) = m ((c.tc : Thread Cert.KernelEvOutDx.nD Cert.KernelEvOutDx.τ).loc Cert.KernelEvOutDx.main_arg1))
      ∧ r.2.sem = fun _ => 0)

def quiescent_KernelEvOutDxIdeal [hKernelEvOutDxIdeal : Cert.KernelEvOutDxIdeal.Facts] : Prop :=
  ∀ (m : (ℓ : Loc Cert.KernelEvOutDxIdeal.nD Cert.KernelEvOutDxIdeal.τ Cert.KernelEvOutDxIdeal.sig) → Buf (Elt Ideal) ℓ) (g : Dev Cert.KernelEvOutDxIdeal.nD → PrngReg), Pre_KernelEvOutDxIdeal m →
    θ_run (Cert.KernelEvOutDxIdeal.defs (F := Ideal)) (onTc (τ := Cert.KernelEvOutDxIdeal.τ) (Cert.KernelEvOutDxIdeal.main (F := Ideal))) ⟨m, fun _ => 0, g⟩ (fun r => (∀ c : Dev Cert.KernelEvOutDxIdeal.nD,
      r.2.mem ((c.tc : Thread Cert.KernelEvOutDxIdeal.nD Cert.KernelEvOutDxIdeal.τ).loc Cert.KernelEvOutDxIdeal.main_arg0) = m ((c.tc : Thread Cert.KernelEvOutDxIdeal.nD Cert.KernelEvOutDxIdeal.τ).loc Cert.KernelEvOutDxIdeal.main_arg0)
      ∧ r.2.mem ((c.tc : Thread Cert.KernelEvOutDxIdeal.nD Cert.KernelEvOutDxIdeal.τ).loc Cert.KernelEvOutDxIdeal.main_arg1) = m ((c.tc : Thread Cert.KernelEvOutDxIdeal.nD Cert.KernelEvOutDxIdeal.τ).loc Cert.KernelEvOutDxIdeal.main_arg1))
      ∧ r.2.sem = fun _ => 0)

def quiescent_ReferenceEvOutDxIdeal [hReferenceEvOutDxIdeal : Cert.ReferenceEvOutDxIdeal.Facts] : Prop :=
  ∀ (m : (ℓ : Loc Cert.ReferenceEvOutDxIdeal.nD Cert.ReferenceEvOutDxIdeal.τ Cert.ReferenceEvOutDxIdeal.sig) → Buf (Elt Ideal) ℓ) (g : Dev Cert.ReferenceEvOutDxIdeal.nD → PrngReg), Pre_ReferenceEvOutDxIdeal m →
    θ_run (Cert.ReferenceEvOutDxIdeal.defs (F := Ideal)) (onTc (τ := Cert.ReferenceEvOutDxIdeal.τ) (Cert.ReferenceEvOutDxIdeal.main (F := Ideal))) ⟨m, fun _ => 0, g⟩ (fun r => (∀ c : Dev Cert.ReferenceEvOutDxIdeal.nD,
      r.2.mem ((c.tc : Thread Cert.ReferenceEvOutDxIdeal.nD Cert.ReferenceEvOutDxIdeal.τ).loc Cert.ReferenceEvOutDxIdeal.main_arg0) = m ((c.tc : Thread Cert.ReferenceEvOutDxIdeal.nD Cert.ReferenceEvOutDxIdeal.τ).loc Cert.ReferenceEvOutDxIdeal.main_arg0)
      ∧ r.2.mem ((c.tc : Thread Cert.ReferenceEvOutDxIdeal.nD Cert.ReferenceEvOutDxIdeal.τ).loc Cert.ReferenceEvOutDxIdeal.main_arg1) = m ((c.tc : Thread Cert.ReferenceEvOutDxIdeal.nD Cert.ReferenceEvOutDxIdeal.τ).loc Cert.ReferenceEvOutDxIdeal.main_arg1))
      ∧ r.2.sem = fun _ => 0)

def quiescent_KernelLnBwd [hKernelLnBwd : Cert.KernelLnBwd.Facts] : Prop :=
  ∀ (m : (ℓ : Loc Cert.KernelLnBwd.nD Cert.KernelLnBwd.τ Cert.KernelLnBwd.sig) → Buf (Elt Bits) ℓ) (g : Dev Cert.KernelLnBwd.nD → PrngReg), Pre_KernelLnBwd m →
    θ_run (Cert.KernelLnBwd.defs (F := Bits)) (onTc (τ := Cert.KernelLnBwd.τ) (Cert.KernelLnBwd.main (F := Bits))) ⟨m, fun _ => 0, g⟩ (fun r => (∀ c : Dev Cert.KernelLnBwd.nD,
      r.2.mem ((c.tc : Thread Cert.KernelLnBwd.nD Cert.KernelLnBwd.τ).loc Cert.KernelLnBwd.main_arg0) = m ((c.tc : Thread Cert.KernelLnBwd.nD Cert.KernelLnBwd.τ).loc Cert.KernelLnBwd.main_arg0)
      ∧ r.2.mem ((c.tc : Thread Cert.KernelLnBwd.nD Cert.KernelLnBwd.τ).loc Cert.KernelLnBwd.main_arg1) = m ((c.tc : Thread Cert.KernelLnBwd.nD Cert.KernelLnBwd.τ).loc Cert.KernelLnBwd.main_arg1)
      ∧ r.2.mem ((c.tc : Thread Cert.KernelLnBwd.nD Cert.KernelLnBwd.τ).loc Cert.KernelLnBwd.main_arg2) = m ((c.tc : Thread Cert.KernelLnBwd.nD Cert.KernelLnBwd.τ).loc Cert.KernelLnBwd.main_arg2)
      ∧ r.2.mem ((c.tc : Thread Cert.KernelLnBwd.nD Cert.KernelLnBwd.τ).loc Cert.KernelLnBwd.main_arg3) = m ((c.tc : Thread Cert.KernelLnBwd.nD Cert.KernelLnBwd.τ).loc Cert.KernelLnBwd.main_arg3)
      ∧ r.2.mem ((c.tc : Thread Cert.KernelLnBwd.nD Cert.KernelLnBwd.τ).loc Cert.KernelLnBwd.main_arg4) = m ((c.tc : Thread Cert.KernelLnBwd.nD Cert.KernelLnBwd.τ).loc Cert.KernelLnBwd.main_arg4)
      ∧ r.2.mem ((c.tc : Thread Cert.KernelLnBwd.nD Cert.KernelLnBwd.τ).loc Cert.KernelLnBwd.main_arg5) = m ((c.tc : Thread Cert.KernelLnBwd.nD Cert.KernelLnBwd.τ).loc Cert.KernelLnBwd.main_arg5))
      ∧ r.2.sem = fun _ => 0)

def quiescent_KernelLnBwdIdeal [hKernelLnBwdIdeal : Cert.KernelLnBwdIdeal.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg), Pre_KernelLnBwdIdeal m →
    θ_run (Cert.KernelLnBwdIdeal.defs (F := Ideal)) (onTc (τ := Cert.KernelLnBwdIdeal.τ) (Cert.KernelLnBwdIdeal.main (F := Ideal))) ⟨m, fun _ => 0, g⟩ (fun r => (∀ c : Dev Cert.KernelLnBwdIdeal.nD,
      r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
      ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
      ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2)
      ∧ r.2.mem ((c.tc : Thread Cert.KernelLnBwdIdeal.nD Cert.KernelLnBwdIdeal.τ).loc Cert.KernelLnBwdIdeal.main_arg3) = m ((c.tc : Thread Cert.KernelLnBwdIdeal.nD Cert.KernelLnBwdIdeal.τ).loc Cert.KernelLnBwdIdeal.main_arg3)
      ∧ r.2.mem ((c.tc : Thread Cert.KernelLnBwdIdeal.nD Cert.KernelLnBwdIdeal.τ).loc Cert.KernelLnBwdIdeal.main_arg4) = m ((c.tc : Thread Cert.KernelLnBwdIdeal.nD Cert.KernelLnBwdIdeal.τ).loc Cert.KernelLnBwdIdeal.main_arg4)
      ∧ r.2.mem ((c.tc : Thread Cert.KernelLnBwdIdeal.nD Cert.KernelLnBwdIdeal.τ).loc Cert.KernelLnBwdIdeal.main_arg5) = m ((c.tc : Thread Cert.KernelLnBwdIdeal.nD Cert.KernelLnBwdIdeal.τ).loc Cert.KernelLnBwdIdeal.main_arg5))
      ∧ r.2.sem = fun _ => 0)

def quiescent_ReferenceLnBwdIdeal [hReferenceLnBwdIdeal : Cert.ReferenceLnBwdIdeal.Facts] : Prop :=
  ∀ (m : (ℓ : Loc Cert.ReferenceLnBwdIdeal.nD Cert.ReferenceLnBwdIdeal.τ Cert.ReferenceLnBwdIdeal.sig) → Buf (Elt Ideal) ℓ) (g : Dev Cert.ReferenceLnBwdIdeal.nD → PrngReg), Pre_ReferenceLnBwdIdeal m →
    θ_run (Cert.ReferenceLnBwdIdeal.defs (F := Ideal)) (onTc (τ := Cert.ReferenceLnBwdIdeal.τ) (Cert.ReferenceLnBwdIdeal.main (F := Ideal))) ⟨m, fun _ => 0, g⟩ (fun r => (∀ c : Dev Cert.ReferenceLnBwdIdeal.nD,
      r.2.mem ((c.tc : Thread Cert.ReferenceLnBwdIdeal.nD Cert.ReferenceLnBwdIdeal.τ).loc Cert.ReferenceLnBwdIdeal.main_arg0) = m ((c.tc : Thread Cert.ReferenceLnBwdIdeal.nD Cert.ReferenceLnBwdIdeal.τ).loc Cert.ReferenceLnBwdIdeal.main_arg0)
      ∧ r.2.mem ((c.tc : Thread Cert.ReferenceLnBwdIdeal.nD Cert.ReferenceLnBwdIdeal.τ).loc Cert.ReferenceLnBwdIdeal.main_arg1) = m ((c.tc : Thread Cert.ReferenceLnBwdIdeal.nD Cert.ReferenceLnBwdIdeal.τ).loc Cert.ReferenceLnBwdIdeal.main_arg1)
      ∧ r.2.mem ((c.tc : Thread Cert.ReferenceLnBwdIdeal.nD Cert.ReferenceLnBwdIdeal.τ).loc Cert.ReferenceLnBwdIdeal.main_arg2) = m ((c.tc : Thread Cert.ReferenceLnBwdIdeal.nD Cert.ReferenceLnBwdIdeal.τ).loc Cert.ReferenceLnBwdIdeal.main_arg2)
      ∧ r.2.mem ((c.tc : Thread Cert.ReferenceLnBwdIdeal.nD Cert.ReferenceLnBwdIdeal.τ).loc Cert.ReferenceLnBwdIdeal.main_arg3) = m ((c.tc : Thread Cert.ReferenceLnBwdIdeal.nD Cert.ReferenceLnBwdIdeal.τ).loc Cert.ReferenceLnBwdIdeal.main_arg3)
      ∧ r.2.mem ((c.tc : Thread Cert.ReferenceLnBwdIdeal.nD Cert.ReferenceLnBwdIdeal.τ).loc Cert.ReferenceLnBwdIdeal.main_arg4) = m ((c.tc : Thread Cert.ReferenceLnBwdIdeal.nD Cert.ReferenceLnBwdIdeal.τ).loc Cert.ReferenceLnBwdIdeal.main_arg4)
      ∧ r.2.mem ((c.tc : Thread Cert.ReferenceLnBwdIdeal.nD Cert.ReferenceLnBwdIdeal.τ).loc Cert.ReferenceLnBwdIdeal.main_arg5) = m ((c.tc : Thread Cert.ReferenceLnBwdIdeal.nD Cert.ReferenceLnBwdIdeal.τ).loc Cert.ReferenceLnBwdIdeal.main_arg5))
      ∧ r.2.sem = fun _ => 0)

def quiescent_KernelAttnBwd [hKernelAttnBwd : Cert.KernelAttnBwd.Facts] : Prop :=
  ∀ (m : (ℓ : Loc Cert.KernelAttnBwd.nD Cert.KernelAttnBwd.τ Cert.KernelAttnBwd.sig) → Buf (Elt Bits) ℓ) (g : Dev Cert.KernelAttnBwd.nD → PrngReg), Pre_KernelAttnBwd m →
    θ_run (Cert.KernelAttnBwd.defs (F := Bits)) (onTc (τ := Cert.KernelAttnBwd.τ) (Cert.KernelAttnBwd.main (F := Bits))) ⟨m, fun _ => 0, g⟩ (fun r => (∀ c : Dev Cert.KernelAttnBwd.nD,
      r.2.mem ((c.tc : Thread Cert.KernelAttnBwd.nD Cert.KernelAttnBwd.τ).loc Cert.KernelAttnBwd.main_arg0) = m ((c.tc : Thread Cert.KernelAttnBwd.nD Cert.KernelAttnBwd.τ).loc Cert.KernelAttnBwd.main_arg0)
      ∧ r.2.mem ((c.tc : Thread Cert.KernelAttnBwd.nD Cert.KernelAttnBwd.τ).loc Cert.KernelAttnBwd.main_arg1) = m ((c.tc : Thread Cert.KernelAttnBwd.nD Cert.KernelAttnBwd.τ).loc Cert.KernelAttnBwd.main_arg1)
      ∧ r.2.mem ((c.tc : Thread Cert.KernelAttnBwd.nD Cert.KernelAttnBwd.τ).loc Cert.KernelAttnBwd.main_arg2) = m ((c.tc : Thread Cert.KernelAttnBwd.nD Cert.KernelAttnBwd.τ).loc Cert.KernelAttnBwd.main_arg2)
      ∧ r.2.mem ((c.tc : Thread Cert.KernelAttnBwd.nD Cert.KernelAttnBwd.τ).loc Cert.KernelAttnBwd.main_arg3) = m ((c.tc : Thread Cert.KernelAttnBwd.nD Cert.KernelAttnBwd.τ).loc Cert.KernelAttnBwd.main_arg3))
      ∧ r.2.sem = fun _ => 0)

def quiescent_KernelAttnBwdIdeal [hKernelAttnBwdIdeal : Cert.KernelAttnBwdIdeal.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg), Pre_KernelAttnBwdIdeal m →
    θ_run (Cert.KernelAttnBwdIdeal.defs (F := Ideal)) (onTc (τ := Cert.KernelAttnBwdIdeal.τ) (Cert.KernelAttnBwdIdeal.main (F := Ideal))) ⟨m, fun _ => 0, g⟩ (fun r => (∀ c : Dev Cert.KernelAttnBwdIdeal.nD,
      r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
      ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1)
      ∧ r.2.mem ((c.tc : Thread Cert.KernelAttnBwdIdeal.nD Cert.KernelAttnBwdIdeal.τ).loc Cert.KernelAttnBwdIdeal.main_arg2) = m ((c.tc : Thread Cert.KernelAttnBwdIdeal.nD Cert.KernelAttnBwdIdeal.τ).loc Cert.KernelAttnBwdIdeal.main_arg2)
      ∧ r.2.mem ((c.tc : Thread Cert.KernelAttnBwdIdeal.nD Cert.KernelAttnBwdIdeal.τ).loc Cert.KernelAttnBwdIdeal.main_arg3) = m ((c.tc : Thread Cert.KernelAttnBwdIdeal.nD Cert.KernelAttnBwdIdeal.τ).loc Cert.KernelAttnBwdIdeal.main_arg3))
      ∧ r.2.sem = fun _ => 0)

def quiescent_KernelAttnBwdIdeal_pre_finite_attn_args [hKernelAttnBwdIdeal : Cert.KernelAttnBwdIdeal.Facts] [hPre_finite_attn_args : Cert.Pre_finite_attn_args.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg), Pre_KernelAttnBwdIdeal_finite_attn_args m →
    θ_run (Cert.KernelAttnBwdIdeal.defs (F := Ideal)) (onTc (τ := Cert.KernelAttnBwdIdeal.τ) (Cert.KernelAttnBwdIdeal.main (F := Ideal))) ⟨m, fun _ => 0, g⟩ (fun r => (∀ c : Dev Cert.KernelAttnBwdIdeal.nD,
      r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
      ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1)
      ∧ r.2.mem ((c.tc : Thread Cert.KernelAttnBwdIdeal.nD Cert.KernelAttnBwdIdeal.τ).loc Cert.KernelAttnBwdIdeal.main_arg2) = m ((c.tc : Thread Cert.KernelAttnBwdIdeal.nD Cert.KernelAttnBwdIdeal.τ).loc Cert.KernelAttnBwdIdeal.main_arg2)
      ∧ r.2.mem ((c.tc : Thread Cert.KernelAttnBwdIdeal.nD Cert.KernelAttnBwdIdeal.τ).loc Cert.KernelAttnBwdIdeal.main_arg3) = m ((c.tc : Thread Cert.KernelAttnBwdIdeal.nD Cert.KernelAttnBwdIdeal.τ).loc Cert.KernelAttnBwdIdeal.main_arg3))
      ∧ r.2.sem = fun _ => 0)

def quiescent_ReferenceAttnBwdIdeal [hReferenceAttnBwdIdeal : Cert.ReferenceAttnBwdIdeal.Facts] : Prop :=
  ∀ (m : (ℓ : Loc Cert.ReferenceAttnBwdIdeal.nD Cert.ReferenceAttnBwdIdeal.τ Cert.ReferenceAttnBwdIdeal.sig) → Buf (Elt Ideal) ℓ) (g : Dev Cert.ReferenceAttnBwdIdeal.nD → PrngReg), Pre_ReferenceAttnBwdIdeal m →
    θ_run (Cert.ReferenceAttnBwdIdeal.defs (F := Ideal)) (onTc (τ := Cert.ReferenceAttnBwdIdeal.τ) (Cert.ReferenceAttnBwdIdeal.main (F := Ideal))) ⟨m, fun _ => 0, g⟩ (fun r => (∀ c : Dev Cert.ReferenceAttnBwdIdeal.nD,
      r.2.mem ((c.tc : Thread Cert.ReferenceAttnBwdIdeal.nD Cert.ReferenceAttnBwdIdeal.τ).loc Cert.ReferenceAttnBwdIdeal.main_arg0) = m ((c.tc : Thread Cert.ReferenceAttnBwdIdeal.nD Cert.ReferenceAttnBwdIdeal.τ).loc Cert.ReferenceAttnBwdIdeal.main_arg0)
      ∧ r.2.mem ((c.tc : Thread Cert.ReferenceAttnBwdIdeal.nD Cert.ReferenceAttnBwdIdeal.τ).loc Cert.ReferenceAttnBwdIdeal.main_arg1) = m ((c.tc : Thread Cert.ReferenceAttnBwdIdeal.nD Cert.ReferenceAttnBwdIdeal.τ).loc Cert.ReferenceAttnBwdIdeal.main_arg1)
      ∧ r.2.mem ((c.tc : Thread Cert.ReferenceAttnBwdIdeal.nD Cert.ReferenceAttnBwdIdeal.τ).loc Cert.ReferenceAttnBwdIdeal.main_arg2) = m ((c.tc : Thread Cert.ReferenceAttnBwdIdeal.nD Cert.ReferenceAttnBwdIdeal.τ).loc Cert.ReferenceAttnBwdIdeal.main_arg2)
      ∧ r.2.mem ((c.tc : Thread Cert.ReferenceAttnBwdIdeal.nD Cert.ReferenceAttnBwdIdeal.τ).loc Cert.ReferenceAttnBwdIdeal.main_arg3) = m ((c.tc : Thread Cert.ReferenceAttnBwdIdeal.nD Cert.ReferenceAttnBwdIdeal.τ).loc Cert.ReferenceAttnBwdIdeal.main_arg3))
      ∧ r.2.sem = fun _ => 0)

def quiescent_ReferenceAttnBwdIdeal_pre_finite_attn_args [hReferenceAttnBwdIdeal : Cert.ReferenceAttnBwdIdeal.Facts] [hPre_finite_attn_args : Cert.Pre_finite_attn_args.Facts] : Prop :=
  ∀ (m : (ℓ : Loc Cert.ReferenceAttnBwdIdeal.nD Cert.ReferenceAttnBwdIdeal.τ Cert.ReferenceAttnBwdIdeal.sig) → Buf (Elt Ideal) ℓ) (g : Dev Cert.ReferenceAttnBwdIdeal.nD → PrngReg), Pre_ReferenceAttnBwdIdeal_finite_attn_args m →
    θ_run (Cert.ReferenceAttnBwdIdeal.defs (F := Ideal)) (onTc (τ := Cert.ReferenceAttnBwdIdeal.τ) (Cert.ReferenceAttnBwdIdeal.main (F := Ideal))) ⟨m, fun _ => 0, g⟩ (fun r => (∀ c : Dev Cert.ReferenceAttnBwdIdeal.nD,
      r.2.mem ((c.tc : Thread Cert.ReferenceAttnBwdIdeal.nD Cert.ReferenceAttnBwdIdeal.τ).loc Cert.ReferenceAttnBwdIdeal.main_arg0) = m ((c.tc : Thread Cert.ReferenceAttnBwdIdeal.nD Cert.ReferenceAttnBwdIdeal.τ).loc Cert.ReferenceAttnBwdIdeal.main_arg0)
      ∧ r.2.mem ((c.tc : Thread Cert.ReferenceAttnBwdIdeal.nD Cert.ReferenceAttnBwdIdeal.τ).loc Cert.ReferenceAttnBwdIdeal.main_arg1) = m ((c.tc : Thread Cert.ReferenceAttnBwdIdeal.nD Cert.ReferenceAttnBwdIdeal.τ).loc Cert.ReferenceAttnBwdIdeal.main_arg1)
      ∧ r.2.mem ((c.tc : Thread Cert.ReferenceAttnBwdIdeal.nD Cert.ReferenceAttnBwdIdeal.τ).loc Cert.ReferenceAttnBwdIdeal.main_arg2) = m ((c.tc : Thread Cert.ReferenceAttnBwdIdeal.nD Cert.ReferenceAttnBwdIdeal.τ).loc Cert.ReferenceAttnBwdIdeal.main_arg2)
      ∧ r.2.mem ((c.tc : Thread Cert.ReferenceAttnBwdIdeal.nD Cert.ReferenceAttnBwdIdeal.τ).loc Cert.ReferenceAttnBwdIdeal.main_arg3) = m ((c.tc : Thread Cert.ReferenceAttnBwdIdeal.nD Cert.ReferenceAttnBwdIdeal.τ).loc Cert.ReferenceAttnBwdIdeal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelW1Fwd_KernelW1FwdIdeal : Prop :=
  True

def algebraic_KernelW1FwdIdeal_ReferenceW1FwdIdeal [hKernelW1FwdIdeal : Cert.KernelW1FwdIdeal.Facts] [hReferenceW1FwdIdeal : Cert.ReferenceW1FwdIdeal.Facts] : Prop :=
  ∀ (m : (ℓ : Loc Cert.KernelW1FwdIdeal.nD Cert.KernelW1FwdIdeal.τ Cert.KernelW1FwdIdeal.sig) → Buf (Elt Ideal) ℓ) (g : Dev Cert.KernelW1FwdIdeal.nD → PrngReg)
    (m' : (ℓ : Loc Cert.ReferenceW1FwdIdeal.nD Cert.ReferenceW1FwdIdeal.τ Cert.ReferenceW1FwdIdeal.sig) → Buf (Elt Ideal) ℓ) (g' : Dev Cert.ReferenceW1FwdIdeal.nD → PrngReg), Pre_KernelW1FwdIdeal m →
    (∀ c : Dev Cert.KernelW1FwdIdeal.nD,
      m' ((c.tc : Thread Cert.ReferenceW1FwdIdeal.nD Cert.ReferenceW1FwdIdeal.τ).loc Cert.ReferenceW1FwdIdeal.main_arg0) = m ((c.tc : Thread Cert.KernelW1FwdIdeal.nD Cert.KernelW1FwdIdeal.τ).loc Cert.KernelW1FwdIdeal.main_arg0)
      ∧ m' ((c.tc : Thread Cert.ReferenceW1FwdIdeal.nD Cert.ReferenceW1FwdIdeal.τ).loc Cert.ReferenceW1FwdIdeal.main_arg1) = m ((c.tc : Thread Cert.KernelW1FwdIdeal.nD Cert.KernelW1FwdIdeal.τ).loc Cert.KernelW1FwdIdeal.main_arg1)) →
    ∃ (v0 : (c : Dev Cert.KernelW1FwdIdeal.nD) → Buf (Elt Ideal) ((c.tc : Thread Cert.KernelW1FwdIdeal.nD Cert.KernelW1FwdIdeal.τ).loc Cert.KernelW1FwdIdeal.main_v4)),
      θ_run (Cert.KernelW1FwdIdeal.defs (F := Ideal)) (onTc (τ := Cert.KernelW1FwdIdeal.τ) (Cert.KernelW1FwdIdeal.main (F := Ideal))) ⟨m, fun _ => 0, g⟩ (fun r => ∀ c : Dev Cert.KernelW1FwdIdeal.nD,
          r.2.mem ((c.tc : Thread Cert.KernelW1FwdIdeal.nD Cert.KernelW1FwdIdeal.τ).loc Cert.KernelW1FwdIdeal.main_v4) = v0 c
          ∧ r.2.mem ((c.tc : Thread Cert.KernelW1FwdIdeal.nD Cert.KernelW1FwdIdeal.τ).loc Cert.KernelW1FwdIdeal.main_arg0) = m ((c.tc : Thread Cert.KernelW1FwdIdeal.nD Cert.KernelW1FwdIdeal.τ).loc Cert.KernelW1FwdIdeal.main_arg0)
          ∧ r.2.mem ((c.tc : Thread Cert.KernelW1FwdIdeal.nD Cert.KernelW1FwdIdeal.τ).loc Cert.KernelW1FwdIdeal.main_arg1) = m ((c.tc : Thread Cert.KernelW1FwdIdeal.nD Cert.KernelW1FwdIdeal.τ).loc Cert.KernelW1FwdIdeal.main_arg1))
      ∧ θ_run (Cert.ReferenceW1FwdIdeal.defs (F := Ideal)) (onTc (τ := Cert.ReferenceW1FwdIdeal.τ) (Cert.ReferenceW1FwdIdeal.main (F := Ideal))) ⟨m', fun _ => 0, g'⟩ (fun r => ∀ c : Dev Cert.ReferenceW1FwdIdeal.nD,
          r.2.mem ((c.tc : Thread Cert.ReferenceW1FwdIdeal.nD Cert.ReferenceW1FwdIdeal.τ).loc Cert.ReferenceW1FwdIdeal.main_v3) = v0 c
          ∧ r.2.mem ((c.tc : Thread Cert.ReferenceW1FwdIdeal.nD Cert.ReferenceW1FwdIdeal.τ).loc Cert.ReferenceW1FwdIdeal.main_arg0) = m' ((c.tc : Thread Cert.ReferenceW1FwdIdeal.nD Cert.ReferenceW1FwdIdeal.τ).loc Cert.ReferenceW1FwdIdeal.main_arg0)
          ∧ r.2.mem ((c.tc : Thread Cert.ReferenceW1FwdIdeal.nD Cert.ReferenceW1FwdIdeal.τ).loc Cert.ReferenceW1FwdIdeal.main_arg1) = m' ((c.tc : Thread Cert.ReferenceW1FwdIdeal.nD Cert.ReferenceW1FwdIdeal.τ).loc Cert.ReferenceW1FwdIdeal.main_arg1))

def preserves_KernelW2Fwd_KernelW2FwdIdeal : Prop :=
  True

def algebraic_KernelW2FwdIdeal_ReferenceW2FwdIdeal [hKernelW2FwdIdeal : Cert.KernelW2FwdIdeal.Facts] [hReferenceW2FwdIdeal : Cert.ReferenceW2FwdIdeal.Facts] : Prop :=
  ∀ (m : (ℓ : Loc Cert.KernelW2FwdIdeal.nD Cert.KernelW2FwdIdeal.τ Cert.KernelW2FwdIdeal.sig) → Buf (Elt Ideal) ℓ) (g : Dev Cert.KernelW2FwdIdeal.nD → PrngReg)
    (m' : (ℓ : Loc Cert.ReferenceW2FwdIdeal.nD Cert.ReferenceW2FwdIdeal.τ Cert.ReferenceW2FwdIdeal.sig) → Buf (Elt Ideal) ℓ) (g' : Dev Cert.ReferenceW2FwdIdeal.nD → PrngReg), Pre_KernelW2FwdIdeal m →
    (∀ c : Dev Cert.KernelW2FwdIdeal.nD,
      m' ((c.tc : Thread Cert.ReferenceW2FwdIdeal.nD Cert.ReferenceW2FwdIdeal.τ).loc Cert.ReferenceW2FwdIdeal.main_arg0) = m ((c.tc : Thread Cert.KernelW2FwdIdeal.nD Cert.KernelW2FwdIdeal.τ).loc Cert.KernelW2FwdIdeal.main_arg0)
      ∧ m' ((c.tc : Thread Cert.ReferenceW2FwdIdeal.nD Cert.ReferenceW2FwdIdeal.τ).loc Cert.ReferenceW2FwdIdeal.main_arg1) = m ((c.tc : Thread Cert.KernelW2FwdIdeal.nD Cert.KernelW2FwdIdeal.τ).loc Cert.KernelW2FwdIdeal.main_arg1)) →
    ∃ (v0 : (c : Dev Cert.KernelW2FwdIdeal.nD) → Buf (Elt Ideal) ((c.tc : Thread Cert.KernelW2FwdIdeal.nD Cert.KernelW2FwdIdeal.τ).loc Cert.KernelW2FwdIdeal.main_v2)),
      θ_run (Cert.KernelW2FwdIdeal.defs (F := Ideal)) (onTc (τ := Cert.KernelW2FwdIdeal.τ) (Cert.KernelW2FwdIdeal.main (F := Ideal))) ⟨m, fun _ => 0, g⟩ (fun r => ∀ c : Dev Cert.KernelW2FwdIdeal.nD,
          r.2.mem ((c.tc : Thread Cert.KernelW2FwdIdeal.nD Cert.KernelW2FwdIdeal.τ).loc Cert.KernelW2FwdIdeal.main_v2) = v0 c
          ∧ r.2.mem ((c.tc : Thread Cert.KernelW2FwdIdeal.nD Cert.KernelW2FwdIdeal.τ).loc Cert.KernelW2FwdIdeal.main_arg0) = m ((c.tc : Thread Cert.KernelW2FwdIdeal.nD Cert.KernelW2FwdIdeal.τ).loc Cert.KernelW2FwdIdeal.main_arg0)
          ∧ r.2.mem ((c.tc : Thread Cert.KernelW2FwdIdeal.nD Cert.KernelW2FwdIdeal.τ).loc Cert.KernelW2FwdIdeal.main_arg1) = m ((c.tc : Thread Cert.KernelW2FwdIdeal.nD Cert.KernelW2FwdIdeal.τ).loc Cert.KernelW2FwdIdeal.main_arg1))
      ∧ θ_run (Cert.ReferenceW2FwdIdeal.defs (F := Ideal)) (onTc (τ := Cert.ReferenceW2FwdIdeal.τ) (Cert.ReferenceW2FwdIdeal.main (F := Ideal))) ⟨m', fun _ => 0, g'⟩ (fun r => ∀ c : Dev Cert.ReferenceW2FwdIdeal.nD,
          r.2.mem ((c.tc : Thread Cert.ReferenceW2FwdIdeal.nD Cert.ReferenceW2FwdIdeal.τ).loc Cert.ReferenceW2FwdIdeal.main_v0) = v0 c
          ∧ r.2.mem ((c.tc : Thread Cert.ReferenceW2FwdIdeal.nD Cert.ReferenceW2FwdIdeal.τ).loc Cert.ReferenceW2FwdIdeal.main_arg0) = m' ((c.tc : Thread Cert.ReferenceW2FwdIdeal.nD Cert.ReferenceW2FwdIdeal.τ).loc Cert.ReferenceW2FwdIdeal.main_arg0)
          ∧ r.2.mem ((c.tc : Thread Cert.ReferenceW2FwdIdeal.nD Cert.ReferenceW2FwdIdeal.τ).loc Cert.ReferenceW2FwdIdeal.main_arg1) = m' ((c.tc : Thread Cert.ReferenceW2FwdIdeal.nD Cert.ReferenceW2FwdIdeal.τ).loc Cert.ReferenceW2FwdIdeal.main_arg1))

def preserves_KernelW2Dw_KernelW2DwIdeal : Prop :=
  True

def algebraic_KernelW2DwIdeal_ReferenceW2DwIdeal [hKernelW2DwIdeal : Cert.KernelW2DwIdeal.Facts] [hReferenceW2DwIdeal : Cert.ReferenceW2DwIdeal.Facts] : Prop :=
  ∀ (m : (ℓ : Loc Cert.KernelW2DwIdeal.nD Cert.KernelW2DwIdeal.τ Cert.KernelW2DwIdeal.sig) → Buf (Elt Ideal) ℓ) (g : Dev Cert.KernelW2DwIdeal.nD → PrngReg)
    (m' : (ℓ : Loc Cert.ReferenceW2DwIdeal.nD Cert.ReferenceW2DwIdeal.τ Cert.ReferenceW2DwIdeal.sig) → Buf (Elt Ideal) ℓ) (g' : Dev Cert.ReferenceW2DwIdeal.nD → PrngReg), Pre_KernelW2DwIdeal m →
    (∀ c : Dev Cert.KernelW2DwIdeal.nD,
      m' ((c.tc : Thread Cert.ReferenceW2DwIdeal.nD Cert.ReferenceW2DwIdeal.τ).loc Cert.ReferenceW2DwIdeal.main_arg0) = m ((c.tc : Thread Cert.KernelW2DwIdeal.nD Cert.KernelW2DwIdeal.τ).loc Cert.KernelW2DwIdeal.main_arg0)
      ∧ m' ((c.tc : Thread Cert.ReferenceW2DwIdeal.nD Cert.ReferenceW2DwIdeal.τ).loc Cert.ReferenceW2DwIdeal.main_arg1) = m ((c.tc : Thread Cert.KernelW2DwIdeal.nD Cert.KernelW2DwIdeal.τ).loc Cert.KernelW2DwIdeal.main_arg1)) →
    ∃ (v0 : (c : Dev Cert.KernelW2DwIdeal.nD) → Buf (Elt Ideal) ((c.tc : Thread Cert.KernelW2DwIdeal.nD Cert.KernelW2DwIdeal.τ).loc Cert.KernelW2DwIdeal.main_v2)),
      θ_run (Cert.KernelW2DwIdeal.defs (F := Ideal)) (onTc (τ := Cert.KernelW2DwIdeal.τ) (Cert.KernelW2DwIdeal.main (F := Ideal))) ⟨m, fun _ => 0, g⟩ (fun r => ∀ c : Dev Cert.KernelW2DwIdeal.nD,
          r.2.mem ((c.tc : Thread Cert.KernelW2DwIdeal.nD Cert.KernelW2DwIdeal.τ).loc Cert.KernelW2DwIdeal.main_v2) = v0 c
          ∧ r.2.mem ((c.tc : Thread Cert.KernelW2DwIdeal.nD Cert.KernelW2DwIdeal.τ).loc Cert.KernelW2DwIdeal.main_arg0) = m ((c.tc : Thread Cert.KernelW2DwIdeal.nD Cert.KernelW2DwIdeal.τ).loc Cert.KernelW2DwIdeal.main_arg0)
          ∧ r.2.mem ((c.tc : Thread Cert.KernelW2DwIdeal.nD Cert.KernelW2DwIdeal.τ).loc Cert.KernelW2DwIdeal.main_arg1) = m ((c.tc : Thread Cert.KernelW2DwIdeal.nD Cert.KernelW2DwIdeal.τ).loc Cert.KernelW2DwIdeal.main_arg1))
      ∧ θ_run (Cert.ReferenceW2DwIdeal.defs (F := Ideal)) (onTc (τ := Cert.ReferenceW2DwIdeal.τ) (Cert.ReferenceW2DwIdeal.main (F := Ideal))) ⟨m', fun _ => 0, g'⟩ (fun r => ∀ c : Dev Cert.ReferenceW2DwIdeal.nD,
          r.2.mem ((c.tc : Thread Cert.ReferenceW2DwIdeal.nD Cert.ReferenceW2DwIdeal.τ).loc Cert.ReferenceW2DwIdeal.main_v3) = v0 c
          ∧ r.2.mem ((c.tc : Thread Cert.ReferenceW2DwIdeal.nD Cert.ReferenceW2DwIdeal.τ).loc Cert.ReferenceW2DwIdeal.main_arg0) = m' ((c.tc : Thread Cert.ReferenceW2DwIdeal.nD Cert.ReferenceW2DwIdeal.τ).loc Cert.ReferenceW2DwIdeal.main_arg0)
          ∧ r.2.mem ((c.tc : Thread Cert.ReferenceW2DwIdeal.nD Cert.ReferenceW2DwIdeal.τ).loc Cert.ReferenceW2DwIdeal.main_arg1) = m' ((c.tc : Thread Cert.ReferenceW2DwIdeal.nD Cert.ReferenceW2DwIdeal.τ).loc Cert.ReferenceW2DwIdeal.main_arg1))

def preserves_KernelW2Dx_KernelW2DxIdeal : Prop :=
  True

def algebraic_KernelW2DxIdeal_ReferenceW2DxIdeal [hKernelW2DxIdeal : Cert.KernelW2DxIdeal.Facts] [hReferenceW2DxIdeal : Cert.ReferenceW2DxIdeal.Facts] : Prop :=
  ∀ (m : (ℓ : Loc Cert.KernelW2DxIdeal.nD Cert.KernelW2DxIdeal.τ Cert.KernelW2DxIdeal.sig) → Buf (Elt Ideal) ℓ) (g : Dev Cert.KernelW2DxIdeal.nD → PrngReg)
    (m' : (ℓ : Loc Cert.ReferenceW2DxIdeal.nD Cert.ReferenceW2DxIdeal.τ Cert.ReferenceW2DxIdeal.sig) → Buf (Elt Ideal) ℓ) (g' : Dev Cert.ReferenceW2DxIdeal.nD → PrngReg), Pre_KernelW2DxIdeal m →
    (∀ c : Dev Cert.KernelW2DxIdeal.nD,
      m' ((c.tc : Thread Cert.ReferenceW2DxIdeal.nD Cert.ReferenceW2DxIdeal.τ).loc Cert.ReferenceW2DxIdeal.main_arg0) = m ((c.tc : Thread Cert.KernelW2DxIdeal.nD Cert.KernelW2DxIdeal.τ).loc Cert.KernelW2DxIdeal.main_arg0)
      ∧ m' ((c.tc : Thread Cert.ReferenceW2DxIdeal.nD Cert.ReferenceW2DxIdeal.τ).loc Cert.ReferenceW2DxIdeal.main_arg1) = m ((c.tc : Thread Cert.KernelW2DxIdeal.nD Cert.KernelW2DxIdeal.τ).loc Cert.KernelW2DxIdeal.main_arg1)
      ∧ m' ((c.tc : Thread Cert.ReferenceW2DxIdeal.nD Cert.ReferenceW2DxIdeal.τ).loc Cert.ReferenceW2DxIdeal.main_arg2) = m ((c.tc : Thread Cert.KernelW2DxIdeal.nD Cert.KernelW2DxIdeal.τ).loc Cert.KernelW2DxIdeal.main_arg2)) →
    ∃ (v0 : (c : Dev Cert.KernelW2DxIdeal.nD) → Buf (Elt Ideal) ((c.tc : Thread Cert.KernelW2DxIdeal.nD Cert.KernelW2DxIdeal.τ).loc Cert.KernelW2DxIdeal.main_v5)),
      θ_run (Cert.KernelW2DxIdeal.defs (F := Ideal)) (onTc (τ := Cert.KernelW2DxIdeal.τ) (Cert.KernelW2DxIdeal.main (F := Ideal))) ⟨m, fun _ => 0, g⟩ (fun r => ∀ c : Dev Cert.KernelW2DxIdeal.nD,
          r.2.mem ((c.tc : Thread Cert.KernelW2DxIdeal.nD Cert.KernelW2DxIdeal.τ).loc Cert.KernelW2DxIdeal.main_v5) = v0 c
          ∧ r.2.mem ((c.tc : Thread Cert.KernelW2DxIdeal.nD Cert.KernelW2DxIdeal.τ).loc Cert.KernelW2DxIdeal.main_arg0) = m ((c.tc : Thread Cert.KernelW2DxIdeal.nD Cert.KernelW2DxIdeal.τ).loc Cert.KernelW2DxIdeal.main_arg0)
          ∧ r.2.mem ((c.tc : Thread Cert.KernelW2DxIdeal.nD Cert.KernelW2DxIdeal.τ).loc Cert.KernelW2DxIdeal.main_arg1) = m ((c.tc : Thread Cert.KernelW2DxIdeal.nD Cert.KernelW2DxIdeal.τ).loc Cert.KernelW2DxIdeal.main_arg1)
          ∧ r.2.mem ((c.tc : Thread Cert.KernelW2DxIdeal.nD Cert.KernelW2DxIdeal.τ).loc Cert.KernelW2DxIdeal.main_arg2) = m ((c.tc : Thread Cert.KernelW2DxIdeal.nD Cert.KernelW2DxIdeal.τ).loc Cert.KernelW2DxIdeal.main_arg2))
      ∧ θ_run (Cert.ReferenceW2DxIdeal.defs (F := Ideal)) (onTc (τ := Cert.ReferenceW2DxIdeal.τ) (Cert.ReferenceW2DxIdeal.main (F := Ideal))) ⟨m', fun _ => 0, g'⟩ (fun r => ∀ c : Dev Cert.ReferenceW2DxIdeal.nD,
          r.2.mem ((c.tc : Thread Cert.ReferenceW2DxIdeal.nD Cert.ReferenceW2DxIdeal.τ).loc Cert.ReferenceW2DxIdeal.main_v12) = v0 c
          ∧ r.2.mem ((c.tc : Thread Cert.ReferenceW2DxIdeal.nD Cert.ReferenceW2DxIdeal.τ).loc Cert.ReferenceW2DxIdeal.main_arg0) = m' ((c.tc : Thread Cert.ReferenceW2DxIdeal.nD Cert.ReferenceW2DxIdeal.τ).loc Cert.ReferenceW2DxIdeal.main_arg0)
          ∧ r.2.mem ((c.tc : Thread Cert.ReferenceW2DxIdeal.nD Cert.ReferenceW2DxIdeal.τ).loc Cert.ReferenceW2DxIdeal.main_arg1) = m' ((c.tc : Thread Cert.ReferenceW2DxIdeal.nD Cert.ReferenceW2DxIdeal.τ).loc Cert.ReferenceW2DxIdeal.main_arg1)
          ∧ r.2.mem ((c.tc : Thread Cert.ReferenceW2DxIdeal.nD Cert.ReferenceW2DxIdeal.τ).loc Cert.ReferenceW2DxIdeal.main_arg2) = m' ((c.tc : Thread Cert.ReferenceW2DxIdeal.nD Cert.ReferenceW2DxIdeal.τ).loc Cert.ReferenceW2DxIdeal.main_arg2))

def preserves_KernelW1Dw_KernelW1DwIdeal : Prop :=
  True

def algebraic_KernelW1DwIdeal_ReferenceW1DwIdeal [hKernelW1DwIdeal : Cert.KernelW1DwIdeal.Facts] [hReferenceW1DwIdeal : Cert.ReferenceW1DwIdeal.Facts] : Prop :=
  ∀ (m : (ℓ : Loc Cert.KernelW1DwIdeal.nD Cert.KernelW1DwIdeal.τ Cert.KernelW1DwIdeal.sig) → Buf (Elt Ideal) ℓ) (g : Dev Cert.KernelW1DwIdeal.nD → PrngReg)
    (m' : (ℓ : Loc Cert.ReferenceW1DwIdeal.nD Cert.ReferenceW1DwIdeal.τ Cert.ReferenceW1DwIdeal.sig) → Buf (Elt Ideal) ℓ) (g' : Dev Cert.ReferenceW1DwIdeal.nD → PrngReg), Pre_KernelW1DwIdeal m →
    (∀ c : Dev Cert.KernelW1DwIdeal.nD,
      m' ((c.tc : Thread Cert.ReferenceW1DwIdeal.nD Cert.ReferenceW1DwIdeal.τ).loc Cert.ReferenceW1DwIdeal.main_arg0) = m ((c.tc : Thread Cert.KernelW1DwIdeal.nD Cert.KernelW1DwIdeal.τ).loc Cert.KernelW1DwIdeal.main_arg0)
      ∧ m' ((c.tc : Thread Cert.ReferenceW1DwIdeal.nD Cert.ReferenceW1DwIdeal.τ).loc Cert.ReferenceW1DwIdeal.main_arg1) = m ((c.tc : Thread Cert.KernelW1DwIdeal.nD Cert.KernelW1DwIdeal.τ).loc Cert.KernelW1DwIdeal.main_arg1)) →
    ∃ (v0 : (c : Dev Cert.KernelW1DwIdeal.nD) → Buf (Elt Ideal) ((c.tc : Thread Cert.KernelW1DwIdeal.nD Cert.KernelW1DwIdeal.τ).loc Cert.KernelW1DwIdeal.main_v2)),
      θ_run (Cert.KernelW1DwIdeal.defs (F := Ideal)) (onTc (τ := Cert.KernelW1DwIdeal.τ) (Cert.KernelW1DwIdeal.main (F := Ideal))) ⟨m, fun _ => 0, g⟩ (fun r => ∀ c : Dev Cert.KernelW1DwIdeal.nD,
          r.2.mem ((c.tc : Thread Cert.KernelW1DwIdeal.nD Cert.KernelW1DwIdeal.τ).loc Cert.KernelW1DwIdeal.main_v2) = v0 c
          ∧ r.2.mem ((c.tc : Thread Cert.KernelW1DwIdeal.nD Cert.KernelW1DwIdeal.τ).loc Cert.KernelW1DwIdeal.main_arg0) = m ((c.tc : Thread Cert.KernelW1DwIdeal.nD Cert.KernelW1DwIdeal.τ).loc Cert.KernelW1DwIdeal.main_arg0)
          ∧ r.2.mem ((c.tc : Thread Cert.KernelW1DwIdeal.nD Cert.KernelW1DwIdeal.τ).loc Cert.KernelW1DwIdeal.main_arg1) = m ((c.tc : Thread Cert.KernelW1DwIdeal.nD Cert.KernelW1DwIdeal.τ).loc Cert.KernelW1DwIdeal.main_arg1))
      ∧ θ_run (Cert.ReferenceW1DwIdeal.defs (F := Ideal)) (onTc (τ := Cert.ReferenceW1DwIdeal.τ) (Cert.ReferenceW1DwIdeal.main (F := Ideal))) ⟨m', fun _ => 0, g'⟩ (fun r => ∀ c : Dev Cert.ReferenceW1DwIdeal.nD,
          r.2.mem ((c.tc : Thread Cert.ReferenceW1DwIdeal.nD Cert.ReferenceW1DwIdeal.τ).loc Cert.ReferenceW1DwIdeal.main_v5) = v0 c
          ∧ r.2.mem ((c.tc : Thread Cert.ReferenceW1DwIdeal.nD Cert.ReferenceW1DwIdeal.τ).loc Cert.ReferenceW1DwIdeal.main_arg0) = m' ((c.tc : Thread Cert.ReferenceW1DwIdeal.nD Cert.ReferenceW1DwIdeal.τ).loc Cert.ReferenceW1DwIdeal.main_arg0)
          ∧ r.2.mem ((c.tc : Thread Cert.ReferenceW1DwIdeal.nD Cert.ReferenceW1DwIdeal.τ).loc Cert.ReferenceW1DwIdeal.main_arg1) = m' ((c.tc : Thread Cert.ReferenceW1DwIdeal.nD Cert.ReferenceW1DwIdeal.τ).loc Cert.ReferenceW1DwIdeal.main_arg1))

def preserves_KernelW1Dx_KernelW1DxIdeal : Prop :=
  True

def algebraic_KernelW1DxIdeal_ReferenceW1DxIdeal [hKernelW1DxIdeal : Cert.KernelW1DxIdeal.Facts] [hReferenceW1DxIdeal : Cert.ReferenceW1DxIdeal.Facts] : Prop :=
  ∀ (m : (ℓ : Loc Cert.KernelW1DxIdeal.nD Cert.KernelW1DxIdeal.τ Cert.KernelW1DxIdeal.sig) → Buf (Elt Ideal) ℓ) (g : Dev Cert.KernelW1DxIdeal.nD → PrngReg)
    (m' : (ℓ : Loc Cert.ReferenceW1DxIdeal.nD Cert.ReferenceW1DxIdeal.τ Cert.ReferenceW1DxIdeal.sig) → Buf (Elt Ideal) ℓ) (g' : Dev Cert.ReferenceW1DxIdeal.nD → PrngReg), Pre_KernelW1DxIdeal m →
    (∀ c : Dev Cert.KernelW1DxIdeal.nD,
      m' ((c.tc : Thread Cert.ReferenceW1DxIdeal.nD Cert.ReferenceW1DxIdeal.τ).loc Cert.ReferenceW1DxIdeal.main_arg0) = m ((c.tc : Thread Cert.KernelW1DxIdeal.nD Cert.KernelW1DxIdeal.τ).loc Cert.KernelW1DxIdeal.main_arg0)
      ∧ m' ((c.tc : Thread Cert.ReferenceW1DxIdeal.nD Cert.ReferenceW1DxIdeal.τ).loc Cert.ReferenceW1DxIdeal.main_arg1) = m ((c.tc : Thread Cert.KernelW1DxIdeal.nD Cert.KernelW1DxIdeal.τ).loc Cert.KernelW1DxIdeal.main_arg1)) →
    ∃ (v0 : (c : Dev Cert.KernelW1DxIdeal.nD) → Buf (Elt Ideal) ((c.tc : Thread Cert.KernelW1DxIdeal.nD Cert.KernelW1DxIdeal.τ).loc Cert.KernelW1DxIdeal.main_v4)),
      θ_run (Cert.KernelW1DxIdeal.defs (F := Ideal)) (onTc (τ := Cert.KernelW1DxIdeal.τ) (Cert.KernelW1DxIdeal.main (F := Ideal))) ⟨m, fun _ => 0, g⟩ (fun r => ∀ c : Dev Cert.KernelW1DxIdeal.nD,
          r.2.mem ((c.tc : Thread Cert.KernelW1DxIdeal.nD Cert.KernelW1DxIdeal.τ).loc Cert.KernelW1DxIdeal.main_v4) = v0 c
          ∧ r.2.mem ((c.tc : Thread Cert.KernelW1DxIdeal.nD Cert.KernelW1DxIdeal.τ).loc Cert.KernelW1DxIdeal.main_arg0) = m ((c.tc : Thread Cert.KernelW1DxIdeal.nD Cert.KernelW1DxIdeal.τ).loc Cert.KernelW1DxIdeal.main_arg0)
          ∧ r.2.mem ((c.tc : Thread Cert.KernelW1DxIdeal.nD Cert.KernelW1DxIdeal.τ).loc Cert.KernelW1DxIdeal.main_arg1) = m ((c.tc : Thread Cert.KernelW1DxIdeal.nD Cert.KernelW1DxIdeal.τ).loc Cert.KernelW1DxIdeal.main_arg1))
      ∧ θ_run (Cert.ReferenceW1DxIdeal.defs (F := Ideal)) (onTc (τ := Cert.ReferenceW1DxIdeal.τ) (Cert.ReferenceW1DxIdeal.main (F := Ideal))) ⟨m', fun _ => 0, g'⟩ (fun r => ∀ c : Dev Cert.ReferenceW1DxIdeal.nD,
          r.2.mem ((c.tc : Thread Cert.ReferenceW1DxIdeal.nD Cert.ReferenceW1DxIdeal.τ).loc Cert.ReferenceW1DxIdeal.main_v2) = v0 c
          ∧ r.2.mem ((c.tc : Thread Cert.ReferenceW1DxIdeal.nD Cert.ReferenceW1DxIdeal.τ).loc Cert.ReferenceW1DxIdeal.main_arg0) = m' ((c.tc : Thread Cert.ReferenceW1DxIdeal.nD Cert.ReferenceW1DxIdeal.τ).loc Cert.ReferenceW1DxIdeal.main_arg0)
          ∧ r.2.mem ((c.tc : Thread Cert.ReferenceW1DxIdeal.nD Cert.ReferenceW1DxIdeal.τ).loc Cert.ReferenceW1DxIdeal.main_arg1) = m' ((c.tc : Thread Cert.ReferenceW1DxIdeal.nD Cert.ReferenceW1DxIdeal.τ).loc Cert.ReferenceW1DxIdeal.main_arg1))

def preserves_KernelInFwd_KernelInFwdIdeal : Prop :=
  True

def algebraic_KernelInFwdIdeal_ReferenceInFwdIdeal [hKernelInFwdIdeal : Cert.KernelInFwdIdeal.Facts] [hReferenceInFwdIdeal : Cert.ReferenceInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg)
    (m' : (ℓ : Loc Cert.ReferenceInFwdIdeal.nD Cert.ReferenceInFwdIdeal.τ Cert.ReferenceInFwdIdeal.sig) → Buf (Elt Ideal) ℓ) (g' : Dev Cert.ReferenceInFwdIdeal.nD → PrngReg), Pre_KernelInFwdIdeal m →
    (∀ c : Dev Cert.KernelInFwdIdeal.nD,
      m' ((c.tc : Thread Cert.ReferenceInFwdIdeal.nD Cert.ReferenceInFwdIdeal.τ).loc Cert.ReferenceInFwdIdeal.main_arg0) = m ((c.tc : Thread Cert.KernelInFwdIdeal.nD Cert.KernelInFwdIdeal.τ).loc Cert.KernelInFwdIdeal.main_arg0)
      ∧ m' ((c.tc : Thread Cert.ReferenceInFwdIdeal.nD Cert.ReferenceInFwdIdeal.τ).loc Cert.ReferenceInFwdIdeal.main_arg1) = m ((c.tc : Thread Cert.KernelInFwdIdeal.nD Cert.KernelInFwdIdeal.τ).loc Cert.KernelInFwdIdeal.main_arg1)) →
    ∃ (v0 : (c : Dev Cert.KernelInFwdIdeal.nD) → Buf (Elt Ideal) ((c.tc : Thread Cert.KernelInFwdIdeal.nD Cert.KernelInFwdIdeal.τ).loc Cert.KernelInFwdIdeal.main_v4)),
      θ_run (Cert.KernelInFwdIdeal.defs (F := Ideal)) (onTc (τ := Cert.KernelInFwdIdeal.τ) (Cert.KernelInFwdIdeal.main (F := Ideal))) ⟨m, fun _ => 0, g⟩ (fun r => ∀ c : Dev Cert.KernelInFwdIdeal.nD,
          r.2.mem ((c.tc : Thread Cert.KernelInFwdIdeal.nD Cert.KernelInFwdIdeal.τ).loc Cert.KernelInFwdIdeal.main_v4) = v0 c
          ∧ r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
          ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1))
      ∧ θ_run (Cert.ReferenceInFwdIdeal.defs (F := Ideal)) (onTc (τ := Cert.ReferenceInFwdIdeal.τ) (Cert.ReferenceInFwdIdeal.main (F := Ideal))) ⟨m', fun _ => 0, g'⟩ (fun r => ∀ c : Dev Cert.ReferenceInFwdIdeal.nD,
          r.2.mem ((c.tc : Thread Cert.ReferenceInFwdIdeal.nD Cert.ReferenceInFwdIdeal.τ).loc Cert.ReferenceInFwdIdeal.main_v0) = v0 c
          ∧ r.2.mem ((c.tc : Thread Cert.ReferenceInFwdIdeal.nD Cert.ReferenceInFwdIdeal.τ).loc Cert.ReferenceInFwdIdeal.main_arg0) = m' ((c.tc : Thread Cert.ReferenceInFwdIdeal.nD Cert.ReferenceInFwdIdeal.τ).loc Cert.ReferenceInFwdIdeal.main_arg0)
          ∧ r.2.mem ((c.tc : Thread Cert.ReferenceInFwdIdeal.nD Cert.ReferenceInFwdIdeal.τ).loc Cert.ReferenceInFwdIdeal.main_arg1) = m' ((c.tc : Thread Cert.ReferenceInFwdIdeal.nD Cert.ReferenceInFwdIdeal.τ).loc Cert.ReferenceInFwdIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v2)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v2) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v4)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v4) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v2) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)) →
    ∃ (v0 : (c : Dev Cert.KernelOutFwdIdeal.nD) → Buf (Elt Ideal) ((c.tc : Thread Cert.KernelOutFwdIdeal.nD Cert.KernelOutFwdIdeal.τ).loc Cert.KernelOutFwdIdeal.main_v2)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v2) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v0) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v2)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v2) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v2)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v2) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v2) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelEvInFwd_KernelEvInFwdIdeal : Prop :=
  True

def algebraic_KernelEvInFwdIdeal_ReferenceEvInFwdIdeal [hKernelEvInFwdIdeal : Cert.KernelEvInFwdIdeal.Facts] [hReferenceEvInFwdIdeal : Cert.ReferenceEvInFwdIdeal.Facts] : Prop :=
  ∀ (m : (ℓ : Loc Cert.KernelEvInFwdIdeal.nD Cert.KernelEvInFwdIdeal.τ Cert.KernelEvInFwdIdeal.sig) → Buf (Elt Ideal) ℓ) (g : Dev Cert.KernelEvInFwdIdeal.nD → PrngReg)
    (m' : (ℓ : Loc Cert.ReferenceEvInFwdIdeal.nD Cert.ReferenceEvInFwdIdeal.τ Cert.ReferenceEvInFwdIdeal.sig) → Buf (Elt Ideal) ℓ) (g' : Dev Cert.ReferenceEvInFwdIdeal.nD → PrngReg), Pre_KernelEvInFwdIdeal m →
    (∀ c : Dev Cert.KernelEvInFwdIdeal.nD,
      m' ((c.tc : Thread Cert.ReferenceEvInFwdIdeal.nD Cert.ReferenceEvInFwdIdeal.τ).loc Cert.ReferenceEvInFwdIdeal.main_arg0) = m ((c.tc : Thread Cert.KernelEvInFwdIdeal.nD Cert.KernelEvInFwdIdeal.τ).loc Cert.KernelEvInFwdIdeal.main_arg0)
      ∧ m' ((c.tc : Thread Cert.ReferenceEvInFwdIdeal.nD Cert.ReferenceEvInFwdIdeal.τ).loc Cert.ReferenceEvInFwdIdeal.main_arg1) = m ((c.tc : Thread Cert.KernelEvInFwdIdeal.nD Cert.KernelEvInFwdIdeal.τ).loc Cert.KernelEvInFwdIdeal.main_arg1)) →
    ∃ (v0 : (c : Dev Cert.KernelEvInFwdIdeal.nD) → Buf (Elt Ideal) ((c.tc : Thread Cert.KernelEvInFwdIdeal.nD Cert.KernelEvInFwdIdeal.τ).loc Cert.KernelEvInFwdIdeal.main_v1)),
      θ_run (Cert.KernelEvInFwdIdeal.defs (F := Ideal)) (onTc (τ := Cert.KernelEvInFwdIdeal.τ) (Cert.KernelEvInFwdIdeal.main (F := Ideal))) ⟨m, fun _ => 0, g⟩ (fun r => ∀ c : Dev Cert.KernelEvInFwdIdeal.nD,
          r.2.mem ((c.tc : Thread Cert.KernelEvInFwdIdeal.nD Cert.KernelEvInFwdIdeal.τ).loc Cert.KernelEvInFwdIdeal.main_v1) = v0 c
          ∧ r.2.mem ((c.tc : Thread Cert.KernelEvInFwdIdeal.nD Cert.KernelEvInFwdIdeal.τ).loc Cert.KernelEvInFwdIdeal.main_arg0) = m ((c.tc : Thread Cert.KernelEvInFwdIdeal.nD Cert.KernelEvInFwdIdeal.τ).loc Cert.KernelEvInFwdIdeal.main_arg0)
          ∧ r.2.mem ((c.tc : Thread Cert.KernelEvInFwdIdeal.nD Cert.KernelEvInFwdIdeal.τ).loc Cert.KernelEvInFwdIdeal.main_arg1) = m ((c.tc : Thread Cert.KernelEvInFwdIdeal.nD Cert.KernelEvInFwdIdeal.τ).loc Cert.KernelEvInFwdIdeal.main_arg1))
      ∧ θ_run (Cert.ReferenceEvInFwdIdeal.defs (F := Ideal)) (onTc (τ := Cert.ReferenceEvInFwdIdeal.τ) (Cert.ReferenceEvInFwdIdeal.main (F := Ideal))) ⟨m', fun _ => 0, g'⟩ (fun r => ∀ c : Dev Cert.ReferenceEvInFwdIdeal.nD,
          r.2.mem ((c.tc : Thread Cert.ReferenceEvInFwdIdeal.nD Cert.ReferenceEvInFwdIdeal.τ).loc Cert.ReferenceEvInFwdIdeal.main_v0) = v0 c
          ∧ r.2.mem ((c.tc : Thread Cert.ReferenceEvInFwdIdeal.nD Cert.ReferenceEvInFwdIdeal.τ).loc Cert.ReferenceEvInFwdIdeal.main_arg0) = m' ((c.tc : Thread Cert.ReferenceEvInFwdIdeal.nD Cert.ReferenceEvInFwdIdeal.τ).loc Cert.ReferenceEvInFwdIdeal.main_arg0)
          ∧ r.2.mem ((c.tc : Thread Cert.ReferenceEvInFwdIdeal.nD Cert.ReferenceEvInFwdIdeal.τ).loc Cert.ReferenceEvInFwdIdeal.main_arg1) = m' ((c.tc : Thread Cert.ReferenceEvInFwdIdeal.nD Cert.ReferenceEvInFwdIdeal.τ).loc Cert.ReferenceEvInFwdIdeal.main_arg1))

def preserves_KernelEvInDw_KernelEvInDwIdeal : Prop :=
  True

def algebraic_KernelEvInDwIdeal_ReferenceEvInDwIdeal [hKernelEvInDwIdeal : Cert.KernelEvInDwIdeal.Facts] [hReferenceEvInDwIdeal : Cert.ReferenceEvInDwIdeal.Facts] : Prop :=
  ∀ (m : (ℓ : Loc Cert.KernelEvInDwIdeal.nD Cert.KernelEvInDwIdeal.τ Cert.KernelEvInDwIdeal.sig) → Buf (Elt Ideal) ℓ) (g : Dev Cert.KernelEvInDwIdeal.nD → PrngReg)
    (m' : (ℓ : Loc Cert.ReferenceEvInDwIdeal.nD Cert.ReferenceEvInDwIdeal.τ Cert.ReferenceEvInDwIdeal.sig) → Buf (Elt Ideal) ℓ) (g' : Dev Cert.ReferenceEvInDwIdeal.nD → PrngReg), Pre_KernelEvInDwIdeal m →
    (∀ c : Dev Cert.KernelEvInDwIdeal.nD,
      m' ((c.tc : Thread Cert.ReferenceEvInDwIdeal.nD Cert.ReferenceEvInDwIdeal.τ).loc Cert.ReferenceEvInDwIdeal.main_arg0) = m ((c.tc : Thread Cert.KernelEvInDwIdeal.nD Cert.KernelEvInDwIdeal.τ).loc Cert.KernelEvInDwIdeal.main_arg0)
      ∧ m' ((c.tc : Thread Cert.ReferenceEvInDwIdeal.nD Cert.ReferenceEvInDwIdeal.τ).loc Cert.ReferenceEvInDwIdeal.main_arg1) = m ((c.tc : Thread Cert.KernelEvInDwIdeal.nD Cert.KernelEvInDwIdeal.τ).loc Cert.KernelEvInDwIdeal.main_arg1)) →
    ∃ (v0 : (c : Dev Cert.KernelEvInDwIdeal.nD) → Buf (Elt Ideal) ((c.tc : Thread Cert.KernelEvInDwIdeal.nD Cert.KernelEvInDwIdeal.τ).loc Cert.KernelEvInDwIdeal.main_v1)),
      θ_run (Cert.KernelEvInDwIdeal.defs (F := Ideal)) (onTc (τ := Cert.KernelEvInDwIdeal.τ) (Cert.KernelEvInDwIdeal.main (F := Ideal))) ⟨m, fun _ => 0, g⟩ (fun r => ∀ c : Dev Cert.KernelEvInDwIdeal.nD,
          r.2.mem ((c.tc : Thread Cert.KernelEvInDwIdeal.nD Cert.KernelEvInDwIdeal.τ).loc Cert.KernelEvInDwIdeal.main_v1) = v0 c
          ∧ r.2.mem ((c.tc : Thread Cert.KernelEvInDwIdeal.nD Cert.KernelEvInDwIdeal.τ).loc Cert.KernelEvInDwIdeal.main_arg0) = m ((c.tc : Thread Cert.KernelEvInDwIdeal.nD Cert.KernelEvInDwIdeal.τ).loc Cert.KernelEvInDwIdeal.main_arg0)
          ∧ r.2.mem ((c.tc : Thread Cert.KernelEvInDwIdeal.nD Cert.KernelEvInDwIdeal.τ).loc Cert.KernelEvInDwIdeal.main_arg1) = m ((c.tc : Thread Cert.KernelEvInDwIdeal.nD Cert.KernelEvInDwIdeal.τ).loc Cert.KernelEvInDwIdeal.main_arg1))
      ∧ θ_run (Cert.ReferenceEvInDwIdeal.defs (F := Ideal)) (onTc (τ := Cert.ReferenceEvInDwIdeal.τ) (Cert.ReferenceEvInDwIdeal.main (F := Ideal))) ⟨m', fun _ => 0, g'⟩ (fun r => ∀ c : Dev Cert.ReferenceEvInDwIdeal.nD,
          r.2.mem ((c.tc : Thread Cert.ReferenceEvInDwIdeal.nD Cert.ReferenceEvInDwIdeal.τ).loc Cert.ReferenceEvInDwIdeal.main_v3) = v0 c
          ∧ r.2.mem ((c.tc : Thread Cert.ReferenceEvInDwIdeal.nD Cert.ReferenceEvInDwIdeal.τ).loc Cert.ReferenceEvInDwIdeal.main_arg0) = m' ((c.tc : Thread Cert.ReferenceEvInDwIdeal.nD Cert.ReferenceEvInDwIdeal.τ).loc Cert.ReferenceEvInDwIdeal.main_arg0)
          ∧ r.2.mem ((c.tc : Thread Cert.ReferenceEvInDwIdeal.nD Cert.ReferenceEvInDwIdeal.τ).loc Cert.ReferenceEvInDwIdeal.main_arg1) = m' ((c.tc : Thread Cert.ReferenceEvInDwIdeal.nD Cert.ReferenceEvInDwIdeal.τ).loc Cert.ReferenceEvInDwIdeal.main_arg1))

def preserves_KernelEvInDx_KernelEvInDxIdeal : Prop :=
  True

def algebraic_KernelEvInDxIdeal_ReferenceEvInDxIdeal [hKernelEvInDxIdeal : Cert.KernelEvInDxIdeal.Facts] [hReferenceEvInDxIdeal : Cert.ReferenceEvInDxIdeal.Facts] : Prop :=
  ∀ (m : (ℓ : Loc Cert.KernelEvInDxIdeal.nD Cert.KernelEvInDxIdeal.τ Cert.KernelEvInDxIdeal.sig) → Buf (Elt Ideal) ℓ) (g : Dev Cert.KernelEvInDxIdeal.nD → PrngReg)
    (m' : (ℓ : Loc Cert.ReferenceEvInDxIdeal.nD Cert.ReferenceEvInDxIdeal.τ Cert.ReferenceEvInDxIdeal.sig) → Buf (Elt Ideal) ℓ) (g' : Dev Cert.ReferenceEvInDxIdeal.nD → PrngReg), Pre_KernelEvInDxIdeal m →
    (∀ c : Dev Cert.KernelEvInDxIdeal.nD,
      m' ((c.tc : Thread Cert.ReferenceEvInDxIdeal.nD Cert.ReferenceEvInDxIdeal.τ).loc Cert.ReferenceEvInDxIdeal.main_arg0) = m ((c.tc : Thread Cert.KernelEvInDxIdeal.nD Cert.KernelEvInDxIdeal.τ).loc Cert.KernelEvInDxIdeal.main_arg0)
      ∧ m' ((c.tc : Thread Cert.ReferenceEvInDxIdeal.nD Cert.ReferenceEvInDxIdeal.τ).loc Cert.ReferenceEvInDxIdeal.main_arg1) = m ((c.tc : Thread Cert.KernelEvInDxIdeal.nD Cert.KernelEvInDxIdeal.τ).loc Cert.KernelEvInDxIdeal.main_arg1)) →
    ∃ (v0 : (c : Dev Cert.KernelEvInDxIdeal.nD) → Buf (Elt Ideal) ((c.tc : Thread Cert.KernelEvInDxIdeal.nD Cert.KernelEvInDxIdeal.τ).loc Cert.KernelEvInDxIdeal.main_v2)),
      θ_run (Cert.KernelEvInDxIdeal.defs (F := Ideal)) (onTc (τ := Cert.KernelEvInDxIdeal.τ) (Cert.KernelEvInDxIdeal.main (F := Ideal))) ⟨m, fun _ => 0, g⟩ (fun r => ∀ c : Dev Cert.KernelEvInDxIdeal.nD,
          r.2.mem ((c.tc : Thread Cert.KernelEvInDxIdeal.nD Cert.KernelEvInDxIdeal.τ).loc Cert.KernelEvInDxIdeal.main_v2) = v0 c
          ∧ r.2.mem ((c.tc : Thread Cert.KernelEvInDxIdeal.nD Cert.KernelEvInDxIdeal.τ).loc Cert.KernelEvInDxIdeal.main_arg0) = m ((c.tc : Thread Cert.KernelEvInDxIdeal.nD Cert.KernelEvInDxIdeal.τ).loc Cert.KernelEvInDxIdeal.main_arg0)
          ∧ r.2.mem ((c.tc : Thread Cert.KernelEvInDxIdeal.nD Cert.KernelEvInDxIdeal.τ).loc Cert.KernelEvInDxIdeal.main_arg1) = m ((c.tc : Thread Cert.KernelEvInDxIdeal.nD Cert.KernelEvInDxIdeal.τ).loc Cert.KernelEvInDxIdeal.main_arg1))
      ∧ θ_run (Cert.ReferenceEvInDxIdeal.defs (F := Ideal)) (onTc (τ := Cert.ReferenceEvInDxIdeal.τ) (Cert.ReferenceEvInDxIdeal.main (F := Ideal))) ⟨m', fun _ => 0, g'⟩ (fun r => ∀ c : Dev Cert.ReferenceEvInDxIdeal.nD,
          r.2.mem ((c.tc : Thread Cert.ReferenceEvInDxIdeal.nD Cert.ReferenceEvInDxIdeal.τ).loc Cert.ReferenceEvInDxIdeal.main_v2) = v0 c
          ∧ r.2.mem ((c.tc : Thread Cert.ReferenceEvInDxIdeal.nD Cert.ReferenceEvInDxIdeal.τ).loc Cert.ReferenceEvInDxIdeal.main_arg0) = m' ((c.tc : Thread Cert.ReferenceEvInDxIdeal.nD Cert.ReferenceEvInDxIdeal.τ).loc Cert.ReferenceEvInDxIdeal.main_arg0)
          ∧ r.2.mem ((c.tc : Thread Cert.ReferenceEvInDxIdeal.nD Cert.ReferenceEvInDxIdeal.τ).loc Cert.ReferenceEvInDxIdeal.main_arg1) = m' ((c.tc : Thread Cert.ReferenceEvInDxIdeal.nD Cert.ReferenceEvInDxIdeal.τ).loc Cert.ReferenceEvInDxIdeal.main_arg1))

def preserves_KernelEvOutFwd_KernelEvOutFwdIdeal : Prop :=
  True

def algebraic_KernelEvOutFwdIdeal_ReferenceEvOutFwdIdeal [hKernelEvOutFwdIdeal : Cert.KernelEvOutFwdIdeal.Facts] [hReferenceEvOutFwdIdeal : Cert.ReferenceEvOutFwdIdeal.Facts] : Prop :=
  ∀ (m : (ℓ : Loc Cert.KernelEvOutFwdIdeal.nD Cert.KernelEvOutFwdIdeal.τ Cert.KernelEvOutFwdIdeal.sig) → Buf (Elt Ideal) ℓ) (g : Dev Cert.KernelEvOutFwdIdeal.nD → PrngReg)
    (m' : (ℓ : Loc Cert.ReferenceEvOutFwdIdeal.nD Cert.ReferenceEvOutFwdIdeal.τ Cert.ReferenceEvOutFwdIdeal.sig) → Buf (Elt Ideal) ℓ) (g' : Dev Cert.ReferenceEvOutFwdIdeal.nD → PrngReg), Pre_KernelEvOutFwdIdeal m →
    (∀ c : Dev Cert.KernelEvOutFwdIdeal.nD,
      m' ((c.tc : Thread Cert.ReferenceEvOutFwdIdeal.nD Cert.ReferenceEvOutFwdIdeal.τ).loc Cert.ReferenceEvOutFwdIdeal.main_arg0) = m ((c.tc : Thread Cert.KernelEvOutFwdIdeal.nD Cert.KernelEvOutFwdIdeal.τ).loc Cert.KernelEvOutFwdIdeal.main_arg0)
      ∧ m' ((c.tc : Thread Cert.ReferenceEvOutFwdIdeal.nD Cert.ReferenceEvOutFwdIdeal.τ).loc Cert.ReferenceEvOutFwdIdeal.main_arg1) = m ((c.tc : Thread Cert.KernelEvOutFwdIdeal.nD Cert.KernelEvOutFwdIdeal.τ).loc Cert.KernelEvOutFwdIdeal.main_arg1)) →
    ∃ (v0 : (c : Dev Cert.KernelEvOutFwdIdeal.nD) → Buf (Elt Ideal) ((c.tc : Thread Cert.KernelEvOutFwdIdeal.nD Cert.KernelEvOutFwdIdeal.τ).loc Cert.KernelEvOutFwdIdeal.main_v1)),
      θ_run (Cert.KernelEvOutFwdIdeal.defs (F := Ideal)) (onTc (τ := Cert.KernelEvOutFwdIdeal.τ) (Cert.KernelEvOutFwdIdeal.main (F := Ideal))) ⟨m, fun _ => 0, g⟩ (fun r => ∀ c : Dev Cert.KernelEvOutFwdIdeal.nD,
          r.2.mem ((c.tc : Thread Cert.KernelEvOutFwdIdeal.nD Cert.KernelEvOutFwdIdeal.τ).loc Cert.KernelEvOutFwdIdeal.main_v1) = v0 c
          ∧ r.2.mem ((c.tc : Thread Cert.KernelEvOutFwdIdeal.nD Cert.KernelEvOutFwdIdeal.τ).loc Cert.KernelEvOutFwdIdeal.main_arg0) = m ((c.tc : Thread Cert.KernelEvOutFwdIdeal.nD Cert.KernelEvOutFwdIdeal.τ).loc Cert.KernelEvOutFwdIdeal.main_arg0)
          ∧ r.2.mem ((c.tc : Thread Cert.KernelEvOutFwdIdeal.nD Cert.KernelEvOutFwdIdeal.τ).loc Cert.KernelEvOutFwdIdeal.main_arg1) = m ((c.tc : Thread Cert.KernelEvOutFwdIdeal.nD Cert.KernelEvOutFwdIdeal.τ).loc Cert.KernelEvOutFwdIdeal.main_arg1))
      ∧ θ_run (Cert.ReferenceEvOutFwdIdeal.defs (F := Ideal)) (onTc (τ := Cert.ReferenceEvOutFwdIdeal.τ) (Cert.ReferenceEvOutFwdIdeal.main (F := Ideal))) ⟨m', fun _ => 0, g'⟩ (fun r => ∀ c : Dev Cert.ReferenceEvOutFwdIdeal.nD,
          r.2.mem ((c.tc : Thread Cert.ReferenceEvOutFwdIdeal.nD Cert.ReferenceEvOutFwdIdeal.τ).loc Cert.ReferenceEvOutFwdIdeal.main_v0) = v0 c
          ∧ r.2.mem ((c.tc : Thread Cert.ReferenceEvOutFwdIdeal.nD Cert.ReferenceEvOutFwdIdeal.τ).loc Cert.ReferenceEvOutFwdIdeal.main_arg0) = m' ((c.tc : Thread Cert.ReferenceEvOutFwdIdeal.nD Cert.ReferenceEvOutFwdIdeal.τ).loc Cert.ReferenceEvOutFwdIdeal.main_arg0)
          ∧ r.2.mem ((c.tc : Thread Cert.ReferenceEvOutFwdIdeal.nD Cert.ReferenceEvOutFwdIdeal.τ).loc Cert.ReferenceEvOutFwdIdeal.main_arg1) = m' ((c.tc : Thread Cert.ReferenceEvOutFwdIdeal.nD Cert.ReferenceEvOutFwdIdeal.τ).loc Cert.ReferenceEvOutFwdIdeal.main_arg1))

def preserves_KernelEvOutDw_KernelEvOutDwIdeal : Prop :=
  True

def algebraic_KernelEvOutDwIdeal_ReferenceEvOutDwIdeal [hKernelEvOutDwIdeal : Cert.KernelEvOutDwIdeal.Facts] [hReferenceEvOutDwIdeal : Cert.ReferenceEvOutDwIdeal.Facts] : Prop :=
  ∀ (m : (ℓ : Loc Cert.KernelEvOutDwIdeal.nD Cert.KernelEvOutDwIdeal.τ Cert.KernelEvOutDwIdeal.sig) → Buf (Elt Ideal) ℓ) (g : Dev Cert.KernelEvOutDwIdeal.nD → PrngReg)
    (m' : (ℓ : Loc Cert.ReferenceEvOutDwIdeal.nD Cert.ReferenceEvOutDwIdeal.τ Cert.ReferenceEvOutDwIdeal.sig) → Buf (Elt Ideal) ℓ) (g' : Dev Cert.ReferenceEvOutDwIdeal.nD → PrngReg), Pre_KernelEvOutDwIdeal m →
    (∀ c : Dev Cert.KernelEvOutDwIdeal.nD,
      m' ((c.tc : Thread Cert.ReferenceEvOutDwIdeal.nD Cert.ReferenceEvOutDwIdeal.τ).loc Cert.ReferenceEvOutDwIdeal.main_arg0) = m ((c.tc : Thread Cert.KernelEvOutDwIdeal.nD Cert.KernelEvOutDwIdeal.τ).loc Cert.KernelEvOutDwIdeal.main_arg0)
      ∧ m' ((c.tc : Thread Cert.ReferenceEvOutDwIdeal.nD Cert.ReferenceEvOutDwIdeal.τ).loc Cert.ReferenceEvOutDwIdeal.main_arg1) = m ((c.tc : Thread Cert.KernelEvOutDwIdeal.nD Cert.KernelEvOutDwIdeal.τ).loc Cert.KernelEvOutDwIdeal.main_arg1)) →
    ∃ (v0 : (c : Dev Cert.KernelEvOutDwIdeal.nD) → Buf (Elt Ideal) ((c.tc : Thread Cert.KernelEvOutDwIdeal.nD Cert.KernelEvOutDwIdeal.τ).loc Cert.KernelEvOutDwIdeal.main_v1)),
      θ_run (Cert.KernelEvOutDwIdeal.defs (F := Ideal)) (onTc (τ := Cert.KernelEvOutDwIdeal.τ) (Cert.KernelEvOutDwIdeal.main (F := Ideal))) ⟨m, fun _ => 0, g⟩ (fun r => ∀ c : Dev Cert.KernelEvOutDwIdeal.nD,
          r.2.mem ((c.tc : Thread Cert.KernelEvOutDwIdeal.nD Cert.KernelEvOutDwIdeal.τ).loc Cert.KernelEvOutDwIdeal.main_v1) = v0 c
          ∧ r.2.mem ((c.tc : Thread Cert.KernelEvOutDwIdeal.nD Cert.KernelEvOutDwIdeal.τ).loc Cert.KernelEvOutDwIdeal.main_arg0) = m ((c.tc : Thread Cert.KernelEvOutDwIdeal.nD Cert.KernelEvOutDwIdeal.τ).loc Cert.KernelEvOutDwIdeal.main_arg0)
          ∧ r.2.mem ((c.tc : Thread Cert.KernelEvOutDwIdeal.nD Cert.KernelEvOutDwIdeal.τ).loc Cert.KernelEvOutDwIdeal.main_arg1) = m ((c.tc : Thread Cert.KernelEvOutDwIdeal.nD Cert.KernelEvOutDwIdeal.τ).loc Cert.KernelEvOutDwIdeal.main_arg1))
      ∧ θ_run (Cert.ReferenceEvOutDwIdeal.defs (F := Ideal)) (onTc (τ := Cert.ReferenceEvOutDwIdeal.τ) (Cert.ReferenceEvOutDwIdeal.main (F := Ideal))) ⟨m', fun _ => 0, g'⟩ (fun r => ∀ c : Dev Cert.ReferenceEvOutDwIdeal.nD,
          r.2.mem ((c.tc : Thread Cert.ReferenceEvOutDwIdeal.nD Cert.ReferenceEvOutDwIdeal.τ).loc Cert.ReferenceEvOutDwIdeal.main_v3) = v0 c
          ∧ r.2.mem ((c.tc : Thread Cert.ReferenceEvOutDwIdeal.nD Cert.ReferenceEvOutDwIdeal.τ).loc Cert.ReferenceEvOutDwIdeal.main_arg0) = m' ((c.tc : Thread Cert.ReferenceEvOutDwIdeal.nD Cert.ReferenceEvOutDwIdeal.τ).loc Cert.ReferenceEvOutDwIdeal.main_arg0)
          ∧ r.2.mem ((c.tc : Thread Cert.ReferenceEvOutDwIdeal.nD Cert.ReferenceEvOutDwIdeal.τ).loc Cert.ReferenceEvOutDwIdeal.main_arg1) = m' ((c.tc : Thread Cert.ReferenceEvOutDwIdeal.nD Cert.ReferenceEvOutDwIdeal.τ).loc Cert.ReferenceEvOutDwIdeal.main_arg1))

def preserves_KernelEvOutDx_KernelEvOutDxIdeal : Prop :=
  True

def algebraic_KernelEvOutDxIdeal_ReferenceEvOutDxIdeal [hKernelEvOutDxIdeal : Cert.KernelEvOutDxIdeal.Facts] [hReferenceEvOutDxIdeal : Cert.ReferenceEvOutDxIdeal.Facts] : Prop :=
  ∀ (m : (ℓ : Loc Cert.KernelEvOutDxIdeal.nD Cert.KernelEvOutDxIdeal.τ Cert.KernelEvOutDxIdeal.sig) → Buf (Elt Ideal) ℓ) (g : Dev Cert.KernelEvOutDxIdeal.nD → PrngReg)
    (m' : (ℓ : Loc Cert.ReferenceEvOutDxIdeal.nD Cert.ReferenceEvOutDxIdeal.τ Cert.ReferenceEvOutDxIdeal.sig) → Buf (Elt Ideal) ℓ) (g' : Dev Cert.ReferenceEvOutDxIdeal.nD → PrngReg), Pre_KernelEvOutDxIdeal m →
    (∀ c : Dev Cert.KernelEvOutDxIdeal.nD,
      m' ((c.tc : Thread Cert.ReferenceEvOutDxIdeal.nD Cert.ReferenceEvOutDxIdeal.τ).loc Cert.ReferenceEvOutDxIdeal.main_arg0) = m ((c.tc : Thread Cert.KernelEvOutDxIdeal.nD Cert.KernelEvOutDxIdeal.τ).loc Cert.KernelEvOutDxIdeal.main_arg0)
      ∧ m' ((c.tc : Thread Cert.ReferenceEvOutDxIdeal.nD Cert.ReferenceEvOutDxIdeal.τ).loc Cert.ReferenceEvOutDxIdeal.main_arg1) = m ((c.tc : Thread Cert.KernelEvOutDxIdeal.nD Cert.KernelEvOutDxIdeal.τ).loc Cert.KernelEvOutDxIdeal.main_arg1)) →
    ∃ (v0 : (c : Dev Cert.KernelEvOutDxIdeal.nD) → Buf (Elt Ideal) ((c.tc : Thread Cert.KernelEvOutDxIdeal.nD Cert.KernelEvOutDxIdeal.τ).loc Cert.KernelEvOutDxIdeal.main_v2)),
      θ_run (Cert.KernelEvOutDxIdeal.defs (F := Ideal)) (onTc (τ := Cert.KernelEvOutDxIdeal.τ) (Cert.KernelEvOutDxIdeal.main (F := Ideal))) ⟨m, fun _ => 0, g⟩ (fun r => ∀ c : Dev Cert.KernelEvOutDxIdeal.nD,
          r.2.mem ((c.tc : Thread Cert.KernelEvOutDxIdeal.nD Cert.KernelEvOutDxIdeal.τ).loc Cert.KernelEvOutDxIdeal.main_v2) = v0 c
          ∧ r.2.mem ((c.tc : Thread Cert.KernelEvOutDxIdeal.nD Cert.KernelEvOutDxIdeal.τ).loc Cert.KernelEvOutDxIdeal.main_arg0) = m ((c.tc : Thread Cert.KernelEvOutDxIdeal.nD Cert.KernelEvOutDxIdeal.τ).loc Cert.KernelEvOutDxIdeal.main_arg0)
          ∧ r.2.mem ((c.tc : Thread Cert.KernelEvOutDxIdeal.nD Cert.KernelEvOutDxIdeal.τ).loc Cert.KernelEvOutDxIdeal.main_arg1) = m ((c.tc : Thread Cert.KernelEvOutDxIdeal.nD Cert.KernelEvOutDxIdeal.τ).loc Cert.KernelEvOutDxIdeal.main_arg1))
      ∧ θ_run (Cert.ReferenceEvOutDxIdeal.defs (F := Ideal)) (onTc (τ := Cert.ReferenceEvOutDxIdeal.τ) (Cert.ReferenceEvOutDxIdeal.main (F := Ideal))) ⟨m', fun _ => 0, g'⟩ (fun r => ∀ c : Dev Cert.ReferenceEvOutDxIdeal.nD,
          r.2.mem ((c.tc : Thread Cert.ReferenceEvOutDxIdeal.nD Cert.ReferenceEvOutDxIdeal.τ).loc Cert.ReferenceEvOutDxIdeal.main_v2) = v0 c
          ∧ r.2.mem ((c.tc : Thread Cert.ReferenceEvOutDxIdeal.nD Cert.ReferenceEvOutDxIdeal.τ).loc Cert.ReferenceEvOutDxIdeal.main_arg0) = m' ((c.tc : Thread Cert.ReferenceEvOutDxIdeal.nD Cert.ReferenceEvOutDxIdeal.τ).loc Cert.ReferenceEvOutDxIdeal.main_arg0)
          ∧ r.2.mem ((c.tc : Thread Cert.ReferenceEvOutDxIdeal.nD Cert.ReferenceEvOutDxIdeal.τ).loc Cert.ReferenceEvOutDxIdeal.main_arg1) = m' ((c.tc : Thread Cert.ReferenceEvOutDxIdeal.nD Cert.ReferenceEvOutDxIdeal.τ).loc Cert.ReferenceEvOutDxIdeal.main_arg1))

def preserves_KernelLnBwd_KernelLnBwdIdeal : Prop :=
  True

def algebraic_KernelLnBwdIdeal_ReferenceLnBwdIdeal [hKernelLnBwdIdeal : Cert.KernelLnBwdIdeal.Facts] [hReferenceLnBwdIdeal : Cert.ReferenceLnBwdIdeal.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg)
    (m' : (ℓ : Loc Cert.ReferenceLnBwdIdeal.nD Cert.ReferenceLnBwdIdeal.τ Cert.ReferenceLnBwdIdeal.sig) → Buf (Elt Ideal) ℓ) (g' : Dev Cert.ReferenceLnBwdIdeal.nD → PrngReg), Pre_KernelLnBwdIdeal m →
    (∀ c : Dev Cert.KernelLnBwdIdeal.nD,
      m' ((c.tc : Thread Cert.ReferenceLnBwdIdeal.nD Cert.ReferenceLnBwdIdeal.τ).loc Cert.ReferenceLnBwdIdeal.main_arg0) = m ((c.tc : Thread Cert.KernelLnBwdIdeal.nD Cert.KernelLnBwdIdeal.τ).loc Cert.KernelLnBwdIdeal.main_arg0)
      ∧ m' ((c.tc : Thread Cert.ReferenceLnBwdIdeal.nD Cert.ReferenceLnBwdIdeal.τ).loc Cert.ReferenceLnBwdIdeal.main_arg1) = m ((c.tc : Thread Cert.KernelLnBwdIdeal.nD Cert.KernelLnBwdIdeal.τ).loc Cert.KernelLnBwdIdeal.main_arg1)
      ∧ m' ((c.tc : Thread Cert.ReferenceLnBwdIdeal.nD Cert.ReferenceLnBwdIdeal.τ).loc Cert.ReferenceLnBwdIdeal.main_arg2) = m ((c.tc : Thread Cert.KernelLnBwdIdeal.nD Cert.KernelLnBwdIdeal.τ).loc Cert.KernelLnBwdIdeal.main_arg2)
      ∧ m' ((c.tc : Thread Cert.ReferenceLnBwdIdeal.nD Cert.ReferenceLnBwdIdeal.τ).loc Cert.ReferenceLnBwdIdeal.main_arg3) = m ((c.tc : Thread Cert.KernelLnBwdIdeal.nD Cert.KernelLnBwdIdeal.τ).loc Cert.KernelLnBwdIdeal.main_arg3)
      ∧ m' ((c.tc : Thread Cert.ReferenceLnBwdIdeal.nD Cert.ReferenceLnBwdIdeal.τ).loc Cert.ReferenceLnBwdIdeal.main_arg4) = m ((c.tc : Thread Cert.KernelLnBwdIdeal.nD Cert.KernelLnBwdIdeal.τ).loc Cert.KernelLnBwdIdeal.main_arg4)
      ∧ m' ((c.tc : Thread Cert.ReferenceLnBwdIdeal.nD Cert.ReferenceLnBwdIdeal.τ).loc Cert.ReferenceLnBwdIdeal.main_arg5) = m ((c.tc : Thread Cert.KernelLnBwdIdeal.nD Cert.KernelLnBwdIdeal.τ).loc Cert.KernelLnBwdIdeal.main_arg5)) →
    ∃ (v0 : (c : Dev Cert.KernelLnBwdIdeal.nD) → Buf (Elt Ideal) ((c.tc : Thread Cert.KernelLnBwdIdeal.nD Cert.KernelLnBwdIdeal.τ).loc Cert.KernelLnBwdIdeal.main_v0_0)) (v1 : (c : Dev Cert.KernelLnBwdIdeal.nD) → Buf (Elt Ideal) ((c.tc : Thread Cert.KernelLnBwdIdeal.nD Cert.KernelLnBwdIdeal.τ).loc Cert.KernelLnBwdIdeal.main_v0_1)) (v2 : (c : Dev Cert.KernelLnBwdIdeal.nD) → Buf (Elt Ideal) ((c.tc : Thread Cert.KernelLnBwdIdeal.nD Cert.KernelLnBwdIdeal.τ).loc Cert.KernelLnBwdIdeal.main_v0_2)) (v3 : (c : Dev Cert.KernelLnBwdIdeal.nD) → Buf (Elt Ideal) ((c.tc : Thread Cert.KernelLnBwdIdeal.nD Cert.KernelLnBwdIdeal.τ).loc Cert.KernelLnBwdIdeal.main_v0_3)),
      θ_run (Cert.KernelLnBwdIdeal.defs (F := Ideal)) (onTc (τ := Cert.KernelLnBwdIdeal.τ) (Cert.KernelLnBwdIdeal.main (F := Ideal))) ⟨m, fun _ => 0, g⟩ (fun r => ∀ c : Dev Cert.KernelLnBwdIdeal.nD,
          r.2.mem ((c.tc : Thread Cert.KernelLnBwdIdeal.nD Cert.KernelLnBwdIdeal.τ).loc Cert.KernelLnBwdIdeal.main_v0_0) = v0 c
          ∧ r.2.mem ((c.tc : Thread Cert.KernelLnBwdIdeal.nD Cert.KernelLnBwdIdeal.τ).loc Cert.KernelLnBwdIdeal.main_v0_1) = v1 c
          ∧ r.2.mem ((c.tc : Thread Cert.KernelLnBwdIdeal.nD Cert.KernelLnBwdIdeal.τ).loc Cert.KernelLnBwdIdeal.main_v0_2) = v2 c
          ∧ r.2.mem ((c.tc : Thread Cert.KernelLnBwdIdeal.nD Cert.KernelLnBwdIdeal.τ).loc Cert.KernelLnBwdIdeal.main_v0_3) = v3 c
          ∧ r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
          ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
          ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2)
          ∧ r.2.mem ((c.tc : Thread Cert.KernelLnBwdIdeal.nD Cert.KernelLnBwdIdeal.τ).loc Cert.KernelLnBwdIdeal.main_arg3) = m ((c.tc : Thread Cert.KernelLnBwdIdeal.nD Cert.KernelLnBwdIdeal.τ).loc Cert.KernelLnBwdIdeal.main_arg3)
          ∧ r.2.mem ((c.tc : Thread Cert.KernelLnBwdIdeal.nD Cert.KernelLnBwdIdeal.τ).loc Cert.KernelLnBwdIdeal.main_arg4) = m ((c.tc : Thread Cert.KernelLnBwdIdeal.nD Cert.KernelLnBwdIdeal.τ).loc Cert.KernelLnBwdIdeal.main_arg4)
          ∧ r.2.mem ((c.tc : Thread Cert.KernelLnBwdIdeal.nD Cert.KernelLnBwdIdeal.τ).loc Cert.KernelLnBwdIdeal.main_arg5) = m ((c.tc : Thread Cert.KernelLnBwdIdeal.nD Cert.KernelLnBwdIdeal.τ).loc Cert.KernelLnBwdIdeal.main_arg5))
      ∧ θ_run (Cert.ReferenceLnBwdIdeal.defs (F := Ideal)) (onTc (τ := Cert.ReferenceLnBwdIdeal.τ) (Cert.ReferenceLnBwdIdeal.main (F := Ideal))) ⟨m', fun _ => 0, g'⟩ (fun r => ∀ c : Dev Cert.ReferenceLnBwdIdeal.nD,
          r.2.mem ((c.tc : Thread Cert.ReferenceLnBwdIdeal.nD Cert.ReferenceLnBwdIdeal.τ).loc Cert.ReferenceLnBwdIdeal.main_v57) = v0 c
          ∧ r.2.mem ((c.tc : Thread Cert.ReferenceLnBwdIdeal.nD Cert.ReferenceLnBwdIdeal.τ).loc Cert.ReferenceLnBwdIdeal.main_v58) = v1 c
          ∧ r.2.mem ((c.tc : Thread Cert.ReferenceLnBwdIdeal.nD Cert.ReferenceLnBwdIdeal.τ).loc Cert.ReferenceLnBwdIdeal.main_v33) = v2 c
          ∧ r.2.mem ((c.tc : Thread Cert.ReferenceLnBwdIdeal.nD Cert.ReferenceLnBwdIdeal.τ).loc Cert.ReferenceLnBwdIdeal.main_v30) = v3 c
          ∧ r.2.mem ((c.tc : Thread Cert.ReferenceLnBwdIdeal.nD Cert.ReferenceLnBwdIdeal.τ).loc Cert.ReferenceLnBwdIdeal.main_arg0) = m' ((c.tc : Thread Cert.ReferenceLnBwdIdeal.nD Cert.ReferenceLnBwdIdeal.τ).loc Cert.ReferenceLnBwdIdeal.main_arg0)
          ∧ r.2.mem ((c.tc : Thread Cert.ReferenceLnBwdIdeal.nD Cert.ReferenceLnBwdIdeal.τ).loc Cert.ReferenceLnBwdIdeal.main_arg1) = m' ((c.tc : Thread Cert.ReferenceLnBwdIdeal.nD Cert.ReferenceLnBwdIdeal.τ).loc Cert.ReferenceLnBwdIdeal.main_arg1)
          ∧ r.2.mem ((c.tc : Thread Cert.ReferenceLnBwdIdeal.nD Cert.ReferenceLnBwdIdeal.τ).loc Cert.ReferenceLnBwdIdeal.main_arg2) = m' ((c.tc : Thread Cert.ReferenceLnBwdIdeal.nD Cert.ReferenceLnBwdIdeal.τ).loc Cert.ReferenceLnBwdIdeal.main_arg2)
          ∧ r.2.mem ((c.tc : Thread Cert.ReferenceLnBwdIdeal.nD Cert.ReferenceLnBwdIdeal.τ).loc Cert.ReferenceLnBwdIdeal.main_arg3) = m' ((c.tc : Thread Cert.ReferenceLnBwdIdeal.nD Cert.ReferenceLnBwdIdeal.τ).loc Cert.ReferenceLnBwdIdeal.main_arg3)
          ∧ r.2.mem ((c.tc : Thread Cert.ReferenceLnBwdIdeal.nD Cert.ReferenceLnBwdIdeal.τ).loc Cert.ReferenceLnBwdIdeal.main_arg4) = m' ((c.tc : Thread Cert.ReferenceLnBwdIdeal.nD Cert.ReferenceLnBwdIdeal.τ).loc Cert.ReferenceLnBwdIdeal.main_arg4)
          ∧ r.2.mem ((c.tc : Thread Cert.ReferenceLnBwdIdeal.nD Cert.ReferenceLnBwdIdeal.τ).loc Cert.ReferenceLnBwdIdeal.main_arg5) = m' ((c.tc : Thread Cert.ReferenceLnBwdIdeal.nD Cert.ReferenceLnBwdIdeal.τ).loc Cert.ReferenceLnBwdIdeal.main_arg5))

def preserves_KernelAttnBwd_KernelAttnBwdIdeal : Prop :=
  IdealRules.named_const.Statement Cert.KernelAttnBwdIdeal.κ "scale" .f32 0x3DD105EC#32 (((Real.sqrt 96)⁻¹ : ℝ) : EReal)
  ∧ IdealRules.named_const.Statement Cert.KernelAttnBwdIdeal.κ "mask" .f32 0xF149F2CA#32 ⊥

def algebraic_KernelAttnBwdIdeal_ReferenceAttnBwdIdeal_pre_finite_attn_args [hKernelAttnBwdIdeal : Cert.KernelAttnBwdIdeal.Facts] [hReferenceAttnBwdIdeal : Cert.ReferenceAttnBwdIdeal.Facts] [hPre_finite_attn_args : Cert.Pre_finite_attn_args.Facts] : Prop :=
  ∀ (m : (ℓ : Loc Cert.KernelAttnBwdIdeal.nD Cert.KernelAttnBwdIdeal.τ Cert.KernelAttnBwdIdeal.sig) → Buf (Elt Ideal) ℓ) (g : Dev Cert.KernelAttnBwdIdeal.nD → PrngReg)
    (m' : (ℓ : Loc Cert.ReferenceAttnBwdIdeal.nD Cert.ReferenceAttnBwdIdeal.τ Cert.ReferenceAttnBwdIdeal.sig) → Buf (Elt Ideal) ℓ) (g' : Dev Cert.ReferenceAttnBwdIdeal.nD → PrngReg), Pre_KernelAttnBwdIdeal_finite_attn_args m →
    (∀ c : Dev Cert.KernelAttnBwdIdeal.nD,
      m' ((c.tc : Thread Cert.ReferenceAttnBwdIdeal.nD Cert.ReferenceAttnBwdIdeal.τ).loc Cert.ReferenceAttnBwdIdeal.main_arg0) = m ((c.tc : Thread Cert.KernelAttnBwdIdeal.nD Cert.KernelAttnBwdIdeal.τ).loc Cert.KernelAttnBwdIdeal.main_arg0)
      ∧ m' ((c.tc : Thread Cert.ReferenceAttnBwdIdeal.nD Cert.ReferenceAttnBwdIdeal.τ).loc Cert.ReferenceAttnBwdIdeal.main_arg1) = m ((c.tc : Thread Cert.KernelAttnBwdIdeal.nD Cert.KernelAttnBwdIdeal.τ).loc Cert.KernelAttnBwdIdeal.main_arg1)
      ∧ m' ((c.tc : Thread Cert.ReferenceAttnBwdIdeal.nD Cert.ReferenceAttnBwdIdeal.τ).loc Cert.ReferenceAttnBwdIdeal.main_arg2) = m ((c.tc : Thread Cert.KernelAttnBwdIdeal.nD Cert.KernelAttnBwdIdeal.τ).loc Cert.KernelAttnBwdIdeal.main_arg2)
      ∧ m' ((c.tc : Thread Cert.ReferenceAttnBwdIdeal.nD Cert.ReferenceAttnBwdIdeal.τ).loc Cert.ReferenceAttnBwdIdeal.main_arg3) = m ((c.tc : Thread Cert.KernelAttnBwdIdeal.nD Cert.KernelAttnBwdIdeal.τ).loc Cert.KernelAttnBwdIdeal.main_arg3)) →
    ∃ (v0 : (c : Dev Cert.KernelAttnBwdIdeal.nD) → Buf (Elt Ideal) ((c.tc : Thread Cert.KernelAttnBwdIdeal.nD Cert.KernelAttnBwdIdeal.τ).loc Cert.KernelAttnBwdIdeal.main_v6_0)) (v1 : (c : Dev Cert.KernelAttnBwdIdeal.nD) → Buf (Elt Ideal) ((c.tc : Thread Cert.KernelAttnBwdIdeal.nD Cert.KernelAttnBwdIdeal.τ).loc Cert.KernelAttnBwdIdeal.main_v6_1)) (v2 : (c : Dev Cert.KernelAttnBwdIdeal.nD) → Buf (Elt Ideal) ((c.tc : Thread Cert.KernelAttnBwdIdeal.nD Cert.KernelAttnBwdIdeal.τ).loc Cert.KernelAttnBwdIdeal.main_v6_2)),
      θ_run (Cert.KernelAttnBwdIdeal.defs (F := Ideal)) (onTc (τ := Cert.KernelAttnBwdIdeal.τ) (Cert.KernelAttnBwdIdeal.main (F := Ideal))) ⟨m, fun _ => 0, g⟩ (fun r => ∀ c : Dev Cert.KernelAttnBwdIdeal.nD,
          r.2.mem ((c.tc : Thread Cert.KernelAttnBwdIdeal.nD Cert.KernelAttnBwdIdeal.τ).loc Cert.KernelAttnBwdIdeal.main_v6_0) = v0 c
          ∧ r.2.mem ((c.tc : Thread Cert.KernelAttnBwdIdeal.nD Cert.KernelAttnBwdIdeal.τ).loc Cert.KernelAttnBwdIdeal.main_v6_1) = v1 c
          ∧ r.2.mem ((c.tc : Thread Cert.KernelAttnBwdIdeal.nD Cert.KernelAttnBwdIdeal.τ).loc Cert.KernelAttnBwdIdeal.main_v6_2) = v2 c
          ∧ r.2.mem ((c.tc : Thread Cert.KernelAttnBwdIdeal.nD Cert.KernelAttnBwdIdeal.τ).loc Cert.KernelAttnBwdIdeal.main_arg0) = m ((c.tc : Thread Cert.KernelAttnBwdIdeal.nD Cert.KernelAttnBwdIdeal.τ).loc Cert.KernelAttnBwdIdeal.main_arg0)
          ∧ r.2.mem ((c.tc : Thread Cert.KernelAttnBwdIdeal.nD Cert.KernelAttnBwdIdeal.τ).loc Cert.KernelAttnBwdIdeal.main_arg1) = m ((c.tc : Thread Cert.KernelAttnBwdIdeal.nD Cert.KernelAttnBwdIdeal.τ).loc Cert.KernelAttnBwdIdeal.main_arg1)
          ∧ r.2.mem ((c.tc : Thread Cert.KernelAttnBwdIdeal.nD Cert.KernelAttnBwdIdeal.τ).loc Cert.KernelAttnBwdIdeal.main_arg2) = m ((c.tc : Thread Cert.KernelAttnBwdIdeal.nD Cert.KernelAttnBwdIdeal.τ).loc Cert.KernelAttnBwdIdeal.main_arg2)
          ∧ r.2.mem ((c.tc : Thread Cert.KernelAttnBwdIdeal.nD Cert.KernelAttnBwdIdeal.τ).loc Cert.KernelAttnBwdIdeal.main_arg3) = m ((c.tc : Thread Cert.KernelAttnBwdIdeal.nD Cert.KernelAttnBwdIdeal.τ).loc Cert.KernelAttnBwdIdeal.main_arg3))
      ∧ θ_run (Cert.ReferenceAttnBwdIdeal.defs (F := Ideal)) (onTc (τ := Cert.ReferenceAttnBwdIdeal.τ) (Cert.ReferenceAttnBwdIdeal.main (F := Ideal))) ⟨m', fun _ => 0, g'⟩ (fun r => ∀ c : Dev Cert.ReferenceAttnBwdIdeal.nD,
          r.2.mem ((c.tc : Thread Cert.ReferenceAttnBwdIdeal.nD Cert.ReferenceAttnBwdIdeal.τ).loc Cert.ReferenceAttnBwdIdeal.main_v80) = v0 c
          ∧ r.2.mem ((c.tc : Thread Cert.ReferenceAttnBwdIdeal.nD Cert.ReferenceAttnBwdIdeal.τ).loc Cert.ReferenceAttnBwdIdeal.main_v81) = v1 c
          ∧ r.2.mem ((c.tc : Thread Cert.ReferenceAttnBwdIdeal.nD Cert.ReferenceAttnBwdIdeal.τ).loc Cert.ReferenceAttnBwdIdeal.main_v82) = v2 c
          ∧ r.2.mem ((c.tc : Thread Cert.ReferenceAttnBwdIdeal.nD Cert.ReferenceAttnBwdIdeal.τ).loc Cert.ReferenceAttnBwdIdeal.main_arg0) = m' ((c.tc : Thread Cert.ReferenceAttnBwdIdeal.nD Cert.ReferenceAttnBwdIdeal.τ).loc Cert.ReferenceAttnBwdIdeal.main_arg0)
          ∧ r.2.mem ((c.tc : Thread Cert.ReferenceAttnBwdIdeal.nD Cert.ReferenceAttnBwdIdeal.τ).loc Cert.ReferenceAttnBwdIdeal.main_arg1) = m' ((c.tc : Thread Cert.ReferenceAttnBwdIdeal.nD Cert.ReferenceAttnBwdIdeal.τ).loc Cert.ReferenceAttnBwdIdeal.main_arg1)
          ∧ r.2.mem ((c.tc : Thread Cert.ReferenceAttnBwdIdeal.nD Cert.ReferenceAttnBwdIdeal.τ).loc Cert.ReferenceAttnBwdIdeal.main_arg2) = m' ((c.tc : Thread Cert.ReferenceAttnBwdIdeal.nD Cert.ReferenceAttnBwdIdeal.τ).loc Cert.ReferenceAttnBwdIdeal.main_arg2)
          ∧ r.2.mem ((c.tc : Thread Cert.ReferenceAttnBwdIdeal.nD Cert.ReferenceAttnBwdIdeal.τ).loc Cert.ReferenceAttnBwdIdeal.main_arg3) = m' ((c.tc : Thread Cert.ReferenceAttnBwdIdeal.nD Cert.ReferenceAttnBwdIdeal.τ).loc Cert.ReferenceAttnBwdIdeal.main_arg3))

def Claim : Prop :=
  ∃ (hKernel : Cert.Kernel.Facts) (hKernelIdeal : Cert.KernelIdeal.Facts) (hReferenceIdeal : Cert.ReferenceIdeal.Facts) (hKernelW1Fwd : Cert.KernelW1Fwd.Facts) (hKernelW1FwdIdeal : Cert.KernelW1FwdIdeal.Facts) (hReferenceW1FwdIdeal : Cert.ReferenceW1FwdIdeal.Facts) (hKernelW2Fwd : Cert.KernelW2Fwd.Facts) (hKernelW2FwdIdeal : Cert.KernelW2FwdIdeal.Facts) (hReferenceW2FwdIdeal : Cert.ReferenceW2FwdIdeal.Facts) (hKernelW2Dw : Cert.KernelW2Dw.Facts) (hKernelW2DwIdeal : Cert.KernelW2DwIdeal.Facts) (hReferenceW2DwIdeal : Cert.ReferenceW2DwIdeal.Facts) (hKernelW2Dx : Cert.KernelW2Dx.Facts) (hKernelW2DxIdeal : Cert.KernelW2DxIdeal.Facts) (hReferenceW2DxIdeal : Cert.ReferenceW2DxIdeal.Facts) (hKernelW1Dw : Cert.KernelW1Dw.Facts) (hKernelW1DwIdeal : Cert.KernelW1DwIdeal.Facts) (hReferenceW1DwIdeal : Cert.ReferenceW1DwIdeal.Facts) (hKernelW1Dx : Cert.KernelW1Dx.Facts) (hKernelW1DxIdeal : Cert.KernelW1DxIdeal.Facts) (hReferenceW1DxIdeal : Cert.ReferenceW1DxIdeal.Facts) (hKernelInFwd : Cert.KernelInFwd.Facts) (hKernelInFwdIdeal : Cert.KernelInFwdIdeal.Facts) (hReferenceInFwdIdeal : Cert.ReferenceInFwdIdeal.Facts) (hKernelInDw : Cert.KernelInDw.Facts) (hKernelInDwIdeal : Cert.KernelInDwIdeal.Facts) (hReferenceInDwIdeal : Cert.ReferenceInDwIdeal.Facts) (hKernelInDx : Cert.KernelInDx.Facts) (hKernelInDxIdeal : Cert.KernelInDxIdeal.Facts) (hReferenceInDxIdeal : Cert.ReferenceInDxIdeal.Facts) (hKernelOutFwd : Cert.KernelOutFwd.Facts) (hKernelOutFwdIdeal : Cert.KernelOutFwdIdeal.Facts) (hReferenceOutFwdIdeal : Cert.ReferenceOutFwdIdeal.Facts) (hKernelOutDw : Cert.KernelOutDw.Facts) (hKernelOutDwIdeal : Cert.KernelOutDwIdeal.Facts) (hReferenceOutDwIdeal : Cert.ReferenceOutDwIdeal.Facts) (hKernelOutDx : Cert.KernelOutDx.Facts) (hKernelOutDxIdeal : Cert.KernelOutDxIdeal.Facts) (hReferenceOutDxIdeal : Cert.ReferenceOutDxIdeal.Facts) (hKernelEvInFwd : Cert.KernelEvInFwd.Facts) (hKernelEvInFwdIdeal : Cert.KernelEvInFwdIdeal.Facts) (hReferenceEvInFwdIdeal : Cert.ReferenceEvInFwdIdeal.Facts) (hKernelEvInDw : Cert.KernelEvInDw.Facts) (hKernelEvInDwIdeal : Cert.KernelEvInDwIdeal.Facts) (hReferenceEvInDwIdeal : Cert.ReferenceEvInDwIdeal.Facts) (hKernelEvInDx : Cert.KernelEvInDx.Facts) (hKernelEvInDxIdeal : Cert.KernelEvInDxIdeal.Facts) (hReferenceEvInDxIdeal : Cert.ReferenceEvInDxIdeal.Facts) (hKernelEvOutFwd : Cert.KernelEvOutFwd.Facts) (hKernelEvOutFwdIdeal : Cert.KernelEvOutFwdIdeal.Facts) (hReferenceEvOutFwdIdeal : Cert.ReferenceEvOutFwdIdeal.Facts) (hKernelEvOutDw : Cert.KernelEvOutDw.Facts) (hKernelEvOutDwIdeal : Cert.KernelEvOutDwIdeal.Facts) (hReferenceEvOutDwIdeal : Cert.ReferenceEvOutDwIdeal.Facts) (hKernelEvOutDx : Cert.KernelEvOutDx.Facts) (hKernelEvOutDxIdeal : Cert.KernelEvOutDxIdeal.Facts) (hReferenceEvOutDxIdeal : Cert.ReferenceEvOutDxIdeal.Facts) (hKernelLnBwd : Cert.KernelLnBwd.Facts) (hKernelLnBwdIdeal : Cert.KernelLnBwdIdeal.Facts) (hReferenceLnBwdIdeal : Cert.ReferenceLnBwdIdeal.Facts) (hKernelAttnBwd : Cert.KernelAttnBwd.Facts) (hKernelAttnBwdIdeal : Cert.KernelAttnBwdIdeal.Facts) (hReferenceAttnBwdIdeal : Cert.ReferenceAttnBwdIdeal.Facts) (hPre_finite_args : Cert.Pre_finite_args.Facts) (hPre_finite_attn_args : Cert.Pre_finite_attn_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_KernelW1Fwd (hKernelW1Fwd := hKernelW1Fwd)
    ∧ quiescent_KernelW1FwdIdeal (hKernelW1FwdIdeal := hKernelW1FwdIdeal)
    ∧ quiescent_ReferenceW1FwdIdeal (hReferenceW1FwdIdeal := hReferenceW1FwdIdeal)
    ∧ quiescent_KernelW2Fwd (hKernelW2Fwd := hKernelW2Fwd)
    ∧ quiescent_KernelW2FwdIdeal (hKernelW2FwdIdeal := hKernelW2FwdIdeal)
    ∧ quiescent_ReferenceW2FwdIdeal (hReferenceW2FwdIdeal := hReferenceW2FwdIdeal)
    ∧ quiescent_KernelW2Dw (hKernelW2Dw := hKernelW2Dw)
    ∧ quiescent_KernelW2DwIdeal (hKernelW2DwIdeal := hKernelW2DwIdeal)
    ∧ quiescent_ReferenceW2DwIdeal (hReferenceW2DwIdeal := hReferenceW2DwIdeal)
    ∧ quiescent_KernelW2Dx (hKernelW2Dx := hKernelW2Dx)
    ∧ quiescent_KernelW2DxIdeal (hKernelW2DxIdeal := hKernelW2DxIdeal)
    ∧ quiescent_ReferenceW2DxIdeal (hReferenceW2DxIdeal := hReferenceW2DxIdeal)
    ∧ quiescent_KernelW1Dw (hKernelW1Dw := hKernelW1Dw)
    ∧ quiescent_KernelW1DwIdeal (hKernelW1DwIdeal := hKernelW1DwIdeal)
    ∧ quiescent_ReferenceW1DwIdeal (hReferenceW1DwIdeal := hReferenceW1DwIdeal)
    ∧ quiescent_KernelW1Dx (hKernelW1Dx := hKernelW1Dx)
    ∧ quiescent_KernelW1DxIdeal (hKernelW1DxIdeal := hKernelW1DxIdeal)
    ∧ quiescent_ReferenceW1DxIdeal (hReferenceW1DxIdeal := hReferenceW1DxIdeal)
    ∧ quiescent_KernelInFwd (hKernelInFwd := hKernelInFwd)
    ∧ quiescent_KernelInFwdIdeal (hKernelInFwdIdeal := hKernelInFwdIdeal)
    ∧ quiescent_ReferenceInFwdIdeal (hReferenceInFwdIdeal := hReferenceInFwdIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelEvInFwd (hKernelEvInFwd := hKernelEvInFwd)
    ∧ quiescent_KernelEvInFwdIdeal (hKernelEvInFwdIdeal := hKernelEvInFwdIdeal)
    ∧ quiescent_ReferenceEvInFwdIdeal (hReferenceEvInFwdIdeal := hReferenceEvInFwdIdeal)
    ∧ quiescent_KernelEvInDw (hKernelEvInDw := hKernelEvInDw)
    ∧ quiescent_KernelEvInDwIdeal (hKernelEvInDwIdeal := hKernelEvInDwIdeal)
    ∧ quiescent_ReferenceEvInDwIdeal (hReferenceEvInDwIdeal := hReferenceEvInDwIdeal)
    ∧ quiescent_KernelEvInDx (hKernelEvInDx := hKernelEvInDx)
    ∧ quiescent_KernelEvInDxIdeal (hKernelEvInDxIdeal := hKernelEvInDxIdeal)
    ∧ quiescent_ReferenceEvInDxIdeal (hReferenceEvInDxIdeal := hReferenceEvInDxIdeal)
    ∧ quiescent_KernelEvOutFwd (hKernelEvOutFwd := hKernelEvOutFwd)
    ∧ quiescent_KernelEvOutFwdIdeal (hKernelEvOutFwdIdeal := hKernelEvOutFwdIdeal)
    ∧ quiescent_ReferenceEvOutFwdIdeal (hReferenceEvOutFwdIdeal := hReferenceEvOutFwdIdeal)
    ∧ quiescent_KernelEvOutDw (hKernelEvOutDw := hKernelEvOutDw)
    ∧ quiescent_KernelEvOutDwIdeal (hKernelEvOutDwIdeal := hKernelEvOutDwIdeal)
    ∧ quiescent_ReferenceEvOutDwIdeal (hReferenceEvOutDwIdeal := hReferenceEvOutDwIdeal)
    ∧ quiescent_KernelEvOutDx (hKernelEvOutDx := hKernelEvOutDx)
    ∧ quiescent_KernelEvOutDxIdeal (hKernelEvOutDxIdeal := hKernelEvOutDxIdeal)
    ∧ quiescent_ReferenceEvOutDxIdeal (hReferenceEvOutDxIdeal := hReferenceEvOutDxIdeal)
    ∧ quiescent_KernelLnBwd (hKernelLnBwd := hKernelLnBwd)
    ∧ quiescent_KernelLnBwdIdeal (hKernelLnBwdIdeal := hKernelLnBwdIdeal)
    ∧ quiescent_ReferenceLnBwdIdeal (hReferenceLnBwdIdeal := hReferenceLnBwdIdeal)
    ∧ quiescent_KernelAttnBwd (hKernelAttnBwd := hKernelAttnBwd)
    ∧ quiescent_KernelAttnBwdIdeal (hKernelAttnBwdIdeal := hKernelAttnBwdIdeal)
    ∧ quiescent_KernelAttnBwdIdeal_pre_finite_attn_args (hKernelAttnBwdIdeal := hKernelAttnBwdIdeal) (hPre_finite_attn_args := hPre_finite_attn_args)
    ∧ quiescent_ReferenceAttnBwdIdeal (hReferenceAttnBwdIdeal := hReferenceAttnBwdIdeal)
    ∧ quiescent_ReferenceAttnBwdIdeal_pre_finite_attn_args (hReferenceAttnBwdIdeal := hReferenceAttnBwdIdeal) (hPre_finite_attn_args := hPre_finite_attn_args)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_KernelW1Fwd_KernelW1FwdIdeal
    ∧ algebraic_KernelW1FwdIdeal_ReferenceW1FwdIdeal (hKernelW1FwdIdeal := hKernelW1FwdIdeal) (hReferenceW1FwdIdeal := hReferenceW1FwdIdeal)
    ∧ preserves_KernelW2Fwd_KernelW2FwdIdeal
    ∧ algebraic_KernelW2FwdIdeal_ReferenceW2FwdIdeal (hKernelW2FwdIdeal := hKernelW2FwdIdeal) (hReferenceW2FwdIdeal := hReferenceW2FwdIdeal)
    ∧ preserves_KernelW2Dw_KernelW2DwIdeal
    ∧ algebraic_KernelW2DwIdeal_ReferenceW2DwIdeal (hKernelW2DwIdeal := hKernelW2DwIdeal) (hReferenceW2DwIdeal := hReferenceW2DwIdeal)
    ∧ preserves_KernelW2Dx_KernelW2DxIdeal
    ∧ algebraic_KernelW2DxIdeal_ReferenceW2DxIdeal (hKernelW2DxIdeal := hKernelW2DxIdeal) (hReferenceW2DxIdeal := hReferenceW2DxIdeal)
    ∧ preserves_KernelW1Dw_KernelW1DwIdeal
    ∧ algebraic_KernelW1DwIdeal_ReferenceW1DwIdeal (hKernelW1DwIdeal := hKernelW1DwIdeal) (hReferenceW1DwIdeal := hReferenceW1DwIdeal)
    ∧ preserves_KernelW1Dx_KernelW1DxIdeal
    ∧ algebraic_KernelW1DxIdeal_ReferenceW1DxIdeal (hKernelW1DxIdeal := hKernelW1DxIdeal) (hReferenceW1DxIdeal := hReferenceW1DxIdeal)
    ∧ preserves_KernelInFwd_KernelInFwdIdeal
    ∧ algebraic_KernelInFwdIdeal_ReferenceInFwdIdeal (hKernelInFwdIdeal := hKernelInFwdIdeal) (hReferenceInFwdIdeal := hReferenceInFwdIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelEvInFwd_KernelEvInFwdIdeal
    ∧ algebraic_KernelEvInFwdIdeal_ReferenceEvInFwdIdeal (hKernelEvInFwdIdeal := hKernelEvInFwdIdeal) (hReferenceEvInFwdIdeal := hReferenceEvInFwdIdeal)
    ∧ preserves_KernelEvInDw_KernelEvInDwIdeal
    ∧ algebraic_KernelEvInDwIdeal_ReferenceEvInDwIdeal (hKernelEvInDwIdeal := hKernelEvInDwIdeal) (hReferenceEvInDwIdeal := hReferenceEvInDwIdeal)
    ∧ preserves_KernelEvInDx_KernelEvInDxIdeal
    ∧ algebraic_KernelEvInDxIdeal_ReferenceEvInDxIdeal (hKernelEvInDxIdeal := hKernelEvInDxIdeal) (hReferenceEvInDxIdeal := hReferenceEvInDxIdeal)
    ∧ preserves_KernelEvOutFwd_KernelEvOutFwdIdeal
    ∧ algebraic_KernelEvOutFwdIdeal_ReferenceEvOutFwdIdeal (hKernelEvOutFwdIdeal := hKernelEvOutFwdIdeal) (hReferenceEvOutFwdIdeal := hReferenceEvOutFwdIdeal)
    ∧ preserves_KernelEvOutDw_KernelEvOutDwIdeal
    ∧ algebraic_KernelEvOutDwIdeal_ReferenceEvOutDwIdeal (hKernelEvOutDwIdeal := hKernelEvOutDwIdeal) (hReferenceEvOutDwIdeal := hReferenceEvOutDwIdeal)
    ∧ preserves_KernelEvOutDx_KernelEvOutDxIdeal
    ∧ algebraic_KernelEvOutDxIdeal_ReferenceEvOutDxIdeal (hKernelEvOutDxIdeal := hKernelEvOutDxIdeal) (hReferenceEvOutDxIdeal := hReferenceEvOutDxIdeal)
    ∧ preserves_KernelLnBwd_KernelLnBwdIdeal
    ∧ algebraic_KernelLnBwdIdeal_ReferenceLnBwdIdeal (hKernelLnBwdIdeal := hKernelLnBwdIdeal) (hReferenceLnBwdIdeal := hReferenceLnBwdIdeal)
    ∧ preserves_KernelAttnBwd_KernelAttnBwdIdeal
    ∧ algebraic_KernelAttnBwdIdeal_ReferenceAttnBwdIdeal_pre_finite_attn_args (hKernelAttnBwdIdeal := hKernelAttnBwdIdeal) (hReferenceAttnBwdIdeal := hReferenceAttnBwdIdeal) (hPre_finite_attn_args := hPre_finite_attn_args)
-- ==== Pre_finite_args.lean ====
abbrev S2x2176x1024 : Shape := ⟨3, ![2, 2176, 1024]⟩
abbrev S2x2176x6144 : Shape := ⟨3, ![2, 2176, 6144]⟩
abbrev S2x2176x2048 : Shape := ⟨3, ![2, 2176, 2048]⟩
abbrev S_ : Shape := ⟨0, ![]⟩

class Facts : Prop where
  bcast_S_S2x2176x1024 : S_.BroadcastsInDim S2x2176x1024 (![] : Fin 0 → Fin S2x2176x1024.rank)
  slices_S2x2176x6144_S2x2176x2048_0_0_2048 : S2x2176x6144.Slices ![0, 0, 2048] S2x2176x2048
  bcast_S_S2x2176x2048 : S_.BroadcastsInDim S2x2176x2048 (![] : Fin 0 → Fin S2x2176x2048.rank)

variable [Facts]

def fn {F : FTy → Type} [FloatOps F] (main_arg0 : FVec F S2x2176x1024 .f32) (main_arg1 : FVec F S2x2176x1024 .f32) (main_arg2 : FVec F S2x2176x6144 .f32) (main_arg3 : FVec F S2x2176x2048 .f32) : IVec S2x2176x1024 1 × IVec S2x2176x1024 1 × IVec S2x2176x2048 1 × IVec S2x2176x2048 1 :=
  let main_v0 : FVec F S2x2176x1024 .f32 := Host.absf main_arg0
  let main_cst : FVec F S_ .f32 := constant S_ .f32 0x7F800000#32
  let main_v1 : FVec F S2x2176x1024 .f32 := broadcastInDim S2x2176x1024 ![] bcast_S_S2x2176x1024 main_cst
  let main_v2 : IVec S2x2176x1024 1 := cmpf .olt main_v0 main_v1
  let main_v3 : FVec F S2x2176x1024 .f32 := Host.absf main_arg1
  let main_cst_0 : FVec F S_ .f32 := constant S_ .f32 0x7F800000#32
  let main_v4 : FVec F S2x2176x1024 .f32 := broadcastInDim S2x2176x1024 ![] bcast_S_S2x2176x1024 main_cst_0
  let main_v5 : IVec S2x2176x1024 1 := cmpf .olt main_v3 main_v4
  let main_v6 : FVec F S2x2176x2048 .f32 := (extractStridedSlice S2x2176x2048 ![0, 0, 2048] · slices_S2x2176x6144_S2x2176x2048_0_0_2048) main_arg2
  let main_v7 : FVec F S2x2176x2048 .f32 := Host.absf main_v6
  let main_cst_1 : FVec F S_ .f32 := constant S_ .f32 0x7F800000#32
  let main_v8 : FVec F S2x2176x2048 .f32 := broadcastInDim S2x2176x2048 ![] bcast_S_S2x2176x2048 main_cst_1
  let main_v9 : IVec S2x2176x2048 1 := cmpf .olt main_v7 main_v8
  let main_v10 : FVec F S2x2176x2048 .f32 := Host.absf main_arg3
  let main_cst_2 : FVec F S_ .f32 := constant S_ .f32 0x7F800000#32
  let main_v11 : FVec F S2x2176x2048 .f32 := broadcastInDim S2x2176x2048 ![] bcast_S_S2x2176x2048 main_cst_2
  let main_v12 : IVec S2x2176x2048 1 := cmpf .olt main_v10 main_v11
  (main_v2, main_v5, main_v9, main_v12)
-- ==== Pre_finite_attn_args.lean ====
abbrev S2x2176x8x96 : Shape := ⟨4, ![2, 2176, 8, 96]⟩
abbrev S2x2176x8x128 : Shape := ⟨4, ![2, 2176, 8, 128]⟩
abbrev S2x2176x32 : Shape := ⟨3, ![2, 2176, 32]⟩
abbrev S2x2176x8x64 : Shape := ⟨4, ![2, 2176, 8, 64]⟩
abbrev S_ : Shape := ⟨0, ![]⟩

class Facts : Prop where
  bcast_S_S2x2176x8x96 : S_.BroadcastsInDim S2x2176x8x96 (![] : Fin 0 → Fin S2x2176x8x96.rank)
  slices_S2x2176x8x128_S2x2176x8x64_0_0_0_0 : S2x2176x8x128.Slices ![0, 0, 0, 0] S2x2176x8x64
  bcast_S_S2x2176x8x64 : S_.BroadcastsInDim S2x2176x8x64 (![] : Fin 0 → Fin S2x2176x8x64.rank)
  bcast_S_S2x2176x32 : S_.BroadcastsInDim S2x2176x32 (![] : Fin 0 → Fin S2x2176x32.rank)

variable [Facts]

def fn {F : FTy → Type} [FloatOps F] (main_arg0 : FVec F S2x2176x8x96 .f32) (main_arg1 : FVec F S2x2176x8x128 .f32) (main_arg2 : FVec F S2x2176x32 .f32) (main_arg3 : FVec F S2x2176x8x64 .f32) : IVec S2x2176x8x96 1 × IVec S2x2176x8x64 1 × IVec S2x2176x32 1 :=
  let main_v0 : FVec F S2x2176x8x96 .f32 := Host.absf main_arg0
  let main_cst : FVec F S_ .f32 := constant S_ .f32 0x7F800000#32
  let main_v1 : FVec F S2x2176x8x96 .f32 := broadcastInDim S2x2176x8x96 ![] bcast_S_S2x2176x8x96 main_cst
  let main_v2 : IVec S2x2176x8x96 1 := cmpf .olt main_v0 main_v1
  let main_v3 : FVec F S2x2176x8x64 .f32 := (extractStridedSlice S2x2176x8x64 ![0, 0, 0, 0] · slices_S2x2176x8x128_S2x2176x8x64_0_0_0_0) main_arg1
  let main_v4 : FVec F S2x2176x8x64 .f32 := Host.absf main_v3
  let main_cst_0 : FVec F S_ .f32 := constant S_ .f32 0x7F800000#32
  let main_v5 : FVec F S2x2176x8x64 .f32 := broadcastInDim S2x2176x8x64 ![] bcast_S_S2x2176x8x64 main_cst_0
  let main_v6 : IVec S2x2176x8x64 1 := cmpf .olt main_v4 main_v5
  let main_v7 : FVec F S2x2176x32 .f32 := Host.absf main_arg2
  let main_cst_1 : FVec F S_ .f32 := constant S_ .f32 0x7F800000#32
  let main_v8 : FVec F S2x2176x32 .f32 := broadcastInDim S2x2176x32 ![] bcast_S_S2x2176x32 main_cst_1
  let main_v9 : IVec S2x2176x32 1 := cmpf .olt main_v7 main_v8
  (main_v2, main_v6, main_v9)
-- ==== Kernel.lean ====
abbrev S2x2176x1024 : Shape := ⟨3, ![2, 2176, 1024]⟩
abbrev S2x2176x6144 : Shape := ⟨3, ![2, 2176, 6144]⟩
abbrev S2x2176x2048 : Shape := ⟨3, ![2, 2176, 2048]⟩
abbrev S4 : Shape := ⟨1, ![4]⟩
abbrev S_ : Shape := ⟨0, ![]⟩
abbrev S2x2176x4x256 : Shape := ⟨4, ![2, 2176, 4, 256]⟩
abbrev S2x4x2176x256 : Shape := ⟨4, ![2, 4, 2176, 256]⟩
abbrev S2x2176x4x512 : Shape := ⟨4, ![2, 2176, 4, 512]⟩
abbrev S2x4x2176x512 : Shape := ⟨4, ![2, 4, 2176, 512]⟩
abbrev S4x1 : Shape := ⟨2, ![4, 1]⟩
abbrev S544 : Shape := ⟨1, ![544]⟩
abbrev S1x544 : Shape := ⟨2, ![1, 544]⟩
abbrev S4x544 : Shape := ⟨2, ![4, 544]⟩
abbrev S1x4x544x1 : Shape := ⟨4, ![1, 4, 544, 1]⟩
abbrev S1x4x1x1 : Shape := ⟨4, ![1, 4, 1, 1]⟩
abbrev S2x4x256x512 : Shape := ⟨4, ![2, 4, 256, 512]⟩
abbrev S2x4x544x256 : Shape := ⟨4, ![2, 4, 544, 256]⟩
abbrev S2x4x544x512 : Shape := ⟨4, ![2, 4, 544, 512]⟩
abbrev S2x4x1x256x512 : Shape := ⟨5, ![2, 4, 1, 256, 512]⟩
abbrev S2x4x4x256x512 : Shape := ⟨5, ![2, 4, 4, 256, 512]⟩
abbrev S2x16x256x512 : Shape := ⟨4, ![2, 16, 256, 512]⟩
abbrev S1x544x256 : Shape := ⟨3, ![1, 544, 256]⟩
abbrev S1x544x512 : Shape := ⟨3, ![1, 544, 512]⟩
abbrev S1x1x256x512 : Shape := ⟨4, ![1, 1, 256, 512]⟩
abbrev S256x512 : Shape := ⟨2, ![256, 512]⟩
abbrev S1 : Shape := ⟨1, ![1]⟩
abbrev S544x1 : Shape := ⟨2, ![544, 1]⟩
abbrev S544x544 : Shape := ⟨2, ![544, 544]⟩
abbrev S544x256 : Shape := ⟨2, ![544, 256]⟩
abbrev S544x512 : Shape := ⟨2, ![544, 512]⟩

abbrev nBuf : Space → Nat
  | .hbm => 71
  | .vmem => 17
  | .smem => 1
  | _ => 0

abbrev bufTy : (tb : Table) → Fin (tcTables nBuf tb) → BufTy
  | .hbm, ⟨0, _⟩ => ⟨S2x2176x1024, .f32⟩
  | .hbm, ⟨1, _⟩ => ⟨S2x2176x1024, .f32⟩
  | .hbm, ⟨2, _⟩ => ⟨S2x2176x6144, .f32⟩
  | .hbm, ⟨3, _⟩ => ⟨S2x2176x2048, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S2x2176x2048, .f32⟩
  | .hbm, ⟨16, _⟩ => ⟨S2x2176x4x256, .f32⟩
  | .hbm, ⟨17, _⟩ => ⟨S2x4x2176x256, .f32⟩
  | .hbm, ⟨18, _⟩ => ⟨S2x2176x4x512, .f32⟩
  | .hbm, ⟨19, _⟩ => ⟨S2x4x2176x512, .f32⟩
  | .hbm, ⟨20, _⟩ => ⟨S4x1, .f32⟩
  | .hbm, ⟨21, _⟩ => ⟨S544, .f32⟩
  | .hbm, ⟨22, _⟩ => ⟨S_, .f32⟩
  | .hbm, ⟨23, _⟩ => ⟨S544, .f32⟩
  | .hbm, ⟨24, _⟩ => ⟨S544, .f32⟩
  | .hbm, ⟨25, _⟩ => ⟨S1x544, .f32⟩
  | .hbm, ⟨26, _⟩ => ⟨S4x544, .f32⟩
  | .hbm, ⟨27, _⟩ => ⟨S4x544, .f32⟩
  | .hbm, ⟨28, _⟩ => ⟨S4x544, .f32⟩
  | .hbm, ⟨29, _⟩ => ⟨S4x544, .f32⟩
  | .hbm, ⟨30, _⟩ => ⟨S1x4x544x1, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S1x4x1x1, .f32⟩
  | .hbm, ⟨36, _⟩ => ⟨S_, .f32⟩
  | .hbm, ⟨37, _⟩ => ⟨S2x4x256x512, .f32⟩
  | .hbm, ⟨38, _⟩ => ⟨S2x4x544x256, .f32⟩
  | .hbm, ⟨39, _⟩ => ⟨S2x4x544x512, .f32⟩
  | .hbm, ⟨40, _⟩ => ⟨S2x4x256x512, .f32⟩
  | .hbm, ⟨41, _⟩ => ⟨S2x4x256x512, .f32⟩
  | .hbm, ⟨42, _⟩ => ⟨S2x4x544x256, .f32⟩
  | .hbm, ⟨43, _⟩ => ⟨S2x4x544x256, .f32⟩
  | .hbm, ⟨44, _⟩ => ⟨S2x4x256x512, .f32⟩
  | .hbm, ⟨45, _⟩ => ⟨S2x4x256x512, .f32⟩
  | .hbm, ⟨46, _⟩ => ⟨S2x4x544x256, .f32⟩
  | .hbm, ⟨47, _⟩ => ⟨S2x4x544x512, .f32⟩
  | .hbm, ⟨48, _⟩ => ⟨S2x4x256x512, .f32⟩
  | .hbm, ⟨49, _⟩ => ⟨S2x4x256x512, .f32⟩
  | .hbm, ⟨50, _⟩ => ⟨S2x4x544x256, .f32⟩
  | .hbm, ⟨51, _⟩ => ⟨S2x4x544x256, .f32⟩
  | .hbm, ⟨52, _⟩ => ⟨S2x4x256x512, .f32⟩
  | .hbm, ⟨53, _⟩ => ⟨S2x4x256x512, .f32⟩
  | .hbm, ⟨54, _⟩ => ⟨S2x4x544x256, .f32⟩
  | .hbm, ⟨55, _⟩ => ⟨S2x4x544x512, .f32⟩
  | .hbm, ⟨56, _⟩ => ⟨S2x4x256x512, .f32⟩
  | .hbm, ⟨57, _⟩ => ⟨S2x4x256x512, .f32⟩
  | .hbm, ⟨58, _⟩ => ⟨S2x4x544x256, .f32⟩
  | .hbm, ⟨59, _⟩ => ⟨S2x4x544x256, .f32⟩
  | .hbm, ⟨60, _⟩ => ⟨S2x4x256x512, .f32⟩
  | .hbm, ⟨61, _⟩ => ⟨S2x4x256x512, .f32⟩
  | .hbm, ⟨62, _⟩ => ⟨S2x4x1x256x512, .f32⟩
  | .hbm, ⟨63, _⟩ => ⟨S2x4x1x256x512, .f32⟩
  | .hbm, ⟨64, _⟩ => ⟨S2x4x1x256x512, .f32⟩
  | .hbm, ⟨65, _⟩ => ⟨S2x4x1x256x512, .f32⟩
  | .hbm, ⟨66, _⟩ => ⟨S2x4x4x256x512, .f32⟩
  | .hbm, ⟨67, _⟩ => ⟨S2x16x256x512, .f32⟩
  | .hbm, ⟨68, _⟩ => ⟨S2x2176x1024, .f32⟩
  | .hbm, ⟨69, _⟩ => ⟨S2x2176x1024, .f32⟩
  | .hbm, ⟨70, _⟩ => ⟨S2x2176x2048, .bf16⟩
  | .local _ .vmem, ⟨0, _⟩ => ⟨S1x544x256, .f32⟩
  | .local _ .vmem, ⟨1, _⟩ => ⟨S1x544x256, .f32⟩
  | .local _ .vmem, ⟨2, _⟩ => ⟨S1x544x256, .f32⟩
  | .local _ .vmem, ⟨3, _⟩ => ⟨S1x544x256, .f32⟩
  | .local _ .vmem, ⟨4, _⟩ => ⟨S1x544x512, .f32⟩
  | .local _ .vmem, ⟨5, _⟩ => ⟨S1x544x512, .f32⟩
  | .local _ .vmem, ⟨6, _⟩ => ⟨S1x1x256x512, .f32⟩
  | .local _ .vmem, ⟨7, _⟩ => ⟨S1x1x256x512, .f32⟩
  | .local _ .vmem, ⟨8, _⟩ => ⟨S1x544x512, .f32⟩
  | .local _ .vmem, ⟨9, _⟩ => ⟨S1x544x512, .f32⟩
  | .local _ .vmem, ⟨10, _⟩ => ⟨S1x544x256, .f32⟩
  | .local _ .vmem, ⟨11, _⟩ => ⟨S1x544x256, .f32⟩
  | .local _ .vmem, ⟨12, _⟩ => ⟨S1x544x256, .f32⟩
  | .local _ .vmem, ⟨13, _⟩ => ⟨S1x544x256, .f32⟩
  | .local _ .vmem, ⟨14, _⟩ => ⟨S1x544x512, .bf16⟩
  | .local _ .vmem, ⟨15, _⟩ => ⟨S1x544x512, .bf16⟩
  | .local _ .vmem, ⟨16, _⟩ => ⟨S256x512, .f32⟩
  | .local _ .smem, ⟨0, _⟩ => ⟨S4, .f32⟩
  | _, _ => ⟨S2x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58_0 : Ref sig .tc := ⟨.hbm, 68, rfl⟩
abbrev main_v58_1 : Ref sig .tc := ⟨.hbm, 69, rfl⟩
abbrev main_v58_2 : Ref sig .tc := ⟨.hbm, 70, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 4], ![false, false, false]⟩

def k0_off1 (i : grid0.Coords) : Fin 1 → Nat :=
  let arg1 : BitVec 32 := BitVec.ofNat 32 (i 1).val
  let v3 : Index := Scalar.indexCast arg1
  ![v3.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c4_i32 : BitVec 32 := 4#32
  let v1 : BitVec 32 := Scalar.addi arg1 c4_i32
  let c0_i32 : BitVec 32 := 0#32
  ![arg0.toNat, v0.toNat, v1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.subi c3_i32 arg2
  let v2 : BitVec 32 := Scalar.addi v0 v1
  let c0_i32 : BitVec 32 := 0#32
  let c0_i32_0 : BitVec 32 := 0#32
  let c0_i32_1 : BitVec 32 := 0#32
  ![arg0.toNat, v2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x2176x1024 : Shape := ⟨3, ![2, 2176, 1024]⟩
abbrev S2x2176x6144 : Shape := ⟨3, ![2, 2176, 6144]⟩
abbrev S2x2176x2048 : Shape := ⟨3, ![2, 2176, 2048]⟩
abbrev S_ : Shape := ⟨0, ![]⟩
abbrev S2x4x256x512 : Shape := ⟨4, ![2, 4, 256, 512]⟩
abbrev S2x2176x4x256 : Shape := ⟨4, ![2, 2176, 4, 256]⟩
abbrev S2x4x2176x256 : Shape := ⟨4, ![2, 4, 2176, 256]⟩
abbrev S2x2176x4x512 : Shape := ⟨4, ![2, 2176, 4, 512]⟩
abbrev S2x4x2176x512 : Shape := ⟨4, ![2, 4, 2176, 512]⟩
abbrev S4 : Shape := ⟨1, ![4]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S4x1x1 : Shape := ⟨3, ![4, 1, 1]⟩
abbrev S1x2176x2176 : Shape := ⟨3, ![1, 2176, 2176]⟩
abbrev S4x2176x2176 : Shape := ⟨3, ![4, 2176, 2176]⟩
abbrev S4x1 : Shape := ⟨2, ![4, 1]⟩
abbrev S4x2176 : Shape := ⟨2, ![4, 2176]⟩
abbrev S1x4x2176x1 : Shape := ⟨4, ![1, 4, 2176, 1]⟩
abbrev S1x4x1x1 : Shape := ⟨4, ![1, 4, 1, 1]⟩
abbrev S2x4x2176x2176 : Shape := ⟨4, ![2, 4, 2176, 2176]⟩
abbrev S1x4x2176x2176 : Shape := ⟨4, ![1, 4, 2176, 2176]⟩
abbrev S2x4x512x2176 : Shape := ⟨4, ![2, 4, 512, 2176]⟩

abbrev nBuf : Space → Nat
  | .hbm => 109
  | .vmem => 0
  | .smem => 0
  | _ => 0

abbrev bufTy : (tb : Table) → Fin (tcTables nBuf tb) → BufTy
  | .hbm, ⟨0, _⟩ => ⟨S2x2176x1024, .f32⟩
  | .hbm, ⟨1, _⟩ => ⟨S2x2176x1024, .f32⟩
  | .hbm, ⟨2, _⟩ => ⟨S2x2176x6144, .f32⟩
  | .hbm, ⟨3, _⟩ => ⟨S2x2176x2048, .f32⟩
  | .hbm, ⟨4, _⟩ => ⟨S2x2176x2048, .f32⟩
  | .hbm, ⟨5, _⟩ => ⟨S_, .f32⟩
  | .hbm, ⟨6, _⟩ => ⟨S2x4x256x512, .f32⟩
  | .hbm, ⟨7, _⟩ => ⟨S2x2176x4x256, .f32⟩
  | .hbm, ⟨8, _⟩ => ⟨S2x4x2176x256, .f32⟩
  | .hbm, ⟨9, _⟩ => ⟨S2x2176x4x256, .f32⟩
  | .hbm, ⟨10, _⟩ => ⟨S2x4x2176x256, .f32⟩
  | .hbm, ⟨11, _⟩ => ⟨S2x2176x4x512, .f32⟩
  | .hbm, ⟨12, _⟩ => ⟨S2x4x2176x512, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S2176, .f32⟩
  | .hbm, ⟨25, _⟩ => ⟨S2176x1, .f32⟩
  | .hbm, ⟨26, _⟩ => ⟨S1x2176, .f32⟩
  | .hbm, ⟨27, _⟩ => ⟨S2176x2176, .f32⟩
  | .hbm, ⟨28, _⟩ => ⟨S2176x2176, .f32⟩
  | .hbm, ⟨29, _⟩ => ⟨S2176x2176, .f32⟩
  | .hbm, ⟨30, _⟩ => ⟨S_, .f32⟩
  | .hbm, ⟨31, _⟩ => ⟨S2176x2176, .f32⟩
  | .hbm, ⟨32, _⟩ => ⟨S2176x2176, .i1⟩
  | .hbm, ⟨33, _⟩ => ⟨S4x1x1, .f32⟩
  | .hbm, ⟨34, _⟩ => ⟨S_, .f32⟩
  | .hbm, ⟨35, _⟩ => ⟨S2176x2176, .f32⟩
  | .hbm, ⟨36, _⟩ => ⟨S2176x2176, .f32⟩
  | .hbm, ⟨37, _⟩ => ⟨S1x2176x2176, .f32⟩
  | .hbm, ⟨38, _⟩ => ⟨S4x2176x2176, .f32⟩
  | .hbm, ⟨39, _⟩ => ⟨S4x2176x2176, .f32⟩
  | .hbm, ⟨40, _⟩ => ⟨S4x2176x2176, .f32⟩
  | .hbm, ⟨41, _⟩ => ⟨S4x2176x2176, .f32⟩
  | .hbm, ⟨42, _⟩ => ⟨S_, .f32⟩
  | .hbm, ⟨43, _⟩ => ⟨S_, .f32⟩
  | .hbm, ⟨44, _⟩ => ⟨S4x2176x2176, .i1⟩
  | .hbm, ⟨45, _⟩ => ⟨S4x2176x2176, .f32⟩
  | .hbm, ⟨46, _⟩ => ⟨S4x2176x2176, .f32⟩
  | .hbm, ⟨47, _⟩ => ⟨S4x1, .f32⟩
  | .hbm, ⟨48, _⟩ => ⟨S_, .f32⟩
  | .hbm, ⟨49, _⟩ => ⟨S2176, .f32⟩
  | .hbm, ⟨50, _⟩ => ⟨S2176, .f32⟩
  | .hbm, ⟨51, _⟩ => ⟨S1x2176, .f32⟩
  | .hbm, ⟨52, _⟩ => ⟨S4x2176, .f32⟩
  | .hbm, ⟨53, _⟩ => ⟨S4x2176, .f32⟩
  | .hbm, ⟨54, _⟩ => ⟨S4x2176, .f32⟩
  | .hbm, ⟨55, _⟩ => ⟨S4x2176, .f32⟩
  | .hbm, ⟨56, _⟩ => ⟨S1x4x2176x1, .f32⟩
  | .hbm, ⟨57, _⟩ => ⟨S4x1, .f32⟩
  | .hbm, ⟨58, _⟩ => ⟨S_, .f32⟩
  | .hbm, ⟨59, _⟩ => ⟨S2176, .f32⟩
  | .hbm, ⟨60, _⟩ => ⟨S2176, .f32⟩
  | .hbm, ⟨61, _⟩ => ⟨S1x2176, .f32⟩
  | .hbm, ⟨62, _⟩ => ⟨S4x2176, .f32⟩
  | .hbm, ⟨63, _⟩ => ⟨S4x2176, .f32⟩
  | .hbm, ⟨64, _⟩ => ⟨S4x2176, .f32⟩
  | .hbm, ⟨65, _⟩ => ⟨S4x2176, .f32⟩
  | .hbm, ⟨66, _⟩ => ⟨S1x4x2176x1, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S1x4x1x1, .f32⟩
  | .hbm, ⟨72, _⟩ => ⟨S2x4x2176x2176, .f32⟩
  | .hbm, ⟨73, _⟩ => ⟨S1x4x2176x2176, .f32⟩
  | .hbm, ⟨74, _⟩ => ⟨S2x4x2176x2176, .f32⟩
  | .hbm, ⟨75, _⟩ => ⟨S2x4x2176x2176, .f32⟩
  | .hbm, ⟨76, _⟩ => ⟨S2x4x2176x512, .f32⟩
  | .hbm, ⟨77, _⟩ => ⟨S2x4x2176x512, .f32⟩
  | .hbm, ⟨78, _⟩ => ⟨S2x4x2176x512, .f32⟩
  | .hbm, ⟨79, _⟩ => ⟨S2x4x2176x512, .f32⟩
  | .hbm, ⟨80, _⟩ => ⟨S2x4x2176x512, .f32⟩
  | .hbm, ⟨81, _⟩ => ⟨S2x4x256x512, .f32⟩
  | .hbm, ⟨82, _⟩ => ⟨S2x4x256x512, .f32⟩
  | .hbm, ⟨83, _⟩ => ⟨S2x4x2176x256, .f32⟩
  | .hbm, ⟨84, _⟩ => ⟨S2x4x2176x256, .f32⟩
  | .hbm, ⟨85, _⟩ => ⟨S2x4x256x512, .f32⟩
  | .hbm, ⟨86, _⟩ => ⟨S2x4x256x512, .f32⟩
  | .hbm, ⟨87, _⟩ => ⟨S2x2176x4x512, .f32⟩
  | .hbm, ⟨88, _⟩ => ⟨S2x2176x2048, .f32⟩
  | .hbm, ⟨89, _⟩ => ⟨S2x2176x4x512, .f32⟩
  | .hbm, ⟨90, _⟩ => ⟨S2x4x2176x512, .f32⟩
  | .hbm, ⟨91, _⟩ => ⟨S2x4x2176x512, .f32⟩
  | .hbm, ⟨92, _⟩ => ⟨S2x4x2176x512, .f32⟩
  | .hbm, ⟨93, _⟩ => ⟨S2x4x2176x256, .f32⟩
  | .hbm, ⟨94, _⟩ => ⟨S2x4x512x2176, .f32⟩
  | .hbm, ⟨95, _⟩ => ⟨S2x4x2176x512, .f32⟩
  | .hbm, ⟨96, _⟩ => ⟨S2x4x2176x2176, .f32⟩
  | .hbm, ⟨97, _⟩ => ⟨S2x4x2176x2176, .f32⟩
  | .hbm, ⟨98, _⟩ => ⟨S2x4x2176x2176, .f32⟩
  | .hbm, ⟨99, _⟩ => ⟨S2x4x2176x256, .f32⟩
  | .hbm, ⟨100, _⟩ => ⟨S2x4x2176x256, .f32⟩
  | .hbm, ⟨101, _⟩ => ⟨S2x4x2176x256, .f32⟩
  | .hbm, ⟨102, _⟩ => ⟨S2x2176x4x512, .f32⟩
  | .hbm, ⟨103, _⟩ => ⟨S2x2176x2048, .f32⟩
  | .hbm, ⟨104, _⟩ => ⟨S2x2176x4x256, .f32⟩
  | .hbm, ⟨105, _⟩ => ⟨S2x2176x1024, .f32⟩
  | .hbm, ⟨106, _⟩ => ⟨S2x2176x4x256, .f32⟩
  | .hbm, ⟨107, _⟩ => ⟨S2x2176x1024, .f32⟩
  | .hbm, ⟨108, _⟩ => ⟨S2x2176x2048, .bf16⟩
  | _, _ => ⟨S2x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== KernelW1Fwd.lean ====
abbrev S4352x1024 : Shape := ⟨2, ![4352, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4352x4096 : Shape := ⟨2, ![4352, 4096]⟩
abbrev S2176x1024 : Shape := ⟨2, ![2176, 1024]⟩
abbrev S1x1024x512 : Shape := ⟨3, ![1, 1024, 512]⟩
abbrev S2176x512 : Shape := ⟨2, ![2176, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x4096, .f32⟩
  | .hbm, ⟨2, _⟩ => ⟨S4352x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4352x4096, .bf16⟩
  | .local _ .vmem, ⟨0, _⟩ => ⟨S2176x1024, .bf16⟩
  | .local _ .vmem, ⟨1, _⟩ => ⟨S2176x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2176x512, .bf16⟩
  | .local _ .vmem, ⟨5, _⟩ => ⟨S2176x512, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW1FwdIdeal.lean ====
abbrev S4352x1024 : Shape := ⟨2, ![4352, 1024]⟩
abbrev S1024x4096 : Shape := ⟨2, ![1024, 4096]⟩
abbrev S4352x4096 : Shape := ⟨2, ![4352, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x4096, .f32⟩
  | .hbm, ⟨2, _⟩ => ⟨S4352x4096, .f32⟩
  | .hbm, ⟨3, _⟩ => ⟨S_, .f32⟩
  | .hbm, ⟨4, _⟩ => ⟨S4352x4096, .f32⟩
  | .hbm, ⟨5, _⟩ => ⟨S4352x4096, .f32⟩
  | .hbm, ⟨6, _⟩ => ⟨S4352x4096, .f32⟩
  | .hbm, ⟨7, _⟩ => ⟨S4352x4096, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelW2Fwd.lean ====
abbrev S4352x4096 : Shape := ⟨2, ![4352, 4096]⟩
abbrev S4096x1024 : Shape := ⟨2, ![4096, 1024]⟩
abbrev S4352x1024 : Shape := ⟨2, ![4352, 1024]⟩
abbrev S2176x1024 : Shape := ⟨2, ![2176, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x4096, .f32⟩
  | .hbm, ⟨1, _⟩ => ⟨S4096x1024, .f32⟩
  | .hbm, ⟨2, _⟩ => ⟨S4352x4096, .bf16⟩
  | .hbm, ⟨3, _⟩ => ⟨S4096x1024, .bf16⟩
  | .hbm, ⟨4, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .f32⟩
  | .local _ .vmem, ⟨5, _⟩ => ⟨S2176x1024, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW2FwdIdeal.lean ====
abbrev S4352x4096 : Shape := ⟨2, ![4352, 4096]⟩
abbrev S4096x1024 : Shape := ⟨2, ![4096, 1024]⟩
abbrev S4352x1024 : Shape := ⟨2, ![4352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x1024, .f32⟩
  | .hbm, ⟨2, _⟩ => ⟨S4352x1024, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelW2Dw.lean ====
abbrev S4352x4096 : Shape := ⟨2, ![4352, 4096]⟩
abbrev S4352x1024 : Shape := ⟨2, ![4352, 1024]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x4096, .f32⟩
  | .hbm, ⟨1, _⟩ => ⟨S4352x1024, .f32⟩
  | .hbm, ⟨2, _⟩ => ⟨S4352x4096, .bf16⟩
  | .hbm, ⟨3, _⟩ => ⟨S4352x1024, .bf16⟩
  | .hbm, ⟨4, _⟩ => ⟨S4096x1024, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S1024x1024, .f32⟩
  | .local _ .vmem, ⟨4, _⟩ => ⟨S1024x1024, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW2DwIdeal.lean ====
abbrev S4352x4096 : Shape := ⟨2, ![4352, 4096]⟩
abbrev S4352x1024 : Shape := ⟨2, ![4352, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x1024, .f32⟩
  | .hbm, ⟨2, _⟩ => ⟨S_, .f32⟩
  | .hbm, ⟨3, _⟩ => ⟨S4096x1024, .f32⟩
  | .hbm, ⟨4, _⟩ => ⟨S4352x1024, .f32⟩
  | .hbm, ⟨5, _⟩ => ⟨S1024x4096, .f32⟩
  | .hbm, ⟨6, _⟩ => ⟨S4096x1024, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelW2Dx.lean ====
abbrev S4352x4096 : Shape := ⟨2, ![4352, 4096]⟩
abbrev S4096x1024 : Shape := ⟨2, ![4096, 1024]⟩
abbrev S4352x1024 : Shape := ⟨2, ![4352, 1024]⟩
abbrev S_ : Shape := ⟨0, ![]⟩
abbrev S2176x1024 : Shape := ⟨2, ![2176, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4352x4096, .f32⟩
  | .hbm, ⟨1, _⟩ => ⟨S4096x1024, .f32⟩
  | .hbm, ⟨2, _⟩ => ⟨S4352x1024, .f32⟩
  | .hbm, ⟨3, _⟩ => ⟨S_, .f32⟩
  | .hbm, ⟨4, _⟩ => ⟨S4352x4096, .f32⟩
  | .hbm, ⟨5, _⟩ => ⟨S4352x4096, .f32⟩
  | .hbm, ⟨6, _⟩ => ⟨S4352x4096, .f32⟩
  | .hbm, ⟨7, _⟩ => ⟨S4352x4096, .bf16⟩
  | .hbm, ⟨8, _⟩ => ⟨S4352x1024, .bf16⟩
  | .hbm, ⟨9, _⟩ => ⟨S4096x1024, .bf16⟩
  | .hbm, ⟨10, _⟩ => ⟨S4352x4096, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .bf16⟩
  | .local _ .vmem, ⟨7, _⟩ => ⟨S2176x1024, .bf16⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceW2DxIdeal.lean ====
abbrev S4352x4096 : Shape := ⟨2, ![4352, 4096]⟩
abbrev S4096x1024 : Shape := ⟨2, ![4096, 1024]⟩
abbrev S4352x1024 : Shape := ⟨2, ![4352, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x1024, .f32⟩
  | .hbm, ⟨2, _⟩ => ⟨S4352x1024, .f32⟩
  | .hbm, ⟨3, _⟩ => ⟨S_, .f32⟩
  | .hbm, ⟨4, _⟩ => ⟨S4352x4096, .f32⟩
  | .hbm, ⟨5, _⟩ => ⟨S4352x4096, .f32⟩
  | .hbm, ⟨6, _⟩ => ⟨S_, .f32⟩
  | .hbm, ⟨7, _⟩ => ⟨S4352x4096, .f32⟩
  | .hbm, ⟨8, _⟩ => ⟨S4352x4096, .i1⟩
  | .hbm, ⟨9, _⟩ => ⟨S_, .f32⟩
  | .hbm, ⟨10, _⟩ => ⟨S4352x4096, .f32⟩
  | .hbm, ⟨11, _⟩ => ⟨S4352x4096, .f32⟩
  | .hbm, ⟨12, _⟩ => ⟨S_, .f32⟩
  | .hbm, ⟨13, _⟩ => ⟨S4352x4096, .f32⟩
  | .hbm, ⟨14, _⟩ => ⟨S4352x4096, .f32⟩
  | .hbm, ⟨15, _⟩ => ⟨S4352x1024, .f32⟩
  | .hbm, ⟨16, _⟩ => ⟨S4352x4096, .f32⟩
  | .hbm, ⟨17, _⟩ => ⟨S4352x4096, .f32⟩
  | .hbm, ⟨18, _⟩ => ⟨S_, .f32⟩
  | .hbm, ⟨19, _⟩ => ⟨S4352x4096, .f32⟩
  | .hbm, ⟨20, _⟩ => ⟨S4352x4096, .f32⟩
  | .hbm, ⟨21, _⟩ => ⟨S4352x4096, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== KernelW1Dw.lean ====
abbrev S4352x1024 : Shape := ⟨2, ![4352, 1024]⟩
abbrev S4352x4096 : Shape := ⟨2, ![4352, 4096]⟩
abbrev S8x1024x512 : Shape := ⟨3, ![8, 1024, 512]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S4352x4096, .f32⟩
  | .hbm, ⟨2, _⟩ => ⟨S4352x1024, .bf16⟩
  | .hbm, ⟨3, _⟩ => ⟨S4352x4096, .bf16⟩
  | .hbm, ⟨4, _⟩ => ⟨S8x1024x512, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S2x1024x512, .f32⟩
  | .local _ .vmem, ⟨4, _⟩ => ⟨S2x1024x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW1DwIdeal.lean ====
abbrev S4352x1024 : Shape := ⟨2, ![4352, 1024]⟩
abbrev S4352x4096 : Shape := ⟨2, ![4352, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x4096, .f32⟩
  | .hbm, ⟨2, _⟩ => ⟨S_, .f32⟩
  | .hbm, ⟨3, _⟩ => ⟨S1024x4096, .f32⟩
  | .hbm, ⟨4, _⟩ => ⟨S4352x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelW1Dx.lean ====
abbrev S1024x4096 : Shape := ⟨2, ![1024, 4096]⟩
abbrev S4352x4096 : Shape := ⟨2, ![4352, 4096]⟩
abbrev S1024x8x512 : Shape := ⟨3, ![1024, 8, 512]⟩
abbrev S8x1024x512 : Shape := ⟨3, ![8, 1024, 512]⟩
abbrev S4352x1024 : Shape := ⟨2, ![4352, 1024]⟩
abbrev S2176x1024 : Shape := ⟨2, ![2176, 1024]⟩
abbrev S2x1024x512 : Shape := ⟨3, ![2, 1024, 512]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4352x4096, .f32⟩
  | .hbm, ⟨2, _⟩ => ⟨S4352x4096, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S2176x1024, .f32⟩
  | .local _ .vmem, ⟨5, _⟩ => ⟨S2176x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg2 : BitVec 32 := BitVec.ofNat 32 (i 2).val
  let c0_i32_8 : BitVec 32 := 0#32
  let v14 : BitVec 1 := Scalar.cmpi .ne arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceW1DxIdeal.lean ====
abbrev S1024x4096 : Shape := ⟨2, ![1024, 4096]⟩
abbrev S4352x4096 : Shape := ⟨2, ![4352, 4096]⟩
abbrev S_ : Shape := ⟨0, ![]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4352x4096, .f32⟩
  | .hbm, ⟨2, _⟩ => ⟨S_, .f32⟩
  | .hbm, ⟨3, _⟩ => ⟨S4352x1024, .f32⟩
  | .hbm, ⟨4, _⟩ => ⟨S4352x4096, .f32⟩
  | .hbm, ⟨5, _⟩ => ⟨S4352x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelInFwd.lean ====
abbrev S4352x1024 : Shape := ⟨2, ![4352, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S4352x6144 : Shape := ⟨2, ![4352, 6144]⟩
abbrev S2176x1024 : Shape := ⟨2, ![2176, 1024]⟩
abbrev S1x1024x768 : Shape := ⟨3, ![1, 1024, 768]⟩
abbrev S2176x768 : Shape := ⟨2, ![2176, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x6144, .f32⟩
  | .hbm, ⟨2, _⟩ => ⟨S4352x1024, .bf16⟩
  | .hbm, ⟨3, _⟩ => ⟨S1024x6144, .bf16⟩
  | .hbm, ⟨4, _⟩ => ⟨S1024x8x768, .bf16⟩
  | .hbm, ⟨5, _⟩ => ⟨S8x1024x768, .bf16⟩
  | .hbm, ⟨6, _⟩ => ⟨S4352x6144, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2176x768, .f32⟩
  | .local _ .vmem, ⟨5, _⟩ => ⟨S2176x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInFwdIdeal.lean ====
abbrev S4352x1024 : Shape := ⟨2, ![4352, 1024]⟩
abbrev S1024x6144 : Shape := ⟨2, ![1024, 6144]⟩
abbrev S4352x6144 : Shape := ⟨2, ![4352, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x6144, .f32⟩
  | .hbm, ⟨2, _⟩ => ⟨S4352x6144, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelInDw.lean ====
abbrev S4352x1024 : Shape := ⟨2, ![4352, 1024]⟩
abbrev S4352x6144 : Shape := ⟨2, ![4352, 6144]⟩
abbrev S8x1024x768 : Shape := ⟨3, ![8, 1024, 768]⟩
abbrev S2176x1024 : Shape := ⟨2, ![2176, 1024]⟩
abbrev S2176x1536 : Shape := ⟨2, ![2176, 1536]⟩
abbrev S2x1024x768 : Shape := ⟨3, ![2, 1024, 768]⟩
abbrev S1024x1536 : Shape := ⟨2, ![1024, 1536]⟩
abbrev S1024x768 : Shape := ⟨2, ![1024, 768]⟩
abbrev S1x1024x768 : Shape := ⟨3, ![1, 1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x6144, .f32⟩
  | .hbm, ⟨2, _⟩ => ⟨S4352x1024, .bf16⟩
  | .hbm, ⟨3, _⟩ => ⟨S4352x6144, .bf16⟩
  | .hbm, ⟨4, _⟩ => ⟨S8x1024x768, .f32⟩
  | .local _ .vmem, ⟨0, _⟩ => ⟨S2176x1024, .bf16⟩
  | .local _ .vmem, ⟨1, _⟩ => ⟨S2176x1024, .bf16⟩
  | .local _ .vmem, ⟨2, _⟩ => ⟨S2176x1536, .bf16⟩
  | .local _ .vmem, ⟨3, _⟩ => ⟨S2176x1536, .bf16⟩
  | .local _ .vmem, ⟨4, _⟩ => ⟨S2x1024x768, .f32⟩
  | .local _ .vmem, ⟨5, _⟩ => ⟨S2x1024x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_3 : BitVec 32 := 0#32
  let v12 : BitVec 1 := Scalar.cmpi .ne v11 c0_i32_3
  v12

def k0_cond2 (i : grid0.Coords) : BitVec 1 :=
  let arg2 : BitVec 32 := BitVec.ofNat 32 (i 2).val
  let c0_i32_4 : BitVec 32 := 0#32
  let v13 : BitVec 1 := Scalar.cmpi .ne arg2 c0_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S4352x1024 : Shape := ⟨2, ![4352, 1024]⟩
abbrev S4352x6144 : Shape := ⟨2, ![4352, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x6144, .f32⟩
  | .hbm, ⟨2, _⟩ => ⟨S_, .f32⟩
  | .hbm, ⟨3, _⟩ => ⟨S1024x6144, .f32⟩
  | .hbm, ⟨4, _⟩ => ⟨S4352x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDx.lean ====
abbrev S1024x6144 : Shape := ⟨2, ![1024, 6144]⟩
abbrev S4352x6144 : Shape := ⟨2, ![4352, 6144]⟩
abbrev S1024x8x768 : Shape := ⟨3, ![1024, 8, 768]⟩
abbrev S8x1024x768 : Shape := ⟨3, ![8, 1024, 768]⟩
abbrev S4352x1024 : Shape := ⟨2, ![4352, 1024]⟩
abbrev S2176x1536 : Shape := ⟨2, ![2176, 1536]⟩
abbrev S2x1024x768 : Shape := ⟨3, ![2, 1024, 768]⟩
abbrev S2176x1024 : Shape := ⟨2, ![2176, 1024]⟩
abbrev S2176x768 : Shape := ⟨2, ![2176, 768]⟩
abbrev S1x1024x768 : Shape := ⟨3, ![1, 1024, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S1024x6144, .f32⟩
  | .hbm, ⟨1, _⟩ => ⟨S4352x6144, .f32⟩
  | .hbm, ⟨2, _⟩ => ⟨S4352x6144, .bf16⟩
  | .hbm, ⟨3, _⟩ => ⟨S1024x6144, .bf16⟩
  | .hbm, ⟨4, _⟩ => ⟨S1024x8x768, .bf16⟩
  | .hbm, ⟨5, _⟩ => ⟨S8x1024x768, .bf16⟩
  | .hbm, ⟨6, _⟩ => ⟨S4352x1024, .f32⟩
  | .local _ .vmem, ⟨0, _⟩ => ⟨S2176x1536, .bf16⟩
  | .local _ .vmem, ⟨1, _⟩ => ⟨S2176x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S2176x1024, .f32⟩
  | .local _ .vmem, ⟨5, _⟩ => ⟨S2176x1024, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg2 : BitVec 32 := BitVec.ofNat 32 (i 2).val
  let c0_i32_8 : BitVec 32 := 0#32
  let v14 : BitVec 1 := Scalar.cmpi .ne arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S1024x6144 : Shape := ⟨2, ![1024, 6144]⟩
abbrev S4352x6144 : Shape := ⟨2, ![4352, 6144]⟩
abbrev S_ : Shape := ⟨0, ![]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S4352x6144, .f32⟩
  | .hbm, ⟨2, _⟩ => ⟨S_, .f32⟩
  | .hbm, ⟨3, _⟩ => ⟨S4352x1024, .f32⟩
  | .hbm, ⟨4, _⟩ => ⟨S4352x6144, .f32⟩
  | .hbm, ⟨5, _⟩ => ⟨S4352x1024, .f32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutFwd.lean ====
abbrev S4352x2048 : Shape := ⟨2, ![4352, 2048]⟩
abbrev S2048x1024 : Shape := ⟨2, ![2048, 1024]⟩
abbrev S4352x1024 : Shape := ⟨2, ![4352, 1024]⟩
abbrev S2176x1024 : Shape := ⟨2, ![2176, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x1024, .f32⟩
  | .hbm, ⟨2, _⟩ => ⟨S4352x2048, .bf16⟩
  | .hbm, ⟨3, _⟩ => ⟨S2048x1024, .bf16⟩
  | .hbm, ⟨4, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .f32⟩
  | .local _ .vmem, ⟨5, _⟩ => ⟨S2176x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutFwdIdeal.lean ====
abbrev S4352x2048 : Shape := ⟨2, ![4352, 2048]⟩
abbrev S2048x1024 : Shape := ⟨2, ![2048, 1024]⟩
abbrev S4352x1024 : Shape := ⟨2, ![4352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x1024, .f32⟩
  | .hbm, ⟨2, _⟩ => ⟨S4352x1024, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOutDw.lean ====
abbrev S4352x2048 : Shape := ⟨2, ![4352, 2048]⟩
abbrev S4352x1024 : Shape := ⟨2, ![4352, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S4352x1024, .f32⟩
  | .hbm, ⟨2, _⟩ => ⟨S4352x2048, .bf16⟩
  | .hbm, ⟨3, _⟩ => ⟨S4352x1024, .bf16⟩
  | .hbm, ⟨4, _⟩ => ⟨S2048x1024, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S1024x1024, .f32⟩
  | .local _ .vmem, ⟨4, _⟩ => ⟨S1024x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x1024, .f32⟩
  | .hbm, ⟨2, _⟩ => ⟨S_, .f32⟩
  | .hbm, ⟨3, _⟩ => ⟨S2048x1024, .f32⟩
  | .hbm, ⟨4, _⟩ => ⟨S4352x1024, .f32⟩
  | .hbm, ⟨5, _⟩ => ⟨S1024x2048, .f32⟩
  | .hbm, ⟨6, _⟩ => ⟨S2048x1024, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutDx.lean ====
abbrev S2048x1024 : Shape := ⟨2, ![2048, 1024]⟩
abbrev S4352x1024 : Shape := ⟨2, ![4352, 1024]⟩
abbrev S4352x2048 : Shape := ⟨2, ![4352, 2048]⟩
abbrev S2176x1024 : Shape := ⟨2, ![2176, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4352x1024, .f32⟩
  | .hbm, ⟨2, _⟩ => ⟨S4352x1024, .bf16⟩
  | .hbm, ⟨3, _⟩ => ⟨S2048x1024, .bf16⟩
  | .hbm, ⟨4, _⟩ => ⟨S4352x2048, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .f32⟩
  | .local _ .vmem, ⟨5, _⟩ => ⟨S2176x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S2048x1024 : Shape := ⟨2, ![2048, 1024]⟩
abbrev S4352x1024 : Shape := ⟨2, ![4352, 1024]⟩
abbrev S_ : Shape := ⟨0, ![]⟩
abbrev S4352x2048 : Shape := ⟨2, ![4352, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4352x1024, .f32⟩
  | .hbm, ⟨2, _⟩ => ⟨S_, .f32⟩
  | .hbm, ⟨3, _⟩ => ⟨S4352x2048, .f32⟩
  | .hbm, ⟨4, _⟩ => ⟨S4352x1024, .f32⟩
  | .hbm, ⟨5, _⟩ => ⟨S4352x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelEvInFwd.lean ====
abbrev S4352x1024 : Shape := ⟨2, ![4352, 1024]⟩
abbrev S1024x1536 : Shape := ⟨2, ![1024, 1536]⟩
abbrev S4352x1536 : Shape := ⟨2, ![4352, 1536]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x1536, .f32⟩
  | .hbm, ⟨2, _⟩ => ⟨S1024x1536, .bf16⟩
  | .hbm, ⟨3, _⟩ => ⟨S4352x1536, .f32⟩
  | .local _ .vmem, ⟨0, _⟩ => ⟨S2176x1024, .f32⟩
  | .local _ .vmem, ⟨1, _⟩ => ⟨S2176x1024, .f32⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvInFwdIdeal.lean ====
abbrev S4352x1024 : Shape := ⟨2, ![4352, 1024]⟩
abbrev S1024x1536 : Shape := ⟨2, ![1024, 1536]⟩
abbrev S4352x1536 : Shape := ⟨2, ![4352, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1536, .f32⟩
  | .hbm, ⟨2, _⟩ => ⟨S4352x1536, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelEvInDw.lean ====
abbrev S4352x1024 : Shape := ⟨2, ![4352, 1024]⟩
abbrev S4352x1536 : Shape := ⟨2, ![4352, 1536]⟩
abbrev S1024x1536 : Shape := ⟨2, ![1024, 1536]⟩
abbrev S2176x1024 : Shape := ⟨2, ![2176, 1024]⟩
abbrev S2176x512 : Shape := ⟨2, ![2176, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x1536, .f32⟩
  | .hbm, ⟨2, _⟩ => ⟨S4352x1536, .bf16⟩
  | .hbm, ⟨3, _⟩ => ⟨S1024x1536, .f32⟩
  | .local _ .vmem, ⟨0, _⟩ => ⟨S2176x1024, .f32⟩
  | .local _ .vmem, ⟨1, _⟩ => ⟨S2176x1024, .f32⟩
  | .local _ .vmem, ⟨2, _⟩ => ⟨S2176x512, .bf16⟩
  | .local _ .vmem, ⟨3, _⟩ => ⟨S2176x512, .bf16⟩
  | .local _ .vmem, ⟨4, _⟩ => ⟨S1024x512, .f32⟩
  | .local _ .vmem, ⟨5, _⟩ => ⟨S1024x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvInDwIdeal.lean ====
abbrev S4352x1024 : Shape := ⟨2, ![4352, 1024]⟩
abbrev S4352x1536 : Shape := ⟨2, ![4352, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1536, .f32⟩
  | .hbm, ⟨2, _⟩ => ⟨S_, .f32⟩
  | .hbm, ⟨3, _⟩ => ⟨S1024x1536, .f32⟩
  | .hbm, ⟨4, _⟩ => ⟨S4352x1536, .f32⟩
  | .hbm, ⟨5, _⟩ => ⟨S1536x1024, .f32⟩
  | .hbm, ⟨6, _⟩ => ⟨S1024x1536, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelEvInDx.lean ====
abbrev S1024x1536 : Shape := ⟨2, ![1024, 1536]⟩
abbrev S4352x1536 : Shape := ⟨2, ![4352, 1536]⟩
abbrev S4352x1024 : Shape := ⟨2, ![4352, 1024]⟩
abbrev S2176x512 : Shape := ⟨2, ![2176, 512]⟩
abbrev S1024x512 : Shape := ⟨2, ![1024, 512]⟩
abbrev S2176x1024 : Shape := ⟨2, ![2176, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1536, .f32⟩
  | .hbm, ⟨1, _⟩ => ⟨S4352x1536, .f32⟩
  | .hbm, ⟨2, _⟩ => ⟨S4352x1536, .bf16⟩
  | .hbm, ⟨3, _⟩ => ⟨S1024x1536, .bf16⟩
  | .hbm, ⟨4, _⟩ => ⟨S4352x1024, .f32⟩
  | .local _ .vmem, ⟨0, _⟩ => ⟨S2176x512, .bf16⟩
  | .local _ .vmem, ⟨1, _⟩ => ⟨S2176x512, .bf16⟩
  | .local _ .vmem, ⟨2, _⟩ => ⟨S1024x512, .bf16⟩
  | .local _ .vmem, ⟨3, _⟩ => ⟨S1024x512, .bf16⟩
  | .local _ .vmem, ⟨4, _⟩ => ⟨S2176x1024, .f32⟩
  | .local _ .vmem, ⟨5, _⟩ => ⟨S2176x1024, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvInDxIdeal.lean ====
abbrev S1024x1536 : Shape := ⟨2, ![1024, 1536]⟩
abbrev S4352x1536 : Shape := ⟨2, ![4352, 1536]⟩
abbrev S_ : Shape := ⟨0, ![]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S4352x1536, .f32⟩
  | .hbm, ⟨2, _⟩ => ⟨S_, .f32⟩
  | .hbm, ⟨3, _⟩ => ⟨S4352x1024, .f32⟩
  | .hbm, ⟨4, _⟩ => ⟨S4352x1536, .f32⟩
  | .hbm, ⟨5, _⟩ => ⟨S4352x1024, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelEvOutFwd.lean ====
abbrev S4352x1536 : Shape := ⟨2, ![4352, 1536]⟩
abbrev S1536x1024 : Shape := ⟨2, ![1536, 1024]⟩
abbrev S4352x1024 : Shape := ⟨2, ![4352, 1024]⟩
abbrev S2176x512 : Shape := ⟨2, ![2176, 512]⟩
abbrev S512x1024 : Shape := ⟨2, ![512, 1024]⟩
abbrev S2176x1024 : Shape := ⟨2, ![2176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x1536, .f32⟩
  | .hbm, ⟨1, _⟩ => ⟨S1536x1024, .f32⟩
  | .hbm, ⟨2, _⟩ => ⟨S1536x1024, .bf16⟩
  | .hbm, ⟨3, _⟩ => ⟨S4352x1024, .f32⟩
  | .local _ .vmem, ⟨0, _⟩ => ⟨S2176x512, .f32⟩
  | .local _ .vmem, ⟨1, _⟩ => ⟨S2176x512, .f32⟩
  | .local _ .vmem, ⟨2, _⟩ => ⟨S512x1024, .bf16⟩
  | .local _ .vmem, ⟨3, _⟩ => ⟨S512x1024, .bf16⟩
  | .local _ .vmem, ⟨4, _⟩ => ⟨S2176x1024, .f32⟩
  | .local _ .vmem, ⟨5, _⟩ => ⟨S2176x1024, .f32⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvOutFwdIdeal.lean ====
abbrev S4352x1536 : Shape := ⟨2, ![4352, 1536]⟩
abbrev S1536x1024 : Shape := ⟨2, ![1536, 1024]⟩
abbrev S4352x1024 : Shape := ⟨2, ![4352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4352x1536, .f32⟩
  | .hbm, ⟨1, _⟩ => ⟨S1536x1024, .f32⟩
  | .hbm, ⟨2, _⟩ => ⟨S4352x1024, .f32⟩
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelEvOutDw.lean ====
abbrev S4352x1536 : Shape := ⟨2, ![4352, 1536]⟩
abbrev S4352x1024 : Shape := ⟨2, ![4352, 1024]⟩
abbrev S1536x1024 : Shape := ⟨2, ![1536, 1024]⟩
abbrev S4352x512 : Shape := ⟨2, ![4352, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4352x1536, .f32⟩
  | .hbm, ⟨1, _⟩ => ⟨S4352x1024, .f32⟩
  | .hbm, ⟨2, _⟩ => ⟨S4352x1024, .bf16⟩
  | .hbm, ⟨3, _⟩ => ⟨S1536x1024, .f32⟩
  | .local _ .vmem, ⟨0, _⟩ => ⟨S4352x512, .f32⟩
  | .local _ .vmem, ⟨1, _⟩ => ⟨S4352x512, .f32⟩
  | .local _ .vmem, ⟨2, _⟩ => ⟨S4352x1024, .bf16⟩
  | .local _ .vmem, ⟨3, _⟩ => ⟨S512x1024, .f32⟩
  | .local _ .vmem, ⟨4, _⟩ => ⟨S512x1024, .f32⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvOutDwIdeal.lean ====
abbrev S4352x1536 : Shape := ⟨2, ![4352, 1536]⟩
abbrev S4352x1024 : Shape := ⟨2, ![4352, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4352x1536, .f32⟩
  | .hbm, ⟨1, _⟩ => ⟨S4352x1024, .f32⟩
  | .hbm, ⟨2, _⟩ => ⟨S_, .f32⟩
  | .hbm, ⟨3, _⟩ => ⟨S1536x1024, .f32⟩
  | .hbm, ⟨4, _⟩ => ⟨S4352x1024, .f32⟩
  | .hbm, ⟨5, _⟩ => ⟨S1024x1536, .f32⟩
  | .hbm, ⟨6, _⟩ => ⟨S1536x1024, .f32⟩
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelEvOutDx.lean ====
abbrev S1536x1024 : Shape := ⟨2, ![1536, 1024]⟩
abbrev S4352x1024 : Shape := ⟨2, ![4352, 1024]⟩
abbrev S4352x1536 : Shape := ⟨2, ![4352, 1536]⟩
abbrev S2176x1024 : Shape := ⟨2, ![2176, 1024]⟩
abbrev S512x1024 : Shape := ⟨2, ![512, 1024]⟩
abbrev S2176x512 : Shape := ⟨2, ![2176, 512]⟩

abbrev nBuf : Space → Nat
  | .hbm => 5
  | .vmem => 6
  | .smem => 0
  | _ => 0

abbrev bufTy : (tb : Table) → Fin (tcTables nBuf tb) → BufTy
  | .hbm, ⟨0, _⟩ => ⟨S1536x1024, .f32⟩
  | .hbm, ⟨1, _⟩ => ⟨S4352x1024, .f32⟩
  | .hbm, ⟨2, _⟩ => ⟨S4352x1024, .bf16⟩
  | .hbm, ⟨3, _⟩ => ⟨S1536x1024, .bf16⟩
  | .hbm, ⟨4, _⟩ => ⟨S4352x1536, .f32⟩
  | .local _ .vmem, ⟨0, _⟩ => ⟨S2176x1024, .bf16⟩
  | .local _ .vmem, ⟨1, _⟩ => ⟨S2176x1024, .bf16⟩
  | .local _ .vmem, ⟨2, _⟩ => ⟨S512x1024, .bf16⟩
  | .local _ .vmem, ⟨3, _⟩ => ⟨S512x1024, .bf16⟩
  | .local _ .vmem, ⟨4, _⟩ => ⟨S2176x512, .f32⟩
  | .local _ .vmem, ⟨5, _⟩ => ⟨S2176x512, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceEvOutDxIdeal.lean ====
abbrev S1536x1024 : Shape := ⟨2, ![1536, 1024]⟩
abbrev S4352x1024 : Shape := ⟨2, ![4352, 1024]⟩
abbrev S_ : Shape := ⟨0, ![]⟩
abbrev S4352x1536 : Shape := ⟨2, ![4352, 1536]⟩

abbrev nBuf : Space → Nat
  | .hbm => 6
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S4352x1024, .f32⟩
  | .hbm, ⟨2, _⟩ => ⟨S_, .f32⟩
  | .hbm, ⟨3, _⟩ => ⟨S4352x1536, .f32⟩
  | .hbm, ⟨4, _⟩ => ⟨S4352x1024, .f32⟩
  | .hbm, ⟨5, _⟩ => ⟨S4352x1536, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelLnBwd.lean ====
abbrev S4352x1024 : Shape := ⟨2, ![4352, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | .hbm, ⟨8, _⟩ => ⟨S1x1024, .f32⟩
  | .hbm, ⟨9, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S1x1024, .f32⟩
  | .local _ .vmem, ⟨15, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_29 : BitVec 32 := 0#32
  let v67 : BitVec 1 := Scalar.cmpi .ne v66 c0_i32_29
  v67

def k0_cond2 (i : grid0.Coords) : BitVec 1 :=
  let arg0 : BitVec 32 := BitVec.ofNat 32 (i 0).val
  let c0_i32_30 : BitVec 32 := 0#32
  let v68 : BitVec 1 := Scalar.cmpi .ne arg0 c0_i32_30
  let v69 : BitVec 32 := Scalar.extui v68
  let c0_i32_31 : BitVec 32 := 0#32
  let v70 : BitVec 1 := Scalar.cmpi .ne v69 c0_i32_31
  v70

def k0_cond3 (i : grid0.Coords) : BitVec 1 :=
  let arg0 : BitVec 32 := BitVec.ofNat 32 (i 0).val
  let c0_i32_32 : BitVec 32 := 0#32
  let v71 : BitVec 1 := Scalar.cmpi .eq arg0 c0_i32_32
  let v72 : BitVec 32 := Scalar.extui v71
  let c0_i32_33 : BitVec 32 := 0#32
  let v73 : BitVec 1 := Scalar.cmpi .ne v72 c0_i32_33
  v73

def k0_cond4 (i : grid0.Coords) : BitVec 1 :=
  let arg0 : BitVec 32 := BitVec.ofNat 32 (i 0).val
  let c0_i32_34 : BitVec 32 := 0#32
  let v74 : BitVec 1 := Scalar.cmpi .ne arg0 c0_i32_34
  let v75 : BitVec 32 := Scalar.extui v74
  let c0_i32_35 : BitVec 32 := 0#32
  let v76 : BitVec 1 := Scalar.cmpi .ne v75 c0_i32_35
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLnBwdIdeal.lean ====
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S_, .f32⟩
  | .hbm, ⟨23, _⟩ => ⟨S4352, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x1, .f32⟩
  | .hbm, ⟨33, _⟩ => ⟨S_, .f32⟩
  | .hbm, ⟨34, _⟩ => ⟨S4352x1, .f32⟩
  | .hbm, ⟨35, _⟩ => ⟨S4352x1, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4352x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S_, .f32⟩
  | .hbm, ⟨54, _⟩ => ⟨S4352, .f32⟩
  | .hbm, ⟨55, _⟩ => ⟨S4352x1, .f32⟩
  | .hbm, ⟨56, _⟩ => ⟨S4352x1024, .f32⟩
  | .hbm, ⟨57, _⟩ => ⟨S4352x1024, .f32⟩
  | .hbm, ⟨58, _⟩ => ⟨S4352x1, .f32⟩
  | .hbm, ⟨59, _⟩ => ⟨S_, .f32⟩
  | .hbm, ⟨60, _⟩ => ⟨S4352x1, .f32⟩
  | .hbm, ⟨61, _⟩ => ⟨S4352x1, .f32⟩
  | .hbm, ⟨62, _⟩ => ⟨S_, .f32⟩
  | .hbm, ⟨63, _⟩ => ⟨S4352, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S_, .f32⟩
  | .hbm, ⟨69, _⟩ => ⟨S4352, .f32⟩
  | .hbm, ⟨70, _⟩ => ⟨S4352x1, .f32⟩
  | .hbm, ⟨71, _⟩ => ⟨S_, .f32⟩
  | .hbm, ⟨72, _⟩ => ⟨S4352x1, .f32⟩
  | .hbm, ⟨73, _⟩ => ⟨S4352x1, .f32⟩
  | .hbm, ⟨74, _⟩ => ⟨S_, .f32⟩
  | .hbm, ⟨75, _⟩ => ⟨S4352, .f32⟩
  | .hbm, ⟨76, _⟩ => ⟨S4352x1024, .f32⟩
  | .hbm, ⟨77, _⟩ => ⟨S4352x1024, .f32⟩
  | .hbm, ⟨78, _⟩ => ⟨S_, .f32⟩
  | .hbm, ⟨79, _⟩ => ⟨S4352x1024, .f32⟩
  | .hbm, ⟨80, _⟩ => ⟨S4352x1024, .f32⟩
  | .hbm, ⟨81, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== KernelAttnBwd.lean ====
abbrev S2x2176x8x96 : Shape := ⟨4, ![2, 2176, 8, 96]⟩
abbrev S2x2176x8x128 : Shape := ⟨4, ![2, 2176, 8, 128]⟩
abbrev S2x2176x32 : Shape := ⟨3, ![2, 2176, 32]⟩
abbrev S2x2176x8x64 : Shape := ⟨4, ![2, 2176, 8, 64]⟩
abbrev S_ : Shape := ⟨0, ![]⟩
abbrev S2x2176x128 : Shape := ⟨3, ![2, 2176, 128]⟩
abbrev S2x2176x1024 : Shape := ⟨3, ![2, 2176, 1024]⟩
abbrev S1x2176x128 : Shape := ⟨3, ![1, 2176, 128]⟩
abbrev S2176x128 : Shape := ⟨2, ![2176, 128]⟩
abbrev S1x128x128 : Shape := ⟨3, ![1, 128, 128]⟩
abbrev S128x128 : Shape := ⟨2, ![128, 128]⟩
abbrev S128x2176 : Shape := ⟨2, ![128, 2176]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1792x128 : Shape := ⟨2, ![1792, 128]⟩
abbrev S256x1792 : Shape := ⟨2, ![256, 1792]⟩
abbrev S1536x128 : Shape := ⟨2, ![1536, 128]⟩
abbrev S256x1536 : Shape := ⟨2, ![256, 1536]⟩
abbrev S1280x128 : Shape := ⟨2, ![1280, 128]⟩
abbrev S256x1280 : Shape := ⟨2, ![256, 1280]⟩
abbrev S1024x128 : Shape := ⟨2, ![1024, 128]⟩
abbrev S256x1024 : Shape := ⟨2, ![256, 1024]⟩
abbrev S768x128 : Shape := ⟨2, ![768, 128]⟩
abbrev S256x768 : Shape := ⟨2, ![256, 768]⟩
abbrev S512x128 : Shape := ⟨2, ![512, 128]⟩
abbrev S256x512 : Shape := ⟨2, ![256, 512]⟩
abbrev S256x256 : Shape := ⟨2, ![256, 256]⟩

abbrev nBuf : Space → Nat
  | .hbm => 19
  | .vmem => 18
  | .smem => 0
  | _ => 0

abbrev bufTy : (tb : Table) → Fin (tcTables nBuf tb) → BufTy
  | .hbm, ⟨0, _⟩ => ⟨S2x2176x8x96, .f32⟩
  | .hbm, ⟨1, _⟩ => ⟨S2x2176x8x128, .f32⟩
  | .hbm, ⟨2, _⟩ => ⟨S2x2176x32, .f32⟩
  | .hbm, ⟨3, _⟩ => ⟨S2x2176x8x64, .f32⟩
  | .hbm, ⟨4, _⟩ => ⟨S_, .i32⟩
  | .hbm, ⟨5, _⟩ => ⟨S_, .f32⟩
  | .hbm, ⟨6, _⟩ => ⟨S2x2176x8x128, .f32⟩
  | .hbm, ⟨7, _⟩ => ⟨S_, .i32⟩
  | .hbm, ⟨8, _⟩ => ⟨S_, .f32⟩
  | .hbm, ⟨9, _⟩ => ⟨S2x2176x128, .f32⟩
  | .hbm, ⟨10, _⟩ => ⟨S_, .i32⟩
  | .hbm, ⟨11, _⟩ => ⟨S_, .f32⟩
  | .hbm, ⟨12, _⟩ => ⟨S2x2176x8x128, .f32⟩
  | .hbm, ⟨13, _⟩ => ⟨S2x2176x1024, .f32⟩
  | .hbm, ⟨14, _⟩ => ⟨S2x2176x1024, .f32⟩
  | .hbm, ⟨15, _⟩ => ⟨S2x2176x1024, .f32⟩
  | .hbm, ⟨16, _⟩ => ⟨S2x2176x1024, .f32⟩
  | .hbm, ⟨17, _⟩ => ⟨S2x2176x1024, .f32⟩
  | .hbm, ⟨18, _⟩ => ⟨S2x2176x128, .f32⟩
  | .local _ .vmem, ⟨0, _⟩ => ⟨S1x2176x128, .f32⟩
  | .local _ .vmem, ⟨1, _⟩ => ⟨S1x2176x128, .f32⟩
  | .local _ .vmem, ⟨2, _⟩ => ⟨S1x2176x128, .f32⟩
  | .local _ .vmem, ⟨3, _⟩ => ⟨S1x2176x128, .f32⟩
  | .local _ .vmem, ⟨4, _⟩ => ⟨S1x2176x128, .f32⟩
  | .local _ .vmem, ⟨5, _⟩ => ⟨S1x2176x128, .f32⟩
  | .local _ .vmem, ⟨6, _⟩ => ⟨S1x2176x128, .f32⟩
  | .local _ .vmem, ⟨7, _⟩ => ⟨S1x2176x128, .f32⟩
  | .local _ .vmem, ⟨8, _⟩ => ⟨S1x2176x128, .f32⟩
  | .local _ .vmem, ⟨9, _⟩ => ⟨S1x2176x128, .f32⟩
  | .local _ .vmem, ⟨10, _⟩ => ⟨S1x2176x128, .f32⟩
  | .local _ .vmem, ⟨11, _⟩ => ⟨S1x2176x128, .f32⟩
  | .local _ .vmem, ⟨12, _⟩ => ⟨S1x2176x128, .f32⟩
  | .local _ .vmem, ⟨13, _⟩ => ⟨S1x2176x128, .f32⟩
  | .local _ .vmem, ⟨14, _⟩ => ⟨S2176x128, .bf16⟩
  | .local _ .vmem, ⟨15, _⟩ => ⟨S2176x128, .bf16⟩
  | .local _ .vmem, ⟨16, _⟩ => ⟨S2176x128, .f32⟩
  | .local _ .vmem, ⟨17, _⟩ => ⟨S2176x128, .f32⟩
  | _, _ => ⟨S2x2176x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32_321 : BitVec 32 := 0#32
  let v600 : BitVec 1 := Scalar.cmpi .eq arg1 c0_i32_321
  let v601 : BitVec 32 := Scalar.extui v600
  let c0_i32_322 : BitVec 32 := 0#32
  let v602 : BitVec 1 := Scalar.cmpi .ne v601 c0_i32_322
  v602

def k0_cond2 (i : grid0.Coords) : BitVec 1 :=
  let arg1 : BitVec 32 := BitVec.ofNat 32 (i 1).val
  let c0_i32_323 : BitVec 32 := 0#32
  let v603 : BitVec 1 := Scalar.cmpi .ne arg1 c0_i32_323
  let v604 : BitVec 32 := Scalar.extui v603
  let c0_i32_324 : BitVec 32 := 0#32
  let v605 : BitVec 1 := Scalar.cmpi .ne v604 c0_i32_324
  v605

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelAttnBwdIdeal.lean ====
variable {F : FTy → Type} [FloatOps F] [Named F]
def κ : String → Option EReal := fun
  | "mask" => some ⊥
  | "scale" => some (((Real.sqrt 96)⁻¹ : ℝ) : EReal)
  | _ => none
-- ==== ReferenceAttnBwdIdeal.lean ====
abbrev S2x2176x8x96 : Shape := ⟨4, ![2, 2176, 8, 96]⟩
abbrev S2x2176x8x128 : Shape := ⟨4, ![2, 2176, 8, 128]⟩
abbrev S2x2176x32 : Shape := ⟨3, ![2, 2176, 32]⟩
abbrev S2x2176x8x64 : Shape := ⟨4, ![2, 2176, 8, 64]⟩
abbrev S2176 : Shape := ⟨1, ![2176]⟩
abbrev S2x2176x1x32 : Shape := ⟨4, ![2, 2176, 1, 32]⟩
abbrev S2x2176x8x32 : Shape := ⟨4, ![2, 2176, 8, 32]⟩
abbrev S_ : Shape := ⟨0, ![]⟩
abbrev S2x8x2176x2176 : Shape := ⟨4, ![2, 8, 2176, 2176]⟩
abbrev S1x2176 : Shape := ⟨2, ![1, 2176]⟩
abbrev S2176x1 : Shape := ⟨2, ![2176, 1]⟩
abbrev S2176x2176 : Shape := ⟨2, ![2176, 2176]⟩
abbrev S1x1x2176x2176 : Shape := ⟨4, ![1, 1, 2176, 2176]⟩
abbrev S2x8x2176 : Shape := ⟨3, ![2, 8, 2176]⟩
abbrev S2x8x2176x1 : Shape := ⟨4, ![2, 8, 2176, 1]⟩
abbrev S2x8x64x2176 : Shape := ⟨4, ![2, 8, 64, 2176]⟩
abbrev S2x8x2176x96 : Shape := ⟨4, ![2, 8, 2176, 96]⟩
abbrev S2x2176x1024 : Shape := ⟨3, ![2, 2176, 1024]⟩
abbrev S2x2176x128 : Shape := ⟨3, ![2, 2176, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x2176x8x96, .f32⟩
  | .hbm, ⟨1, _⟩ => ⟨S2x2176x8x128, .f32⟩
  | .hbm, ⟨2, _⟩ => ⟨S2x2176x32, .f32⟩
  | .hbm, ⟨3, _⟩ => ⟨S2x2176x8x64, .f32⟩
  | .hbm, ⟨4, _⟩ => ⟨S2176, .i32⟩
  | .hbm, ⟨5, _⟩ => ⟨S2x2176x8x64, .f32⟩
  | .hbm, ⟨6, _⟩ => ⟨S2x2176x1x32, .f32⟩
  | .hbm, ⟨7, _⟩ => ⟨S2x2176x8x32, .f32⟩
  | .hbm, ⟨8, _⟩ => ⟨S2x2176x8x96, .f32⟩
  | .hbm, ⟨9, _⟩ => ⟨S2x2176x8x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8x2176x2176, .f32⟩
  | .hbm, ⟨15, _⟩ => ⟨S2x8x2176x2176, .f32⟩
  | .hbm, ⟨16, _⟩ => ⟨S2x8x2176x2176, .f32⟩
  | .hbm, ⟨17, _⟩ => ⟨S1x2176, .i32⟩
  | .hbm, ⟨18, _⟩ => ⟨S2176x1, .i32⟩
  | .hbm, ⟨19, _⟩ => ⟨S2176x2176, .i32⟩
  | .hbm, ⟨20, _⟩ => ⟨S2176x2176, .i32⟩
  | .hbm, ⟨21, _⟩ => ⟨S2176x2176, .i1⟩
  | .hbm, ⟨22, _⟩ => ⟨S1x1x2176x2176, .i1⟩
  | .hbm, ⟨23, _⟩ => ⟨S_, .f32⟩
  | .hbm, ⟨24, _⟩ => ⟨S_, .f32⟩
  | .hbm, ⟨25, _⟩ => ⟨S2x8x2176x2176, .i1⟩
  | .hbm, ⟨26, _⟩ => ⟨S2x8x2176x2176, .f32⟩
  | .hbm, ⟨27, _⟩ => ⟨S2x8x2176x2176, .f32⟩
  | .hbm, ⟨28, _⟩ => ⟨S_, .f32⟩
  | .hbm, ⟨29, _⟩ => ⟨S2x8x2176x2176, .f32⟩
  | .hbm, ⟨30, _⟩ => ⟨S_, .f32⟩
  | .hbm, ⟨31, _⟩ => ⟨S2x8x2176, .f32⟩
  | .hbm, ⟨32, _⟩ => ⟨S2x8x2176x1, .f32⟩
  | .hbm, ⟨33, _⟩ => ⟨S2x8x2176x2176, .f32⟩
  | .hbm, ⟨34, _⟩ => ⟨S2x8x2176x2176, .i1⟩
  | .hbm, ⟨35, _⟩ => ⟨S2x8x2176x2176, .f32⟩
  | .hbm, ⟨36, _⟩ => ⟨S_, .f32⟩
  | .hbm, ⟨37, _⟩ => ⟨S2x8x2176, .f32⟩
  | .hbm, ⟨38, _⟩ => ⟨S_, .f32⟩
  | .hbm, ⟨39, _⟩ => ⟨S2x8x2176, .f32⟩
  | .hbm, ⟨40, _⟩ => ⟨S2x8x2176, .f32⟩
  | .hbm, ⟨41, _⟩ => ⟨S_, .f32⟩
  | .hbm, ⟨42, _⟩ => ⟨S2x8x2176, .f32⟩
  | .hbm, ⟨43, _⟩ => ⟨S2x8x2176, .i1⟩
  | .hbm, ⟨44, _⟩ => ⟨S_, .f32⟩
  | .hbm, ⟨45, _⟩ => ⟨S2x8x2176, .f32⟩
  | .hbm, ⟨46, _⟩ => ⟨S2x8x2176, .i1⟩
  | .hbm, ⟨47, _⟩ => ⟨S_, .f32⟩
  | .hbm, ⟨48, _⟩ => ⟨S2x8x2176, .f32⟩
  | .hbm, ⟨49, _⟩ => ⟨S_, .f32⟩
  | .hbm, ⟨50, _⟩ => ⟨S2x8x2176, .f32⟩
  | .hbm, ⟨51, _⟩ => ⟨S_, .f32⟩
  | .hbm, ⟨52, _⟩ => ⟨S2x8x2176, .f32⟩
  | .hbm, ⟨53, _⟩ => ⟨S2x8x2176, .f32⟩
  | .hbm, ⟨54, _⟩ => ⟨S2x8x2176, .f32⟩
  | .hbm, ⟨55, _⟩ => ⟨S2x8x2176x1, .f32⟩
  | .hbm, ⟨56, _⟩ => ⟨S2x8x2176x2176, .f32⟩
  | .hbm, ⟨57, _⟩ => ⟨S2x8x2176x2176, .f32⟩
  | .hbm, ⟨58, _⟩ => ⟨S2x8x2176x2176, .f32⟩
  | .hbm, ⟨59, _⟩ => ⟨S_, .f32⟩
  | .hbm, ⟨60, _⟩ => ⟨S2x8x2176, .f32⟩
  | .hbm, ⟨61, _⟩ => ⟨S2x8x2176x1, .f32⟩
  | .hbm, ⟨62, _⟩ => ⟨S2x8x2176x2176, .f32⟩
  | .hbm, ⟨63, _⟩ => ⟨S2x8x2176x2176, .f32⟩
  | .hbm, ⟨64, _⟩ => ⟨S2x8x2176x1, .f32⟩
  | .hbm, ⟨65, _⟩ => ⟨S_, .f32⟩
  | .hbm, ⟨66, _⟩ => ⟨S2x8x2176x1, .f32⟩
  | .hbm, ⟨67, _⟩ => ⟨S2x8x2176x1, .f32⟩
  | .hbm, ⟨68, _⟩ => ⟨S2x8x64x2176, .f32⟩
  | .hbm, ⟨69, _⟩ => ⟨S2x2176x8x64, .f32⟩
  | .hbm, ⟨70, _⟩ => ⟨S2x8x64x2176, .f32⟩
  | .hbm, ⟨71, _⟩ => ⟨S2x8x2176x2176, .f32⟩
  | .hbm, ⟨72, _⟩ => ⟨S2x8x64x2176, .f32⟩
  | .hbm, ⟨73, _⟩ => ⟨S2x2176x8x64, .f32⟩
  | .hbm, ⟨74, _⟩ => ⟨S2x8x2176x2176, .f32⟩
  | .hbm, ⟨75, _⟩ => ⟨S2x8x2176x2176, .f32⟩
  | .hbm, ⟨76, _⟩ => ⟨S2x8x2176x2176, .f32⟩
  | .hbm, ⟨77, _⟩ => ⟨S_, .f32⟩
  | .hbm, ⟨78, _⟩ => ⟨S2x8x2176, .f32⟩
  | .hbm, ⟨79, _⟩ => ⟨S2x8x2176x1, .f32⟩
  | .hbm, ⟨80, _⟩ => ⟨S2x8x2176x1, .f32⟩
  | .hbm, ⟨81, _⟩ => ⟨S2x8x2176x2176, .f32⟩
  | .hbm, ⟨82, _⟩ => ⟨S2x8x2176x2176, .f32⟩
  | .hbm, ⟨83, _⟩ => ⟨S_, .f32⟩
  | .hbm, ⟨84, _⟩ => ⟨S2x8x2176, .f32⟩
  | .hbm, ⟨85, _⟩ => ⟨S2x8x2176x2176, .f32⟩
  | .hbm, ⟨86, _⟩ => ⟨S2x8x2176x2176, .f32⟩
  | .hbm, ⟨87, _⟩ => ⟨S2x8x2176x2176, .f32⟩
  | .hbm, ⟨88, _⟩ => ⟨S_, .f32⟩
  | .hbm, ⟨89, _⟩ => ⟨S2x8x2176x2176, .f32⟩
  | .hbm, ⟨90, _⟩ => ⟨S2x8x2176x2176, .f32⟩
  | .hbm, ⟨91, _⟩ => ⟨S2x8x2176x2176, .f32⟩
  | .hbm, ⟨92, _⟩ => ⟨S2x8x2176x2176, .f32⟩
  | .hbm, ⟨93, _⟩ => ⟨S2x8x2176x96, .f32⟩
  | .hbm, ⟨94, _⟩ => ⟨S2x2176x8x96, .f32⟩
  | .hbm, ⟨95, _⟩ => ⟨S2x8x2176x96, .f32⟩
  | .hbm, ⟨96, _⟩ => ⟨S2x2176x8x96, .f32⟩
  | .hbm, ⟨97, _⟩ => ⟨S_, .f32⟩
  | .hbm, ⟨98, _⟩ => ⟨S2x2176x8x128, .f32⟩
  | .hbm, ⟨99, _⟩ => ⟨S2x2176x8x64, .f32⟩
  | .hbm, ⟨100, _⟩ => ⟨S2x2176x8x32, .f32⟩
  | .hbm, ⟨101, _⟩ => ⟨S_, .f32⟩
  | .hbm, ⟨102, _⟩ => ⟨S2x2176x32, .f32⟩
  | .hbm, ⟨103, _⟩ => ⟨S2x2176x1x32, .f32⟩
  | .hbm, ⟨104, _⟩ => ⟨S_, .f32⟩
  | .hbm, ⟨105, _⟩ => ⟨S2x2176x32, .f32⟩
  | .hbm, ⟨106, _⟩ => ⟨S_, .f32⟩
  | .hbm, ⟨107, _⟩ => ⟨S2x2176x8x128, .f32⟩
  | .hbm, ⟨108, _⟩ => ⟨S2x2176x8x128, .f32⟩
  | .hbm, ⟨109, _⟩ => ⟨S_, .i32⟩
  | .hbm, ⟨110, _⟩ => ⟨S_, .f32⟩
  | .hbm, ⟨111, _⟩ => ⟨S2x2176x8x128, .f32⟩
  | .hbm, ⟨112, _⟩ => ⟨S2x2176x1024, .f32⟩
  | .hbm, ⟨113, _⟩ => ⟨S2x2176x1024, .f32⟩
  | .hbm, ⟨114, _⟩ => ⟨S_, .i32⟩
  | .hbm, ⟨115, _⟩ => ⟨S_, .f32⟩
  | .hbm, ⟨116, _⟩ => ⟨S2x2176x128, .f32⟩
  | _, _ => ⟨S2x2176x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_c : Ref sig .tc := ⟨.hbm, 109, rfl⟩
abbrev main_call2_v0 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_call3_v0 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== Proof.RetMath.lean ====
module

public import Mathlib.Analysis.SpecialFunctions.Exp
public import Mathlib.Data.EReal.Operations

@[expose] public section

noncomputable section

/-! # The retention's gradient over the real numbers, by chunks

The sequence of 2176 rows is four chunks of 544. With `l` the logarithm of a head's decay, row `i` attends to row `j ≤ i`
with the weight `exp (l * (i - j))`. Inside a chunk the weight is `tri`; between a chunk and a later one it is the product of
`up` (the rows from the later chunk's first to `i`), a power of `chunk` and `dn` (the rows from `j` to its chunk's end). So the
gradient over all rows is the gradient inside the chunk and one product with a state carried over the chunks. -/

namespace Cert.Ret

open Finset

/-- Row `r` of chunk `n`. -/
def row (n : Fin 4) (r : Fin 544) : Fin 2176 := ⟨544 * n.val + r.val, by omega⟩

/-- Every row is a row of a chunk. -/
theorem exists_row (i : Fin 2176) : ∃ n r, i = row n r :=
  ⟨⟨i.val / 544, by omega⟩, ⟨i.val % 544, by omega⟩, Fin.ext (by simp only [row]; omega)⟩

/-- A sum over the rows is a sum over the chunks and the rows of a chunk. -/
theorem sum_rows {M : Type} [AddCommMonoid M] (f : Fin 2176 → M) : ∑ j, f j = ∑ n : Fin 4, ∑ r : Fin 544, f (row n r) := by
  rw [← Fintype.sum_prod_type']
  refine (Fintype.sum_equiv (finProdFinEquiv (m := 4) (n := 544)) _ _ fun p => ?_).symm
  congr 1
  apply Fin.ext
  show 544 * p.1.val + p.2.val = p.2.val + 544 * p.1.val
  omega

/-- The weight of row `j` in row `i`. -/
def decay (l : ℝ) (i j : Fin 2176) : ℝ := if j.val ≤ i.val then Real.exp (l * ((i.val : ℝ) - j.val)) else 0
/-- The weight of row `c` in row `r` of the same chunk, as the product of two exponentials. -/
def tri (l : ℝ) (r c : Fin 544) : ℝ := if c.val ≤ r.val then Real.exp (l * r.val) * Real.exp (-l * c.val) else 0
/-- The decay from the end of the chunk before to row `r`. -/
def up (l : ℝ) (r : Fin 544) : ℝ := Real.exp (l * (r.val + 1))
/-- The decay from row `c` to the end of its chunk. -/
def dn (l : ℝ) (c : Fin 544) : ℝ := Real.exp (l * (543 - c.val))
/-- The decay over a whole chunk. -/
def chunk (l : ℝ) : ℝ := Real.exp (l * 544)
/-- The decay over the chunks strictly between `m` and the later `n`. -/
def between (l : ℝ) (n m : Fin 4) : ℝ := if m < n then chunk l ^ (n.val - 1 - m.val) else 0

/-- The weight by chunks. -/
theorem decay_row (l : ℝ) (n m : Fin 4) (r c : Fin 544) :
    decay l (row n r) (row m c) = (if m = n then tri l r c else 0) + up l r * between l n m * dn l c := by
  show (if 544 * m.val + c.val ≤ 544 * n.val + r.val then
    Real.exp (l * (((544 * n.val + r.val : ℕ) : ℝ) - ((544 * m.val + c.val : ℕ) : ℝ))) else 0) = _
  rcases lt_trichotomy m n with h | h | h
  · have h' : m.val < n.val := h
    rw [if_pos (by omega), if_neg (ne_of_lt h), zero_add, between, if_pos h, up, dn, chunk, ← Real.exp_nat_mul, ← Real.exp_add, ← Real.exp_add]
    congr 1
    have e : ((n.val - 1 - m.val : ℕ) : ℝ) = (n.val : ℝ) - 1 - m.val := by
      rw [Nat.cast_sub (by omega), Nat.cast_sub (by omega)]; simp
    rw [e]
    push_cast
    ring
  · subst h
    rw [if_pos rfl, between, if_neg (lt_irrefl _), tri]
    by_cases hc : c.val ≤ r.val
    · rw [if_pos (by omega), if_pos hc, ← Real.exp_add]
      simp only [mul_zero, zero_mul, add_zero]
      congr 1
      push_cast
      ring
    · rw [if_neg (by omega), if_neg hc]
      simp
  · have h' : n.val < m.val := h
    rw [if_neg (by omega), if_neg (ne_of_gt h), between, if_neg (not_lt.mpr (le_of_lt h))]
    simp

/-- The state that the chunks before `n` leave: keys by values, decayed to the chunk's start. -/
def state (l : ℝ) (k v : Fin 2176 → ℝ) (n : Fin 4) : ℝ := ∑ m, between l n m * ∑ c, k (row m c) * dn l c * v (row m c)

/-- The gradient of the state that the chunks after `n` leave. -/
def gstate (l : ℝ) (q g : Fin 2176 → ℝ) (n : Fin 4) : ℝ := ∑ m, between l m n * ∑ r, q (row m r) * (up l r * g (row m r))

/-- The first chunk finds no state. -/
theorem state_zero (l : ℝ) (k v : Fin 2176 → ℝ) : state l k v 0 = 0 := by
  simp [state, between]

/-- The state's recurrence. -/
theorem state_succ (l : ℝ) (k v : Fin 2176 → ℝ) (n n' : Fin 4) (h : n'.val = n.val + 1) :
    state l k v n' = chunk l * state l k v n + ∑ c, k (row n c) * dn l c * v (row n c) := by
  fin_cases n <;> fin_cases n' <;> simp at h <;> simp [state, between, Fin.sum_univ_four] <;> ring

/-- The last chunk finds no gradient of the state. -/
theorem gstate_last (l : ℝ) (q g : Fin 2176 → ℝ) : gstate l q g 3 = 0 := by
  simp [gstate, between, Fin.sum_univ_four]

/-- The gradient's recurrence, from the last chunk to the first. -/
theorem gstate_pred (l : ℝ) (q g : Fin 2176 → ℝ) (n n' : Fin 4) (h : n'.val = n.val + 1) :
    gstate l q g n = chunk l * gstate l q g n' + ∑ r, q (row n' r) * (up l r * g (row n' r)) := by
  fin_cases n <;> fin_cases n' <;> simp at h <;> simp [gstate, between, Fin.sum_univ_four] <;> ring

/-- A sum over all rows against a weight that is `t` inside chunk `n` and a product outside it. -/
theorem sum_split (n : Fin 4) (f : Fin 4 → Fin 544 → ℝ) (t b : Fin 544 → ℝ) (w : Fin 4 → ℝ) :
    ∑ m, ∑ c, f m c * ((if m = n then t c else 0) + w m * b c) = ∑ c, f n c * t c + ∑ m, w m * ∑ c, f m c * b c := by
  simp only [mul_add, Finset.sum_add_distrib, Finset.mul_sum]
  congr 1
  · rw [Finset.sum_eq_single n (fun m _ hm => by simp [hm]) (by simp)]
    simp
  · exact Finset.sum_congr rfl fun m _ => Finset.sum_congr rfl fun c _ => by ring

variable {D V : Type} [Fintype D] [Fintype V]

/-- The gradient of a query: over all rows, and by chunks. -/
theorem dq_eq (l : ℝ) (k : Fin 2176 → D → ℝ) (v g : Fin 2176 → V → ℝ) (n : Fin 4) (r : Fin 544) (d : D) :
    ∑ j, (∑ x, g (row n r) x * v j x) * decay l (row n r) j * k j d
      = ∑ c, (∑ x, g (row n r) x * v (row n c) x) * tri l r c * k (row n c) d
        + up l r * ∑ x, g (row n r) x * state l (fun j => k j d) (fun j => v j x) n := by
  rw [sum_rows]
  have h1 : ∀ m c, (∑ x, g (row n r) x * v (row m c) x) * decay l (row n r) (row m c) * k (row m c) d
      = (∑ x, g (row n r) x * v (row m c) x) * k (row m c) d * ((if m = n then tri l r c else 0) + (up l r * between l n m) * dn l c) := by
    intro m c; rw [decay_row]; ring
  simp only [h1]
  rw [sum_split n (fun m c => (∑ x, g (row n r) x * v (row m c) x) * k (row m c) d) (tri l r) (dn l) (fun m => up l r * between l n m)]
  congr 1
  · exact Finset.sum_congr rfl fun c _ => by ring
  · simp only [state, Finset.mul_sum, Finset.sum_mul]
    rw [Finset.sum_comm (s := (Finset.univ : Finset V))]
    refine Finset.sum_congr rfl fun m _ => ?_
    rw [Finset.sum_comm]
    exact Finset.sum_congr rfl fun x _ => Finset.sum_congr rfl fun c _ => by ring

/-- The gradient of a key: over all rows, and by chunks. -/
theorem dk_eq (l : ℝ) (q : Fin 2176 → D → ℝ) (v g : Fin 2176 → V → ℝ) (n : Fin 4) (c : Fin 544) (d : D) :
    ∑ i, (∑ x, g i x * v (row n c) x) * decay l i (row n c) * q i d
      = ∑ r, (∑ x, g (row n r) x * v (row n c) x) * tri l r c * q (row n r) d
        + dn l c * ∑ x, v (row n c) x * gstate l (fun j => q j d) (fun j => g j x) n := by
  rw [sum_rows]
  have h1 : ∀ m r, (∑ x, g (row m r) x * v (row n c) x) * decay l (row m r) (row n c) * q (row m r) d
      = (∑ x, g (row m r) x * v (row n c) x) * q (row m r) d * ((if m = n then tri l r c else 0) + (between l m n * dn l c) * up l r) := by
    intro m r; rw [decay_row]; simp only [eq_comm (a := n)]; ring
  simp only [h1]
  rw [sum_split n (fun m r => (∑ x, g (row m r) x * v (row n c) x) * q (row m r) d) (fun r => tri l r c) (up l) (fun m => between l m n * dn l c)]
  congr 1
  · exact Finset.sum_congr rfl fun c _ => by ring
  · simp only [gstate, Finset.mul_sum, Finset.sum_mul]
    rw [Finset.sum_comm (s := (Finset.univ : Finset V))]
    refine Finset.sum_congr rfl fun m _ => ?_
    rw [Finset.sum_comm]
    exact Finset.sum_congr rfl fun x _ => Finset.sum_congr rfl fun c _ => by ring

/-- The gradient of a value: over all rows, and by chunks. -/
theorem dv_eq (l : ℝ) (q k : Fin 2176 → D → ℝ) (g : Fin 2176 → V → ℝ) (n : Fin 4) (c : Fin 544) (x : V) :
    ∑ i, (∑ d, q i d * k (row n c) d) * decay l i (row n c) * g i x
      = ∑ r, (∑ d, q (row n r) d * k (row n c) d) * tri l r c * g (row n r) x
        + ∑ d, (k (row n c) d * dn l c) * gstate l (fun j => q j d) (fun j => g j x) n := by
  rw [sum_rows]
  have h1 : ∀ m r, (∑ d, q (row m r) d * k (row n c) d) * decay l (row m r) (row n c) * g (row m r) x
      = (∑ d, q (row m r) d * k (row n c) d) * g (row m r) x * ((if m = n then tri l r c else 0) + (between l m n * dn l c) * up l r) := by
    intro m r; rw [decay_row]; simp only [eq_comm (a := n)]; ring
  simp only [h1]
  rw [sum_split n (fun m r => (∑ d, q (row m r) d * k (row n c) d) * g (row m r) x) (fun r => tri l r c) (up l) (fun m => between l m n * dn l c)]
  congr 1
  · exact Finset.sum_congr rfl fun c _ => by ring
  · simp only [gstate, Finset.mul_sum, Finset.sum_mul]
    rw [Finset.sum_comm (s := (Finset.univ : Finset D))]
    refine Finset.sum_congr rfl fun m _ => ?_
    rw [Finset.sum_comm]
    exact Finset.sum_congr rfl fun d _ => Finset.sum_congr rfl fun c _ => by ring

end Cert.Ret

end
-- ==== Proof.RetReal.lean ====
module

public import proofs.«01_k».proof.Proof.RetMath
public import Idealize.ShloMosaic.Lib.Pointwise

@[expose] public section

noncomputable section

/-! # Reals inside the extended reals

Sums, products, exponentials and logarithms of reals stay real, the constants the programs name are the reals they look
like, and a comparison of two row numbers is the comparison of the numbers. -/

namespace Cert.Ret

open Idealize.ShloMosaic

/-- A finite sum of reals is the real sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exponential of a real. -/
theorem exp_coe (r : ℝ) : Ideal.exp ((r : ℝ) : EReal) = ((Real.exp r : ℝ) : EReal) := rfl

/-- A small row number as a float. -/
theorem sitofp_ofNat (n : ℕ) (h : n < 2 ^ 31) :
    (FloatOps.sitofp .f32 (BitVec.ofNat 32 n) : Ideal .f32) = (((n : ℕ) : ℝ) : EReal) := by
  show (((BitVec.ofNat 32 n).toInt : ℝ) : EReal) = _
  have h : (BitVec.ofNat 32 n).toInt = (n : ℤ) := by
    rw [BitVec.toInt_eq_toNat_cond, BitVec.toNat_ofNat, Nat.mod_eq_of_lt (by omega), if_pos (by omega)]
  rw [h]; norm_cast

theorem ofBits_two : Ideal.ofBits .f32 0x40000000#32 = ((2 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul, -EReal.coe_neg]; norm_num
theorem ofBits_543 : Ideal.ofBits .f32 0x4407C000#32 = ((543 : ℝ) : EReal) := by
  simp [Ideal.ofBits, Ideal.ieee, -EReal.coe_mul]; norm_num
theorem ofBits_544 : Ideal.ofBits .f32 0x44080000#32 = ((544 : ℝ) : EReal) := by
  simp [Ideal.ofBits, Ideal.ieee, -EReal.coe_mul]; norm_num

/-- The logarithm of head `h`'s decay, `log (1 - 2 ^ (-5 - h))`. -/
def lgr (h : Fin 4) : ℝ := Real.log (1 - (2 : ℝ) ^ (-5 - (h.val : ℝ)))

/-- What the programs compute for it. -/
theorem lg_eq (h : Fin 4) : Ideal.log (1 - Ideal.pow ((2 : ℝ) : EReal) (((-5 : ℝ) : EReal) - (((h.val : ℕ) : ℝ) : EReal))) = ((lgr h : ℝ) : EReal) := by
  have h1 : (2 : ℝ) ^ (-5 - (h.val : ℝ)) < 1 :=
    Real.rpow_lt_one_of_one_lt_of_neg (by norm_num) (by have : (0 : ℝ) ≤ h.val := Nat.cast_nonneg _; linarith)
  have h2 : Ideal.pow ((2 : ℝ) : EReal) (((-5 : ℝ) : EReal) - (((h.val : ℕ) : ℝ) : EReal)) = (((2 : ℝ) ^ (-5 - (h.val : ℝ)) : ℝ) : EReal) := by
    rw [← EReal.coe_sub]; rfl
  rw [h2, show (1 : EReal) = ((1 : ℝ) : EReal) from by norm_cast, ← EReal.coe_sub]
  show (if _ ≤ (0 : ℝ) then (⊥ : EReal) else _) = _
  rw [if_neg (by linarith)]
  rfl

/-- A signed comparison of two small row numbers. -/
theorem select_sge {α : Type} (r c : ℕ) (hr : r < 2 ^ 31) (hc : c < 2 ^ 31) (x y : α) :
    Scalar.select (IntOp.cmpi .sge (BitVec.ofNat 32 r) (BitVec.ofNat 32 c)) x y = if c ≤ r then x else y := by
  have h1 : (BitVec.ofNat 32 r).toInt = (r : ℤ) := by
    rw [BitVec.toInt_eq_toNat_cond, BitVec.toNat_ofNat, Nat.mod_eq_of_lt (by omega), if_pos (by omega)]
  have h2 : (BitVec.ofNat 32 c).toInt = (c : ℤ) := by
    rw [BitVec.toInt_eq_toNat_cond, BitVec.toNat_ofNat, Nat.mod_eq_of_lt (by omega), if_pos (by omega)]
  by_cases h : c ≤ r
  · simp [Scalar.select, IntOp.cmpi, BitVec.sle, h1, h2, h]
  · simp [Scalar.select, IntOp.cmpi, BitVec.sle, h1, h2, h]

/-- A comparison of two reals. -/
theorem select_oge {α : Type} (a b : ℝ) (x y : α) :
    Scalar.select (FloatOps.cmpf (F := Ideal) (φ := .f32) .oge ((a : ℝ) : EReal) ((b : ℝ) : EReal)) x y = if b ≤ a then x else y := by
  show Scalar.select (Ideal.cmp .oge ((a : ℝ) : EReal) ((b : ℝ) : EReal)) x y = _
  by_cases h : b ≤ a
  · simp [Scalar.select, Ideal.cmp, h]
  · simp [Scalar.select, Ideal.cmp, h]

end Cert.Ret

end
-- ==== Proof.RetStates.lean ====
module

public import proofs.«01_k».proof.Proof.Gen.KernelIdeal.Frame
public import proofs.«01_k».proof.Proof.RetReal

@[expose] public section

noncomputable section

/-! # The states the host prepares

The log decays and the states before each chunk, as the host's lines before the call leave them. -/

namespace Cert.KernelIdeal.RetStates

open Cert.KernelIdeal Cert.KernelIdeal.Gen Cert.Ret Idealize.ShloMosaic Idealize.ShloMosaic.TcCoe Idealize.SL.Sem

abbrev A (s : Shape) := Vec Ideal s .f32

/-- The log decays. -/
def lgT : A S4 :=
  Host.log (F := Ideal) (subf (F := Ideal) (φ := .f32) (broadcastInDim S4 ![] bcast_S_S4 (constant (F := Ideal) S_ .f32 0x3F800000#32)) (Host.powf (F := Ideal) (broadcastInDim S4 ![] bcast_S_S4 (constant (F := Ideal) S_ .f32 0x40000000#32))
    (subf (F := Ideal) (φ := .f32) (broadcastInDim S4 ![] bcast_S_S4 (constant (F := Ideal) S_ .f32 0xC0A00000#32)) (sitofp (F := Ideal) .f32 (iotaInDim S4 32 0)))))

/-- The decays from a row to its chunk's end. -/
def dnT : A S1x4x544x1 :=
  broadcastInDim S1x4x544x1 ![1, 2] bcast_S4x544_S1x4x544x1_1_2 (Host.exp (F := Ideal) (mulf
    (broadcastInDim S4x544 ![0, 1] bcast_S4x1_S4x544_0_1 (broadcastInDim S4x1 ![0] bcast_S4_S4x1_0 lgT))
    (broadcastInDim S4x544 ![0, 1] bcast_S1x544_S4x544_0_1 (broadcastInDim S1x544 ![1] bcast_S544_S1x544_1
      (subf (F := Ideal) (φ := .f32) (broadcastInDim S544 ![] bcast_S_S544 (constant (F := Ideal) S_ .f32 0x4407C000#32)) (sitofp (F := Ideal) .f32 (iotaInDim S544 32 0)))))))

/-- The decays over a chunk. -/
def chunkT : A S1x4x1x1 :=
  broadcastInDim S1x4x1x1 ![1] bcast_S4_S1x4x1x1_1 (Host.exp (F := Ideal) (mulf (F := Ideal) (φ := .f32) lgT (broadcastInDim S4 ![] bcast_S_S4 (constant (F := Ideal) S_ .f32 0x44080000#32))))

/-- The keys by heads. -/
def kT (k : A S2x2176x1024) : A S2x4x2176x256 :=
  transpose S2x4x2176x256 [0, 2, 1, 3] (shapeCast S2x2176x4x256 k shapeCasts_S2x2176x1024_S2x2176x4x256) transposes_S2x2176x4x256_S2x4x2176x256_0_2_1_3
/-- The values by heads. -/
def vT (p : A S2x2176x6144) : A S2x4x2176x512 :=
  transpose S2x4x2176x512 [0, 2, 1, 3] (shapeCast S2x2176x4x512 (extractStridedSlice S2x2176x2048 ![0, 0, 2048] p slices_S2x2176x6144_S2x2176x2048_0_0_2048)
    shapeCasts_S2x2176x2048_S2x2176x4x512) transposes_S2x2176x4x512_S2x4x2176x512_0_2_1_3

/-- One chunk's update of the state. -/
def upd (s : A S2x4x256x512) (kc : A S2x4x544x256) (vc : A S2x4x544x512) : A S2x4x256x512 :=
  addf (F := Ideal) (φ := .f32) (mulf (F := Ideal) (φ := .f32) (broadcastInDim S2x4x256x512 ![0, 1, 2, 3] bcast_S1x4x1x1_S2x4x256x512_0_1_2_3 chunkT) s)
    (Host.dotGeneral (F := Ideal) (φ₁ := .f32) (φ₂ := .f32) dot_S2x4x544x256_S2x4x544x512_S2x4x256x512_2_2_3_3_01_01 none
      (mulf (F := Ideal) (φ := .f32) kc (broadcastInDim S2x4x544x256 ![0, 1, 2, 3] bcast_S1x4x544x1_S2x4x544x256_0_1_2_3 dnT)) vc)

def s0 : A S2x4x256x512 := broadcastInDim S2x4x256x512 ![] bcast_S_S2x4x256x512 (constant (F := Ideal) S_ .f32 0x00000000#32)
def s1 (k : A S2x2176x1024) (p : A S2x2176x6144) : A S2x4x256x512 :=
  upd s0 (extractStridedSlice S2x4x544x256 ![0, 0, 0, 0] (kT k) slices_S2x4x2176x256_S2x4x544x256_0_0_0_0)
    (extractStridedSlice S2x4x544x512 ![0, 0, 0, 0] (vT p) slices_S2x4x2176x512_S2x4x544x512_0_0_0_0)
def s2 (k : A S2x2176x1024) (p : A S2x2176x6144) : A S2x4x256x512 :=
  upd (s1 k p) (extractStridedSlice S2x4x544x256 ![0, 0, 544, 0] (kT k) slices_S2x4x2176x256_S2x4x544x256_0_0_544_0)
    (extractStridedSlice S2x4x544x512 ![0, 0, 544, 0] (vT p) slices_S2x4x2176x512_S2x4x544x512_0_0_544_0)
def s3 (k : A S2x2176x1024) (p : A S2x2176x6144) : A S2x4x256x512 :=
  upd (s2 k p) (extractStridedSlice S2x4x544x256 ![0, 0, 1088, 0] (kT k) slices_S2x4x2176x256_S2x4x544x256_0_0_1088_0)
    (extractStridedSlice S2x4x544x512 ![0, 0, 1088, 0] (vT p) slices_S2x4x2176x512_S2x4x544x512_0_0_1088_0)

/-- A state as one of a stack. -/
def one (s : A S2x4x256x512) : A S2x4x1x256x512 := broadcastInDim S2x4x1x256x512 ![0, 1, 3, 4] bcast_S2x4x256x512_S2x4x1x256x512_0_1_3_4 s

/-- Four states as one array. -/
def stack (a b c d : A S2x4x1x256x512) : A S2x16x256x512 :=
  shapeCast S2x16x256x512 (concatenate S2x4x4x256x512 2 [⟨S2x4x1x256x512, a⟩, ⟨S2x4x1x256x512, b⟩, ⟨S2x4x1x256x512, c⟩, ⟨S2x4x1x256x512, d⟩]
    concatenates_S2x4x1x256x512_S2x4x1x256x512_S2x4x1x256x512_S2x4x1x256x512_S2x4x4x256x512_d2) shapeCasts_S2x4x4x256x512_S2x16x256x512

/-- The states of all chunks. -/
def statesT (k : A S2x2176x1024) (p : A S2x2176x6144) : A S2x16x256x512 := stack (one s0) (one (s1 k p)) (one (s2 k p)) (one (s3 k p))

variable (m : (ℓ : Loc nD τ sig) → Buf (Elt Ideal) ℓ)

theorem V_lg (c : Dev nD) : V m c main_v7 = lgT := by
  unfold_abbrev_sides
  after_results
  rfl

theorem V_states (c : Dev nD) : V m c main_v57 = statesT (m ((c : Thread nD τ).loc main_arg1)) (m ((c : Thread nD τ).loc main_arg2)) := by
  unfold_abbrev_sides
  simp only [StableHlo.after_cons, StableHlo.after_nil]
  refine Eq.trans (b := stack ?a ?b ?c ?d) ?h (congr (congr (congr (congrArg stack ?ha) ?hb) ?hc) ?hd)
  case h =>
    rw [StableHlo.reshape_result, StableHlo.nary4_result]
    rfl
  all_goals
    after_results_simp
    rfl

theorem lgT_at (h : Fin 4) : lgT (ix1 h) = ((lgr h : ℝ) : EReal) := by
  unfold lgT
  pointwise
  rw [ofBits_two, ofBits_neg_five, sitofp_ofNat _ (by omega)]
  exact lg_eq h

theorem dnT_at (h : Fin 4) (c : Fin 544) : dnT (ix4 0 h c 0) = ((dn (lgr h) c : ℝ) : EReal) := by
  unfold dnT
  pointwise
  rw [lgT_at, sitofp_ofNat _ (by omega), ofBits_543, ← EReal.coe_sub, ← EReal.coe_mul, exp_coe, dn]

theorem chunkT_at (h : Fin 4) : chunkT (ix4 0 h 0 0) = ((chunk (lgr h) : ℝ) : EReal) := by
  unfold chunkT
  pointwise
  rw [lgT_at, ofBits_544, ← EReal.coe_mul, exp_coe, chunk]

theorem upd_at (s : A S2x4x256x512) (kc : A S2x4x544x256) (vc : A S2x4x544x512) (b : Fin 2) (h : Fin 4) (d : Fin 256) (x : Fin 512) :
    upd s kc vc (ix4 b h d x) = ((chunk (lgr h) : ℝ) : EReal) * s (ix4 b h d x)
      + ∑ c, kc (ix4 b h c d) * ((dn (lgr h) c : ℝ) : EReal) * vc (ix4 b h c x) := by
  have hc := chunkT_at
  have hd := dnT_at
  unfold upd
  generalize chunkT = C at *
  generalize dnT = D at *
  pointwise
  simp only [hc, hd]

theorem stack_at (S0 S1 S2 S3 : A S2x4x256x512) (b : Fin 2) (h n : Fin 4) (d : Fin 256) (x : Fin 512) :
    stack (one S0) (one S1) (one S2) (one S3) (ix4 b ⟨h.val * 4 + n.val, by omega⟩ d x)
      = match n with | 0 => S0 (ix4 b h d x) | 1 => S1 (ix4 b h d x) | 2 => S2 (ix4 b h d x) | 3 => S3 (ix4 b h d x) := by
  unfold stack one
  pointwise
  fin_cases n <;> rfl

variable (k : S2x2176x1024.Idx → ℝ) (p : S2x2176x6144.Idx → ℝ)

/-- Head `h`'s keys of chunk rows starting at `o`, and its values. -/
theorem k_at (k : A S2x2176x1024) (b : Fin 2) (h : Fin 4) (i : Fin 2176) (d : Fin 256) : kT k (ix4 b h i d) = k (ix3 b i ⟨h.val * 256 + d.val, by omega⟩) := by
  unfold kT
  pointwise
theorem v_at (p : A S2x2176x6144) (b : Fin 2) (h : Fin 4) (i : Fin 2176) (x : Fin 512) : vT p (ix4 b h i x) = p (ix3 b i ⟨2048 + (h.val * 512 + x.val), by omega⟩) := by
  unfold vT
  pointwise

/-- Column `d` of head `h`'s keys. -/
def kc (k : S2x2176x1024.Idx → ℝ) (b : Fin 2) (h : Fin 4) (d : Fin 256) (j : Fin 2176) : ℝ := k (ix3 b j ⟨h.val * 256 + d.val, by omega⟩)
/-- Column `x` of head `h`'s values. -/
def vc (p : S2x2176x6144.Idx → ℝ) (b : Fin 2) (h : Fin 4) (x : Fin 512) (j : Fin 2176) : ℝ := p (ix3 b j ⟨2048 + (h.val * 512 + x.val), by omega⟩)

abbrev up (k : S2x2176x1024.Idx → ℝ) : A S2x2176x1024 := fun j => ((k j : ℝ) : EReal)
abbrev upp (p : S2x2176x6144.Idx → ℝ) : A S2x2176x6144 := fun j => ((p j : ℝ) : EReal)

theorem s0_at (b : Fin 2) (h : Fin 4) (d : Fin 256) (x : Fin 512) : s0 (ix4 b h d x) = ((state (lgr h) (kc k b h d) (vc p b h x) 0 : ℝ) : EReal) := by
  rw [state_zero]
  unfold s0
  pointwise
  rfl

theorem s1_at (b : Fin 2) (h : Fin 4) (d : Fin 256) (x : Fin 512) :
    s1 (up k) (upp p) (ix4 b h d x) = ((state (lgr h) (kc k b h d) (vc p b h x) 1 : ℝ) : EReal) := by
  rw [state_succ _ _ _ 0 1 rfl, s1, upd_at, s0_at k p]
  pointwise
  simp only [k_at, v_at, ← EReal.coe_mul, ← coe_sum, ← EReal.coe_add]
  simp [kc, vc, row]

theorem s2_at (b : Fin 2) (h : Fin 4) (d : Fin 256) (x : Fin 512) :
    s2 (up k) (upp p) (ix4 b h d x) = ((state (lgr h) (kc k b h d) (vc p b h x) 2 : ℝ) : EReal) := by
  rw [state_succ _ _ _ 1 2 rfl, s2, upd_at, s1_at]
  pointwise
  simp only [k_at, v_at, ← EReal.coe_mul, ← coe_sum, ← EReal.coe_add]
  rfl

theorem s3_at (b : Fin 2) (h : Fin 4) (d : Fin 256) (x : Fin 512) :
    s3 (up k) (upp p) (ix4 b h d x) = ((state (lgr h) (kc k b h d) (vc p b h x) 3 : ℝ) : EReal) := by
  rw [state_succ _ _ _ 2 3 rfl, s3, upd_at, s2_at]
  pointwise
  simp only [k_at, v_at, ← EReal.coe_mul, ← coe_sum, ← EReal.coe_add]
  rfl

/-- The prepared states are the states before the chunks. -/
theorem states_at (b : Fin 2) (h n : Fin 4) (d : Fin 256) (x : Fin 512) :
    statesT (up k) (upp p) (ix4 b ⟨h.val * 4 + n.val, by omega⟩ d x) = ((state (lgr h) (kc k b h d) (vc p b h x) n : ℝ) : EReal) := by
  rw [statesT, stack_at]
  fin_cases n
  · exact s0_at k p b h d x
  · exact s1_at k p b h d x
  · exact s2_at k p b h d x
  · exact s3_at k p b h d x

end Cert.KernelIdeal.RetStates

end
-- ==== Proof.RetBlocks.lean ====
module

public import proofs.«01_k».proof.Proof.RetStates
public import proofs.«01_k».proof.Proof.Gen.KernelIdeal.Value

@[expose] public section

noncomputable section

/-! # The blocks of the retention gradient's grid

The grid runs over the sequences, the heads and, last chunk first, the chunks of a sequence; `pt b h n` is the point that handles
chunk `n` of head `h` of sequence `b`.  Each input block at that point, as elements of the array it is cut from. -/

namespace Cert.KernelIdeal.RetBlocks

open Cert.KernelIdeal Cert.KernelIdeal.Gen Cert.Ret Cert.KernelIdeal.RetStates Idealize.ShloMosaic Idealize.ShloMosaic.TcCoe Idealize.SL.Sem

/-- The point of a chunk. -/
def pt (b : Fin 2) (h n : Fin 4) : Fin cfg0.N := ⟨16 * b.val + 4 * h.val + (3 - n.val), by rw [show cfg0.N = 32 from N_0]; omega⟩

theorem idx1 : ∀ (b : Fin 2) (h n : Fin 4), win0_1.index (pt b h n) = ![b.val, n.val, h.val] := by decide +kernel
theorem idx2 : ∀ (b : Fin 2) (h n : Fin 4), win0_2.index (pt b h n) = ![b.val, n.val, h.val] := by decide +kernel
theorem idx3 : ∀ (b : Fin 2) (h n : Fin 4), win0_3.index (pt b h n) = ![b.val, n.val, h.val + 4] := by decide +kernel
theorem idx4 : ∀ (b : Fin 2) (h n : Fin 4), win0_4.index (pt b h n) = ![b.val, h.val * 4 + n.val, 0, 0] := by decide +kernel
theorem idx5 : ∀ (b : Fin 2) (h n : Fin 4), win0_5.index (pt b h n) = ![b.val, n.val, h.val] := by decide +kernel
theorem idx6 : ∀ (b : Fin 2) (h n : Fin 4), win0_6.index (pt b h n) = ![b.val, n.val, h.val] := by decide +kernel
theorem idx7 : ∀ (b : Fin 2) (h n : Fin 4), win0_7.index (pt b h n) = ![b.val, n.val, h.val] := by decide +kernel
theorem idx8 : ∀ (b : Fin 2) (h n : Fin 4), win0_8.index (pt b h n) = ![b.val, n.val, h.val] := by decide +kernel
theorem head : ∀ (b : Fin 2) (h n : Fin 4), (grid0.coords (pt b h n) 1).val = h.val := by decide +kernel

variable {F : FTy → Type} [FloatOps F] (m : (ℓ : Loc nD τ sig) → Buf (Elt F) ℓ) (c : Dev nD) (b : Fin 2) (h n : Fin 4)

/-- A query block. -/
theorem blk1 (r : Fin 544) (d : Fin 256) :
    (iblk m c 1 (pt b h n) : Vec F S1x544x256 .f32) (ix3 0 r d) = m ((c : Thread nD τ).loc main_arg0) (ix3 b (row n r) ⟨h.val * 256 + d.val, by omega⟩) := by
  unfold iblk
  rw [View.read_apply]
  show V m c main_arg0 _ = _
  rw [V_main_arg0]
  congr 1
  funext a
  apply Fin.ext
  match a with
  | ⟨0, _⟩ => show win0_1.index (pt b h n) 0 * 1 + 1 * 0 = b.val; rw [idx1]; simp
  | ⟨1, _⟩ => show win0_1.index (pt b h n) 1 * 544 + 1 * r.val = 544 * n.val + r.val; rw [idx1]; simp; omega
  | ⟨2, _⟩ => show win0_1.index (pt b h n) 2 * 256 + 1 * d.val = h.val * 256 + d.val; rw [idx1]; simp

/-- A key block. -/
theorem blk2 (r : Fin 544) (d : Fin 256) :
    (iblk m c 2 (pt b h n) : Vec F S1x544x256 .f32) (ix3 0 r d) = m ((c : Thread nD τ).loc main_arg1) (ix3 b (row n r) ⟨h.val * 256 + d.val, by omega⟩) := by
  unfold iblk
  rw [View.read_apply]
  show V m c main_arg1 _ = _
  rw [V_main_arg1]
  congr 1
  funext a
  apply Fin.ext
  match a with
  | ⟨0, _⟩ => show win0_2.index (pt b h n) 0 * 1 + 1 * 0 = b.val; rw [idx2]; simp
  | ⟨1, _⟩ => show win0_2.index (pt b h n) 1 * 544 + 1 * r.val = 544 * n.val + r.val; rw [idx2]; simp; omega
  | ⟨2, _⟩ => show win0_2.index (pt b h n) 2 * 256 + 1 * d.val = h.val * 256 + d.val; rw [idx2]; simp

/-- A value block: the columns of `v` in the projection start at 2048. -/
theorem blk3 (r : Fin 544) (x : Fin 512) :
    (iblk m c 3 (pt b h n) : Vec F S1x544x512 .f32) (ix3 0 r x) = m ((c : Thread nD τ).loc main_arg2) (ix3 b (row n r) ⟨2048 + (h.val * 512 + x.val), by omega⟩) := by
  unfold iblk
  rw [View.read_apply]
  show V m c main_arg2 _ = _
  rw [V_main_arg2]
  congr 1
  funext a
  apply Fin.ext
  match a with
  | ⟨0, _⟩ => show win0_3.index (pt b h n) 0 * 1 + 1 * 0 = b.val; rw [idx3]; simp
  | ⟨1, _⟩ => show win0_3.index (pt b h n) 1 * 544 + 1 * r.val = 544 * n.val + r.val; rw [idx3]; simp; omega
  | ⟨2, _⟩ => show win0_3.index (pt b h n) 2 * 512 + 1 * x.val = 2048 + (h.val * 512 + x.val); rw [idx3]; simp; omega

/-- A state block. -/
theorem blk4 (d : Fin 256) (x : Fin 512) :
    (iblk m c 4 (pt b h n) : Vec F S1x1x256x512 .f32) (ix4 0 0 d x) = V m c main_v57 (ix4 b ⟨h.val * 4 + n.val, by omega⟩ d x) := by
  unfold iblk
  rw [View.read_apply]
  show V m c main_v57 _ = _
  congr 1
  funext a
  apply Fin.ext
  match a with
  | ⟨0, _⟩ => show win0_4.index (pt b h n) 0 * 1 + 1 * 0 = b.val; rw [idx4]; simp
  | ⟨1, _⟩ => show win0_4.index (pt b h n) 1 * 1 + 1 * 0 = h.val * 4 + n.val; rw [idx4]; simp
  | ⟨2, _⟩ => show win0_4.index (pt b h n) 2 * 256 + 1 * d.val = d.val; rw [idx4]; simp
  | ⟨3, _⟩ => show win0_4.index (pt b h n) 3 * 512 + 1 * x.val = x.val; rw [idx4]; simp

/-- A block of the output's gradient. -/
theorem blk5 (r : Fin 544) (x : Fin 512) :
    (iblk m c 5 (pt b h n) : Vec F S1x544x512 .f32) (ix3 0 r x) = m ((c : Thread nD τ).loc main_arg3) (ix3 b (row n r) ⟨h.val * 512 + x.val, by omega⟩) := by
  unfold iblk
  rw [View.read_apply]
  show V m c main_arg3 _ = _
  rw [V_main_arg3]
  congr 1
  funext a
  apply Fin.ext
  match a with
  | ⟨0, _⟩ => show win0_5.index (pt b h n) 0 * 1 + 1 * 0 = b.val; rw [idx5]; simp
  | ⟨1, _⟩ => show win0_5.index (pt b h n) 1 * 544 + 1 * r.val = 544 * n.val + r.val; rw [idx5]; simp; omega
  | ⟨2, _⟩ => show win0_5.index (pt b h n) 2 * 512 + 1 * x.val = h.val * 512 + x.val; rw [idx5]; simp

/-- The table of log decays is read whole. -/
theorem blk0 (t : Fin cfg0.N) (j : Fin 4) : (iblk m c 0 t : Vec F S4 .f32) (ix1 j) = V m c main_v7 (ix1 j) := by
  unfold iblk
  rw [View.read_apply]
  show V m c main_v7 _ = _
  congr 1
  funext a
  apply Fin.ext
  match a with
  | ⟨0, _⟩ => show 0 * 4 + 1 * j.val = j.val; omega

end Cert.KernelIdeal.RetBlocks

end
-- ==== Proof.RetRun.lean ====
module

public import proofs.«01_k».proof.Proof.Gen.KernelIdeal.Value
public import Idealize.ShloMosaic.Lib.Pointwise

@[expose] public section

noncomputable section

/-! # What one grid point of the retention's gradient leaves in its outputs and in the carried state

The body's stores, read back as the payloads of the point's input blocks `x0 … x5` and of the carried state `xs`
(the zero block at a row's first point). -/

namespace Cert.KernelIdeal.RetRun

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The head's log decay, read from the table at the grid's head coordinate. -/
def lgAt (x0 : Vec F S4 .f32) (i : grid0.Coords) : F .f32 := x0 (ix1 (⟨(i 1).val, (i 1).isLt⟩ : Fin 4))

/-- The table's word at the head coordinate is `lgAt`. -/
theorem ld_lgAt (x0 : Vec F S4 .f32) (i : grid0.Coords) (j : S1.Idx) :
    View.ld x0 (Rect.unit (s := S4) (k0_off1 i) S1.size (k0_off1_inb i)) j = lgAt x0 i := by
  have hi : (i 1).val < 4 := (i 1).isLt
  have hj : (j 0).val = 0 := by have := (j 0).isLt; simp at this; omega
  show x0 _ = x0 _
  congr 1
  funext a
  match a with
  | ⟨0, _⟩ =>
    apply Fin.ext
    show BitVec.toNat (Scalar.indexCast (BitVec.ofNat 32 (i 1).val)) + 1 * (j 0).val = (i 1).val
    have := congrFun (k0_off1_eq i) 0
    rw [hj]
    exact this

/-- The block of the gradient of `q`. -/
def dqOf (l : F .f32) (x2 : Vec F S1x544x256 .f32) (x3 x5 : Vec F S1x544x512 .f32) (x4 : Vec F S1x1x256x512 .f32) : Vec F S1x544x256 .f32 :=
  k0_pay16 (k0_pay6 l) (k0_pay7 l) (k0_pay11 x2) x3 x5 x4
/-- The block of the gradient of `k`. -/
def dkOf (l : F .f32) (x1 : Vec F S1x544x256 .f32) (x3 x5 : Vec F S1x544x512 .f32) (xs : Vec F S256x512 .f32) : Vec F S1x544x256 .f32 :=
  k0_pay1 (k0_pay17 (k0_pay6 l) (k0_pay8 l) (k0_pay10 x1) x3 x5 xs)
/-- The block of the gradient of `v`. -/
def dvOf (l : F .f32) (x1 x2 : Vec F S1x544x256 .f32) (x5 : Vec F S1x544x512 .f32) (xs : Vec F S256x512 .f32) : Vec F S1x544x512 .bf16 :=
  k0_pay2 (k0_pay8 l) (k0_pay11 x2) (k0_pay13 x5) xs (k0_pay14 (k0_pay6 l) (k0_pay10 x1) (k0_pay11 x2))
/-- The state's gradient that the point leaves to the next. -/
def dsOf (l : F .f32) (x1 : Vec F S1x544x256 .f32) (x5 : Vec F S1x544x512 .f32) (xs : Vec F S256x512 .f32) : Vec F S256x512 .f32 :=
  k0_pay3 (k0_pay7 l) (k0_pay9 l) (k0_pay10 x1) (k0_pay13 x5) xs

theorem out0_A_6_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) :
    out0_A_6 c i arg3 harg3 arg4 harg4 arg5 harg5 arg6 harg6 arg7 harg7 arg8 harg8 arg9 harg9 arg10 harg10 arg11 harg11 arg12 harg12 hc0 x0 x1 x2 x3 x4 x5 = dqOf (lgAt x0 i) x2 x3 x5 x4 := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  first
    | rw [View.canon_unit_zero hz2]
    | rw [View.canon_unit_zero hz3]
    | rw [View.canon_cons_unit_zero (S := S256x512) hz2]
  simp only [View.readAt_eq_ld, harg3.read_unread, harg4.read_unread, harg5.read_unread, harg6.read_unread, harg7.read_unread, harg8.read_unread,
    View.readCov_unit_zero (S := S256x512) _ hz2,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem out0_A_7_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) :
    out0_A_7 c i arg3 harg3 arg4 harg4 arg5 harg5 arg6 harg6 arg7 harg7 arg8 harg8 arg9 harg9 arg10 harg10 arg11 harg11 arg12 harg12 hc0 x0 x1 x2 x3 x4 x5 = dkOf (lgAt x0 i) x1 x3 x5 (k0_pay4 (F := F)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  first
    | rw [View.canon_unit_zero hz2]
    | rw [View.canon_unit_zero hz3]
    | rw [View.canon_cons_unit_zero (S := S256x512) hz2]
  simp only [View.readAt_eq_ld, harg3.read_unread, harg4.read_unread, harg5.read_unread, harg6.read_unread, harg7.read_unread, harg8.read_unread,
    View.readCov_unit_zero (S := S256x512) _ hz2,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem out0_A_8_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) :
    out0_A_8 c i arg3 harg3 arg4 harg4 arg5 harg5 arg6 harg6 arg7 harg7 arg8 harg8 arg9 harg9 arg10 harg10 arg11 harg11 arg12 harg12 hc0 x0 x1 x2 x3 x4 x5 = dvOf (lgAt x0 i) x1 x2 x5 (k0_pay4 (F := F)) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  first
    | rw [View.canon_unit_zero hz2]
    | rw [View.canon_unit_zero hz3]
    | rw [View.canon_cons_unit_zero (S := S256x512) hz2]
  simp only [View.readAt_eq_ld, harg3.read_unread, harg4.read_unread, harg5.read_unread, harg6.read_unread, harg7.read_unread, harg8.read_unread,
    View.readCov_unit_zero (S := S256x512) _ hz2,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem sout0_A_0_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) :
    sout0_A_0 c i arg3 harg3 arg4 harg4 arg5 harg5 arg6 harg6 arg7 harg7 arg8 harg8 arg9 harg9 arg10 harg10 arg11 harg11 arg12 harg12 hc0 x0 x1 x2 x3 x4 x5 = dsOf (lgAt x0 i) x1 x5 (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  first
    | rw [View.canon_unit_zero hz2]
    | rw [View.canon_unit_zero hz3]
    | rw [View.canon_cons_unit_zero (S := S256x512) hz2]
  simp only [View.readAt_eq_ld, harg3.read_unread, harg4.read_unread, harg5.read_unread, harg6.read_unread, harg7.read_unread, harg8.read_unread,
    View.readCov_unit_zero (S := S256x512) _ hz2,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem out0_B_6_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : ¬cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) (xs0 : Vec F S256x512 .f32) :
    out0_B_6 c i arg3 harg3 arg4 harg4 arg5 harg5 arg6 harg6 arg7 harg7 arg8 harg8 arg9 harg9 arg10 harg10 arg11 harg11 arg12 harg12 hc0 x0 x1 x2 x3 x4 x5 xs0 = dqOf (lgAt x0 i) x2 x3 x5 x4 := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 x0 x1 x2 x3 x4 x5 xs0)]
  unfold kernelRun0_B
  dsimp only
  sl_unfold_words
  first
    | rw [View.canon_unit_zero hz2]
    | rw [View.canon_unit_zero hz3]
  simp only [View.readAt_eq_ld, harg3.read_unread, harg4.read_unread, harg5.read_unread, harg6.read_unread, harg7.read_unread, harg8.read_unread, harg12.read_unread,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem out0_B_7_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : ¬cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) (xs0 : Vec F S256x512 .f32) :
    out0_B_7 c i arg3 harg3 arg4 harg4 arg5 harg5 arg6 harg6 arg7 harg7 arg8 harg8 arg9 harg9 arg10 harg10 arg11 harg11 arg12 harg12 hc0 x0 x1 x2 x3 x4 x5 xs0 = dkOf (lgAt x0 i) x1 x3 x5 xs0 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 xs0)]
  unfold kernelRun0_B
  dsimp only
  sl_unfold_words
  first
    | rw [View.canon_unit_zero hz2]
    | rw [View.canon_unit_zero hz3]
  simp only [View.readAt_eq_ld, harg3.read_unread, harg4.read_unread, harg5.read_unread, harg6.read_unread, harg7.read_unread, harg8.read_unread, harg12.read_unread,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem out0_B_8_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : ¬cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) (xs0 : Vec F S256x512 .f32) :
    out0_B_8 c i arg3 harg3 arg4 harg4 arg5 harg5 arg6 harg6 arg7 harg7 arg8 harg8 arg9 harg9 arg10 harg10 arg11 harg11 arg12 harg12 hc0 x0 x1 x2 x3 x4 x5 xs0 = dvOf (lgAt x0 i) x1 x2 x5 xs0 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 x0 x1 x2 x3 x4 x5 xs0)]
  unfold kernelRun0_B
  dsimp only
  sl_unfold_words
  first
    | rw [View.canon_unit_zero hz2]
    | rw [View.canon_unit_zero hz3]
  simp only [View.readAt_eq_ld, harg3.read_unread, harg4.read_unread, harg5.read_unread, harg6.read_unread, harg7.read_unread, harg8.read_unread, harg12.read_unread,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

theorem sout0_B_0_eq (c : Dev nD) (i : grid0.Coords) (arg3 : Memref sig .tc .smem S4 .f32) (harg3 : arg3.IsWhole) (arg4 : Memref sig .tc .vmem S1x544x256 .f32) (harg4 : arg4.IsWhole) (arg5 : Memref sig .tc .vmem S1x544x256 .f32) (harg5 : arg5.IsWhole) (arg6 : Memref sig .tc .vmem S1x544x512 .f32) (harg6 : arg6.IsWhole) (arg7 : Memref sig .tc .vmem S1x1x256x512 .f32) (harg7 : arg7.IsWhole) (arg8 : Memref sig .tc .vmem S1x544x512 .f32) (harg8 : arg8.IsWhole) (arg9 : Memref sig .tc .vmem S1x544x256 .f32) (harg9 : arg9.IsWhole) (arg10 : Memref sig .tc .vmem S1x544x256 .f32) (harg10 : arg10.IsWhole) (arg11 : Memref sig .tc .vmem S1x544x512 .bf16) (harg11 : arg11.IsWhole) (arg12 : Memref sig .tc .vmem S256x512 .f32) (harg12 : arg12.IsWhole) (hc0 : ¬cond0_0 i)
    (x0 : Vec F S4 .f32) (x1 : Vec F S1x544x256 .f32) (x2 : Vec F S1x544x256 .f32) (x3 : Vec F S1x544x512 .f32) (x4 : Vec F S1x1x256x512 .f32) (x5 : Vec F S1x544x512 .f32) (xs0 : Vec F S256x512 .f32) :
    sout0_B_0 c i arg3 harg3 arg4 harg4 arg5 harg5 arg6 harg6 arg7 harg7 arg8 harg8 arg9 harg9 arg10 harg10 arg11 harg11 arg12 harg12 hc0 x0 x1 x2 x3 x4 x5 xs0 = dsOf (lgAt x0 i) x1 x5 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 x0 x1 x2 x3 x4 x5 xs0)]
  unfold kernelRun0_B
  dsimp only
  sl_unfold_words
  first
    | rw [View.canon_unit_zero hz2]
    | rw [View.canon_unit_zero hz3]
  simp only [View.readAt_eq_ld, harg3.read_unread, harg4.read_unread, harg5.read_unread, harg6.read_unread, harg7.read_unread, harg8.read_unread, harg12.read_unread,
    View.ld_unit_zero (S := S256x512) hz2, View.ld_unit_zero (S := S1x544x256) hz3, View.ld_unit_zero (S := S1x544x512) hz3, View.ld_unit_zero (S := S1x1x256x512) hz4]
  rw [← ld_lgAt x0 i (Shape.Idx.first (by decide))]
  rfl

end Cert.KernelIdeal.RetRun

end
-- ==== Proof.RetBody.lean ====
module

public import proofs.«01_k».proof.Proof.RetRun
public import proofs.«01_k».proof.Proof.RetReal

@[expose] public section

noncomputable section

/-! # What one grid point computes, over the reals

The point's blocks hold reals: `q`, `k` (544 rows of 256), `v`, `g` (544 rows of 512; `g` the gradient of the output), the
state `s` before the chunk, the gradient `ds` of the state after it. -/

namespace Cert.KernelIdeal.RetBody

open Cert.KernelIdeal Cert.KernelIdeal.Gen Cert.KernelIdeal.RetRun Cert.Ret Idealize.ShloMosaic

variable (l : ℝ)

/-- The weights inside a chunk. -/
theorem tri_apply (r c : Fin 544) : k0_pay6 (F := Ideal) ((l : ℝ) : EReal) (ix2 r c) = ((tri l r c : ℝ) : EReal) := by
  unfold_payloads
  pointwise
  rw [sitofp_ofNat _ (by omega), sitofp_ofNat _ (by omega), select_sge _ _ (by omega) (by omega), tri]
  rw [show (0 : EReal) = ((0 : ℝ) : EReal) from rfl, ← EReal.coe_sub, ← EReal.coe_mul, ← EReal.coe_mul, exp_coe, exp_coe, ← EReal.coe_mul, zero_sub]
  split <;> rfl

/-- The decay up to a row. -/
theorem up_apply (r : Fin 544) : k0_pay7 (F := Ideal) ((l : ℝ) : EReal) (ix2 r 0) = ((up l r : ℝ) : EReal) := by
  unfold_payloads
  pointwise
  rw [sitofp_ofNat _ (by omega), show (1 : EReal) = ((1 : ℝ) : EReal) from by norm_cast, ← EReal.coe_add, ← EReal.coe_mul, exp_coe, up]

/-- The decay from a row to the chunk's end. -/
theorem dn_apply (r : Fin 544) : k0_pay8 (F := Ideal) ((l : ℝ) : EReal) (ix2 r 0) = ((dn l r : ℝ) : EReal) := by
  unfold_payloads
  pointwise
  rw [sitofp_ofNat _ (by omega), ofBits_543, ← EReal.coe_sub, ← EReal.coe_mul, exp_coe, dn]

/-- The decay over a chunk. -/
theorem chunk_apply : k0_pay9 (F := Ideal) ((l : ℝ) : EReal) = ((chunk l : ℝ) : EReal) := by
  unfold_payloads
  pointwise
  rw [ofBits_544, ← EReal.coe_mul]
  rfl

variable {x1 x2 : Vec Ideal S1x544x256 .f32} {x3 x5 : Vec Ideal S1x544x512 .f32} {x4 : Vec Ideal S1x1x256x512 .f32} {xs : Vec Ideal S256x512 .f32}
variable {q k : Fin 544 → Fin 256 → ℝ} {v g : Fin 544 → Fin 512 → ℝ} {s ds : Fin 256 → Fin 512 → ℝ}

/-- The gradient of a query row. -/
theorem dqOf_apply (h2 : ∀ c d, x2 (ix3 0 c d) = ((k c d : ℝ) : EReal)) (h3 : ∀ c x, x3 (ix3 0 c x) = ((v c x : ℝ) : EReal))
    (h5 : ∀ c x, x5 (ix3 0 c x) = ((g c x : ℝ) : EReal)) (h4 : ∀ d x, x4 (ix4 0 0 d x) = ((s d x : ℝ) : EReal)) (r : Fin 544) (d : Fin 256) :
    dqOf ((l : ℝ) : EReal) x2 x3 x5 x4 (ix3 0 r d)
      = ((∑ c, (∑ x, g r x * v c x) * tri l r c * k c d + up l r * ∑ x, g r x * s d x : ℝ) : EReal) := by
  unfold dqOf
  have ht := tri_apply l
  have hu := up_apply l
  generalize k0_pay6 (F := Ideal) ((l : ℝ) : EReal) = T at *
  generalize k0_pay7 (F := Ideal) ((l : ℝ) : EReal) = U at *
  unfold_payloads
  pointwise
  simp only [ht, hu, h2, h3, h4, h5, ← EReal.coe_mul, ← EReal.coe_add, ← coe_sum]

/-- The gradient of a key row. -/
theorem dkOf_apply (h1 : ∀ c d, x1 (ix3 0 c d) = ((q c d : ℝ) : EReal)) (h3 : ∀ c x, x3 (ix3 0 c x) = ((v c x : ℝ) : EReal))
    (h5 : ∀ c x, x5 (ix3 0 c x) = ((g c x : ℝ) : EReal)) (hs : ∀ d x, xs (ix2 d x) = ((ds d x : ℝ) : EReal)) (c : Fin 544) (d : Fin 256) :
    dkOf ((l : ℝ) : EReal) x1 x3 x5 xs (ix3 0 c d)
      = ((∑ r, (∑ x, g r x * v c x) * tri l r c * q r d + dn l c * ∑ x, v c x * ds d x : ℝ) : EReal) := by
  unfold dkOf
  have ht := tri_apply l
  have hu := dn_apply l
  generalize k0_pay6 (F := Ideal) ((l : ℝ) : EReal) = T at *
  generalize k0_pay8 (F := Ideal) ((l : ℝ) : EReal) = U at *
  unfold_payloads
  pointwise
  simp only [ht, hu, h1, h3, hs, h5, ← EReal.coe_mul, ← EReal.coe_add, ← coe_sum]

/-- The gradient of a value row. -/
theorem dvOf_apply (h1 : ∀ c d, x1 (ix3 0 c d) = ((q c d : ℝ) : EReal)) (h2 : ∀ c d, x2 (ix3 0 c d) = ((k c d : ℝ) : EReal))
    (h5 : ∀ c x, x5 (ix3 0 c x) = ((g c x : ℝ) : EReal)) (hs : ∀ d x, xs (ix2 d x) = ((ds d x : ℝ) : EReal)) (c : Fin 544) (x : Fin 512) :
    dvOf ((l : ℝ) : EReal) x1 x2 x5 xs (ix3 0 c x)
      = ((∑ r, (∑ d, q r d * k c d) * tri l r c * g r x + ∑ d, (k c d * dn l c) * ds d x : ℝ) : EReal) := by
  unfold dvOf
  have ht := tri_apply l
  have hu := dn_apply l
  generalize k0_pay6 (F := Ideal) ((l : ℝ) : EReal) = T at *
  generalize k0_pay8 (F := Ideal) ((l : ℝ) : EReal) = U at *
  unfold_payloads
  pointwise
  simp only [ht, hu, h1, h2, hs, h5, ← EReal.coe_mul, ← EReal.coe_add, ← coe_sum]

/-- The gradient of the state that the point leaves to the chunk before. -/
theorem dsOf_apply (h1 : ∀ c d, x1 (ix3 0 c d) = ((q c d : ℝ) : EReal))
    (h5 : ∀ c x, x5 (ix3 0 c x) = ((g c x : ℝ) : EReal)) (hs : ∀ d x, xs (ix2 d x) = ((ds d x : ℝ) : EReal)) (d : Fin 256) (x : Fin 512) :
    dsOf ((l : ℝ) : EReal) x1 x5 xs (ix2 d x)
      = ((chunk l * ds d x + ∑ r, q r d * (up l r * g r x) : ℝ) : EReal) := by
  unfold dsOf
  have ht := chunk_apply l
  have hu := up_apply l
  generalize k0_pay9 (F := Ideal) ((l : ℝ) : EReal) = T at *
  generalize k0_pay7 (F := Ideal) ((l : ℝ) : EReal) = U at *
  unfold_payloads
  pointwise
  simp only [ht, hu, h1, hs, h5, ← EReal.coe_mul, ← EReal.coe_add, ← coe_sum]

/-- The carried gradient starts at zero. -/
theorem zero_apply (d : Fin 256) (x : Fin 512) : k0_pay4 (F := Ideal) (ix2 d x) = ((0 : ℝ) : EReal) := by
  unfold_payloads
  pointwise
  rfl

end Cert.KernelIdeal.RetBody

end
-- ==== Proof.RetValue.lean ====
module

public import proofs.«01_k».proof.Proof.RetBlocks
public import proofs.«01_k».proof.Proof.RetBody
public import proofs.«01_k».proof.Proof.RetMath

@[expose] public section

noncomputable section

/-! # The arrays the retention gradient leaves

At a chunk's point the body leaves the gradients of the chunk's rows, and in the carried state the gradient of the state before
the chunk.  Over real arguments, each of the three arrays holds at every element the sum over all rows of the sequence. -/

namespace Cert.KernelIdeal.RetValue

open Cert.KernelIdeal Cert.KernelIdeal.Gen Cert.KernelIdeal.Value Cert.Ret Cert.KernelIdeal.RetStates Cert.KernelIdeal.RetBlocks
open Cert.KernelIdeal.RetRun Cert.KernelIdeal.RetBody Idealize.ShloMosaic Idealize.ShloMosaic.TcCoe Idealize.SL.Sem

section points

variable {F : FTy → Type} [FloatOps F] (m : (ℓ : Loc nD τ sig) → Buf (Elt F) ℓ) (c : Dev nD) (b : Fin 2) (h n : Fin 4)

/-- The gradient of the state after a chunk, as its point finds it: zero at the last chunk, else what the point before left. -/
def found : Vec F S256x512 .f32 :=
  if n.val = 3 then k0_pay4 (F := F) else (outsAt0 m c ((pt b h n).val - 1) (Nat.lt_of_le_of_lt (Nat.sub_le _ _) (pt b h n).isLt)).2.2.2

theorem last_iff : (pt b h n).val % 4 = 0 ↔ n.val = 3 := by
  show (16 * b.val + 4 * h.val + (3 - n.val)) % 4 = 0 ↔ _
  omega

/-- What a point leaves, of its input blocks and the gradient it found. -/
theorem left (t : Fin cfg0.N) (ht : t = pt b h n) : outsAt0 m c t.val t.isLt
    = (dqOf (lgAt (iblk m c 0 t) (grid0.coords t)) (iblk m c 2 t) (iblk m c 3 t) (iblk m c 5 t) (iblk m c 4 t),
       dkOf (lgAt (iblk m c 0 t) (grid0.coords t)) (iblk m c 1 t) (iblk m c 3 t) (iblk m c 5 t) (found m c b h n),
       dvOf (lgAt (iblk m c 0 t) (grid0.coords t)) (iblk m c 1 t) (iblk m c 2 t) (iblk m c 5 t) (found m c b h n),
       dsOf (lgAt (iblk m c 0 t) (grid0.coords t)) (iblk m c 1 t) (iblk m c 5 t) (found m c b h n)) := by
  by_cases h3 : n.val = 3
  · rw [outsAt0_A m c t (by rw [ht]; exact (last_iff b h n).mpr h3), out0_A_6_eq, out0_A_7_eq, out0_A_8_eq, sout0_A_0_eq, found, if_pos h3]
  · rw [outsAt0_B m c t (by rw [ht]; exact fun e => h3 ((last_iff b h n).mp e)), out0_B_6_eq, out0_B_7_eq, out0_B_8_eq, sout0_B_0_eq, found, if_neg h3]
    subst ht
    rfl

/-- The last point of the one before finds what this one left. -/
theorem found_pred (n' : Fin 4) (hn : n'.val = n.val + 1) : found m c b h n = (outsAt0 m c (pt b h n').val (pt b h n').isLt).2.2.2 := by
  have e : (pt b h n).val - 1 = (pt b h n').val := by
    show 16 * b.val + 4 * h.val + (3 - n.val) - 1 = 16 * b.val + 4 * h.val + (3 - n'.val)
    omega
  rw [found, if_neg (by omega)]
  have e' : ∀ (a a' : ℕ) (ha : a < cfg0.N) (ha' : a' < cfg0.N), a = a' → outsAt0 m c a ha = outsAt0 m c a' ha' := by
    intro a a' ha ha' haa; subst haa; rfl
  rw [e' _ _ _ (pt b h n').isLt e]

/-- The array of the queries' gradient, element by element. -/
theorem arr6 (r : Fin 544) (d : Fin 256) : (dats m 0 c).arrAt 6 cfg0.N (ix3 b (row n r) ⟨h.val * 256 + d.val, by omega⟩)
    = (outsAt0 m c (pt b h n).val (pt b h n).isLt).1 (ix3 0 r d) := by
  have e := congrFun (blocks6 m c (pt b h n) (flush0_6 _)) (ix3 0 r d)
  rw [flushed6, View.read_apply] at e
  refine Eq.trans (congrArg _ ?_) e
  funext a
  apply Fin.ext
  match a with
  | ⟨0, _⟩ => show b.val = win0_6.index (pt b h n) 0 * 1 + 1 * 0; rw [idx6]; simp
  | ⟨1, _⟩ => show 544 * n.val + r.val = win0_6.index (pt b h n) 1 * 544 + 1 * r.val; rw [idx6]; simp; omega
  | ⟨2, _⟩ => show h.val * 256 + d.val = win0_6.index (pt b h n) 2 * 256 + 1 * d.val; rw [idx6]; simp

/-- The array of the keys' gradient, element by element. -/
theorem arr7 (r : Fin 544) (d : Fin 256) : (dats m 0 c).arrAt 7 cfg0.N (ix3 b (row n r) ⟨h.val * 256 + d.val, by omega⟩)
    = (outsAt0 m c (pt b h n).val (pt b h n).isLt).2.1 (ix3 0 r d) := by
  have e := congrFun (blocks7 m c (pt b h n) (flush0_7 _)) (ix3 0 r d)
  rw [flushed7, View.read_apply] at e
  refine Eq.trans (congrArg _ ?_) e
  funext a
  apply Fin.ext
  match a with
  | ⟨0, _⟩ => show b.val = win0_7.index (pt b h n) 0 * 1 + 1 * 0; rw [idx7]; simp
  | ⟨1, _⟩ => show 544 * n.val + r.val = win0_7.index (pt b h n) 1 * 544 + 1 * r.val; rw [idx7]; simp; omega
  | ⟨2, _⟩ => show h.val * 256 + d.val = win0_7.index (pt b h n) 2 * 256 + 1 * d.val; rw [idx7]; simp

/-- The array of the values' gradient, element by element. -/
theorem arr8 (r : Fin 544) (x : Fin 512) : (dats m 0 c).arrAt 8 cfg0.N (ix3 b (row n r) ⟨h.val * 512 + x.val, by omega⟩)
    = (outsAt0 m c (pt b h n).val (pt b h n).isLt).2.2.1 (ix3 0 r x) := by
  have e := congrFun (blocks8 m c (pt b h n) (flush0_8 _)) (ix3 0 r x)
  rw [flushed8, View.read_apply] at e
  refine Eq.trans (congrArg _ ?_) e
  funext a
  apply Fin.ext
  match a with
  | ⟨0, _⟩ => show b.val = win0_8.index (pt b h n) 0 * 1 + 1 * 0; rw [idx8]; simp
  | ⟨1, _⟩ => show 544 * n.val + r.val = win0_8.index (pt b h n) 1 * 544 + 1 * r.val; rw [idx8]; simp; omega
  | ⟨2, _⟩ => show h.val * 512 + x.val = win0_8.index (pt b h n) 2 * 512 + 1 * x.val; rw [idx8]; simp

end points

/-- Column `x` of head `h`, of the output's gradient. -/
def gc (g : S2x2176x2048.Idx → ℝ) (b : Fin 2) (h : Fin 4) (x : Fin 512) (j : Fin 2176) : ℝ := g (ix3 b j ⟨h.val * 512 + x.val, by omega⟩)

/-- The states depend on the projection through the values' columns alone. -/
theorem statesT_congr (k : A S2x2176x1024) (p p' : A S2x2176x6144)
    (hp : ∀ (b : Fin 2) (i : Fin 2176) (x : Fin 2048), p (ix3 b i ⟨2048 + x.val, by omega⟩) = p' (ix3 b i ⟨2048 + x.val, by omega⟩)) :
    statesT k p = statesT k p' := by
  have e : vT p = vT p' := by
    funext j
    obtain ⟨b, h, i, x, rfl⟩ : ∃ (b : Fin 2) (h : Fin 4) (i : Fin 2176) (x : Fin 512), j = ix4 b h i x := ⟨_, _, _, _, eq_ix4 j⟩
    rw [v_at, v_at]
    exact hp b i ⟨h.val * 512 + x.val, by omega⟩
  simp only [statesT, s3, s2, s1, e]

/-- The launch memory holds reals: the queries, the keys, the values' columns of the projection, the output's gradient. -/
structure Holds (m : (ℓ : Loc nD τ sig) → Buf (Elt Ideal) ℓ) (c : Dev nD) (q k : S2x2176x1024.Idx → ℝ) (p : S2x2176x6144.Idx → ℝ) (g : S2x2176x2048.Idx → ℝ) : Prop where
  hq : m ((c : Thread nD τ).loc main_arg0) = fun j => ((q j : ℝ) : EReal)
  hk : m ((c : Thread nD τ).loc main_arg1) = fun j => ((k j : ℝ) : EReal)
  hp : ∀ (b : Fin 2) (i : Fin 2176) (x : Fin 2048),
    m ((c : Thread nD τ).loc main_arg2) (ix3 b i ⟨2048 + x.val, by omega⟩) = ((p (ix3 b i ⟨2048 + x.val, by omega⟩) : ℝ) : EReal)
  hg : m ((c : Thread nD τ).loc main_arg3) = fun j => ((g j : ℝ) : EReal)

variable {m : (ℓ : Loc nD τ sig) → Buf (Elt Ideal) ℓ} {c : Dev nD} {q k : S2x2176x1024.Idx → ℝ} {p : S2x2176x6144.Idx → ℝ} {g : S2x2176x2048.Idx → ℝ}
variable (H : Holds m c q k p g) (b : Fin 2) (h n : Fin 4)
include H

theorem lg_pt : lgAt (iblk m c 0 (pt b h n) : Vec Ideal S4 .f32) (grid0.coords (pt b h n)) = ((lgr h : ℝ) : EReal) := by
  have e : (⟨(grid0.coords (pt b h n) 1).val, (grid0.coords (pt b h n) 1).isLt⟩ : Fin 4) = h := Fin.ext (head b h n)
  rw [lgAt, blk0, V_lg, e, lgT_at]

theorem q_pt (r : Fin 544) (d : Fin 256) : (iblk m c 1 (pt b h n) : Vec Ideal S1x544x256 .f32) (ix3 0 r d) = ((kc q b h d (row n r) : ℝ) : EReal) := by
  rw [blk1, H.hq]; rfl
theorem k_pt (r : Fin 544) (d : Fin 256) : (iblk m c 2 (pt b h n) : Vec Ideal S1x544x256 .f32) (ix3 0 r d) = ((kc k b h d (row n r) : ℝ) : EReal) := by
  rw [blk2, H.hk]; rfl
theorem v_pt (r : Fin 544) (x : Fin 512) : (iblk m c 3 (pt b h n) : Vec Ideal S1x544x512 .f32) (ix3 0 r x) = ((vc p b h x (row n r) : ℝ) : EReal) := by
  rw [blk3]; exact H.hp b (row n r) ⟨h.val * 512 + x.val, by omega⟩
theorem g_pt (r : Fin 544) (x : Fin 512) : (iblk m c 5 (pt b h n) : Vec Ideal S1x544x512 .f32) (ix3 0 r x) = ((gc g b h x (row n r) : ℝ) : EReal) := by
  rw [blk5, H.hg]; rfl
theorem s_pt (d : Fin 256) (x : Fin 512) :
    (iblk m c 4 (pt b h n) : Vec Ideal S1x1x256x512 .f32) (ix4 0 0 d x) = ((state (lgr h) (kc k b h d) (vc p b h x) n : ℝ) : EReal) := by
  rw [blk4, V_states, H.hk, statesT_congr _ _ (RetStates.upp p) H.hp]
  exact states_at k p b h n d x

/-- What a point finds is the gradient of the state after its chunk. -/
theorem found_at (n : Fin 4) (d : Fin 256) (x : Fin 512) : found m c b h n (ix2 d x) = ((gstate (lgr h) (kc q b h d) (gc g b h x) n : ℝ) : EReal) := by
  by_cases h3 : n.val = 3
  · obtain rfl : n = 3 := Fin.ext h3
    rw [found, if_pos h3, gstate_last]
    exact zero_apply d x
  · have hn : n.val + 1 < 4 := by omega
    rw [found_pred m c b h n ⟨n.val + 1, hn⟩ rfl, left m c b h ⟨n.val + 1, hn⟩ _ rfl, lg_pt H]
    dsimp only
    rw [dsOf_apply (lgr h) (q_pt H b h _) (g_pt H b h _) (found_at ⟨n.val + 1, hn⟩) d x, gstate_pred _ _ _ n ⟨n.val + 1, hn⟩ rfl]
termination_by 4 - n.val

/-- The queries' gradient. -/
theorem dq_val (i : Fin 2176) (d : Fin 256) : (dats m 0 c).arrAt 6 cfg0.N (ix3 b i ⟨h.val * 256 + d.val, by omega⟩)
    = ((∑ j, (∑ x, gc g b h x i * vc p b h x j) * decay (lgr h) i j * kc k b h d j : ℝ) : EReal) := by
  obtain ⟨n, r, rfl⟩ := exists_row i
  rw [arr6, left m c b h n _ rfl, lg_pt H]
  dsimp only
  rw [dqOf_apply (lgr h) (k_pt H b h n) (v_pt H b h n) (g_pt H b h n) (s_pt H b h n)]
  rw [dq_eq (lgr h) (fun j d => kc k b h d j) (fun j x => vc p b h x j) (fun j x => gc g b h x j)]

/-- The keys' gradient. -/
theorem dk_val (j : Fin 2176) (d : Fin 256) : (dats m 0 c).arrAt 7 cfg0.N (ix3 b j ⟨h.val * 256 + d.val, by omega⟩)
    = ((∑ i, (∑ x, gc g b h x i * vc p b h x j) * decay (lgr h) i j * kc q b h d i : ℝ) : EReal) := by
  obtain ⟨n, r, rfl⟩ := exists_row j
  rw [arr7, left m c b h n _ rfl, lg_pt H]
  dsimp only
  rw [dkOf_apply (lgr h) (q_pt H b h n) (v_pt H b h n) (g_pt H b h n) (found_at H b h n)]
  rw [dk_eq (lgr h) (fun j d => kc q b h d j) (fun j x => vc p b h x j) (fun j x => gc g b h x j)]

/-- The values' gradient. -/
theorem dv_val (j : Fin 2176) (x : Fin 512) : (dats m 0 c).arrAt 8 cfg0.N (ix3 b j ⟨h.val * 512 + x.val, by omega⟩)
    = ((∑ i, (∑ d, kc q b h d i * kc k b h d j) * decay (lgr h) i j * gc g b h x i : ℝ) : EReal) := by
  obtain ⟨n, r, rfl⟩ := exists_row j
  rw [arr8, left m c b h n _ rfl, lg_pt H]
  dsimp only
  rw [dvOf_apply (lgr h) (q_pt H b h n) (k_pt H b h n) (g_pt H b h n) (found_at H b h n)]
  rw [dv_eq (lgr h) (fun j d => kc q b h d j) (fun j d => kc k b h d j) (fun j x => gc g b h x j)]

end Cert.KernelIdeal.RetValue

end
-- ==== Proof.RetRef.lean ====
module

public import proofs.«01_k».proof.Proof.Gen.ReferenceIdeal.Read
public import proofs.«01_k».proof.Proof.RetReal

@[expose] public section

noncomputable section

/-! # What the reference computes, over the reals

The arguments hold reals; head `h` of a row is a block of its columns. -/

namespace Cert.ReferenceIdeal.RetRef

open Cert.ReferenceIdeal Cert.ReferenceIdeal.Read Cert.Ret Idealize.ShloMosaic

abbrev A (s : Shape) := (⟨s, .f32⟩ : BufTy).Contents (Elt Ideal)

theorem lg_at (h : Fin 4) : val_main_v15 (F := Ideal) (ix1 h) = ((lgr h : ℝ) : EReal) := by
  unfold val_main_v15 val_main_v14 val_main_v13 val_main_v12 val_main_v11 val_main_v10 val_main_v9 val_main_v8 val_main_cst_0 val_main_cst_1 val_main_cst_2
  pointwise
  rw [ofBits_two, ofBits_neg_five, sitofp_ofNat _ (by omega)]
  exact lg_eq h

theorem diff_at (i j : Fin 2176) : val_main_v21 (F := Ideal) (ix2 i j) = (((i.val : ℝ) - j.val : ℝ) : EReal) := by
  unfold val_main_v21 val_main_v20 val_main_v19 val_main_v18 val_main_v17 val_main_v16
  pointwise
  rw [sitofp_ofNat _ (by omega), sitofp_ofNat _ (by omega), EReal.coe_sub]

theorem decay_at (h : Fin 4) (i j : Fin 2176) : val_main_v32 (F := Ideal) (ix3 h i j) = ((decay (lgr h) i j : ℝ) : EReal) := by
  unfold val_main_v32 val_main_v31 val_main_v30 val_main_v29 val_main_v28 val_main_v27 val_main_v26 val_main_v25 val_main_v24
    val_main_call0_v2 val_main_call0_v1 val_main_v23 val_main_v22 val_main_call0_v0 val_main_cst_3 val_main_cst_4 val_main_cst_5
  pointwise
  simp only [diff_at, lg_at]
  have h0 : (id (constant (F := Ideal) S_ FTy.f32 0#32) ix0 : Ideal .f32) = ((0 : ℝ) : EReal) :=
    (Ideal.ofBits_zero_f32 : Ideal.ofBits .f32 0#32 = ((0 : ℝ) : EReal))
  rw [h0, decay]
  by_cases hij : j.val ≤ i.val
  · have hr : (0 : ℝ) ≤ (i.val : ℝ) - j.val := by rw [sub_nonneg]; exact_mod_cast hij
    rw [if_pos (by exact_mod_cast hr), if_pos hij, max_eq_left (by exact_mod_cast hr), ← EReal.coe_mul, exp_coe]
  · have hr : ¬ (0 : ℝ) ≤ (i.val : ℝ) - j.val := by rw [sub_nonneg]; exact_mod_cast hij
    rw [if_neg (by exact_mod_cast hr), if_neg hij]

variable (q k : S2x2176x1024.Idx → ℝ) (p : S2x2176x6144.Idx → ℝ) (g : S2x2176x2048.Idx → ℝ)

/-- Head `h`'s column `d` of an array of keys or queries. -/
def qkAt (q : S2x2176x1024.Idx → ℝ) (b : Fin 2) (h : Fin 4) (i : Fin 2176) (d : Fin 256) : ℝ := q (ix3 b i ⟨h.val * 256 + d.val, by omega⟩)
/-- Head `h`'s column `x` of the values. -/
def vAt (p : S2x2176x6144.Idx → ℝ) (b : Fin 2) (h : Fin 4) (i : Fin 2176) (x : Fin 512) : ℝ := p (ix3 b i ⟨2048 + (h.val * 512 + x.val), by omega⟩)
/-- Head `h`'s column `x` of the output's gradient. -/
def gAt (g : S2x2176x2048.Idx → ℝ) (b : Fin 2) (h : Fin 4) (i : Fin 2176) (x : Fin 512) : ℝ := g (ix3 b i ⟨h.val * 512 + x.val, by omega⟩)

theorem v5_at (x : A S2x2176x1024) (b : Fin 2) (h : Fin 4) (i : Fin 2176) (d : Fin 256) : val_main_v5 (F := Ideal) x (ix4 b h i d) = x (ix3 b i ⟨h.val * 256 + d.val, by omega⟩) := by
  unfold val_main_v5 val_main_v4
  pointwise
theorem v3_at (x : A S2x2176x1024) (b : Fin 2) (h : Fin 4) (i : Fin 2176) (d : Fin 256) : val_main_v3 (F := Ideal) x (ix4 b h i d) = x (ix3 b i ⟨h.val * 256 + d.val, by omega⟩) := by
  unfold val_main_v3 val_main_v2
  pointwise
theorem v7_at (x : A S2x2176x6144) (b : Fin 2) (h : Fin 4) (i : Fin 2176) (d : Fin 512) : val_main_v7 (F := Ideal) x (ix4 b h i d) = x (ix3 b i ⟨2048 + (h.val * 512 + d.val), by omega⟩) := by
  unfold val_main_v7 val_main_v6 val_main_v0
  pointwise
theorem v73_at (x : A S2x2176x2048) (b : Fin 2) (h : Fin 4) (i : Fin 2176) (d : Fin 512) : val_main_v73 (F := Ideal) x (ix4 b h i d) = x (ix3 b i ⟨h.val * 512 + d.val, by omega⟩) := by
  unfold val_main_v73 val_main_v72
  pointwise

theorem v90_at (k : A S2x2176x1024) (p : A S2x2176x6144) (g : A S2x2176x2048) (b : Fin 2) (h : Fin 4) (i : Fin 2176) (d : Fin 256) :
    val_main_v90 (F := Ideal) k p g (ix3 b i ⟨h.val * 256 + d.val, by omega⟩) = val_main_v84 (F := Ideal) k p g (ix4 b h i d) := by
  unfold val_main_v90 val_main_v89
  pointwise
theorem v88_at (q : A S2x2176x1024) (p : A S2x2176x6144) (g : A S2x2176x2048) (b : Fin 2) (h : Fin 4) (i : Fin 2176) (d : Fin 256) :
    val_main_v88 (F := Ideal) q p g (ix3 b i ⟨h.val * 256 + d.val, by omega⟩) = val_main_v82 (F := Ideal) q p g (ix4 b h i d) := by
  unfold val_main_v88 val_main_v87
  pointwise
theorem v91_at (q k : A S2x2176x1024) (g : A S2x2176x2048) (b : Fin 2) (h : Fin 4) (i : Fin 2176) (d : Fin 512) :
    val_main_v91 (F := Ideal) q k g (ix3 b i ⟨h.val * 512 + d.val, by omega⟩) = val_main_v78 (F := Ideal) q k g (ix4 b h i d) := by
  unfold val_main_v91 val_main_v86 val_main_v85
  pointwise

theorem dec_at (b : Fin 2) (h : Fin 4) (i j : Fin 2176) : val_main_v57 (F := Ideal) (ix4 b h i j) = ((decay (lgr h) i j : ℝ) : EReal) := by
  unfold val_main_v57 val_main_v56
  pointwise
  rw [decay_at]
theorem dec_at' (b : Fin 2) (h : Fin 4) (i j : Fin 2176) : val_main_v80 (F := Ideal) (ix4 b h i j) = ((decay (lgr h) i j : ℝ) : EReal) := by
  unfold val_main_v80 val_main_v56
  pointwise
  rw [decay_at]

/-- The decayed scores. -/
theorem sc_at (b : Fin 2) (h : Fin 4) (i j : Fin 2176) :
    val_main_v58 (F := Ideal) (fun j => ((q j : ℝ) : EReal)) (fun j => ((k j : ℝ) : EReal)) (ix4 b h i j)
      = (((∑ d, qkAt q b h i d * qkAt k b h j d) * decay (lgr h) i j : ℝ) : EReal) := by
  unfold val_main_v58 val_main_v55
  pointwise
  simp only [v3_at, v5_at, dec_at, ← EReal.coe_mul, ← coe_sum]
  rfl

/-- The decayed gradient of the scores. -/
theorem dsc_at (b : Fin 2) (h : Fin 4) (i j : Fin 2176) :
    val_main_v81 (F := Ideal) (fun j => ((p j : ℝ) : EReal)) (fun j => ((g j : ℝ) : EReal)) (ix4 b h i j)
      = (((∑ x, gAt g b h i x * vAt p b h j x) * decay (lgr h) i j : ℝ) : EReal) := by
  unfold val_main_v81 val_main_v79
  pointwise
  simp only [v73_at, v7_at, dec_at', ← EReal.coe_mul, ← coe_sum]
  rfl

/-- The gradient of the queries. -/
theorem dq_at (b : Fin 2) (h : Fin 4) (i : Fin 2176) (d : Fin 256) :
    val_main_v90 (F := Ideal) (fun j => ((k j : ℝ) : EReal)) (fun j => ((p j : ℝ) : EReal)) (fun j => ((g j : ℝ) : EReal)) (ix3 b i ⟨h.val * 256 + d.val, by omega⟩)
      = ((∑ j, (∑ x, gAt g b h i x * vAt p b h j x) * decay (lgr h) i j * qkAt k b h j d : ℝ) : EReal) := by
  rw [v90_at]
  unfold val_main_v84 val_main_v76 val_main_v83 val_main_v1 val_main_cst
  pointwise
  simp only [v5_at, dsc_at, ← EReal.coe_mul, ← coe_sum, mul_zero, Finset.sum_const_zero, zero_add]
  rfl

/-- The gradient of the keys. -/
theorem dk_at (b : Fin 2) (h : Fin 4) (i : Fin 2176) (d : Fin 256) :
    val_main_v88 (F := Ideal) (fun j => ((q j : ℝ) : EReal)) (fun j => ((p j : ℝ) : EReal)) (fun j => ((g j : ℝ) : EReal)) (ix3 b i ⟨h.val * 256 + d.val, by omega⟩)
      = ((∑ j, (∑ x, gAt g b h j x * vAt p b h i x) * decay (lgr h) j i * qkAt q b h j d : ℝ) : EReal) := by
  rw [v88_at]
  unfold val_main_v82
  pointwise
  simp only [v3_at, dsc_at, ← EReal.coe_mul, ← coe_sum]
  rfl

/-- The gradient of the values. -/
theorem dv_at (b : Fin 2) (h : Fin 4) (i : Fin 2176) (x : Fin 512) :
    val_main_v91 (F := Ideal) (fun j => ((q j : ℝ) : EReal)) (fun j => ((k j : ℝ) : EReal)) (fun j => ((g j : ℝ) : EReal)) (ix3 b i ⟨h.val * 512 + x.val, by omega⟩)
      = ((∑ j, (∑ d, qkAt q b h j d * qkAt k b h i d) * decay (lgr h) j i * gAt g b h j x : ℝ) : EReal) := by
  rw [v91_at]
  unfold val_main_v78 val_main_v77
  pointwise
  simp only [v73_at, sc_at, ← EReal.coe_mul, ← coe_sum]
  congr 1
  exact Finset.sum_congr rfl fun j _ => mul_comm _ _

end Cert.ReferenceIdeal.RetRef
end
-- ==== Proof.RetFinite.lean ====
module

public import proofs.«01_k».proof.Proof.Gen.Pre_finite_args
public import Idealize.ShloMosaic.Lib.Pointwise

@[expose] public section

noncomputable section

/-! # What the precondition says

An element whose absolute value is below infinity is a real. -/

namespace Cert.Ret

open Idealize.ShloMosaic Cert.Pre_finite_args

/-- An extended real of finite absolute value is the real it rounds to. -/
theorem real_of_finite (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  induction x using EReal.rec with
  | bot => exfalso; revert h; simp [FloatOps.cmpf, FloatOps.absf, FloatOps.ofBits, Ideal.cmp, Ideal.ofBits, Ideal.ieee]
  | coe r => rfl
  | top => exfalso; revert h; simp [FloatOps.cmpf, FloatOps.absf, FloatOps.ofBits, Ideal.cmp, Ideal.ofBits, Ideal.ieee]

variable [Facts] (q k : Vec Ideal S2x2176x1024 .f32) (p : Vec Ideal S2x2176x6144 .f32) (g : Vec Ideal S2x2176x2048 .f32)

theorem fn_q (h : (fn (F := Ideal) q k p g).1 = fun _ => 1#1) (j : S2x2176x1024.Idx) : q j = (((q j).toReal : ℝ) : EReal) :=
  real_of_finite _ (congrFun h j)
theorem fn_k (h : (fn (F := Ideal) q k p g).2.1 = fun _ => 1#1) (j : S2x2176x1024.Idx) : k j = (((k j).toReal : ℝ) : EReal) :=
  real_of_finite _ (congrFun h j)
theorem fn_p (h : (fn (F := Ideal) q k p g).2.2.1 = fun _ => 1#1) (b : Fin 2) (i : Fin 2176) (x : Fin 2048) :
    p (ix3 b i ⟨2048 + x.val, by omega⟩) = (((p (ix3 b i ⟨2048 + x.val, by omega⟩)).toReal : ℝ) : EReal) := by
  have e : ∀ y : EReal, p (ix3 b i ⟨2048 + x.val, by omega⟩) = y → FloatOps.cmpf (F := Ideal) (φ := .f32) .olt (FloatOps.absf (F := Ideal) (φ := .f32) y) (FloatOps.ofBits (F := Ideal) .f32 0x7F800000#32) = 1#1 → y = ((y.toReal : ℝ) : EReal) :=
    fun y _ => real_of_finite y
  refine e _ rfl ?_
  have h' := congrFun h (ix3 b i x)
  unfold fn at h'
  pointwise at h'
  exact h'
theorem fn_g (h : (fn (F := Ideal) q k p g).2.2.2 = fun _ => 1#1) (j : S2x2176x2048.Idx) : g j = (((g j).toReal : ℝ) : EReal) :=
  real_of_finite _ (congrFun h j)

end Cert.Ret

end
-- ==== Proof.RetAlgebra.lean ====
module

public import proofs.«01_k».proof.Defs
public import proofs.«01_k».proof.Proof.Gen.KernelIdeal
public import proofs.«01_k».proof.Proof.Gen.ReferenceIdeal
public import proofs.«01_k».proof.Proof.RetValue
public import proofs.«01_k».proof.Proof.RetRef
public import proofs.«01_k».proof.Proof.RetFinite
public import proofs.«01_k».proof.Proof.Gen.ReferenceIdeal.Run

@[expose] public section

noncomputable section

/-! # The retention's gradient: the kernel's arrays are the reference's -/

namespace Cert.RetAlgebra

open Idealize.ShloMosaic Idealize.ShloMosaic.TcCoe Idealize.SL.Sem Cert.Ret Cert.KernelIdeal.RetValue

/-- The reference reads the projection through the values' columns alone. -/
theorem v7_congr (p p' : Vec Ideal Cert.ReferenceIdeal.S2x2176x6144 .f32)
    (hp : ∀ (b : Fin 2) (i : Fin 2176) (x : Fin 2048), p (ix3 b i ⟨2048 + x.val, by omega⟩) = p' (ix3 b i ⟨2048 + x.val, by omega⟩)) :
    Cert.ReferenceIdeal.Read.val_main_v7 (F := Ideal) p = Cert.ReferenceIdeal.Read.val_main_v7 (F := Ideal) p' := by
  funext j
  obtain ⟨b, h, i, x, rfl⟩ : ∃ (b : Fin 2) (h : Fin 4) (i : Fin 2176) (x : Fin 512), j = ix4 b h i x := ⟨_, _, _, _, eq_ix4 j⟩
  rw [Cert.ReferenceIdeal.RetRef.v7_at, Cert.ReferenceIdeal.RetRef.v7_at]
  exact hp b i ⟨h.val * 512 + x.val, by omega⟩

variable {m : (ℓ : Loc Cert.KernelIdeal.nD Cert.KernelIdeal.τ Cert.KernelIdeal.sig) → Buf (Elt Ideal) ℓ} {c : Dev Cert.KernelIdeal.nD}
variable {q k : Cert.KernelIdeal.S2x2176x1024.Idx → ℝ} {p : Cert.KernelIdeal.S2x2176x6144.Idx → ℝ} {g : Cert.KernelIdeal.S2x2176x2048.Idx → ℝ}

/-- Columns of an array of 1024 are four heads' 256. -/
theorem exists_qk (j : Cert.KernelIdeal.S2x2176x1024.Idx) : ∃ (b : Fin 2) (h : Fin 4) (i : Fin 2176) (d : Fin 256), j = ix3 b i ⟨h.val * 256 + d.val, by omega⟩ := by
  obtain ⟨b, i, x, rfl⟩ : ∃ (b : Fin 2) (i : Fin 2176) (x : Fin 1024), j = ix3 b i x := ⟨_, _, _, eq_ix3 j⟩
  refine ⟨b, ⟨x.val / 256, by omega⟩, i, ⟨x.val % 256, by omega⟩, ?_⟩
  rw [ix3_inj]
  exact ⟨rfl, rfl, Fin.ext (by simp only; omega)⟩

/-- Columns of an array of 2048 are four heads' 512. -/
theorem exists_v (j : Cert.KernelIdeal.S2x2176x2048.Idx) : ∃ (b : Fin 2) (h : Fin 4) (i : Fin 2176) (x : Fin 512), j = ix3 b i ⟨h.val * 512 + x.val, by omega⟩ := by
  obtain ⟨b, i, x, rfl⟩ : ∃ (b : Fin 2) (i : Fin 2176) (x : Fin 2048), j = ix3 b i x := ⟨_, _, _, eq_ix3 j⟩
  refine ⟨b, ⟨x.val / 512, by omega⟩, i, ⟨x.val % 512, by omega⟩, ?_⟩
  rw [ix3_inj]
  exact ⟨rfl, rfl, Fin.ext (by simp only; omega)⟩

/-- The gradient of the queries. -/
theorem dq_same (H : Holds m c q k p g) : (Cert.KernelIdeal.Gen.dats m 0 c).arrAt 6 Cert.KernelIdeal.cfg0.N
    = Cert.ReferenceIdeal.Read.val_main_v90 (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3)) := by
  funext j
  obtain ⟨b, h, i, d, rfl⟩ := exists_qk j
  rw [dq_val H b h i d]
  have e := Cert.ReferenceIdeal.RetRef.dq_at k p g b h i d
  rw [← H.hk, ← H.hg] at e
  refine e.symm.trans (congrFun ?_ _)
  have e7 := v7_congr (fun j => ((p j : ℝ) : EReal)) (m ((c : Thread Cert.KernelIdeal.nD Cert.KernelIdeal.τ).loc Cert.KernelIdeal.main_arg2)) fun b i x => (H.hp b i x).symm
  open Cert.ReferenceIdeal.Read in
  unfold val_main_v90 val_main_v89 val_main_v84 val_main_v83 val_main_v81 val_main_v79
  rw [e7]

/-- The gradient of the keys. -/
theorem dk_same (H : Holds m c q k p g) : (Cert.KernelIdeal.Gen.dats m 0 c).arrAt 7 Cert.KernelIdeal.cfg0.N
    = Cert.ReferenceIdeal.Read.val_main_v88 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg2)) (m ((c : Thread Cert.KernelIdeal.nD Cert.KernelIdeal.τ).loc Cert.KernelIdeal.main_arg3)) := by
  funext j
  obtain ⟨b, h, i, d, rfl⟩ := exists_qk j
  rw [dk_val H b h i d]
  have e := Cert.ReferenceIdeal.RetRef.dk_at q p g b h i d
  rw [← H.hq, ← H.hg] at e
  refine e.symm.trans (congrFun ?_ _)
  have e7 := v7_congr (fun j => ((p j : ℝ) : EReal)) (m ((c : Thread Cert.KernelIdeal.nD Cert.KernelIdeal.τ).loc Cert.KernelIdeal.main_arg2)) fun b i x => (H.hp b i x).symm
  open Cert.ReferenceIdeal.Read in
  unfold val_main_v88 val_main_v87 val_main_v82 val_main_v81 val_main_v79
  rw [e7]

/-- The gradient of the values. -/
theorem dv_same (H : Holds m c q k p g) : (Cert.KernelIdeal.Gen.dats m 0 c).arrAt 8 Cert.KernelIdeal.cfg0.N
    = Cert.ReferenceIdeal.Read.val_main_v91 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)) (m ((c : Thread Cert.KernelIdeal.nD Cert.KernelIdeal.τ).loc Cert.KernelIdeal.main_arg3)) := by
  funext j
  obtain ⟨b, h, i, x, rfl⟩ := exists_v j
  rw [dv_val H b h i x]
  have e := Cert.ReferenceIdeal.RetRef.dv_at q k g b h i x
  rw [← H.hq, ← H.hk, ← H.hg] at e
  exact e.symm

/-- Under the precondition the launch memory holds reals. -/
theorem holds_of_pre (h : Cert.Pre_KernelIdeal_finite_args (hPre_finite_args := Cert.Pre_finite_args.Gen.facts) m) (c : Dev Cert.KernelIdeal.nD) :
    ∃ q k p g, Holds m c q k p g := by
  obtain ⟨h1, h2, h3, h4⟩ := h c
  exact ⟨fun j => (show EReal from m ((c : Thread Cert.KernelIdeal.nD Cert.KernelIdeal.τ).loc Cert.KernelIdeal.main_arg0) j).toReal,
    fun j => (show EReal from m ((c : Thread Cert.KernelIdeal.nD Cert.KernelIdeal.τ).loc Cert.KernelIdeal.main_arg1) j).toReal,
    fun j => (show EReal from m ((c : Thread Cert.KernelIdeal.nD Cert.KernelIdeal.τ).loc Cert.KernelIdeal.main_arg2) j).toReal,
    fun j => (show EReal from m ((c : Thread Cert.KernelIdeal.nD Cert.KernelIdeal.τ).loc Cert.KernelIdeal.main_arg3) j).toReal,
    { hq := funext fun j => fn_q _ _ _ _ h1 j
      hk := funext fun j => fn_k _ _ _ _ h2 j
      hp := fun b i x => fn_p _ _ _ _ h3 b i x
      hg := funext fun j => fn_g _ _ _ _ h4 j }⟩

/-- The value claim: from equal finite arguments both programs end, with equal gradients of the queries, the keys and the values. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hin
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run _ _ _).mono (fun r h c => ?_) (Cert.ReferenceIdeal.Value.run m' g')
  obtain ⟨q, k, p, gr, H⟩ := holds_of_pre hpre c
  obtain ⟨i0, i1, i2, i3⟩ := hin c
  obtain ⟨h0, h1, h2, hk⟩ := h c
  refine ⟨h0.trans ?_, h1.trans ?_, h2.trans ?_, hk⟩
  · rw [Cert.ReferenceIdeal.Read.val_main_v90_eq, i1, i2, i3]; exact (dq_same H).symm
  · rw [Cert.ReferenceIdeal.Read.val_main_v88_eq, i0, i2, i3]; exact (dk_same H).symm
  · rw [Cert.ReferenceIdeal.Read.val_main_v91_eq, i0, i1, i3]; exact (dv_same H).symm

end Cert.RetAlgebra

end
-- ==== Proof.ProdMath.lean ====
module

public import Idealize.ShloMosaic.Lib.Pointwise

@[expose] public section

noncomputable section

/-! # Sums of products over the extended reals, tile by tile -/

namespace Cert.Prod

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- Element `i` of tile `p`, of `n` tiles of `t` elements. -/
def tile {n t N : ℕ} (h : N = n * t) (p : Fin n) (i : Fin t) : Fin N :=
  ⟨p.val * t + i.val, by
    have hp := p.isLt
    have hi := i.isLt
    subst h
    calc p.val * t + i.val < (p.val + 1) * t := by rw [Nat.add_mul, Nat.one_mul]; omega
      _ ≤ n * t := Nat.mul_le_mul_right _ hp⟩

theorem tile_val {n t N : ℕ} (h : N = n * t) (p : Fin n) (i : Fin t) : (tile h p i).val = p.val * t + i.val := rfl

/-- Elements of the first and of the second of two tiles. -/
theorem tile_first {t N : ℕ} (h : N = 2 * t) (j : Fin t) : tile h 0 j = ⟨j.val, by omega⟩ := Fin.ext (by simp [tile_val])
theorem tile_second {t N : ℕ} (h : N = 2 * t) (j : Fin t) : tile h 1 j = ⟨t + j.val, by omega⟩ := Fin.ext (by simp [tile_val])

/-- Every element lies in a tile. -/
theorem exists_tile {n t N : ℕ} (h : N = n * t) (r : Fin N) : ∃ (p : Fin n) (i : Fin t), r = tile h p i := by
  have hr : r.val < n * t := lt_of_lt_of_eq r.isLt h
  have ht : 0 < t := by
    rcases Nat.eq_zero_or_pos t with h0 | h0
    · rw [h0, Nat.mul_zero] at hr; omega
    · exact h0
  exact ⟨⟨r.val / t, Nat.div_lt_of_lt_mul (by rw [Nat.mul_comm]; exact hr)⟩, ⟨r.val % t, Nat.mod_lt _ ht⟩,
    Fin.ext (Nat.div_add_mod' _ _).symm⟩

/-- Every index of a matrix whose rows are tiled, whose columns are, or both. -/
theorem rows_tiled {n t N M : ℕ} (h : N = n * t) (y : (⟨2, ![N, M]⟩ : Shape).Idx) :
    ∃ (p : Fin n) (i : Fin t) (j : Fin M), y = ix2 (tile h p i) j := by
  obtain ⟨r, j, rfl⟩ : ∃ (r : Fin N) (j : Fin M), y = ix2 r j := ⟨_, _, eq_ix2 y⟩
  obtain ⟨p, i, rfl⟩ := exists_tile h r
  exact ⟨p, i, j, rfl⟩
theorem columns_tiled {n t N M : ℕ} (h : M = n * t) (y : (⟨2, ![N, M]⟩ : Shape).Idx) :
    ∃ (q : Fin n) (i : Fin N) (j : Fin t), y = ix2 i (tile h q j) := by
  obtain ⟨i, s, rfl⟩ : ∃ (i : Fin N) (s : Fin M), y = ix2 i s := ⟨_, _, eq_ix2 y⟩
  obtain ⟨q, j, rfl⟩ := exists_tile h s
  exact ⟨q, i, j, rfl⟩
theorem both_tiled {n t N n' t' M : ℕ} (h : N = n * t) (h' : M = n' * t') (y : (⟨2, ![N, M]⟩ : Shape).Idx) :
    ∃ (p : Fin n) (q : Fin n') (i : Fin t) (j : Fin t'), y = ix2 (tile h p i) (tile h' q j) := by
  obtain ⟨r, s, rfl⟩ : ∃ (r : Fin N) (s : Fin M), y = ix2 r s := ⟨_, _, eq_ix2 y⟩
  obtain ⟨p, i, rfl⟩ := exists_tile h r
  obtain ⟨q, j, rfl⟩ := exists_tile h' s
  exact ⟨p, q, i, j, rfl⟩
/-- Every index of a stack of matrices, tiled along the stack. -/
theorem stack_tiled {n t N M K : ℕ} (h : N = n * t) (y : (⟨3, ![N, M, K]⟩ : Shape).Idx) :
    ∃ (p : Fin n) (s : Fin t) (i : Fin M) (j : Fin K), y = ix3 (tile h p s) i j := by
  obtain ⟨r, i, j, rfl⟩ : ∃ (r : Fin N) (i : Fin M) (j : Fin K), y = ix3 r i j := ⟨_, _, _, eq_ix3 y⟩
  obtain ⟨p, s, rfl⟩ := exists_tile h r
  exact ⟨p, s, i, j, rfl⟩

/-- The factors of every term may be swapped. -/
theorem sum_swap {n : ℕ} (f g : Fin n → EReal) : ∑ k, f k * g k = ∑ k, g k * f k :=
  Finset.sum_congr rfl fun k _ => mul_comm (f k) (g k)

/-- A sum taken tile by tile. -/
theorem sum_tiles {n t N : ℕ} (h : N = n * t) (f : Fin N → EReal) : ∑ k, f k = ∑ s : Fin n, ∑ r : Fin t, f (tile h s r) := by
  subst h
  rw [← Finset.sum_product', ← Equiv.sum_comp finProdFinEquiv, ← Finset.univ_product_univ]
  refine Finset.sum_congr rfl fun x _ => congrArg f (Fin.ext ?_)
  simp [finProdFinEquiv, tile, Nat.add_comm, Nat.mul_comm]

/-- A running sum that starts afresh every `n` points: after a tile's last point it is the sum of the tile's terms. -/
theorem running_sum {b n N : ℕ} (h : N = b * n) (hn : 0 < n) (x : (k : ℕ) → k < N → EReal) (g : Fin N → EReal)
    (start : ∀ k : Fin N, k.val % n = 0 → x k.val k.isLt = g k)
    (step : ∀ k : Fin N, ¬k.val % n = 0 → x k.val k.isLt = x (k.val - 1) (Nat.lt_of_le_of_lt (Nat.sub_le _ _) k.isLt) + g k)
    (p : Fin b) (s : Fin n) (hs : s.val = n - 1) : x (tile h p s).val (tile h p s).isLt = ∑ r : Fin n, g (tile h p r) := by
  have mod (r : Fin n) : (tile h p r).val % n = r.val := by
    rw [tile_val, Nat.mul_add_mod', Nat.mod_eq_of_lt r.isLt]
  have key (e : ℕ) : (he : e < n) →
      x (tile h p ⟨e, he⟩).val (tile h p ⟨e, he⟩).isLt = ∑ r : Fin (e + 1), g (tile h p ⟨r.val, by omega⟩) := by
    induction e with
    | zero => intro he; rw [start _ (mod _)]; simp
    | succ e ih =>
      intro he
      rw [step _ (by rw [mod]; simp), Fin.sum_univ_castSucc]
      exact congrArg (· + g (tile h p ⟨e + 1, he⟩)) (ih (by omega))
  obtain ⟨s, hs'⟩ := s
  obtain ⟨n, rfl⟩ : ∃ k, n = k + 1 := ⟨n - 1, by omega⟩
  simp only [Nat.add_sub_cancel] at hs
  subst hs
  exact key s hs'

/-- The root of a nonnegative number's square. -/
theorem sqrt_mul_self (a : EReal) (ha : 0 ≤ a) : Ideal.sqrt (a * a) = a := by
  induction a with
  | bot => simp at ha
  | top => rw [EReal.top_mul_top]; rfl
  | coe r =>
    have hr : 0 ≤ r := EReal.coe_nonneg.mp ha
    rw [← EReal.coe_mul]
    show (if r * r < 0 then (⊥ : EReal) else ((Real.sqrt (r * r) : ℝ) : EReal)) = r
    rw [if_neg (not_lt.mpr (mul_self_nonneg r)), Real.sqrt_mul_self hr]

end Cert.Prod

end
-- ==== Proof.MlpW1Fwd.lean ====
module

public import proofs.«01_k».proof.Defs
public import proofs.«01_k».proof.Proof.Gen.KernelW1FwdIdeal
public import proofs.«01_k».proof.Proof.Gen.ReferenceW1FwdIdeal
public import proofs.«01_k».proof.Proof.Gen.KernelW1FwdIdeal.Value
public import proofs.«01_k».proof.Proof.Gen.ReferenceW1FwdIdeal.Run
public import proofs.«01_k».proof.Proof.Gen.ReferenceW1FwdIdeal.Read
public import proofs.«01_k».proof.Proof.ProdMath

@[expose] public section

noncomputable section

/-! # The MLP's first product and its squared rectifier

A grid point takes 2176 rows of the inputs and one of the eight column shards of the weight, and leaves a tile of the
activations. -/

namespace Cert.KernelW1FwdIdeal.Prod

open Cert.Prod Cert.KernelW1FwdIdeal Cert.KernelW1FwdIdeal.Gen Cert.KernelW1FwdIdeal.Value
open Idealize.ShloMosaic Idealize.ShloMosaic.TcCoe Idealize.SL.Sem

/-- The point of a block of rows and a shard. -/
def pt (p : Fin 2) (q : Fin 8) : Fin cfg0.N := tile (show cfg0.N = 2 * 8 from N_0) p q

theorem idx0 : ∀ (p : Fin 2) (q : Fin 8), win0_0.index (pt p q) = ![p.val, 0] := by decide +kernel
theorem idx1 : ∀ (p : Fin 2) (q : Fin 8), win0_1.index (pt p q) = ![q.val, 0, 0] := by decide +kernel
theorem idx2 : ∀ (p : Fin 2) (q : Fin 8), win0_2.index (pt p q) = ![p.val, q.val] := by decide +kernel

variable (m : (ℓ : Loc nD τ sig) → Buf (Elt Ideal) ℓ) (c : Dev nD) (p : Fin 2) (q : Fin 8)

/-- The inputs and the weight, as launched. -/
abbrev inp : Vec Ideal S4352x1024 .f32 := m ((c : Thread nD τ).loc main_arg0)
abbrev wt : Vec Ideal S1024x4096 .f32 := m ((c : Thread nD τ).loc main_arg1)

/-- The host's cast changes nothing over the reals. -/
theorem V_inp : V m c main_v0 = inp m c := by
  unfold_abbrev_sides
  after_results
  rfl
/-- The host stacks the weight's column shards. -/
theorem V_wt (k : Fin 1024) (j : Fin 512) : (V m c main_v3 : Vec Ideal S8x1024x512 .bf16) (ix3 q k j) = wt m c (ix2 k (tile rfl q j)) := by
  unfold_abbrev_sides
  after_results
  pointwise
  rfl

/-- A block of rows of the inputs. -/
theorem blk0 (i : Fin 2176) (k : Fin 1024) : (iblk m c 0 (pt p q) : Vec Ideal S2176x1024 .bf16) (ix2 i k) = inp m c (ix2 (tile rfl p i) k) := by
  unfold iblk
  rw [View.read_apply]
  refine (congrFun (V_inp m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A shard of the weight. -/
theorem blk1 (k : Fin 1024) (j : Fin 512) : (iblk m c 1 (pt p q) : Vec Ideal S1x1024x512 .bf16) (ix3 0 k j) = wt m c (ix2 k (tile rfl q j)) := by
  unfold iblk
  rw [View.read_apply]
  refine (congrArg (V m c main_v3) (funext fun a => Fin.ext ?_)).trans (V_wt m c q k j)
  match a with
  | ⟨0, _⟩ => show win0_1.index (pt p q) 0 * 1 + 1 * 0 = q.val; rw [idx1]; simp
  | ⟨1, _⟩ => show win0_1.index (pt p q) 1 * 1024 + 1 * k.val = k.val; rw [idx1]; simp
  | ⟨2, _⟩ => show win0_1.index (pt p q) 2 * 512 + 1 * j.val = j.val; rw [idx1]; simp

/-- The squared rectifier of a product. -/
abbrev act {n : ℕ} (f g : Fin n → EReal) : EReal := max (∑ k, f k * g k) 0 * max (∑ k, f k * g k) 0

/-- What a point leaves of its blocks. -/
theorem out_apply (x0 : Vec Ideal S2176x1024 .bf16) (x1 : Vec Ideal S1x1024x512 .bf16) (i : Fin 2176) (j : Fin 512) :
    out0_2 x0 x1 (ix2 i j) = act (fun k : Fin 1024 => x0 (ix2 i k)) (fun k => x1 (ix3 0 k j)) := by
  unfold out0_2
  rw [View.canon_unit_zero hz2, View.ld_unit_zero (S := S2176x1024) hz2, View.ld_unit_zero (S := S1x1024x512) hz3]
  unfold_payloads
  pointwise

/-- The array of the activations, element by element. -/
theorem arr (i : Fin 2176) (j : Fin 512) : ((dats m 0 c).arrAt 2 cfg0.N : Vec Ideal S4352x4096 .bf16) (ix2 (tile rfl p i) (tile rfl q j))
    = act (fun k : Fin 1024 => inp m c (ix2 (tile rfl p i) k)) (fun k => wt m c (ix2 k (tile rfl q j))) := by
  have e := congrFun (blocks2 m c (pt p q) (flush0_2 _)) (ix2 i j)
  rw [flushed2, View.read_apply] at e
  refine Eq.trans (congrArg _ (funext fun a => Fin.ext ?_)) (e.trans ((out_apply _ _ i j).trans ?_))
  · match a with
    | ⟨0, _⟩ => show p.val * 2176 + i.val = win0_2.index (pt p q) 0 * 2176 + 1 * i.val; rw [idx2]; simp
    | ⟨1, _⟩ => show q.val * 512 + j.val = win0_2.index (pt p q) 1 * 512 + 1 * j.val; rw [idx2]; simp
  · simp only [blk0, blk1]

/-- It is the reference's. -/
theorem same : (dats m 0 c).arrAt 2 cfg0.N = Cert.ReferenceW1FwdIdeal.Read.val_main_v3 (F := Ideal) (inp m c) (wt m c) := by
  funext y
  obtain ⟨p, q, i, j, rfl⟩ := both_tiled (n := 2) (t := 2176) (n' := 8) (t' := 512) rfl rfl y
  refine (arr m c p q i j).trans (Eq.symm ?_)
  open Cert.ReferenceW1FwdIdeal.Read in
  unfold val_main_v3 val_main_v2 val_main_v1 val_main_v0 val_main_call0_v0 val_main_call0_cst
  pointwise

/-- The value claim. -/
theorem algebraic : Cert.algebraic_KernelW1FwdIdeal_ReferenceW1FwdIdeal (hKernelW1FwdIdeal := Cert.KernelW1FwdIdeal.Gen.facts)
    (hReferenceW1FwdIdeal := Cert.ReferenceW1FwdIdeal.Gen.facts) := by
  intro m g m' g' _ hin
  refine ⟨fun c => (dats m 0 c).arrAt 2 cfg0.N, run_blocks m g, ?_⟩
  refine (θ_run _ _ _).mono (fun r h c => ?_) (Cert.ReferenceW1FwdIdeal.Value.run m' g')
  obtain ⟨i0, i1⟩ := hin c
  obtain ⟨h0, hk⟩ := h c
  refine ⟨h0.trans ?_, hk⟩
  rw [Cert.ReferenceW1FwdIdeal.Read.val_main_v3_eq, i0, i1]
  exact (same m c).symm

end Cert.KernelW1FwdIdeal.Prod

end
-- ==== Proof.MlpW2Fwd.lean ====
module

public import proofs.«01_k».proof.Defs
public import proofs.«01_k».proof.Proof.Gen.KernelW2FwdIdeal
public import proofs.«01_k».proof.Proof.Gen.ReferenceW2FwdIdeal
public import proofs.«01_k».proof.Proof.Gen.KernelW2FwdIdeal.Value
public import proofs.«01_k».proof.Proof.Gen.ReferenceW2FwdIdeal.Run
public import proofs.«01_k».proof.Proof.Gen.ReferenceW2FwdIdeal.Read
public import proofs.«01_k».proof.Proof.ProdMath

@[expose] public section

noncomputable section

/-! # The MLP's second product

A grid point takes 2176 rows and 1024 columns of the activations and the weight's rows of those columns; four points in a
row add up a block of rows of the result. -/

namespace Cert.KernelW2FwdIdeal.Prod

open Cert.Prod Cert.KernelW2FwdIdeal Cert.KernelW2FwdIdeal.Gen Cert.KernelW2FwdIdeal.Value
open Idealize.ShloMosaic Idealize.ShloMosaic.TcCoe Idealize.SL.Sem

/-- The point of a block of rows and a block of the contracted axis. -/
def pt (p : Fin 2) (s : Fin 4) : Fin cfg0.N := tile (show cfg0.N = 2 * 4 from N_0) p s

theorem idx0 : ∀ (p : Fin 2) (s : Fin 4), win0_0.index (pt p s) = ![p.val, s.val] := by decide +kernel
theorem idx1 : ∀ (p : Fin 2) (s : Fin 4), win0_1.index (pt p s) = ![s.val, 0] := by decide +kernel
theorem idx2 : ∀ (p : Fin 2) (s : Fin 4), win0_2.index (pt p s) = ![p.val, 0] := by decide +kernel
/-- A block of rows is written back after its last point only, and each by its own. -/
theorem flush2 : ∀ p : Fin 2, (cfg0.win 2).flush (pt p 3) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 4)

/-- The activations and the weight, as launched. -/
abbrev act : Vec Ideal S4352x4096 .f32 := m ((c : Thread nD τ).loc main_arg0)
abbrev wt : Vec Ideal S4096x1024 .f32 := m ((c : Thread nD τ).loc main_arg1)

/-- The host's casts change nothing over the reals. -/
theorem V_act : V m c main_v0 = act m c := by
  unfold_abbrev_sides
  after_results
  rfl
theorem V_wt : V m c main_v1 = wt m c := by
  unfold_abbrev_sides
  after_results
  rfl

/-- A tile of the activations. -/
theorem blk0 (i : Fin 2176) (k : Fin 1024) : (iblk m c 0 (pt p s) : Vec Ideal S2176x1024 .bf16) (ix2 i k) = act m c (ix2 (tile rfl p i) (tile rfl s k)) := by
  unfold iblk
  rw [View.read_apply]
  refine (congrFun (V_act m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 1024 + 1 * k.val = s.val * 1024 + k.val; rw [idx0]; simp

/-- A block of rows of the weight. -/
theorem blk1 (k j : Fin 1024) : (iblk m c 1 (pt p s) : Vec Ideal S1024x1024 .bf16) (ix2 k j) = wt m c (ix2 (tile rfl s k) j) := by
  unfold iblk
  rw [View.read_apply]
  refine (congrFun (V_wt m c) _).trans (congrArg _ (funext fun a => Fin.ext ?_))
  match a with
  | ⟨0, _⟩ => show win0_1.index (pt p s) 0 * 1024 + 1 * k.val = s.val * 1024 + k.val; rw [idx1]; simp
  | ⟨1, _⟩ => show win0_1.index (pt p s) 1 * 1024 + 1 * j.val = j.val; rw [idx1]; simp

/-- A point's term of the sum. -/
abbrev term (x0 : Vec Ideal S2176x1024 .bf16) (x1 : Vec Ideal S1024x1024 .bf16) (i : Fin 2176) (j : Fin 1024) : EReal :=
  ∑ k : Fin 1024, x0 (ix2 i k) * x1 (ix2 k j)

/-- What the first point of a block of rows leaves, and what a later one leaves over what it finds. -/
theorem start (t : Fin cfg0.N) (h : t.val % 4 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x1024) hz2, View.ld_unit_zero (S := S1024x1024) hz2]
  unfold_payloads
  pointwise
theorem step (t : Fin cfg0.N) (h : ¬t.val % 4 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x1024) hz2, View.ld_unit_zero (S := S1024x1024) hz2]
  unfold_payloads
  pointwise

/-- The array of the result, element by element. -/
theorem arr (i : Fin 2176) (j : Fin 1024) : ((dats m 0 c).arrAt 2 cfg0.N : Vec Ideal S4352x1024 .f32) (ix2 (tile rfl p i) j)
    = ∑ k : Fin 4096, act m c (ix2 (tile rfl p i) k) * wt m c (ix2 k j) := by
  have e := congrFun ((dats m 0 c).read_blk_arrAt_eq_flushed 2 disjoint2 cfg0.N (pt p 3) (pt p 3).isLt (flush2 p)) (ix2 i j)
  rw [flushed2, View.read_apply] at e
  refine Eq.trans (congrArg _ (funext fun a => Fin.ext ?_)) (e.trans ((running_sum (show cfg0.N = 2 * 4 from N_0) (by decide) (fun k hk => outsAt0 m c k hk (ix2 i j)) _
    (fun t h => start m c t h i j) (fun t h => step m c t h i j) p 3 rfl).trans ?_))
  · match a with
    | ⟨0, _⟩ => show p.val * 2176 + i.val = win0_2.index (pt p 3) 0 * 2176 + 1 * i.val; rw [idx2]; simp
    | ⟨1, _⟩ => show j.val = win0_2.index (pt p 3) 1 * 1024 + 1 * j.val; rw [idx2]; simp
  · rw [sum_tiles (n := 4) (t := 1024) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceW2FwdIdeal.Read.val_main_v0 (F := Ideal) (act m c) (wt m c) := by
  funext y
  obtain ⟨p, i, j, rfl⟩ := rows_tiled (n := 2) (t := 2176) rfl y
  refine (arr m c p i j).trans (Eq.symm ?_)
  open Cert.ReferenceW2FwdIdeal.Read in
  unfold val_main_v0
  pointwise

/-- The value claim. -/
theorem algebraic : Cert.algebraic_KernelW2FwdIdeal_ReferenceW2FwdIdeal (hKernelW2FwdIdeal := Cert.KernelW2FwdIdeal.Gen.facts)
    (hReferenceW2FwdIdeal := Cert.ReferenceW2FwdIdeal.Gen.facts) := by
  intro m g m' g' _ hin
  refine ⟨fun c => (dats m 0 c).arrAt 2 cfg0.N, run_blocks m g, ?_⟩
  refine (θ_run _ _ _).mono (fun r h c => ?_) (Cert.ReferenceW2FwdIdeal.Value.run m' g')
  obtain ⟨i0, i1⟩ := hin c
  obtain ⟨h0, hk⟩ := h c
  refine ⟨h0.trans ?_, hk⟩
  rw [Cert.ReferenceW2FwdIdeal.Read.val_main_v0_eq, i0, i1]
  exact (same m c).symm

end Cert.KernelW2FwdIdeal.Prod

end
-- ==== Proof.MlpW2Dw.lean ====
module

public import proofs.«01_k».proof.Defs
public import proofs.«01_k».proof.Proof.Gen.KernelW2DwIdeal
public import proofs.«01_k».proof.Proof.Gen.ReferenceW2DwIdeal
public import proofs.«01_k».proof.Proof.Gen.KernelW2DwIdeal.Value
public import proofs.«01_k».proof.Proof.Gen.ReferenceW2DwIdeal.Run
public import proofs.«01_k».proof.Proof.Gen.ReferenceW2DwIdeal.Read
public import proofs.«01_k».proof.Proof.ProdMath

@[expose] public section

noncomputable section

/-! # The gradient of the MLP's second weight

A grid point takes 1024 columns of the activations and all 4352 rows, and leaves 1024 rows of the weight's gradient. -/

namespace Cert.KernelW2DwIdeal.Prod

open Cert.Prod Cert.KernelW2DwIdeal Cert.KernelW2DwIdeal.Gen Cert.KernelW2DwIdeal.Value
open Idealize.ShloMosaic Idealize.ShloMosaic.TcCoe Idealize.SL.Sem

/-- The point of a block of rows. -/
def pt (p : Fin 4) : Fin cfg0.N := Fin.cast (show 4 = cfg0.N from N_0.symm) p

theorem idx0 : ∀ p : Fin 4, win0_0.index (pt p) = ![0, p.val] := by decide +kernel
theorem idx1 : ∀ p : Fin 4, win0_1.index (pt p) = ![0, 0] := by decide +kernel
theorem idx2 : ∀ p : Fin 4, win0_2.index (pt p) = ![p.val, 0] := by decide +kernel

variable (m : (ℓ : Loc nD τ sig) → Buf (Elt Ideal) ℓ) (c : Dev nD) (p : Fin 4)

/-- The activations and the gradient of the MLP's result, as launched. -/
abbrev act : Vec Ideal S4352x4096 .f32 := m ((c : Thread nD τ).loc main_arg0)
abbrev grad : Vec Ideal S4352x1024 .f32 := m ((c : Thread nD τ).loc main_arg1)

/-- The host's casts change nothing over the reals. -/
theorem V_act : V m c main_v0 = act m c := by
  unfold_abbrev_sides
  after_results
  rfl
theorem V_grad : V m c main_v1 = grad m c := by
  unfold_abbrev_sides
  after_results
  rfl

/-- A block of the activations. -/
theorem blk0 (k : Fin 4352) (i : Fin 1024) : (iblk m c 0 (pt p) : Vec Ideal S4352x1024 .bf16) (ix2 k i) = act m c (ix2 k (tile rfl p i)) := by
  unfold iblk
  rw [View.read_apply]
  refine (congrFun (V_act m c) _).trans (congrArg _ (funext fun a => Fin.ext ?_))
  match a with
  | ⟨0, _⟩ => show win0_0.index (pt p) 0 * 4352 + 1 * k.val = k.val; rw [idx0]; simp
  | ⟨1, _⟩ => show win0_0.index (pt p) 1 * 1024 + 1 * i.val = p.val * 1024 + i.val; rw [idx0]; simp

/-- The gradient of the result is read whole. -/
theorem blk1 (k : Fin 4352) (j : Fin 1024) : (iblk m c 1 (pt p) : Vec Ideal S4352x1024 .bf16) (ix2 k j) = grad m c (ix2 k j) := by
  unfold iblk
  rw [View.read_apply]
  refine (congrFun (V_grad m c) _).trans (congrArg _ (funext fun a => Fin.ext ?_))
  match a with
  | ⟨0, _⟩ => show win0_1.index (pt p) 0 * 4352 + 1 * k.val = k.val; rw [idx1]; simp
  | ⟨1, _⟩ => show win0_1.index (pt p) 1 * 1024 + 1 * j.val = j.val; rw [idx1]; simp

/-- What a point leaves of its blocks. -/
theorem out_apply (x0 x1 : Vec Ideal S4352x1024 .bf16) (i j : Fin 1024) : out0_2 x0 x1 (ix2 i j) = ∑ k : Fin 4352, x0 (ix2 k i) * x1 (ix2 k j) := by
  unfold out0_2
  rw [View.canon_unit_zero hz2, View.ld_unit_zero (S := S4352x1024) hz2, View.ld_unit_zero (S := S4352x1024) hz2]
  unfold_payloads
  pointwise

/-- The array of the weight's gradient, element by element. -/
theorem arr (i j : Fin 1024) : ((dats m 0 c).arrAt 2 cfg0.N : Vec Ideal S4096x1024 .f32) (ix2 (tile rfl p i) j)
    = ∑ k : Fin 4352, act m c (ix2 k (tile rfl p i)) * grad m c (ix2 k j) := by
  have e := congrFun (blocks2 m c (pt p) (flush0_2 _)) (ix2 i j)
  rw [flushed2, View.read_apply] at e
  refine Eq.trans (congrArg _ (funext fun a => Fin.ext ?_)) (e.trans ((out_apply _ _ i j).trans ?_))
  · match a with
    | ⟨0, _⟩ => show p.val * 1024 + i.val = win0_2.index (pt p) 0 * 1024 + 1 * i.val; rw [idx2]; simp
    | ⟨1, _⟩ => show j.val = win0_2.index (pt p) 1 * 1024 + 1 * j.val; rw [idx2]; simp
  · simp only [blk0, blk1]

/-- It is the reference's. -/
theorem same : (dats m 0 c).arrAt 2 cfg0.N = Cert.ReferenceW2DwIdeal.Read.val_main_v3 (F := Ideal) (act m c) (grad m c) := by
  funext y
  obtain ⟨p, i, j, rfl⟩ := rows_tiled (n := 4) (t := 1024) rfl y
  refine (arr m c p i j).trans (Eq.symm ?_)
  open Cert.ReferenceW2DwIdeal.Read in
  unfold val_main_v3 val_main_v2
  pointwise
  exact sum_swap _ _

/-- The value claim. -/
theorem algebraic : Cert.algebraic_KernelW2DwIdeal_ReferenceW2DwIdeal (hKernelW2DwIdeal := Cert.KernelW2DwIdeal.Gen.facts)
    (hReferenceW2DwIdeal := Cert.ReferenceW2DwIdeal.Gen.facts) := by
  intro m g m' g' _ hin
  refine ⟨fun c => (dats m 0 c).arrAt 2 cfg0.N, run_blocks m g, ?_⟩
  refine (θ_run _ _ _).mono (fun r h c => ?_) (Cert.ReferenceW2DwIdeal.Value.run m' g')
  obtain ⟨i0, i1⟩ := hin c
  obtain ⟨h0, hk⟩ := h c
  refine ⟨h0.trans ?_, hk⟩
  rw [Cert.ReferenceW2DwIdeal.Read.val_main_v3_eq, i0, i1]
  exact (same m c).symm

end Cert.KernelW2DwIdeal.Prod

end
-- ==== Proof.MlpW2Dx.lean ====
module

public import proofs.«01_k».proof.Defs
public import proofs.«01_k».proof.Proof.Gen.KernelW2DxIdeal
public import proofs.«01_k».proof.Proof.Gen.ReferenceW2DxIdeal
public import proofs.«01_k».proof.Proof.Gen.KernelW2DxIdeal.Value
public import proofs.«01_k».proof.Proof.Gen.ReferenceW2DxIdeal.Run
public import proofs.«01_k».proof.Proof.Gen.ReferenceW2DxIdeal.Read
public import proofs.«01_k».proof.Proof.ProdMath

@[expose] public section

noncomputable section

/-! # The gradient through the MLP's second product and the squared rectifier

A grid point takes 2176 rows of the result's gradient, 1024 rows of the weight and a tile of the saved activations
`max(u, 0)²`, and leaves a tile of the gradient of `u`. The rectifier's slope is twice the activations' root. -/

namespace Cert.KernelW2DxIdeal.Prod

open Cert.Prod Cert.KernelW2DxIdeal Cert.KernelW2DxIdeal.Gen Cert.KernelW2DxIdeal.Value
open Idealize.ShloMosaic Idealize.ShloMosaic.TcCoe Idealize.SL.Sem

/-- The point of a block of rows and a block of columns. -/
def pt (p : Fin 2) (q : Fin 4) : Fin cfg0.N := tile (show cfg0.N = 2 * 4 from N_0) p q

theorem idx0 : ∀ (p : Fin 2) (q : Fin 4), win0_0.index (pt p q) = ![p.val, 0] := by decide +kernel
theorem idx1 : ∀ (p : Fin 2) (q : Fin 4), win0_1.index (pt p q) = ![q.val, 0] := by decide +kernel
theorem idx2 : ∀ (p : Fin 2) (q : Fin 4), win0_2.index (pt p q) = ![p.val, q.val] := by decide +kernel
theorem idx3 : ∀ (p : Fin 2) (q : Fin 4), win0_3.index (pt p q) = ![p.val, q.val] := by decide +kernel

variable (m : (ℓ : Loc nD τ sig) → Buf (Elt Ideal) ℓ) (c : Dev nD) (p : Fin 2) (q : Fin 4)

/-- The rectifier's argument, the weight and the gradient of the MLP's result, as launched. -/
abbrev pre : Vec Ideal S4352x4096 .f32 := m ((c : Thread nD τ).loc main_arg0)
abbrev wt : Vec Ideal S4096x1024 .f32 := m ((c : Thread nD τ).loc main_arg1)
abbrev grad : Vec Ideal S4352x1024 .f32 := m ((c : Thread nD τ).loc main_arg2)

/-- The host's casts change nothing over the reals. -/
theorem V_grad : V m c main_v3 = grad m c := by
  unfold_abbrev_sides
  simp only [hostOps0, hostOps0_1, List.flatten_cons, List.flatten_nil, List.append_nil, List.cons_append, List.nil_append]
  after_results
  rfl
theorem V_wt : V m c main_v4 = wt m c := by
  unfold_abbrev_sides
  simp only [hostOps0, hostOps0_1, List.flatten_cons, List.flatten_nil, List.append_nil, List.cons_append, List.nil_append]
  after_results
  rfl
/-- The host saves the squared rectifier. -/
abbrev relu : FVec Ideal S4352x4096 .f32 := maximumf (F := Ideal) (pre m c) (broadcastInDim S4352x4096 ![] bcast_S_S4352x4096 (constant S_ .f32 0x00000000#32))
theorem V_sq : (V m c main_v2 : Vec Ideal S4352x4096 .bf16) = truncf .bf16 (mulf (relu m c) (relu m c)) bitsLt_bf16_f32 := by
  unfold_abbrev_sides
  simp only [hostOps0, hostOps0_1, List.flatten_cons, List.flatten_nil, List.append_nil, List.cons_append, List.nil_append]
  after_results
  rfl
theorem V_act (i : Fin 4352) (j : Fin 4096) : (V m c main_v2 : Vec Ideal S4352x4096 .bf16) (ix2 i j) = max (pre m c (ix2 i j)) 0 * max (pre m c (ix2 i j)) 0 := by
  rw [V_sq]
  pointwise

/-- A block of rows of the gradient. -/
theorem blk0 (i : Fin 2176) (k : Fin 1024) : (iblk m c 0 (pt p q) : Vec Ideal S2176x1024 .bf16) (ix2 i k) = grad m c (ix2 (tile rfl p i) k) := by
  unfold iblk
  rw [View.read_apply]
  refine (congrFun (V_grad m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A block of rows of the weight. -/
theorem blk1 (j k : Fin 1024) : (iblk m c 1 (pt p q) : Vec Ideal S1024x1024 .bf16) (ix2 j k) = wt m c (ix2 (tile rfl q j) k) := by
  unfold iblk
  rw [View.read_apply]
  refine (congrFun (V_wt m c) _).trans (congrArg _ (funext fun a => Fin.ext ?_))
  match a with
  | ⟨0, _⟩ => show win0_1.index (pt p q) 0 * 1024 + 1 * j.val = q.val * 1024 + j.val; rw [idx1]; simp
  | ⟨1, _⟩ => show win0_1.index (pt p q) 1 * 1024 + 1 * k.val = k.val; rw [idx1]; simp

/-- A tile of the saved activations. -/
theorem blk2 (i : Fin 2176) (j : Fin 1024) : (iblk m c 2 (pt p q) : Vec Ideal S2176x1024 .bf16) (ix2 i j)
    = max (pre m c (ix2 (tile rfl p i) (tile rfl q j))) 0 * max (pre m c (ix2 (tile rfl p i) (tile rfl q j))) 0 := by
  unfold iblk
  rw [View.read_apply]
  refine (congrArg (V m c main_v2) (funext fun a => Fin.ext ?_)).trans (V_act m c (tile rfl p i) (tile rfl q j))
  match a with
  | ⟨0, _⟩ => show win0_2.index (pt p q) 0 * 2176 + 1 * i.val = p.val * 2176 + i.val; rw [idx2]; simp
  | ⟨1, _⟩ => show win0_2.index (pt p q) 1 * 1024 + 1 * j.val = q.val * 1024 + j.val; rw [idx2]; simp

/-- The factor of the slope, as the program writes it. -/
abbrev two : EReal := Ideal.ofBits .f32 1073741824#32

/-- What a point leaves of its blocks. -/
theorem out_apply (x0 x2 : Vec Ideal S2176x1024 .bf16) (x1 : Vec Ideal S1024x1024 .bf16) (i : Fin 2176) (j : Fin 1024) :
    out0_3 x0 x1 x2 (ix2 i j) = (∑ k : Fin 1024, x0 (ix2 i k) * x1 (ix2 j k)) * (two * Ideal.sqrt (x2 (ix2 i j))) := by
  unfold out0_3
  rw [View.canon_unit_zero hz2, View.ld_unit_zero (S := S2176x1024) hz2, View.ld_unit_zero (S := S2176x1024) hz2, View.ld_unit_zero (S := S1024x1024) hz2]
  unfold_payloads
  pointwise

/-- The array of the gradient, element by element. -/
theorem arr (i : Fin 2176) (j : Fin 1024) : ((dats m 0 c).arrAt 3 cfg0.N : Vec Ideal S4352x4096 .bf16) (ix2 (tile rfl p i) (tile rfl q j))
    = (∑ k : Fin 1024, grad m c (ix2 (tile rfl p i) k) * wt m c (ix2 (tile rfl q j) k)) * (two * max (pre m c (ix2 (tile rfl p i) (tile rfl q j))) 0) := by
  have e := congrFun (blocks3 m c (pt p q) (flush0_3 _)) (ix2 i j)
  rw [flushed3, View.read_apply] at e
  refine Eq.trans (congrArg _ (funext fun a => Fin.ext ?_)) (e.trans ((out_apply _ _ _ i j).trans ?_))
  · match a with
    | ⟨0, _⟩ => show p.val * 2176 + i.val = win0_3.index (pt p q) 0 * 2176 + 1 * i.val; rw [idx3]; simp
    | ⟨1, _⟩ => show q.val * 1024 + j.val = win0_3.index (pt p q) 1 * 1024 + 1 * j.val; rw [idx3]; simp
  · simp only [blk0, blk1, blk2]
    rw [sqrt_mul_self _ (le_max_right _ _)]

/-- It is the reference's. -/
theorem same : (dats m 0 c).arrAt 3 cfg0.N = Cert.ReferenceW2DxIdeal.Read.val_main_v12 (F := Ideal) (pre m c) (wt m c) (grad m c) := by
  funext y
  obtain ⟨p, q, i, j, rfl⟩ := both_tiled (n := 2) (t := 2176) (n' := 4) (t' := 1024) rfl rfl y
  refine (arr m c p q i j).trans (Eq.symm ?_)
  open Cert.ReferenceW2DxIdeal.Read in
  unfold val_main_v12 val_main_v11 val_main_v10 val_main_cst_2 val_main_v9 val_main_v8 val_main_v6 val_main_v5 val_main_cst_1 val_main_v2 val_main_v1 val_main_cst val_main_v0 val_main_call0_v0 val_main_call0_cst
  pointwise
  split_ifs with h
  · rfl
  · rw [max_eq_right (not_lt.mp h), mul_zero, mul_zero]

/-- The value claim. -/
theorem algebraic : Cert.algebraic_KernelW2DxIdeal_ReferenceW2DxIdeal (hKernelW2DxIdeal := Cert.KernelW2DxIdeal.Gen.facts)
    (hReferenceW2DxIdeal := Cert.ReferenceW2DxIdeal.Gen.facts) := by
  intro m g m' g' _ hin
  refine ⟨fun c => (dats m 0 c).arrAt 3 cfg0.N, run_blocks m g, ?_⟩
  refine (θ_run _ _ _).mono (fun r h c => ?_) (Cert.ReferenceW2DxIdeal.Value.run m' g')
  obtain ⟨i0, i1, i2⟩ := hin c
  obtain ⟨h0, hk⟩ := h c
  refine ⟨h0.trans ?_, hk⟩
  rw [Cert.ReferenceW2DxIdeal.Read.val_main_v12_eq, i0, i1, i2]
  exact (same m c).symm

end Cert.KernelW2DxIdeal.Prod

end
-- ==== Proof.MlpW1Dw.lean ====
module

public import proofs.«01_k».proof.Defs
public import proofs.«01_k».proof.Proof.Gen.KernelW1DwIdeal
public import proofs.«01_k».proof.Proof.Gen.ReferenceW1DwIdeal
public import proofs.«01_k».proof.Proof.Gen.KernelW1DwIdeal.Value
public import proofs.«01_k».proof.Proof.Gen.ReferenceW1DwIdeal.Run
public import proofs.«01_k».proof.Proof.Gen.ReferenceW1DwIdeal.Read
public import proofs.«01_k».proof.Proof.ProdMath

@[expose] public section

noncomputable section

/-! # The gradient of the MLP's first weight

A grid point takes the inputs and 1024 columns of the gradient, all 4352 rows of both, and leaves two column shards of
the weight's gradient. -/

namespace Cert.KernelW1DwIdeal.Prod

open Cert.Prod Cert.KernelW1DwIdeal Cert.KernelW1DwIdeal.Gen Cert.KernelW1DwIdeal.Value
open Idealize.ShloMosaic Idealize.ShloMosaic.TcCoe Idealize.SL.Sem

/-- The point of a pair of shards. -/
def pt (q : Fin 4) : Fin cfg0.N := Fin.cast (show 4 = cfg0.N from N_0.symm) q

theorem idx0 : ∀ q : Fin 4, win0_0.index (pt q) = ![0, 0] := by decide +kernel
theorem idx1 : ∀ q : Fin 4, win0_1.index (pt q) = ![0, q.val] := by decide +kernel
theorem idx2 : ∀ q : Fin 4, win0_2.index (pt q) = ![q.val, 0, 0] := by decide +kernel

variable (m : (ℓ : Loc nD τ sig) → Buf (Elt Ideal) ℓ) (c : Dev nD) (q : Fin 4)

/-- The inputs and the gradient of the product, as launched. -/
abbrev inp : Vec Ideal S4352x1024 .f32 := m ((c : Thread nD τ).loc main_arg0)
abbrev grad : Vec Ideal S4352x4096 .f32 := m ((c : Thread nD τ).loc main_arg1)

/-- The host's casts change nothing over the reals. -/
theorem V_inp : V m c main_v0 = inp m c := by
  unfold_abbrev_sides
  after_results
  rfl
theorem V_grad : V m c main_v1 = grad m c := by
  unfold_abbrev_sides
  after_results
  rfl

/-- The inputs are read whole. -/
theorem blk0 (k : Fin 4352) (i : Fin 1024) : (iblk m c 0 (pt q) : Vec Ideal S4352x1024 .bf16) (ix2 k i) = inp m c (ix2 k i) := by
  unfold iblk
  rw [View.read_apply]
  refine (congrFun (V_inp m c) _).trans (congrArg _ (funext fun a => Fin.ext ?_))
  match a with
  | ⟨0, _⟩ => show win0_0.index (pt q) 0 * 4352 + 1 * k.val = k.val; rw [idx0]; simp
  | ⟨1, _⟩ => show win0_0.index (pt q) 1 * 1024 + 1 * i.val = i.val; rw [idx0]; simp

/-- The gradient's columns of two shards. -/
theorem blk1 (k : Fin 4352) (s : Fin 2) (j : Fin 512) : (iblk m c 1 (pt q) : Vec Ideal S4352x1024 .bf16) (ix2 k (tile (N := 1024) rfl s j))
    = grad m c (ix2 k (tile (N := 4096) rfl (tile (N := 8) rfl q s) j)) := by
  unfold iblk
  rw [View.read_apply]
  refine (congrFun (V_grad m c) _).trans (congrArg _ (funext fun a => Fin.ext ?_))
  match a with
  | ⟨0, _⟩ => show win0_1.index (pt q) 0 * 4352 + 1 * k.val = k.val; rw [idx1]; simp
  | ⟨1, _⟩ => show win0_1.index (pt q) 1 * 1024 + 1 * (s.val * 512 + j.val) = (q.val * 2 + s.val) * 512 + j.val; rw [idx1]; simp; omega

/-- What a point leaves of its blocks. -/
theorem out_apply (x0 x1 : Vec Ideal S4352x1024 .bf16) (s : Fin 2) (i : Fin 1024) (j : Fin 512) :
    out0_2 x0 x1 (ix3 s i j) = ∑ k : Fin 4352, x0 (ix2 k i) * x1 (ix2 k (tile (N := 1024) rfl s j)) := by
  unfold out0_2
  rw [View.canon_unit_zero hz3, View.ld_unit_zero (S := S4352x1024) hz2, View.ld_unit_zero (S := S4352x1024) hz2]
  unfold_payloads
  obtain rfl | rfl : s = 0 ∨ s = 1 := by omega
  · rw [tile_first]
    pointwise
  · rw [tile_second]
    pointwise

/-- The array of the weight's gradient, element by element. -/
theorem arr (s : Fin 2) (i : Fin 1024) (j : Fin 512) : ((dats m 0 c).arrAt 2 cfg0.N : Vec Ideal S8x1024x512 .f32) (ix3 (tile rfl q s) i j)
    = ∑ k : Fin 4352, inp m c (ix2 k i) * grad m c (ix2 k (tile (N := 4096) rfl (tile (N := 8) rfl q s) j)) := by
  have e := congrFun (blocks2 m c (pt q) (flush0_2 _)) (ix3 s i j)
  rw [flushed2, View.read_apply] at e
  refine Eq.trans (congrArg _ (funext fun a => Fin.ext ?_)) (e.trans ((out_apply _ _ s i j).trans ?_))
  · match a with
    | ⟨0, _⟩ => show q.val * 2 + s.val = win0_2.index (pt q) 0 * 2 + 1 * s.val; rw [idx2]; simp
    | ⟨1, _⟩ => show i.val = win0_2.index (pt q) 1 * 1024 + 1 * i.val; rw [idx2]; simp
    | ⟨2, _⟩ => show j.val = win0_2.index (pt q) 2 * 512 + 1 * j.val; rw [idx2]; simp
  · simp only [blk0, blk1]

/-- It is the reference's. -/
theorem same : (dats m 0 c).arrAt 2 cfg0.N = Cert.ReferenceW1DwIdeal.Read.val_main_v5 (F := Ideal) (inp m c) (grad m c) := by
  funext y
  obtain ⟨q, s, i, j, rfl⟩ := stack_tiled (n := 4) (t := 2) rfl y
  refine (arr m c q s i j).trans (Eq.symm ?_)
  open Cert.ReferenceW1DwIdeal.Read in
  unfold val_main_v5 val_main_v4 val_main_v3 val_main_v2
  pointwise
  exact sum_swap _ _

/-- The value claim. -/
theorem algebraic : Cert.algebraic_KernelW1DwIdeal_ReferenceW1DwIdeal (hKernelW1DwIdeal := Cert.KernelW1DwIdeal.Gen.facts)
    (hReferenceW1DwIdeal := Cert.ReferenceW1DwIdeal.Gen.facts) := by
  intro m g m' g' _ hin
  refine ⟨fun c => (dats m 0 c).arrAt 2 cfg0.N, run_blocks m g, ?_⟩
  refine (θ_run _ _ _).mono (fun r h c => ?_) (Cert.ReferenceW1DwIdeal.Value.run m' g')
  obtain ⟨i0, i1⟩ := hin c
  obtain ⟨h0, hk⟩ := h c
  refine ⟨h0.trans ?_, hk⟩
  rw [Cert.ReferenceW1DwIdeal.Read.val_main_v5_eq, i0, i1]
  exact (same m c).symm

end Cert.KernelW1DwIdeal.Prod

end
-- ==== Proof.MlpW1Dx.lean ====
module

public import proofs.«01_k».proof.Defs
public import proofs.«01_k».proof.Proof.Gen.KernelW1DxIdeal
public import proofs.«01_k».proof.Proof.Gen.ReferenceW1DxIdeal
public import proofs.«01_k».proof.Proof.Gen.KernelW1DxIdeal.Value
public import proofs.«01_k».proof.Proof.Gen.ReferenceW1DxIdeal.Run
public import proofs.«01_k».proof.Proof.Gen.ReferenceW1DxIdeal.Read
public import proofs.«01_k».proof.Proof.ProdMath

@[expose] public section

noncomputable section

/-! # The gradient of the MLP's inputs

A grid point takes 2176 rows and 1024 columns of the gradient and the two column shards of the weight that hold those
columns; four points in a row add up a block of rows of the result. -/

namespace Cert.KernelW1DxIdeal.Prod

open Cert.Prod Cert.KernelW1DxIdeal Cert.KernelW1DxIdeal.Gen Cert.KernelW1DxIdeal.Value
open Idealize.ShloMosaic Idealize.ShloMosaic.TcCoe Idealize.SL.Sem

/-- The point of a block of rows and a block of the contracted axis. -/
def pt (p : Fin 2) (s : Fin 4) : Fin cfg0.N := tile (show cfg0.N = 2 * 4 from N_0) p s

theorem idx0 : ∀ (p : Fin 2) (s : Fin 4), win0_0.index (pt p s) = ![p.val, s.val] := by decide +kernel
theorem idx1 : ∀ (p : Fin 2) (s : Fin 4), win0_1.index (pt p s) = ![s.val, 0, 0] := by decide +kernel
theorem idx2 : ∀ (p : Fin 2) (s : Fin 4), win0_2.index (pt p s) = ![p.val, 0] := by decide +kernel
/-- A block of rows is written back after its last point only, and each by its own. -/
theorem flush2 : ∀ p : Fin 2, (cfg0.win 2).flush (pt p 3) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 4)

/-- The weight and the gradient of the product, as launched. -/
abbrev wt : Vec Ideal S1024x4096 .f32 := m ((c : Thread nD τ).loc main_arg0)
abbrev grad : Vec Ideal S4352x4096 .f32 := m ((c : Thread nD τ).loc main_arg1)

/-- The host's cast changes nothing over the reals. -/
theorem V_grad : V m c main_v0 = grad m c := by
  unfold_abbrev_sides
  after_results
  rfl
/-- The host stacks the weight's column shards. -/
theorem V_wt (q : Fin 8) (j : Fin 1024) (k : Fin 512) : (V m c main_v3 : Vec Ideal S8x1024x512 .bf16) (ix3 q j k) = wt m c (ix2 j (tile rfl q k)) := by
  unfold_abbrev_sides
  after_results
  pointwise
  rfl

/-- A tile of the gradient, two shards wide. -/
theorem blk0 (i : Fin 2176) (u : Fin 2) (k : Fin 512) : (iblk m c 0 (pt p s) : Vec Ideal S2176x1024 .bf16) (ix2 i (tile (N := 1024) rfl u k))
    = grad m c (ix2 (tile rfl p i) (tile (N := 4096) rfl (tile (N := 8) rfl s u) k)) := by
  unfold iblk
  rw [View.read_apply]
  refine (congrFun (V_grad m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 1024 + 1 * (u.val * 512 + k.val) = (s.val * 2 + u.val) * 512 + k.val; rw [idx0]; simp; omega

/-- Two shards of the weight. -/
theorem blk1 (u : Fin 2) (j : Fin 1024) (k : Fin 512) : (iblk m c 1 (pt p s) : Vec Ideal S2x1024x512 .bf16) (ix3 u j k)
    = wt m c (ix2 j (tile (N := 4096) rfl (tile (N := 8) rfl s u) k)) := by
  unfold iblk
  rw [View.read_apply]
  refine (congrArg (V m c main_v3) (funext fun a => Fin.ext ?_)).trans (V_wt m c (tile rfl s u) j k)
  match a with
  | ⟨0, _⟩ => show win0_1.index (pt p s) 0 * 2 + 1 * u.val = s.val * 2 + u.val; rw [idx1]; simp
  | ⟨1, _⟩ => show win0_1.index (pt p s) 1 * 1024 + 1 * j.val = j.val; rw [idx1]; simp
  | ⟨2, _⟩ => show win0_1.index (pt p s) 2 * 512 + 1 * k.val = k.val; rw [idx1]; simp

/-- A point's term of the sum: one product for each of its two shards. -/
abbrev term (x0 : Vec Ideal S2176x1024 .bf16) (x1 : Vec Ideal S2x1024x512 .bf16) (i : Fin 2176) (j : Fin 1024) : EReal :=
  ∑ u : Fin 2, ∑ k : Fin 512, x0 (ix2 i (tile rfl u k)) * x1 (ix3 u j k)
theorem pay_apply (x0 : Vec Ideal S2176x1024 .bf16) (x1 : Vec Ideal S2x1024x512 .bf16) (i : Fin 2176) (j : Fin 1024) :
    k0_pay1 x0 (View.ld x1 (Rect.unit (s := S2x1024x512) ![0, 0, 0] S1x1024x512.size inb_S2x1024x512_S1x1024x512_0_0_0))
      (View.ld x1 (Rect.unit (s := S2x1024x512) ![1, 0, 0] S1x1024x512.size inb_S2x1024x512_S1x1024x512_1_0_0)) (ix2 i j) = term x0 x1 i j := by
  unfold_payloads
  pointwise
  unfold term
  rw [Fin.sum_univ_two]
  simp only [tile_first, tile_second]

/-- What the first point of a block of rows leaves, and what a later one leaves over what it finds. -/
theorem start (t : Fin cfg0.N) (h : t.val % 4 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x1024) hz2]
  exact pay_apply _ _ i j
theorem step (t : Fin cfg0.N) (h : ¬t.val % 4 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x1024) hz2]
  have add (z : FVec Ideal S2176x1024 .f32) : addf (shapeCast S2176x1024 xo shapeCasts_S2176x1024_S2176x1024) z (ix2 i j) = xo (ix2 i j) + z (ix2 i j) := by
    pointwise
  exact (add _).trans (congrArg (xo (ix2 i j) + ·) (pay_apply _ _ i j))

/-- The array of the result, element by element. -/
theorem arr (i : Fin 2176) (j : Fin 1024) : ((dats m 0 c).arrAt 2 cfg0.N : Vec Ideal S4352x1024 .f32) (ix2 (tile rfl p i) j)
    = ∑ k : Fin 4096, grad m c (ix2 (tile rfl p i) k) * wt m c (ix2 j k) := by
  have e := congrFun ((dats m 0 c).read_blk_arrAt_eq_flushed 2 disjoint2 cfg0.N (pt p 3) (pt p 3).isLt (flush2 p)) (ix2 i j)
  rw [flushed2, View.read_apply] at e
  refine Eq.trans (congrArg _ (funext fun a => Fin.ext ?_)) (e.trans ((running_sum (show cfg0.N = 2 * 4 from N_0) (by decide) (fun k hk => outsAt0 m c k hk (ix2 i j)) _
    (fun t h => start m c t h i j) (fun t h => step m c t h i j) p 3 rfl).trans ?_))
  · match a with
    | ⟨0, _⟩ => show p.val * 2176 + i.val = win0_2.index (pt p 3) 0 * 2176 + 1 * i.val; rw [idx2]; simp
    | ⟨1, _⟩ => show j.val = win0_2.index (pt p 3) 1 * 1024 + 1 * j.val; rw [idx2]; simp
  · rw [sum_tiles (n := 8) (t := 512) rfl, sum_tiles (n := 4) (t := 2) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceW1DxIdeal.Read.val_main_v2 (F := Ideal) (wt m c) (grad m c) := by
  funext y
  obtain ⟨p, i, j, rfl⟩ := rows_tiled (n := 2) (t := 2176) rfl y
  refine (arr m c p i j).trans (Eq.symm ?_)
  open Cert.ReferenceW1DxIdeal.Read in
  unfold val_main_v2
  pointwise

/-- The value claim. -/
theorem algebraic : Cert.algebraic_KernelW1DxIdeal_ReferenceW1DxIdeal (hKernelW1DxIdeal := Cert.KernelW1DxIdeal.Gen.facts)
    (hReferenceW1DxIdeal := Cert.ReferenceW1DxIdeal.Gen.facts) := by
  intro m g m' g' _ hin
  refine ⟨fun c => (dats m 0 c).arrAt 2 cfg0.N, run_blocks m g, ?_⟩
  refine (θ_run _ _ _).mono (fun r h c => ?_) (Cert.ReferenceW1DxIdeal.Value.run m' g')
  obtain ⟨i0, i1⟩ := hin c
  obtain ⟨h0, hk⟩ := h c
  refine ⟨h0.trans ?_, hk⟩
  rw [Cert.ReferenceW1DxIdeal.Read.val_main_v2_eq, i0, i1]
  exact (same m c).symm

end Cert.KernelW1DxIdeal.Prod

end
-- ==== Proof.MixInFwd.lean ====
module

public import proofs.«01_k».proof.Defs
public import proofs.«01_k».proof.Proof.Gen.KernelInFwdIdeal
public import proofs.«01_k».proof.Proof.Gen.ReferenceInFwdIdeal
public import proofs.«01_k».proof.Proof.Gen.KernelInFwdIdeal.Value
public import proofs.«01_k».proof.Proof.Gen.ReferenceInFwdIdeal.Run
public import proofs.«01_k».proof.Proof.Gen.ReferenceInFwdIdeal.Read
public import proofs.«01_k».proof.Proof.ProdMath

@[expose] public section

noncomputable section

/-! # The odd layers' projection into the mixer

A grid point takes 2176 rows of the inputs and one of the eight column shards of the weight, and leaves a tile of the
projections. -/

namespace Cert.KernelInFwdIdeal.Prod

open Cert.Prod Cert.KernelInFwdIdeal Cert.KernelInFwdIdeal.Gen Cert.KernelInFwdIdeal.Value
open Idealize.ShloMosaic Idealize.ShloMosaic.TcCoe Idealize.SL.Sem

/-- The point of a block of rows and a shard. -/
def pt (p : Fin 2) (q : Fin 8) : Fin cfg0.N := tile (show cfg0.N = 2 * 8 from N_0) p q

theorem idx0 : ∀ (p : Fin 2) (q : Fin 8), win0_0.index (pt p q) = ![p.val, 0] := by decide +kernel
theorem idx1 : ∀ (p : Fin 2) (q : Fin 8), win0_1.index (pt p q) = ![q.val, 0, 0] := by decide +kernel
theorem idx2 : ∀ (p : Fin 2) (q : Fin 8), win0_2.index (pt p q) = ![p.val, q.val] := by decide +kernel

variable (m : (ℓ : Loc nD τ sig) → Buf (Elt Ideal) ℓ) (c : Dev nD) (p : Fin 2) (q : Fin 8)

/-- The inputs and the weight, as launched. -/
abbrev inp : Vec Ideal S4352x1024 .f32 := m ((c : Thread nD τ).loc main_arg0)
abbrev wt : Vec Ideal S1024x6144 .f32 := m ((c : Thread nD τ).loc main_arg1)

/-- The host's cast changes nothing over the reals. -/
theorem V_inp : V m c main_v0 = inp m c := by
  unfold_abbrev_sides
  after_results
  rfl
/-- The host stacks the weight's column shards. -/
theorem V_wt (k : Fin 1024) (j : Fin 768) : (V m c main_v3 : Vec Ideal S8x1024x768 .bf16) (ix3 q k j) = wt m c (ix2 k (tile rfl q j)) := by
  unfold_abbrev_sides
  after_results
  pointwise
  rfl

/-- A block of rows of the inputs. -/
theorem blk0 (i : Fin 2176) (k : Fin 1024) : (iblk m c 0 (pt p q) : Vec Ideal S2176x1024 .bf16) (ix2 i k) = inp m c (ix2 (tile rfl p i) k) := by
  unfold iblk
  rw [View.read_apply]
  refine (congrFun (V_inp m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A shard of the weight. -/
theorem blk1 (k : Fin 1024) (j : Fin 768) : (iblk m c 1 (pt p q) : Vec Ideal S1x1024x768 .bf16) (ix3 0 k j) = wt m c (ix2 k (tile rfl q j)) := by
  unfold iblk
  rw [View.read_apply]
  refine (congrArg (V m c main_v3) (funext fun a => Fin.ext ?_)).trans (V_wt m c q k j)
  match a with
  | ⟨0, _⟩ => show win0_1.index (pt p q) 0 * 1 + 1 * 0 = q.val; rw [idx1]; simp
  | ⟨1, _⟩ => show win0_1.index (pt p q) 1 * 1024 + 1 * k.val = k.val; rw [idx1]; simp
  | ⟨2, _⟩ => show win0_1.index (pt p q) 2 * 768 + 1 * j.val = j.val; rw [idx1]; simp

/-- What a point leaves of its blocks. -/
theorem out_apply (x0 : Vec Ideal S2176x1024 .bf16) (x1 : Vec Ideal S1x1024x768 .bf16) (i : Fin 2176) (j : Fin 768) :
    out0_2 x0 x1 (ix2 i j) = ∑ k : Fin 1024, x0 (ix2 i k) * x1 (ix3 0 k j) := by
  unfold out0_2
  rw [View.canon_unit_zero hz2, View.ld_unit_zero (S := S2176x1024) hz2, View.ld_unit_zero (S := S1x1024x768) hz3]
  unfold_payloads
  pointwise

/-- The array of the projections, element by element. -/
theorem arr (i : Fin 2176) (j : Fin 768) : ((dats m 0 c).arrAt 2 cfg0.N : Vec Ideal S4352x6144 .f32) (ix2 (tile rfl p i) (tile rfl q j))
    = ∑ k : Fin 1024, inp m c (ix2 (tile rfl p i) k) * wt m c (ix2 k (tile rfl q j)) := by
  have e := congrFun (blocks2 m c (pt p q) (flush0_2 _)) (ix2 i j)
  rw [flushed2, View.read_apply] at e
  refine Eq.trans (congrArg _ (funext fun a => Fin.ext ?_)) (e.trans ((out_apply _ _ i j).trans ?_))
  · match a with
    | ⟨0, _⟩ => show p.val * 2176 + i.val = win0_2.index (pt p q) 0 * 2176 + 1 * i.val; rw [idx2]; simp
    | ⟨1, _⟩ => show q.val * 768 + j.val = win0_2.index (pt p q) 1 * 768 + 1 * j.val; rw [idx2]; simp
  · simp only [blk0, blk1]

/-- It is the reference's. -/
theorem same : (dats m 0 c).arrAt 2 cfg0.N = Cert.ReferenceInFwdIdeal.Read.val_main_v0 (F := Ideal) (inp m c) (wt m c) := by
  funext y
  obtain ⟨p, q, i, j, rfl⟩ := both_tiled (n := 2) (t := 2176) (n' := 8) (t' := 768) rfl rfl y
  refine (arr m c p q i j).trans (Eq.symm ?_)
  open Cert.ReferenceInFwdIdeal.Read in
  unfold val_main_v0
  pointwise

/-- The value claim. -/
theorem algebraic : Cert.algebraic_KernelInFwdIdeal_ReferenceInFwdIdeal (hKernelInFwdIdeal := Cert.KernelInFwdIdeal.Gen.facts)
    (hReferenceInFwdIdeal := Cert.ReferenceInFwdIdeal.Gen.facts) := by
  intro m g m' g' _ hin
  refine ⟨fun c => (dats m 0 c).arrAt 2 cfg0.N, run_blocks m g, ?_⟩
  refine (θ_run _ _ _).mono (fun r h c => ?_) (Cert.ReferenceInFwdIdeal.Value.run m' g')
  obtain ⟨i0, i1⟩ := hin c
  obtain ⟨h0, hk⟩ := h c
  refine ⟨h0.trans ?_, hk⟩
  rw [Cert.ReferenceInFwdIdeal.Read.val_main_v0_eq, i0, i1]
  exact (same m c).symm

end Cert.KernelInFwdIdeal.Prod

end
-- ==== Proof.MixInDw.lean ====
module

public import proofs.«01_k».proof.Defs
public import proofs.«01_k».proof.Proof.Gen.KernelInDwIdeal
public import proofs.«01_k».proof.Proof.Gen.ReferenceInDwIdeal
public import proofs.«01_k».proof.Proof.Gen.KernelInDwIdeal.Value
public import proofs.«01_k».proof.Proof.Gen.ReferenceInDwIdeal.Run
public import proofs.«01_k».proof.Proof.Gen.ReferenceInDwIdeal.Read
public import proofs.«01_k».proof.Proof.ProdMath

@[expose] public section

noncomputable section

/-! # The gradient of the odd layers' weight into the mixer

A grid point takes 2176 rows of the inputs and of 1536 columns of the gradient; the two points of a pair add up two column
shards of the weight's gradient. -/

namespace Cert.KernelInDwIdeal.Prod

open Cert.Prod Cert.KernelInDwIdeal Cert.KernelInDwIdeal.Gen Cert.KernelInDwIdeal.Value
open Idealize.ShloMosaic Idealize.ShloMosaic.TcCoe Idealize.SL.Sem

/-- The point of a pair of shards and a block of rows. -/
def pt (q : Fin 4) (r : Fin 2) : Fin cfg0.N := tile (show cfg0.N = 4 * 2 from N_0) q r

theorem idx0 : ∀ (q : Fin 4) (r : Fin 2), win0_0.index (pt q r) = ![r.val, 0] := by decide +kernel
theorem idx1 : ∀ (q : Fin 4) (r : Fin 2), win0_1.index (pt q r) = ![r.val, q.val] := by decide +kernel
theorem idx2 : ∀ (q : Fin 4) (r : Fin 2), win0_2.index (pt q r) = ![q.val, 0, 0] := by decide +kernel
/-- A pair of shards is written back after its last point only, and each by its own. -/
theorem flush2 : ∀ q : Fin 4, (cfg0.win 2).flush (pt q 1) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (q : Fin 4) (r : Fin 2)

/-- The inputs and the gradient of the product, as launched. -/
abbrev inp : Vec Ideal S4352x1024 .f32 := m ((c : Thread nD τ).loc main_arg0)
abbrev grad : Vec Ideal S4352x6144 .f32 := m ((c : Thread nD τ).loc main_arg1)

/-- The host's casts change nothing over the reals. -/
theorem V_inp : V m c main_v0 = inp m c := by
  unfold_abbrev_sides
  after_results
  rfl
theorem V_grad : V m c main_v1 = grad m c := by
  unfold_abbrev_sides
  after_results
  rfl

/-- A block of rows of the inputs. -/
theorem blk0 (k : Fin 2176) (i : Fin 1024) : (iblk m c 0 (pt q r) : Vec Ideal S2176x1024 .bf16) (ix2 k i) = inp m c (ix2 (tile rfl r k) i) := by
  unfold iblk
  rw [View.read_apply]
  refine (congrFun (V_inp m c) _).trans (congrArg _ (funext fun a => Fin.ext ?_))
  match a with
  | ⟨0, _⟩ => show win0_0.index (pt q r) 0 * 2176 + 1 * k.val = r.val * 2176 + k.val; rw [idx0]; simp
  | ⟨1, _⟩ => show win0_0.index (pt q r) 1 * 1024 + 1 * i.val = i.val; rw [idx0]; simp

/-- Those rows of the gradient's columns of two shards. -/
theorem blk1 (k : Fin 2176) (s : Fin 2) (j : Fin 768) : (iblk m c 1 (pt q r) : Vec Ideal S2176x1536 .bf16) (ix2 k (tile (N := 1536) rfl s j))
    = grad m c (ix2 (tile rfl r k) (tile (N := 6144) rfl (tile (N := 8) rfl q s) j)) := by
  unfold iblk
  rw [View.read_apply]
  refine (congrFun (V_grad m c) _).trans (congrArg _ (funext fun a => Fin.ext ?_))
  match a with
  | ⟨0, _⟩ => show win0_1.index (pt q r) 0 * 2176 + 1 * k.val = r.val * 2176 + k.val; rw [idx1]; simp
  | ⟨1, _⟩ => show win0_1.index (pt q r) 1 * 1536 + 1 * (s.val * 768 + j.val) = (q.val * 2 + s.val) * 768 + j.val; rw [idx1]; simp; omega

/-- A point's term of the sum. -/
abbrev term (x0 : Vec Ideal S2176x1024 .bf16) (x1 : Vec Ideal S2176x1536 .bf16) (s : Fin 2) (i : Fin 1024) (j : Fin 768) : EReal :=
  ∑ k : Fin 2176, x0 (ix2 k i) * x1 (ix2 k (tile (N := 1536) rfl s j))
theorem pay_apply (x0 : Vec Ideal S2176x1024 .bf16) (x1 : Vec Ideal S2176x1536 .bf16) (s : Fin 2) (i : Fin 1024) (j : Fin 768) :
    k0_pay1 x0 x1 (ix3 s i j) = term x0 x1 s i j := by
  unfold_payloads
  unfold term
  obtain rfl | rfl : s = 0 ∨ s = 1 := by omega
  · rw [tile_first]
    pointwise
  · rw [tile_second]
    pointwise

/-- What the first point of a pair of shards leaves, and what the second leaves over what it finds. -/
theorem start (t : Fin cfg0.N) (h : t.val % 2 = 0) (s : Fin 2) (i : Fin 1024) (j : Fin 768) :
    outsAt0 m c t.val t.isLt (ix3 s i j) = term (iblk m c 0 t) (iblk m c 1 t) s i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz3]
  simp only [View.readAt_eq_ld, (hs0_0 t).read_unread, (hs0_1 t).read_unread,
    View.ld_unit_zero (S := S2176x1024) hz2, View.ld_unit_zero (S := S2176x1536) hz2]
  exact pay_apply _ _ s i j
theorem step (t : Fin cfg0.N) (h : ¬t.val % 2 = 0) (s : Fin 2) (i : Fin 1024) (j : Fin 768) :
    outsAt0 m c t.val t.isLt (ix3 s i j) = outsAt0 m c (t.val - 1) (Nat.lt_of_le_of_lt (Nat.sub_le _ _) t.isLt) (ix3 s i j) + term (iblk m c 0 t) (iblk m c 1 t) s i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz3]
  simp only [View.readAt_eq_ld, (hs0_0 t).read_unread, (hs0_1 t).read_unread, (hs0_2 t).read_unread,
    View.ld_unit_zero (S := S2176x1024) hz2, View.ld_unit_zero (S := S2176x1536) hz2, View.ld_unit_zero (S := S2x1024x768) hz3]
  have add (z : FVec Ideal S2x1024x768 .f32) : addf (shapeCast S2x1024x768 xo shapeCasts_S2x1024x768_S2x1024x768) z (ix3 s i j) = xo (ix3 s i j) + z (ix3 s i j) := by
    pointwise
  exact (add _).trans (congrArg (xo (ix3 s i j) + ·) (pay_apply _ _ s i j))

/-- The array of the weight's gradient, element by element. -/
theorem arr (s : Fin 2) (i : Fin 1024) (j : Fin 768) : ((dats m 0 c).arrAt 2 cfg0.N : Vec Ideal S8x1024x768 .f32) (ix3 (tile rfl q s) i j)
    = ∑ k : Fin 4352, inp m c (ix2 k i) * grad m c (ix2 k (tile (N := 6144) rfl (tile (N := 8) rfl q s) j)) := by
  have e := congrFun ((dats m 0 c).read_blk_arrAt_eq_flushed 2 disjoint2 cfg0.N (pt q 1) (pt q 1).isLt (flush2 q)) (ix3 s i j)
  rw [flushed2, View.read_apply] at e
  refine Eq.trans (congrArg _ (funext fun a => Fin.ext ?_)) (e.trans ((running_sum (show cfg0.N = 4 * 2 from N_0) (by decide) (fun k hk => outsAt0 m c k hk (ix3 s i j)) _
    (fun t h => start m c t h s i j) (fun t h => step m c t h s i j) q 1 rfl).trans ?_))
  · match a with
    | ⟨0, _⟩ => show q.val * 2 + s.val = win0_2.index (pt q 1) 0 * 2 + 1 * s.val; rw [idx2]; simp
    | ⟨1, _⟩ => show i.val = win0_2.index (pt q 1) 1 * 1024 + 1 * i.val; rw [idx2]; simp
    | ⟨2, _⟩ => show j.val = win0_2.index (pt q 1) 2 * 768 + 1 * j.val; rw [idx2]; simp
  · rw [sum_tiles (n := 2) (t := 2176) rfl]
    refine Finset.sum_congr rfl fun r _ => ?_
    show term (iblk m c 0 (pt q r)) (iblk m c 1 (pt q r)) s i j = _
    simp only [term, blk0, blk1]

/-- It is the reference's. -/
theorem same : (dats m 0 c).arrAt 2 cfg0.N = Cert.ReferenceInDwIdeal.Read.val_main_v5 (F := Ideal) (inp m c) (grad m c) := by
  funext y
  obtain ⟨q, s, i, j, rfl⟩ := stack_tiled (n := 4) (t := 2) rfl y
  refine (arr m c q s i j).trans (Eq.symm ?_)
  open Cert.ReferenceInDwIdeal.Read in
  unfold val_main_v5 val_main_v4 val_main_v3 val_main_v2
  pointwise
  exact sum_swap _ _

/-- The value claim. -/
theorem algebraic : Cert.algebraic_KernelInDwIdeal_ReferenceInDwIdeal (hKernelInDwIdeal := Cert.KernelInDwIdeal.Gen.facts)
    (hReferenceInDwIdeal := Cert.ReferenceInDwIdeal.Gen.facts) := by
  intro m g m' g' _ hin
  refine ⟨fun c => (dats m 0 c).arrAt 2 cfg0.N, run_blocks m g, ?_⟩
  refine (θ_run _ _ _).mono (fun r h c => ?_) (Cert.ReferenceInDwIdeal.Value.run m' g')
  obtain ⟨i0, i1⟩ := hin c
  obtain ⟨h0, hk⟩ := h c
  refine ⟨h0.trans ?_, hk⟩
  rw [Cert.ReferenceInDwIdeal.Read.val_main_v5_eq, i0, i1]
  exact (same m c).symm

end Cert.KernelInDwIdeal.Prod

end
-- ==== Proof.MixInDx.lean ====
module

public import proofs.«01_k».proof.Defs
public import proofs.«01_k».proof.Proof.Gen.KernelInDxIdeal
public import proofs.«01_k».proof.Proof.Gen.ReferenceInDxIdeal
public import proofs.«01_k».proof.Proof.Gen.KernelInDxIdeal.Value
public import proofs.«01_k».proof.Proof.Gen.ReferenceInDxIdeal.Run
public import proofs.«01_k».proof.Proof.Gen.ReferenceInDxIdeal.Read
public import proofs.«01_k».proof.Proof.ProdMath

@[expose] public section

noncomputable section

/-! # The gradient of the inputs of the odd layers' projection

A grid point takes 2176 rows and 1536 columns of the gradient and the two column shards of the weight that hold those
columns; four points in a row add up a block of rows of the result. -/

namespace Cert.KernelInDxIdeal.Prod

open Cert.Prod Cert.KernelInDxIdeal Cert.KernelInDxIdeal.Gen Cert.KernelInDxIdeal.Value
open Idealize.ShloMosaic Idealize.ShloMosaic.TcCoe Idealize.SL.Sem

/-- The point of a block of rows and a block of the contracted axis. -/
def pt (p : Fin 2) (s : Fin 4) : Fin cfg0.N := tile (show cfg0.N = 2 * 4 from N_0) p s

theorem idx0 : ∀ (p : Fin 2) (s : Fin 4), win0_0.index (pt p s) = ![p.val, s.val] := by decide +kernel
theorem idx1 : ∀ (p : Fin 2) (s : Fin 4), win0_1.index (pt p s) = ![s.val, 0, 0] := by decide +kernel
theorem idx2 : ∀ (p : Fin 2) (s : Fin 4), win0_2.index (pt p s) = ![p.val, 0] := by decide +kernel
/-- A block of rows is written back after its last point only, and each by its own. -/
theorem flush2 : ∀ p : Fin 2, (cfg0.win 2).flush (pt p 3) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 4)

/-- The weight and the gradient of the product, as launched. -/
abbrev wt : Vec Ideal S1024x6144 .f32 := m ((c : Thread nD τ).loc main_arg0)
abbrev grad : Vec Ideal S4352x6144 .f32 := m ((c : Thread nD τ).loc main_arg1)

/-- The host's cast changes nothing over the reals. -/
theorem V_grad : V m c main_v0 = grad m c := by
  unfold_abbrev_sides
  after_results
  rfl
/-- The host stacks the weight's column shards. -/
theorem V_wt (q : Fin 8) (j : Fin 1024) (k : Fin 768) : (V m c main_v3 : Vec Ideal S8x1024x768 .bf16) (ix3 q j k) = wt m c (ix2 j (tile rfl q k)) := by
  unfold_abbrev_sides
  after_results
  pointwise
  rfl

/-- A tile of the gradient, two shards wide. -/
theorem blk0 (i : Fin 2176) (u : Fin 2) (k : Fin 768) : (iblk m c 0 (pt p s) : Vec Ideal S2176x1536 .bf16) (ix2 i (tile (N := 1536) rfl u k))
    = grad m c (ix2 (tile rfl p i) (tile (N := 6144) rfl (tile (N := 8) rfl s u) k)) := by
  unfold iblk
  rw [View.read_apply]
  refine (congrFun (V_grad m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 1536 + 1 * (u.val * 768 + k.val) = (s.val * 2 + u.val) * 768 + k.val; rw [idx0]; simp; omega

/-- Two shards of the weight. -/
theorem blk1 (u : Fin 2) (j : Fin 1024) (k : Fin 768) : (iblk m c 1 (pt p s) : Vec Ideal S2x1024x768 .bf16) (ix3 u j k)
    = wt m c (ix2 j (tile (N := 6144) rfl (tile (N := 8) rfl s u) k)) := by
  unfold iblk
  rw [View.read_apply]
  refine (congrArg (V m c main_v3) (funext fun a => Fin.ext ?_)).trans (V_wt m c (tile rfl s u) j k)
  match a with
  | ⟨0, _⟩ => show win0_1.index (pt p s) 0 * 2 + 1 * u.val = s.val * 2 + u.val; rw [idx1]; simp
  | ⟨1, _⟩ => show win0_1.index (pt p s) 1 * 1024 + 1 * j.val = j.val; rw [idx1]; simp
  | ⟨2, _⟩ => show win0_1.index (pt p s) 2 * 768 + 1 * k.val = k.val; rw [idx1]; simp

/-- A point's term of the sum: one product for each of its two shards. -/
abbrev term (x0 : Vec Ideal S2176x1536 .bf16) (x1 : Vec Ideal S2x1024x768 .bf16) (i : Fin 2176) (j : Fin 1024) : EReal :=
  ∑ u : Fin 2, ∑ k : Fin 768, x0 (ix2 i (tile rfl u k)) * x1 (ix3 u j k)
theorem pay_apply (x0 : Vec Ideal S2176x1536 .bf16) (x1 : Vec Ideal S2x1024x768 .bf16) (i : Fin 2176) (j : Fin 1024) :
    k0_pay1 x0 (View.ld x1 (Rect.unit (s := S2x1024x768) ![0, 0, 0] S1x1024x768.size inb_S2x1024x768_S1x1024x768_0_0_0))
      (View.ld x1 (Rect.unit (s := S2x1024x768) ![1, 0, 0] S1x1024x768.size inb_S2x1024x768_S1x1024x768_1_0_0)) (ix2 i j) = term x0 x1 i j := by
  unfold_payloads
  pointwise
  unfold term
  rw [Fin.sum_univ_two]
  simp only [tile_first, tile_second]

/-- What the first point of a block of rows leaves, and what a later one leaves over what it finds. -/
theorem start (t : Fin cfg0.N) (h : t.val % 4 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x1536) hz2]
  exact pay_apply _ _ i j
theorem step (t : Fin cfg0.N) (h : ¬t.val % 4 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x1536) hz2, View.ld_unit_zero (S := S2176x1024) hz2]
  have add (z : FVec Ideal S2176x1024 .f32) : addf (shapeCast S2176x1024 xo shapeCasts_S2176x1024_S2176x1024) z (ix2 i j) = xo (ix2 i j) + z (ix2 i j) := by
    pointwise
  exact (add _).trans (congrArg (xo (ix2 i j) + ·) (pay_apply _ _ i j))

/-- The array of the result, element by element. -/
theorem arr (i : Fin 2176) (j : Fin 1024) : ((dats m 0 c).arrAt 2 cfg0.N : Vec Ideal S4352x1024 .f32) (ix2 (tile rfl p i) j)
    = ∑ k : Fin 6144, grad m c (ix2 (tile rfl p i) k) * wt m c (ix2 j k) := by
  have e := congrFun ((dats m 0 c).read_blk_arrAt_eq_flushed 2 disjoint2 cfg0.N (pt p 3) (pt p 3).isLt (flush2 p)) (ix2 i j)
  rw [flushed2, View.read_apply] at e
  refine Eq.trans (congrArg _ (funext fun a => Fin.ext ?_)) (e.trans ((running_sum (show cfg0.N = 2 * 4 from N_0) (by decide) (fun k hk => outsAt0 m c k hk (ix2 i j)) _
    (fun t h => start m c t h i j) (fun t h => step m c t h i j) p 3 rfl).trans ?_))
  · match a with
    | ⟨0, _⟩ => show p.val * 2176 + i.val = win0_2.index (pt p 3) 0 * 2176 + 1 * i.val; rw [idx2]; simp
    | ⟨1, _⟩ => show j.val = win0_2.index (pt p 3) 1 * 1024 + 1 * j.val; rw [idx2]; simp
  · rw [sum_tiles (n := 8) (t := 768) rfl, sum_tiles (n := 4) (t := 2) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceInDxIdeal.Read.val_main_v2 (F := Ideal) (wt m c) (grad m c) := by
  funext y
  obtain ⟨p, i, j, rfl⟩ := rows_tiled (n := 2) (t := 2176) rfl y
  refine (arr m c p i j).trans (Eq.symm ?_)
  open Cert.ReferenceInDxIdeal.Read in
  unfold val_main_v2
  pointwise

/-- The value claim. -/
theorem algebraic : Cert.algebraic_KernelInDxIdeal_ReferenceInDxIdeal (hKernelInDxIdeal := Cert.KernelInDxIdeal.Gen.facts)
    (hReferenceInDxIdeal := Cert.ReferenceInDxIdeal.Gen.facts) := by
  intro m g m' g' _ hin
  refine ⟨fun c => (dats m 0 c).arrAt 2 cfg0.N, run_blocks m g, ?_⟩
  refine (θ_run _ _ _).mono (fun r h c => ?_) (Cert.ReferenceInDxIdeal.Value.run m' g')
  obtain ⟨i0, i1⟩ := hin c
  obtain ⟨h0, hk⟩ := h c
  refine ⟨h0.trans ?_, hk⟩
  rw [Cert.ReferenceInDxIdeal.Read.val_main_v2_eq, i0, i1]
  exact (same m c).symm

end Cert.KernelInDxIdeal.Prod

end
-- ==== Proof.MixOutFwd.lean ====
module

public import proofs.«01_k».proof.Defs
public import proofs.«01_k».proof.Proof.Gen.KernelOutFwdIdeal
public import proofs.«01_k».proof.Proof.Gen.ReferenceOutFwdIdeal
public import proofs.«01_k».proof.Proof.Gen.KernelOutFwdIdeal.Value
public import proofs.«01_k».proof.Proof.Gen.ReferenceOutFwdIdeal.Run
public import proofs.«01_k».proof.Proof.Gen.ReferenceOutFwdIdeal.Read
public import proofs.«01_k».proof.Proof.ProdMath

@[expose] public section

noncomputable section

/-! # The odd layers' product out of the mixer

A grid point takes 2176 rows and 1024 columns of the mixed heads and the weight's rows of those columns; two points in a
row add up a block of rows of the result. -/

namespace Cert.KernelOutFwdIdeal.Prod

open Cert.Prod Cert.KernelOutFwdIdeal Cert.KernelOutFwdIdeal.Gen Cert.KernelOutFwdIdeal.Value
open Idealize.ShloMosaic Idealize.ShloMosaic.TcCoe Idealize.SL.Sem

/-- The point of a block of rows and a block of the contracted axis. -/
def pt (p : Fin 2) (s : Fin 2) : Fin cfg0.N := tile (show cfg0.N = 2 * 2 from N_0) p s

theorem idx0 : ∀ (p : Fin 2) (s : Fin 2), win0_0.index (pt p s) = ![p.val, s.val] := by decide +kernel
theorem idx1 : ∀ (p : Fin 2) (s : Fin 2), win0_1.index (pt p s) = ![s.val, 0] := by decide +kernel
theorem idx2 : ∀ (p : Fin 2) (s : Fin 2), win0_2.index (pt p s) = ![p.val, 0] := by decide +kernel
/-- A block of rows is written back after its last point only, and each by its own. -/
theorem flush2 : ∀ p : Fin 2, (cfg0.win 2).flush (pt p 1) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 2)

/-- The mixed heads and the weight, as launched. -/
abbrev head : Vec Ideal S4352x2048 .f32 := m ((c : Thread nD τ).loc main_arg0)
abbrev wt : Vec Ideal S2048x1024 .f32 := m ((c : Thread nD τ).loc main_arg1)

/-- The host's casts change nothing over the reals. -/
theorem V_head : V m c main_v0 = head m c := by
  unfold_abbrev_sides
  after_results
  rfl
theorem V_wt : V m c main_v1 = wt m c := by
  unfold_abbrev_sides
  after_results
  rfl

/-- A tile of the mixed heads. -/
theorem blk0 (i : Fin 2176) (k : Fin 1024) : (iblk m c 0 (pt p s) : Vec Ideal S2176x1024 .bf16) (ix2 i k) = head m c (ix2 (tile rfl p i) (tile rfl s k)) := by
  unfold iblk
  rw [View.read_apply]
  refine (congrFun (V_head m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 1024 + 1 * k.val = s.val * 1024 + k.val; rw [idx0]; simp

/-- A block of rows of the weight. -/
theorem blk1 (k j : Fin 1024) : (iblk m c 1 (pt p s) : Vec Ideal S1024x1024 .bf16) (ix2 k j) = wt m c (ix2 (tile rfl s k) j) := by
  unfold iblk
  rw [View.read_apply]
  refine (congrFun (V_wt m c) _).trans (congrArg _ (funext fun a => Fin.ext ?_))
  match a with
  | ⟨0, _⟩ => show win0_1.index (pt p s) 0 * 1024 + 1 * k.val = s.val * 1024 + k.val; rw [idx1]; simp
  | ⟨1, _⟩ => show win0_1.index (pt p s) 1 * 1024 + 1 * j.val = j.val; rw [idx1]; simp

/-- A point's term of the sum. -/
abbrev term (x0 : Vec Ideal S2176x1024 .bf16) (x1 : Vec Ideal S1024x1024 .bf16) (i : Fin 2176) (j : Fin 1024) : EReal :=
  ∑ k : Fin 1024, x0 (ix2 i k) * x1 (ix2 k j)

/-- What the first point of a block of rows leaves, and what a later one leaves over what it finds. -/
theorem start (t : Fin cfg0.N) (h : t.val % 2 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x1024) hz2, View.ld_unit_zero (S := S1024x1024) hz2]
  unfold_payloads
  pointwise
theorem step (t : Fin cfg0.N) (h : ¬t.val % 2 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x1024) hz2, View.ld_unit_zero (S := S1024x1024) hz2]
  unfold_payloads
  pointwise

/-- The array of the result, element by element. -/
theorem arr (i : Fin 2176) (j : Fin 1024) : ((dats m 0 c).arrAt 2 cfg0.N : Vec Ideal S4352x1024 .f32) (ix2 (tile rfl p i) j)
    = ∑ k : Fin 2048, head m c (ix2 (tile rfl p i) k) * wt m c (ix2 k j) := by
  have e := congrFun ((dats m 0 c).read_blk_arrAt_eq_flushed 2 disjoint2 cfg0.N (pt p 1) (pt p 1).isLt (flush2 p)) (ix2 i j)
  rw [flushed2, View.read_apply] at e
  refine Eq.trans (congrArg _ (funext fun a => Fin.ext ?_)) (e.trans ((running_sum (show cfg0.N = 2 * 2 from N_0) (by decide) (fun k hk => outsAt0 m c k hk (ix2 i j)) _
    (fun t h => start m c t h i j) (fun t h => step m c t h i j) p 1 rfl).trans ?_))
  · match a with
    | ⟨0, _⟩ => show p.val * 2176 + i.val = win0_2.index (pt p 1) 0 * 2176 + 1 * i.val; rw [idx2]; simp
    | ⟨1, _⟩ => show j.val = win0_2.index (pt p 1) 1 * 1024 + 1 * j.val; rw [idx2]; simp
  · rw [sum_tiles (n := 2) (t := 1024) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceOutFwdIdeal.Read.val_main_v0 (F := Ideal) (head m c) (wt m c) := by
  funext y
  obtain ⟨p, i, j, rfl⟩ := rows_tiled (n := 2) (t := 2176) rfl y
  refine (arr m c p i j).trans (Eq.symm ?_)
  open Cert.ReferenceOutFwdIdeal.Read in
  unfold val_main_v0
  pointwise

/-- The value claim. -/
theorem algebraic : Cert.algebraic_KernelOutFwdIdeal_ReferenceOutFwdIdeal (hKernelOutFwdIdeal := Cert.KernelOutFwdIdeal.Gen.facts)
    (hReferenceOutFwdIdeal := Cert.ReferenceOutFwdIdeal.Gen.facts) := by
  intro m g m' g' _ hin
  refine ⟨fun c => (dats m 0 c).arrAt 2 cfg0.N, run_blocks m g, ?_⟩
  refine (θ_run _ _ _).mono (fun r h c => ?_) (Cert.ReferenceOutFwdIdeal.Value.run m' g')
  obtain ⟨i0, i1⟩ := hin c
  obtain ⟨h0, hk⟩ := h c
  refine ⟨h0.trans ?_, hk⟩
  rw [Cert.ReferenceOutFwdIdeal.Read.val_main_v0_eq, i0, i1]
  exact (same m c).symm

end Cert.KernelOutFwdIdeal.Prod

end
-- ==== Proof.MixOutDw.lean ====
module

public import proofs.«01_k».proof.Defs
public import proofs.«01_k».proof.Proof.Gen.KernelOutDwIdeal
public import proofs.«01_k».proof.Proof.Gen.ReferenceOutDwIdeal
public import proofs.«01_k».proof.Proof.Gen.KernelOutDwIdeal.Value
public import proofs.«01_k».proof.Proof.Gen.ReferenceOutDwIdeal.Run
public import proofs.«01_k».proof.Proof.Gen.ReferenceOutDwIdeal.Read
public import proofs.«01_k».proof.Proof.ProdMath

@[expose] public section

noncomputable section

/-! # The gradient of the odd layers' weight out of the mixer

A grid point takes 1024 columns of the mixed heads and all 4352 rows, and leaves 1024 rows of the weight's gradient. -/

namespace Cert.KernelOutDwIdeal.Prod

open Cert.Prod Cert.KernelOutDwIdeal Cert.KernelOutDwIdeal.Gen Cert.KernelOutDwIdeal.Value
open Idealize.ShloMosaic Idealize.ShloMosaic.TcCoe Idealize.SL.Sem

/-- The point of a block of rows. -/
def pt (p : Fin 2) : Fin cfg0.N := Fin.cast (show 2 = cfg0.N from N_0.symm) p

theorem idx0 : ∀ p : Fin 2, win0_0.index (pt p) = ![0, p.val] := by decide +kernel
theorem idx1 : ∀ p : Fin 2, win0_1.index (pt p) = ![0, 0] := by decide +kernel
theorem idx2 : ∀ p : Fin 2, win0_2.index (pt p) = ![p.val, 0] := by decide +kernel

variable (m : (ℓ : Loc nD τ sig) → Buf (Elt Ideal) ℓ) (c : Dev nD) (p : Fin 2)

/-- The mixed heads and the gradient of their projection, as launched. -/
abbrev act : Vec Ideal S4352x2048 .f32 := m ((c : Thread nD τ).loc main_arg0)
abbrev grad : Vec Ideal S4352x1024 .f32 := m ((c : Thread nD τ).loc main_arg1)

/-- The host's casts change nothing over the reals. -/
theorem V_act : V m c main_v0 = act m c := by
  unfold_abbrev_sides
  after_results
  rfl
theorem V_grad : V m c main_v1 = grad m c := by
  unfold_abbrev_sides
  after_results
  rfl

/-- A block of the mixed heads. -/
theorem blk0 (k : Fin 4352) (i : Fin 1024) : (iblk m c 0 (pt p) : Vec Ideal S4352x1024 .bf16) (ix2 k i) = act m c (ix2 k (tile rfl p i)) := by
  unfold iblk
  rw [View.read_apply]
  refine (congrFun (V_act m c) _).trans (congrArg _ (funext fun a => Fin.ext ?_))
  match a with
  | ⟨0, _⟩ => show win0_0.index (pt p) 0 * 4352 + 1 * k.val = k.val; rw [idx0]; simp
  | ⟨1, _⟩ => show win0_0.index (pt p) 1 * 1024 + 1 * i.val = p.val * 1024 + i.val; rw [idx0]; simp

/-- The gradient of the result is read whole. -/
theorem blk1 (k : Fin 4352) (j : Fin 1024) : (iblk m c 1 (pt p) : Vec Ideal S4352x1024 .bf16) (ix2 k j) = grad m c (ix2 k j) := by
  unfold iblk
  rw [View.read_apply]
  refine (congrFun (V_grad m c) _).trans (congrArg _ (funext fun a => Fin.ext ?_))
  match a with
  | ⟨0, _⟩ => show win0_1.index (pt p) 0 * 4352 + 1 * k.val = k.val; rw [idx1]; simp
  | ⟨1, _⟩ => show win0_1.index (pt p) 1 * 1024 + 1 * j.val = j.val; rw [idx1]; simp

/-- What a point leaves of its blocks. -/
theorem out_apply (x0 x1 : Vec Ideal S4352x1024 .bf16) (i j : Fin 1024) : out0_2 x0 x1 (ix2 i j) = ∑ k : Fin 4352, x0 (ix2 k i) * x1 (ix2 k j) := by
  unfold out0_2
  rw [View.canon_unit_zero hz2, View.ld_unit_zero (S := S4352x1024) hz2, View.ld_unit_zero (S := S4352x1024) hz2]
  unfold_payloads
  pointwise

/-- The array of the weight's gradient, element by element. -/
theorem arr (i j : Fin 1024) : ((dats m 0 c).arrAt 2 cfg0.N : Vec Ideal S2048x1024 .f32) (ix2 (tile rfl p i) j)
    = ∑ k : Fin 4352, act m c (ix2 k (tile rfl p i)) * grad m c (ix2 k j) := by
  have e := congrFun (blocks2 m c (pt p) (flush0_2 _)) (ix2 i j)
  rw [flushed2, View.read_apply] at e
  refine Eq.trans (congrArg _ (funext fun a => Fin.ext ?_)) (e.trans ((out_apply _ _ i j).trans ?_))
  · match a with
    | ⟨0, _⟩ => show p.val * 1024 + i.val = win0_2.index (pt p) 0 * 1024 + 1 * i.val; rw [idx2]; simp
    | ⟨1, _⟩ => show j.val = win0_2.index (pt p) 1 * 1024 + 1 * j.val; rw [idx2]; simp
  · simp only [blk0, blk1]

/-- It is the reference's. -/
theorem same : (dats m 0 c).arrAt 2 cfg0.N = Cert.ReferenceOutDwIdeal.Read.val_main_v3 (F := Ideal) (act m c) (grad m c) := by
  funext y
  obtain ⟨p, i, j, rfl⟩ := rows_tiled (n := 2) (t := 1024) rfl y
  refine (arr m c p i j).trans (Eq.symm ?_)
  open Cert.ReferenceOutDwIdeal.Read in
  unfold val_main_v3 val_main_v2
  pointwise
  exact sum_swap _ _

/-- The value claim. -/
theorem algebraic : Cert.algebraic_KernelOutDwIdeal_ReferenceOutDwIdeal (hKernelOutDwIdeal := Cert.KernelOutDwIdeal.Gen.facts)
    (hReferenceOutDwIdeal := Cert.ReferenceOutDwIdeal.Gen.facts) := by
  intro m g m' g' _ hin
  refine ⟨fun c => (dats m 0 c).arrAt 2 cfg0.N, run_blocks m g, ?_⟩
  refine (θ_run _ _ _).mono (fun r h c => ?_) (Cert.ReferenceOutDwIdeal.Value.run m' g')
  obtain ⟨i0, i1⟩ := hin c
  obtain ⟨h0, hk⟩ := h c
  refine ⟨h0.trans ?_, hk⟩
  rw [Cert.ReferenceOutDwIdeal.Read.val_main_v3_eq, i0, i1]
  exact (same m c).symm

end Cert.KernelOutDwIdeal.Prod

end
-- ==== Proof.MixOutDx.lean ====
module

public import proofs.«01_k».proof.Defs
public import proofs.«01_k».proof.Proof.Gen.KernelOutDxIdeal
public import proofs.«01_k».proof.Proof.Gen.ReferenceOutDxIdeal
public import proofs.«01_k».proof.Proof.Gen.KernelOutDxIdeal.Value
public import proofs.«01_k».proof.Proof.Gen.ReferenceOutDxIdeal.Run
public import proofs.«01_k».proof.Proof.Gen.ReferenceOutDxIdeal.Read
public import proofs.«01_k».proof.Proof.ProdMath

@[expose] public section

noncomputable section

/-! # The gradient of the mixed heads through the odd layers' weight out of the mixer

A grid point takes 2176 rows of the result's gradient and 1024 rows of the weight, and leaves a tile of the gradient. -/

namespace Cert.KernelOutDxIdeal.Prod

open Cert.Prod Cert.KernelOutDxIdeal Cert.KernelOutDxIdeal.Gen Cert.KernelOutDxIdeal.Value
open Idealize.ShloMosaic Idealize.ShloMosaic.TcCoe Idealize.SL.Sem

/-- The point of a block of rows and a block of columns. -/
def pt (p : Fin 2) (q : Fin 2) : Fin cfg0.N := tile (show cfg0.N = 2 * 2 from N_0) p q

theorem idx0 : ∀ p q : Fin 2, win0_0.index (pt p q) = ![p.val, 0] := by decide +kernel
theorem idx1 : ∀ p q : Fin 2, win0_1.index (pt p q) = ![q.val, 0] := by decide +kernel
theorem idx2 : ∀ p q : Fin 2, win0_2.index (pt p q) = ![p.val, q.val] := by decide +kernel

variable (m : (ℓ : Loc nD τ sig) → Buf (Elt Ideal) ℓ) (c : Dev nD) (p q : Fin 2)

/-- The weight and the gradient of the result, as launched. -/
abbrev wt : Vec Ideal S2048x1024 .f32 := m ((c : Thread nD τ).loc main_arg0)
abbrev grad : Vec Ideal S4352x1024 .f32 := m ((c : Thread nD τ).loc main_arg1)

/-- The host's casts change nothing over the reals. -/
theorem V_grad : V m c main_v0 = grad m c := by
  unfold_abbrev_sides
  after_results
  rfl
theorem V_wt : V m c main_v1 = wt m c := by
  unfold_abbrev_sides
  after_results
  rfl

/-- A block of rows of the gradient. -/
theorem blk0 (i : Fin 2176) (k : Fin 1024) : (iblk m c 0 (pt p q) : Vec Ideal S2176x1024 .bf16) (ix2 i k) = grad m c (ix2 (tile rfl p i) k) := by
  unfold iblk
  rw [View.read_apply]
  refine (congrFun (V_grad m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A block of rows of the weight. -/
theorem blk1 (j k : Fin 1024) : (iblk m c 1 (pt p q) : Vec Ideal S1024x1024 .bf16) (ix2 j k) = wt m c (ix2 (tile rfl q j) k) := by
  unfold iblk
  rw [View.read_apply]
  refine (congrFun (V_wt m c) _).trans (congrArg _ (funext fun a => Fin.ext ?_))
  match a with
  | ⟨0, _⟩ => show win0_1.index (pt p q) 0 * 1024 + 1 * j.val = q.val * 1024 + j.val; rw [idx1]; simp
  | ⟨1, _⟩ => show win0_1.index (pt p q) 1 * 1024 + 1 * k.val = k.val; rw [idx1]; simp

/-- What a point leaves of its blocks. -/
theorem out_apply (x0 : Vec Ideal S2176x1024 .bf16) (x1 : Vec Ideal S1024x1024 .bf16) (i : Fin 2176) (j : Fin 1024) :
    out0_2 x0 x1 (ix2 i j) = ∑ k : Fin 1024, x0 (ix2 i k) * x1 (ix2 j k) := by
  unfold out0_2
  rw [View.canon_unit_zero hz2, View.ld_unit_zero (S := S2176x1024) hz2, View.ld_unit_zero (S := S1024x1024) hz2]
  unfold_payloads
  pointwise

/-- The array of the gradient, element by element. -/
theorem arr (i : Fin 2176) (j : Fin 1024) : ((dats m 0 c).arrAt 2 cfg0.N : Vec Ideal S4352x2048 .f32) (ix2 (tile rfl p i) (tile rfl q j))
    = ∑ k : Fin 1024, grad m c (ix2 (tile rfl p i) k) * wt m c (ix2 (tile rfl q j) k) := by
  have e := congrFun (blocks2 m c (pt p q) (flush0_2 _)) (ix2 i j)
  rw [flushed2, View.read_apply] at e
  refine Eq.trans (congrArg _ (funext fun a => Fin.ext ?_)) (e.trans ((out_apply _ _ i j).trans ?_))
  · match a with
    | ⟨0, _⟩ => show p.val * 2176 + i.val = win0_2.index (pt p q) 0 * 2176 + 1 * i.val; rw [idx2]; simp
    | ⟨1, _⟩ => show q.val * 1024 + j.val = win0_2.index (pt p q) 1 * 1024 + 1 * j.val; rw [idx2]; simp
  · simp only [blk0, blk1]

/-- It is the reference's. -/
theorem same : (dats m 0 c).arrAt 2 cfg0.N = Cert.ReferenceOutDxIdeal.Read.val_main_v2 (F := Ideal) (wt m c) (grad m c) := by
  funext y
  obtain ⟨p, q, i, j, rfl⟩ := both_tiled (n := 2) (t := 2176) (n' := 2) (t' := 1024) rfl rfl y
  refine (arr m c p q i j).trans (Eq.symm ?_)
  open Cert.ReferenceOutDxIdeal.Read in
  unfold val_main_v2
  pointwise

/-- The value claim. -/
theorem algebraic : Cert.algebraic_KernelOutDxIdeal_ReferenceOutDxIdeal (hKernelOutDxIdeal := Cert.KernelOutDxIdeal.Gen.facts)
    (hReferenceOutDxIdeal := Cert.ReferenceOutDxIdeal.Gen.facts) := by
  intro m g m' g' _ hin
  refine ⟨fun c => (dats m 0 c).arrAt 2 cfg0.N, run_blocks m g, ?_⟩
  refine (θ_run _ _ _).mono (fun r h c => ?_) (Cert.ReferenceOutDxIdeal.Value.run m' g')
  obtain ⟨i0, i1⟩ := hin c
  obtain ⟨h0, hk⟩ := h c
  refine ⟨h0.trans ?_, hk⟩
  rw [Cert.ReferenceOutDxIdeal.Read.val_main_v2_eq, i0, i1]
  exact (same m c).symm

end Cert.KernelOutDxIdeal.Prod

end
-- ==== Proof.MixEvInFwd.lean ====
module

public import proofs.«01_k».proof.Defs
public import proofs.«01_k».proof.Proof.Gen.KernelEvInFwdIdeal
public import proofs.«01_k».proof.Proof.Gen.ReferenceEvInFwdIdeal
public import proofs.«01_k».proof.Proof.Gen.KernelEvInFwdIdeal.Value
public import proofs.«01_k».proof.Proof.Gen.ReferenceEvInFwdIdeal.Run
public import proofs.«01_k».proof.Proof.Gen.ReferenceEvInFwdIdeal.Read
public import proofs.«01_k».proof.Proof.ProdMath

@[expose] public section

noncomputable section

/-! # The even layer's product into the mixer

A grid point takes 2176 rows of the activations and 512 columns of the weight, and leaves a tile of the result. -/

namespace Cert.KernelEvInFwdIdeal.Prod

open Cert.Prod Cert.KernelEvInFwdIdeal Cert.KernelEvInFwdIdeal.Gen Cert.KernelEvInFwdIdeal.Value
open Idealize.ShloMosaic Idealize.ShloMosaic.TcCoe Idealize.SL.Sem

/-- The point of a block of rows and a block of columns. -/
def pt (p : Fin 2) (q : Fin 3) : Fin cfg0.N := tile (show cfg0.N = 2 * 3 from N_0) p q

theorem idx0 : ∀ (p : Fin 2) (q : Fin 3), win0_0.index (pt p q) = ![p.val, 0] := by decide +kernel
theorem idx1 : ∀ (p : Fin 2) (q : Fin 3), win0_1.index (pt p q) = ![0, q.val] := by decide +kernel
theorem idx2 : ∀ (p : Fin 2) (q : Fin 3), win0_2.index (pt p q) = ![p.val, q.val] := by decide +kernel

variable (m : (ℓ : Loc nD τ sig) → Buf (Elt Ideal) ℓ) (c : Dev nD) (p : Fin 2) (q : Fin 3)

/-- The activations and the weight, as launched. -/
abbrev act : Vec Ideal S4352x1024 .f32 := m ((c : Thread nD τ).loc main_arg0)
abbrev wt : Vec Ideal S1024x1536 .f32 := m ((c : Thread nD τ).loc main_arg1)

/-- The operands, as the call reads them: the host's cast of the second changes nothing over the reals. -/
theorem V_act : V m c main_arg0 = act m c := V_main_arg0 m c
theorem V_wt : V m c main_v0 = wt m c := by
  unfold_abbrev_sides
  after_results
  rfl

/-- A block of rows of the activations. -/
theorem blk0 (i : Fin 2176) (k : Fin 1024) : (iblk m c 0 (pt p q) : Vec Ideal S2176x1024 .f32) (ix2 i k) = act m c (ix2 (tile rfl p i) k) := by
  unfold iblk
  rw [View.read_apply]
  refine (congrFun (V_act m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A block of columns of the weight. -/
theorem blk1 (k : Fin 1024) (j : Fin 512) : (iblk m c 1 (pt p q) : Vec Ideal S1024x512 .bf16) (ix2 k j) = wt m c (ix2 k (tile rfl q j)) := by
  unfold iblk
  rw [View.read_apply]
  refine (congrFun (V_wt m c) _).trans (congrArg _ (funext fun a => Fin.ext ?_))
  match a with
  | ⟨0, _⟩ => show win0_1.index (pt p q) 0 * 1024 + 1 * k.val = k.val; rw [idx1]; simp
  | ⟨1, _⟩ => show win0_1.index (pt p q) 1 * 512 + 1 * j.val = q.val * 512 + j.val; rw [idx1]; simp

/-- What a point leaves of its blocks. -/
theorem out_apply (x0 : Vec Ideal S2176x1024 .f32) (x1 : Vec Ideal S1024x512 .bf16) (i : Fin 2176) (j : Fin 512) :
    out0_2 x0 x1 (ix2 i j) = ∑ k : Fin 1024, x0 (ix2 i k) * x1 (ix2 k j) := by
  unfold out0_2
  rw [View.canon_unit_zero hz2, View.ld_unit_zero (S := S2176x1024) hz2, View.ld_unit_zero (S := S1024x512) hz2]
  unfold_payloads
  pointwise

/-- The array of the result, element by element. -/
theorem arr (i : Fin 2176) (j : Fin 512) : ((dats m 0 c).arrAt 2 cfg0.N : Vec Ideal S4352x1536 .f32) (ix2 (tile rfl p i) (tile rfl q j))
    = ∑ k : Fin 1024, act m c (ix2 (tile rfl p i) k) * wt m c (ix2 k (tile rfl q j)) := by
  have e := congrFun (blocks2 m c (pt p q) (flush0_2 _)) (ix2 i j)
  rw [flushed2, View.read_apply] at e
  refine Eq.trans (congrArg _ (funext fun a => Fin.ext ?_)) (e.trans ((out_apply _ _ i j).trans ?_))
  · match a with
    | ⟨0, _⟩ => show p.val * 2176 + i.val = win0_2.index (pt p q) 0 * 2176 + 1 * i.val; rw [idx2]; simp
    | ⟨1, _⟩ => show q.val * 512 + j.val = win0_2.index (pt p q) 1 * 512 + 1 * j.val; rw [idx2]; simp
  · simp only [blk0, blk1]

/-- It is the reference's. -/
theorem same : (dats m 0 c).arrAt 2 cfg0.N = Cert.ReferenceEvInFwdIdeal.Read.val_main_v0 (F := Ideal) (act m c) (wt m c) := by
  funext y
  obtain ⟨p, q, i, j, rfl⟩ := both_tiled (n := 2) (t := 2176) (n' := 3) (t' := 512) rfl rfl y
  refine (arr m c p q i j).trans (Eq.symm ?_)
  open Cert.ReferenceEvInFwdIdeal.Read in
  unfold val_main_v0
  pointwise

/-- The value claim. -/
theorem algebraic : Cert.algebraic_KernelEvInFwdIdeal_ReferenceEvInFwdIdeal (hKernelEvInFwdIdeal := Cert.KernelEvInFwdIdeal.Gen.facts)
    (hReferenceEvInFwdIdeal := Cert.ReferenceEvInFwdIdeal.Gen.facts) := by
  intro m g m' g' _ hin
  refine ⟨fun c => (dats m 0 c).arrAt 2 cfg0.N, run_blocks m g, ?_⟩
  refine (θ_run _ _ _).mono (fun r h c => ?_) (Cert.ReferenceEvInFwdIdeal.Value.run m' g')
  obtain ⟨i0, i1⟩ := hin c
  obtain ⟨h0, hk⟩ := h c
  refine ⟨h0.trans ?_, hk⟩
  rw [Cert.ReferenceEvInFwdIdeal.Read.val_main_v0_eq, i0, i1]
  exact (same m c).symm

end Cert.KernelEvInFwdIdeal.Prod

end
-- ==== Proof.MixEvInDw.lean ====
module

public import proofs.«01_k».proof.Defs
public import proofs.«01_k».proof.Proof.Gen.KernelEvInDwIdeal
public import proofs.«01_k».proof.Proof.Gen.ReferenceEvInDwIdeal
public import proofs.«01_k».proof.Proof.Gen.KernelEvInDwIdeal.Value
public import proofs.«01_k».proof.Proof.Gen.ReferenceEvInDwIdeal.Run
public import proofs.«01_k».proof.Proof.Gen.ReferenceEvInDwIdeal.Read
public import proofs.«01_k».proof.Proof.ProdMath

@[expose] public section

noncomputable section

/-! # The gradient of the even layer's weight into the mixer

A grid point takes 2176 rows of the activations and 512 columns of the same rows of the projection's gradient; two points in a row
add up a block of columns of the weight's gradient. -/

namespace Cert.KernelEvInDwIdeal.Prod

open Cert.Prod Cert.KernelEvInDwIdeal Cert.KernelEvInDwIdeal.Gen Cert.KernelEvInDwIdeal.Value
open Idealize.ShloMosaic Idealize.ShloMosaic.TcCoe Idealize.SL.Sem

/-- The point of a block of columns and a block of the contracted axis. -/
def pt (q : Fin 3) (s : Fin 2) : Fin cfg0.N := tile (show cfg0.N = 3 * 2 from N_0) q s

theorem idx0 : ∀ (q : Fin 3) (s : Fin 2), win0_0.index (pt q s) = ![s.val, 0] := by decide +kernel
theorem idx1 : ∀ (q : Fin 3) (s : Fin 2), win0_1.index (pt q s) = ![s.val, q.val] := by decide +kernel
theorem idx2 : ∀ (q : Fin 3) (s : Fin 2), win0_2.index (pt q s) = ![0, q.val] := by decide +kernel
/-- A block of columns is written back after its last point only, and each by its own. -/
theorem flush2 : ∀ q : Fin 3, (cfg0.win 2).flush (pt q 1) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (q : Fin 3) (s : Fin 2)

/-- The activations and the gradient of the projection, as launched. -/
abbrev act : Vec Ideal S4352x1024 .f32 := m ((c : Thread nD τ).loc main_arg0)
abbrev grad : Vec Ideal S4352x1536 .f32 := m ((c : Thread nD τ).loc main_arg1)

/-- The operands, as the call reads them: the host's cast of the second changes nothing over the reals. -/
theorem V_act : V m c main_arg0 = act m c := V_main_arg0 m c
theorem V_grad : V m c main_v0 = grad m c := by
  unfold_abbrev_sides
  after_results
  rfl

/-- A block of rows of the activations. -/
theorem blk0 (k : Fin 2176) (i : Fin 1024) : (iblk m c 0 (pt q s) : Vec Ideal S2176x1024 .f32) (ix2 k i) = act m c (ix2 (tile rfl s k) i) := by
  unfold iblk
  rw [View.read_apply]
  refine (congrFun (V_act m c) _).trans (congrArg _ (funext fun a => Fin.ext ?_))
  match a with
  | ⟨0, _⟩ => show win0_0.index (pt q s) 0 * 2176 + 1 * k.val = s.val * 2176 + k.val; rw [idx0]; simp
  | ⟨1, _⟩ => show win0_0.index (pt q s) 1 * 1024 + 1 * i.val = i.val; rw [idx0]; simp

/-- A tile of the gradient. -/
theorem blk1 (k : Fin 2176) (j : Fin 512) : (iblk m c 1 (pt q s) : Vec Ideal S2176x512 .bf16) (ix2 k j) = grad m c (ix2 (tile rfl s k) (tile rfl q j)) := by
  unfold iblk
  rw [View.read_apply]
  refine (congrFun (V_grad m c) _).trans (congrArg _ (funext fun a => Fin.ext ?_))
  match a with
  | ⟨0, _⟩ => show win0_1.index (pt q s) 0 * 2176 + 1 * k.val = s.val * 2176 + k.val; rw [idx1]; simp
  | ⟨1, _⟩ => show win0_1.index (pt q s) 1 * 512 + 1 * j.val = q.val * 512 + j.val; rw [idx1]; simp

/-- A point's term of the sum. -/
abbrev term (x0 : Vec Ideal S2176x1024 .f32) (x1 : Vec Ideal S2176x512 .bf16) (i : Fin 1024) (j : Fin 512) : EReal :=
  ∑ k : Fin 2176, x0 (ix2 k i) * x1 (ix2 k j)

/-- What the first point of a block of columns leaves, and what a later one leaves over what it finds. -/
theorem start (t : Fin cfg0.N) (h : t.val % 2 = 0) (i : Fin 1024) (j : Fin 512) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x1024) hz2, View.ld_unit_zero (S := S2176x512) hz2]
  unfold_payloads
  pointwise
theorem step (t : Fin cfg0.N) (h : ¬t.val % 2 = 0) (i : Fin 1024) (j : Fin 512) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x1024) hz2, View.ld_unit_zero (S := S2176x512) hz2]
  unfold_payloads
  pointwise

/-- The array of the result, element by element. -/
theorem arr (i : Fin 1024) (j : Fin 512) : ((dats m 0 c).arrAt 2 cfg0.N : Vec Ideal S1024x1536 .f32) (ix2 i (tile rfl q j))
    = ∑ k : Fin 4352, act m c (ix2 k i) * grad m c (ix2 k (tile rfl q j)) := by
  have e := congrFun ((dats m 0 c).read_blk_arrAt_eq_flushed 2 disjoint2 cfg0.N (pt q 1) (pt q 1).isLt (flush2 q)) (ix2 i j)
  rw [flushed2, View.read_apply] at e
  refine Eq.trans (congrArg _ (funext fun a => Fin.ext ?_)) (e.trans ((running_sum (show cfg0.N = 3 * 2 from N_0) (by decide) (fun k hk => outsAt0 m c k hk (ix2 i j)) _
    (fun t h => start m c t h i j) (fun t h => step m c t h i j) q 1 rfl).trans ?_))
  · match a with
    | ⟨0, _⟩ => show i.val = win0_2.index (pt q 1) 0 * 1024 + 1 * i.val; rw [idx2]; simp
    | ⟨1, _⟩ => show q.val * 512 + j.val = win0_2.index (pt q 1) 1 * 512 + 1 * j.val; rw [idx2]; simp
  · rw [sum_tiles (n := 2) (t := 2176) rfl]
    refine Finset.sum_congr rfl fun s _ => ?_
    show term (iblk m c 0 (pt q s)) (iblk m c 1 (pt q s)) i j = _
    simp only [term, blk0, blk1]

/-- It is the reference's. -/
theorem same : (dats m 0 c).arrAt 2 cfg0.N = Cert.ReferenceEvInDwIdeal.Read.val_main_v3 (F := Ideal) (act m c) (grad m c) := by
  funext y
  obtain ⟨q, i, j, rfl⟩ := columns_tiled (n := 3) (t := 512) rfl y
  refine (arr m c q i j).trans (Eq.symm ?_)
  open Cert.ReferenceEvInDwIdeal.Read in
  unfold val_main_v3 val_main_v2
  pointwise
  exact sum_swap _ _

/-- The value claim. -/
theorem algebraic : Cert.algebraic_KernelEvInDwIdeal_ReferenceEvInDwIdeal (hKernelEvInDwIdeal := Cert.KernelEvInDwIdeal.Gen.facts)
    (hReferenceEvInDwIdeal := Cert.ReferenceEvInDwIdeal.Gen.facts) := by
  intro m g m' g' _ hin
  refine ⟨fun c => (dats m 0 c).arrAt 2 cfg0.N, run_blocks m g, ?_⟩
  refine (θ_run _ _ _).mono (fun r h c => ?_) (Cert.ReferenceEvInDwIdeal.Value.run m' g')
  obtain ⟨i0, i1⟩ := hin c
  obtain ⟨h0, hk⟩ := h c
  refine ⟨h0.trans ?_, hk⟩
  rw [Cert.ReferenceEvInDwIdeal.Read.val_main_v3_eq, i0, i1]
  exact (same m c).symm

end Cert.KernelEvInDwIdeal.Prod

end
-- ==== Proof.MixEvInDx.lean ====
module

public import proofs.«01_k».proof.Defs
public import proofs.«01_k».proof.Proof.Gen.KernelEvInDxIdeal
public import proofs.«01_k».proof.Proof.Gen.ReferenceEvInDxIdeal
public import proofs.«01_k».proof.Proof.Gen.KernelEvInDxIdeal.Value
public import proofs.«01_k».proof.Proof.Gen.ReferenceEvInDxIdeal.Run
public import proofs.«01_k».proof.Proof.Gen.ReferenceEvInDxIdeal.Read
public import proofs.«01_k».proof.Proof.ProdMath

@[expose] public section

noncomputable section

/-! # The gradient of the even layer's input through its weight into the mixer

A grid point takes 2176 rows and 512 columns of the projection's gradient and the weight's same columns; three points in a
row add up a block of rows of the result. -/

namespace Cert.KernelEvInDxIdeal.Prod

open Cert.Prod Cert.KernelEvInDxIdeal Cert.KernelEvInDxIdeal.Gen Cert.KernelEvInDxIdeal.Value
open Idealize.ShloMosaic Idealize.ShloMosaic.TcCoe Idealize.SL.Sem

/-- The point of a block of rows and a block of the contracted axis. -/
def pt (p : Fin 2) (s : Fin 3) : Fin cfg0.N := tile (show cfg0.N = 2 * 3 from N_0) p s

theorem idx0 : ∀ (p : Fin 2) (s : Fin 3), win0_0.index (pt p s) = ![p.val, s.val] := by decide +kernel
theorem idx1 : ∀ (p : Fin 2) (s : Fin 3), win0_1.index (pt p s) = ![0, s.val] := by decide +kernel
theorem idx2 : ∀ (p : Fin 2) (s : Fin 3), win0_2.index (pt p s) = ![p.val, 0] := by decide +kernel
/-- A block of rows is written back after its last point only, and each by its own. -/
theorem flush2 : ∀ p : Fin 2, (cfg0.win 2).flush (pt p 2) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 3)

/-- The weight and the gradient of the projection, as launched. -/
abbrev wt : Vec Ideal S1024x1536 .f32 := m ((c : Thread nD τ).loc main_arg0)
abbrev grad : Vec Ideal S4352x1536 .f32 := m ((c : Thread nD τ).loc main_arg1)

/-- The host's casts change nothing over the reals. -/
theorem V_grad : V m c main_v0 = grad m c := by
  unfold_abbrev_sides
  after_results
  rfl
theorem V_wt : V m c main_v1 = wt m c := by
  unfold_abbrev_sides
  after_results
  rfl

/-- A tile of the gradient. -/
theorem blk0 (i : Fin 2176) (k : Fin 512) : (iblk m c 0 (pt p s) : Vec Ideal S2176x512 .bf16) (ix2 i k) = grad m c (ix2 (tile rfl p i) (tile rfl s k)) := by
  unfold iblk
  rw [View.read_apply]
  refine (congrFun (V_grad m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 512 + 1 * k.val = s.val * 512 + k.val; rw [idx0]; simp

/-- A block of columns of the weight. -/
theorem blk1 (j : Fin 1024) (k : Fin 512) : (iblk m c 1 (pt p s) : Vec Ideal S1024x512 .bf16) (ix2 j k) = wt m c (ix2 j (tile rfl s k)) := by
  unfold iblk
  rw [View.read_apply]
  refine (congrFun (V_wt m c) _).trans (congrArg _ (funext fun a => Fin.ext ?_))
  match a with
  | ⟨0, _⟩ => show win0_1.index (pt p s) 0 * 1024 + 1 * j.val = j.val; rw [idx1]; simp
  | ⟨1, _⟩ => show win0_1.index (pt p s) 1 * 512 + 1 * k.val = s.val * 512 + k.val; rw [idx1]; simp

/-- A point's term of the sum. -/
abbrev term (x0 : Vec Ideal S2176x512 .bf16) (x1 : Vec Ideal S1024x512 .bf16) (i : Fin 2176) (j : Fin 1024) : EReal :=
  ∑ k : Fin 512, x0 (ix2 i k) * x1 (ix2 j k)

/-- What the first point of a block of rows leaves, and what a later one leaves over what it finds. -/
theorem start (t : Fin cfg0.N) (h : t.val % 3 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x512) hz2, View.ld_unit_zero (S := S1024x512) hz2]
  unfold_payloads
  pointwise
theorem step (t : Fin cfg0.N) (h : ¬t.val % 3 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x512) hz2, View.ld_unit_zero (S := S1024x512) hz2]
  unfold_payloads
  pointwise

/-- The array of the result, element by element. -/
theorem arr (i : Fin 2176) (j : Fin 1024) : ((dats m 0 c).arrAt 2 cfg0.N : Vec Ideal S4352x1024 .f32) (ix2 (tile rfl p i) j)
    = ∑ k : Fin 1536, grad m c (ix2 (tile rfl p i) k) * wt m c (ix2 j k) := by
  have e := congrFun ((dats m 0 c).read_blk_arrAt_eq_flushed 2 disjoint2 cfg0.N (pt p 2) (pt p 2).isLt (flush2 p)) (ix2 i j)
  rw [flushed2, View.read_apply] at e
  refine Eq.trans (congrArg _ (funext fun a => Fin.ext ?_)) (e.trans ((running_sum (show cfg0.N = 2 * 3 from N_0) (by decide) (fun k hk => outsAt0 m c k hk (ix2 i j)) _
    (fun t h => start m c t h i j) (fun t h => step m c t h i j) p 2 rfl).trans ?_))
  · match a with
    | ⟨0, _⟩ => show p.val * 2176 + i.val = win0_2.index (pt p 2) 0 * 2176 + 1 * i.val; rw [idx2]; simp
    | ⟨1, _⟩ => show j.val = win0_2.index (pt p 2) 1 * 1024 + 1 * j.val; rw [idx2]; simp
  · rw [sum_tiles (n := 3) (t := 512) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceEvInDxIdeal.Read.val_main_v2 (F := Ideal) (wt m c) (grad m c) := by
  funext y
  obtain ⟨p, i, j, rfl⟩ := rows_tiled (n := 2) (t := 2176) rfl y
  refine (arr m c p i j).trans (Eq.symm ?_)
  open Cert.ReferenceEvInDxIdeal.Read in
  unfold val_main_v2
  pointwise

/-- The value claim. -/
theorem algebraic : Cert.algebraic_KernelEvInDxIdeal_ReferenceEvInDxIdeal (hKernelEvInDxIdeal := Cert.KernelEvInDxIdeal.Gen.facts)
    (hReferenceEvInDxIdeal := Cert.ReferenceEvInDxIdeal.Gen.facts) := by
  intro m g m' g' _ hin
  refine ⟨fun c => (dats m 0 c).arrAt 2 cfg0.N, run_blocks m g, ?_⟩
  refine (θ_run _ _ _).mono (fun r h c => ?_) (Cert.ReferenceEvInDxIdeal.Value.run m' g')
  obtain ⟨i0, i1⟩ := hin c
  obtain ⟨h0, hk⟩ := h c
  refine ⟨h0.trans ?_, hk⟩
  rw [Cert.ReferenceEvInDxIdeal.Read.val_main_v2_eq, i0, i1]
  exact (same m c).symm

end Cert.KernelEvInDxIdeal.Prod

end
-- ==== Proof.MixEvOutFwd.lean ====
module

public import proofs.«01_k».proof.Defs
public import proofs.«01_k».proof.Proof.Gen.KernelEvOutFwdIdeal
public import proofs.«01_k».proof.Proof.Gen.ReferenceEvOutFwdIdeal
public import proofs.«01_k».proof.Proof.Gen.KernelEvOutFwdIdeal.Value
public import proofs.«01_k».proof.Proof.Gen.ReferenceEvOutFwdIdeal.Run
public import proofs.«01_k».proof.Proof.Gen.ReferenceEvOutFwdIdeal.Read
public import proofs.«01_k».proof.Proof.ProdMath

@[expose] public section

noncomputable section

/-! # The even layer's product out of the mixer

A grid point takes 2176 rows and 512 columns of the mixed heads and the weight's rows of those columns; three points in a
row add up a block of rows of the result. -/

namespace Cert.KernelEvOutFwdIdeal.Prod

open Cert.Prod Cert.KernelEvOutFwdIdeal Cert.KernelEvOutFwdIdeal.Gen Cert.KernelEvOutFwdIdeal.Value
open Idealize.ShloMosaic Idealize.ShloMosaic.TcCoe Idealize.SL.Sem

/-- The point of a block of rows and a block of the contracted axis. -/
def pt (p : Fin 2) (s : Fin 3) : Fin cfg0.N := tile (show cfg0.N = 2 * 3 from N_0) p s

theorem idx0 : ∀ (p : Fin 2) (s : Fin 3), win0_0.index (pt p s) = ![p.val, s.val] := by decide +kernel
theorem idx1 : ∀ (p : Fin 2) (s : Fin 3), win0_1.index (pt p s) = ![s.val, 0] := by decide +kernel
theorem idx2 : ∀ (p : Fin 2) (s : Fin 3), win0_2.index (pt p s) = ![p.val, 0] := by decide +kernel
/-- A block of rows is written back after its last point only, and each by its own. -/
theorem flush2 : ∀ p : Fin 2, (cfg0.win 2).flush (pt p 2) = true := by decide +kernel
theorem inj2 : ∀ t t' : Fin cfg0.N, (cfg0.win 2).flush t = true → (cfg0.win 2).flush t' = true →
    (cfg0.win 2).index t = (cfg0.win 2).index t' → t = t' := by decide +kernel
theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (inj2 t t' h h' e)

variable (m : (ℓ : Loc nD τ sig) → Buf (Elt Ideal) ℓ) (c : Dev nD) (p : Fin 2) (s : Fin 3)

/-- The mixed heads and the weight, as launched. -/
abbrev act : Vec Ideal S4352x1536 .f32 := m ((c : Thread nD τ).loc main_arg0)
abbrev wt : Vec Ideal S1536x1024 .f32 := m ((c : Thread nD τ).loc main_arg1)

/-- The operands, as the call reads them: the host's cast of the second changes nothing over the reals. -/
theorem V_act : V m c main_arg0 = act m c := V_main_arg0 m c
theorem V_wt : V m c main_v0 = wt m c := by
  unfold_abbrev_sides
  after_results
  rfl

/-- A tile of the mixed heads. -/
theorem blk0 (i : Fin 2176) (k : Fin 512) : (iblk m c 0 (pt p s) : Vec Ideal S2176x512 .f32) (ix2 i k) = act m c (ix2 (tile rfl p i) (tile rfl s k)) := by
  unfold iblk
  rw [View.read_apply]
  refine (congrFun (V_act m c) _).trans (congrArg _ (funext fun a => Fin.ext ?_))
  match a with
  | ⟨0, _⟩ => show win0_0.index (pt p s) 0 * 2176 + 1 * i.val = p.val * 2176 + i.val; rw [idx0]; simp
  | ⟨1, _⟩ => show win0_0.index (pt p s) 1 * 512 + 1 * k.val = s.val * 512 + k.val; rw [idx0]; simp

/-- A block of rows of the weight. -/
theorem blk1 (k : Fin 512) (j : Fin 1024) : (iblk m c 1 (pt p s) : Vec Ideal S512x1024 .bf16) (ix2 k j) = wt m c (ix2 (tile rfl s k) j) := by
  unfold iblk
  rw [View.read_apply]
  refine (congrFun (V_wt m c) _).trans (congrArg _ (funext fun a => Fin.ext ?_))
  match a with
  | ⟨0, _⟩ => show win0_1.index (pt p s) 0 * 512 + 1 * k.val = s.val * 512 + k.val; rw [idx1]; simp
  | ⟨1, _⟩ => show win0_1.index (pt p s) 1 * 1024 + 1 * j.val = j.val; rw [idx1]; simp

/-- A point's term of the sum. -/
abbrev term (x0 : Vec Ideal S2176x512 .f32) (x1 : Vec Ideal S512x1024 .bf16) (i : Fin 2176) (j : Fin 1024) : EReal :=
  ∑ k : Fin 512, x0 (ix2 i k) * x1 (ix2 k j)

/-- What the first point of a block of rows leaves, and what a later one leaves over what it finds. -/
theorem start (t : Fin cfg0.N) (h : t.val % 3 = 0) (i : Fin 2176) (j : Fin 1024) :
    outsAt0 m c t.val t.isLt (ix2 i j) = term (iblk m c 0 t) (iblk m c 1 t) i j := by
  rw [outsAt0_A m c t h (by omega)]
  unfold out0_A_2
  rw [View.read_writes_eq_canon _ _ _ (fun y => cover0_A_2 (y := y) ..)]
  unfold kernelRun0_A
  dsimp only
  sl_unfold_words
  rw [View.canon_unit_zero hz2]
  simp only [View.readAt_eq_ld, (hs0_0 t).read_unread, (hs0_1 t).read_unread,
    View.ld_unit_zero (S := S2176x512) hz2, View.ld_unit_zero (S := S512x1024) hz2]
  unfold_payloads
  pointwise
theorem step (t : Fin cfg0.N) (h : ¬t.val % 3 = 0) (i : Fin 2176) (j : Fin 1024) :
    outsAt0 m c t.val t.isLt (ix2 i j) = outsAt0 m c (t.val - 1) (Nat.lt_of_le_of_lt (Nat.sub_le _ _) t.isLt) (ix2 i j) + term (iblk m c 0 t) (iblk m c 1 t) i j := by
  rw [outsAt0_B m c t h (by omega)]
  generalize outsAt0 m c (t.val - 1) _ = xo
  unfold out0_B_2
  rw [View.read_writes_eq_canon _ _ _ (fun y => cover0_B_2 (y := y) ..)]
  unfold kernelRun0_B
  dsimp only
  sl_unfold_words
  rw [View.canon_unit_zero hz2]
  simp only [View.readAt_eq_ld, (hs0_0 t).read_unread, (hs0_1 t).read_unread, (hs0_2 t).read_unread,
    View.ld_unit_zero (S := S2176x512) hz2, View.ld_unit_zero (S := S512x1024) hz2]
  unfold_payloads
  pointwise

/-- The array of the result, element by element. -/
theorem arr (i : Fin 2176) (j : Fin 1024) : ((dats m 0 c).arrAt 2 cfg0.N : Vec Ideal S4352x1024 .f32) (ix2 (tile rfl p i) j)
    = ∑ k : Fin 1536, act m c (ix2 (tile rfl p i) k) * wt m c (ix2 k j) := by
  have e := congrFun ((dats m 0 c).read_blk_arrAt_eq_flushed 2 disjoint2 cfg0.N (pt p 2) (pt p 2).isLt (flush2 p)) (ix2 i j)
  rw [flushed2, View.read_apply] at e
  refine Eq.trans (congrArg _ (funext fun a => Fin.ext ?_)) (e.trans ((running_sum (show cfg0.N = 2 * 3 from N_0) (by decide) (fun k hk => outsAt0 m c k hk (ix2 i j)) _
    (fun t h => start m c t h i j) (fun t h => step m c t h i j) p 2 rfl).trans ?_))
  · match a with
    | ⟨0, _⟩ => show p.val * 2176 + i.val = win0_2.index (pt p 2) 0 * 2176 + 1 * i.val; rw [idx2]; simp
    | ⟨1, _⟩ => show j.val = win0_2.index (pt p 2) 1 * 1024 + 1 * j.val; rw [idx2]; simp
  · rw [sum_tiles (n := 3) (t := 512) rfl]
    refine Finset.sum_congr rfl fun s _ => ?_
    show term (iblk m c 0 (pt p s)) (iblk m c 1 (pt p s)) i j = _
    simp only [term, blk0, blk1]

/-- It is the reference's. -/
theorem same : (dats m 0 c).arrAt 2 cfg0.N = Cert.ReferenceEvOutFwdIdeal.Read.val_main_v0 (F := Ideal) (act m c) (wt m c) := by
  funext y
  obtain ⟨p, i, j, rfl⟩ := rows_tiled (n := 2) (t := 2176) rfl y
  refine (arr m c p i j).trans (Eq.symm ?_)
  open Cert.ReferenceEvOutFwdIdeal.Read in
  unfold val_main_v0
  pointwise

/-- The value claim. -/
theorem algebraic : Cert.algebraic_KernelEvOutFwdIdeal_ReferenceEvOutFwdIdeal (hKernelEvOutFwdIdeal := Cert.KernelEvOutFwdIdeal.Gen.facts)
    (hReferenceEvOutFwdIdeal := Cert.ReferenceEvOutFwdIdeal.Gen.facts) := by
  intro m g m' g' _ hin
  refine ⟨fun c => (dats m 0 c).arrAt 2 cfg0.N, run_blocks m g, ?_⟩
  refine (θ_run _ _ _).mono (fun r h c => ?_) (Cert.ReferenceEvOutFwdIdeal.Value.run m' g')
  obtain ⟨i0, i1⟩ := hin c
  obtain ⟨h0, hk⟩ := h c
  refine ⟨h0.trans ?_, hk⟩
  rw [Cert.ReferenceEvOutFwdIdeal.Read.val_main_v0_eq, i0, i1]
  exact (same m c).symm

end Cert.KernelEvOutFwdIdeal.Prod

end
-- ==== Proof.MixEvOutDw.lean ====
module

public import proofs.«01_k».proof.Defs
public import proofs.«01_k».proof.Proof.Gen.KernelEvOutDwIdeal
public import proofs.«01_k».proof.Proof.Gen.ReferenceEvOutDwIdeal
public import proofs.«01_k».proof.Proof.Gen.KernelEvOutDwIdeal.Value
public import proofs.«01_k».proof.Proof.Gen.ReferenceEvOutDwIdeal.Run
public import proofs.«01_k».proof.Proof.Gen.ReferenceEvOutDwIdeal.Read
public import proofs.«01_k».proof.Proof.ProdMath

@[expose] public section

noncomputable section

/-! # The gradient of the even layer's weight out of the mixer

A grid point takes 512 columns of the mixed heads and all 4352 rows, and leaves 512 rows of the weight's gradient. -/

namespace Cert.KernelEvOutDwIdeal.Prod

open Cert.Prod Cert.KernelEvOutDwIdeal Cert.KernelEvOutDwIdeal.Gen Cert.KernelEvOutDwIdeal.Value
open Idealize.ShloMosaic Idealize.ShloMosaic.TcCoe Idealize.SL.Sem

/-- The point of a block of rows. -/
def pt (p : Fin 3) : Fin cfg0.N := Fin.cast (show 3 = cfg0.N from N_0.symm) p

theorem idx0 : ∀ p : Fin 3, win0_0.index (pt p) = ![0, p.val] := by decide +kernel
theorem idx1 : ∀ p : Fin 3, win0_1.index (pt p) = ![0, 0] := by decide +kernel
theorem idx2 : ∀ p : Fin 3, win0_2.index (pt p) = ![p.val, 0] := by decide +kernel

variable (m : (ℓ : Loc nD τ sig) → Buf (Elt Ideal) ℓ) (c : Dev nD) (p : Fin 3)

/-- The mixed heads and the gradient of their projection, as launched. -/
abbrev act : Vec Ideal S4352x1536 .f32 := m ((c : Thread nD τ).loc main_arg0)
abbrev grad : Vec Ideal S4352x1024 .f32 := m ((c : Thread nD τ).loc main_arg1)

/-- The operands, as the call reads them: the host's cast of the second changes nothing over the reals. -/
theorem V_act : V m c main_arg0 = act m c := V_main_arg0 m c
theorem V_grad : V m c main_v0 = grad m c := by
  unfold_abbrev_sides
  after_results
  rfl

/-- A block of the mixed heads. -/
theorem blk0 (k : Fin 4352) (i : Fin 512) : (iblk m c 0 (pt p) : Vec Ideal S4352x512 .f32) (ix2 k i) = act m c (ix2 k (tile rfl p i)) := by
  unfold iblk
  rw [View.read_apply]
  refine (congrFun (V_act m c) _).trans (congrArg _ (funext fun a => Fin.ext ?_))
  match a with
  | ⟨0, _⟩ => show win0_0.index (pt p) 0 * 4352 + 1 * k.val = k.val; rw [idx0]; simp
  | ⟨1, _⟩ => show win0_0.index (pt p) 1 * 512 + 1 * i.val = p.val * 512 + i.val; rw [idx0]; simp

/-- The gradient of the result is read whole. -/
theorem blk1 (k : Fin 4352) (j : Fin 1024) : (iblk m c 1 (pt p) : Vec Ideal S4352x1024 .bf16) (ix2 k j) = grad m c (ix2 k j) := by
  unfold iblk
  rw [View.read_apply]
  refine (congrFun (V_grad m c) _).trans (congrArg _ (funext fun a => Fin.ext ?_))
  match a with
  | ⟨0, _⟩ => show win0_1.index (pt p) 0 * 4352 + 1 * k.val = k.val; rw [idx1]; simp
  | ⟨1, _⟩ => show win0_1.index (pt p) 1 * 1024 + 1 * j.val = j.val; rw [idx1]; simp

/-- What a point leaves of its blocks. -/
theorem out_apply (x0 : Vec Ideal S4352x512 .f32) (x1 : Vec Ideal S4352x1024 .bf16) (i : Fin 512) (j : Fin 1024) : out0_2 x0 x1 (ix2 i j) = ∑ k : Fin 4352, x0 (ix2 k i) * x1 (ix2 k j) := by
  unfold out0_2
  rw [View.canon_unit_zero hz2, View.ld_unit_zero (S := S4352x512) hz2, View.ld_unit_zero (S := S4352x1024) hz2]
  unfold_payloads
  pointwise

/-- The array of the weight's gradient, element by element. -/
theorem arr (i : Fin 512) (j : Fin 1024) : ((dats m 0 c).arrAt 2 cfg0.N : Vec Ideal S1536x1024 .f32) (ix2 (tile rfl p i) j)
    = ∑ k : Fin 4352, act m c (ix2 k (tile rfl p i)) * grad m c (ix2 k j) := by
  have e := congrFun (blocks2 m c (pt p) (flush0_2 _)) (ix2 i j)
  rw [flushed2, View.read_apply] at e
  refine Eq.trans (congrArg _ (funext fun a => Fin.ext ?_)) (e.trans ((out_apply _ _ i j).trans ?_))
  · match a with
    | ⟨0, _⟩ => show p.val * 512 + i.val = win0_2.index (pt p) 0 * 512 + 1 * i.val; rw [idx2]; simp
    | ⟨1, _⟩ => show j.val = win0_2.index (pt p) 1 * 1024 + 1 * j.val; rw [idx2]; simp
  · simp only [blk0, blk1]

/-- It is the reference's. -/
theorem same : (dats m 0 c).arrAt 2 cfg0.N = Cert.ReferenceEvOutDwIdeal.Read.val_main_v3 (F := Ideal) (act m c) (grad m c) := by
  funext y
  obtain ⟨p, i, j, rfl⟩ := rows_tiled (n := 3) (t := 512) rfl y
  refine (arr m c p i j).trans (Eq.symm ?_)
  open Cert.ReferenceEvOutDwIdeal.Read in
  unfold val_main_v3 val_main_v2
  pointwise
  exact sum_swap _ _

/-- The value claim. -/
theorem algebraic : Cert.algebraic_KernelEvOutDwIdeal_ReferenceEvOutDwIdeal (hKernelEvOutDwIdeal := Cert.KernelEvOutDwIdeal.Gen.facts)
    (hReferenceEvOutDwIdeal := Cert.ReferenceEvOutDwIdeal.Gen.facts) := by
  intro m g m' g' _ hin
  refine ⟨fun c => (dats m 0 c).arrAt 2 cfg0.N, run_blocks m g, ?_⟩
  refine (θ_run _ _ _).mono (fun r h c => ?_) (Cert.ReferenceEvOutDwIdeal.Value.run m' g')
  obtain ⟨i0, i1⟩ := hin c
  obtain ⟨h0, hk⟩ := h c
  refine ⟨h0.trans ?_, hk⟩
  rw [Cert.ReferenceEvOutDwIdeal.Read.val_main_v3_eq, i0, i1]
  exact (same m c).symm

end Cert.KernelEvOutDwIdeal.Prod

end
-- ==== Proof.MixEvOutDx.lean ====
module

public import proofs.«01_k».proof.Defs
public import proofs.«01_k».proof.Proof.Gen.KernelEvOutDxIdeal
public import proofs.«01_k».proof.Proof.Gen.ReferenceEvOutDxIdeal
public import proofs.«01_k».proof.Proof.Gen.KernelEvOutDxIdeal.Value
public import proofs.«01_k».proof.Proof.Gen.ReferenceEvOutDxIdeal.Run
public import proofs.«01_k».proof.Proof.Gen.ReferenceEvOutDxIdeal.Read
public import proofs.«01_k».proof.Proof.ProdMath

@[expose] public section

noncomputable section

/-! # The gradient of the mixed heads through the even layer's weight out of the mixer

A grid point takes 2176 rows of the result's gradient and 512 rows of the weight, and leaves a tile of the gradient. -/

namespace Cert.KernelEvOutDxIdeal.Prod

open Cert.Prod Cert.KernelEvOutDxIdeal Cert.KernelEvOutDxIdeal.Gen Cert.KernelEvOutDxIdeal.Value
open Idealize.ShloMosaic Idealize.ShloMosaic.TcCoe Idealize.SL.Sem

/-- The point of a block of rows and a block of columns. -/
def pt (p : Fin 2) (q : Fin 3) : Fin cfg0.N := tile (show cfg0.N = 2 * 3 from N_0) p q

theorem idx0 : ∀ (p : Fin 2) (q : Fin 3), win0_0.index (pt p q) = ![p.val, 0] := by decide +kernel
theorem idx1 : ∀ (p : Fin 2) (q : Fin 3), win0_1.index (pt p q) = ![q.val, 0] := by decide +kernel
theorem idx2 : ∀ (p : Fin 2) (q : Fin 3), win0_2.index (pt p q) = ![p.val, q.val] := by decide +kernel

variable (m : (ℓ : Loc nD τ sig) → Buf (Elt Ideal) ℓ) (c : Dev nD) (p : Fin 2) (q : Fin 3)

/-- The weight and the gradient of the result, as launched. -/
abbrev wt : Vec Ideal S1536x1024 .f32 := m ((c : Thread nD τ).loc main_arg0)
abbrev grad : Vec Ideal S4352x1024 .f32 := m ((c : Thread nD τ).loc main_arg1)

/-- The host's casts change nothing over the reals. -/
theorem V_grad : V m c main_v0 = grad m c := by
  unfold_abbrev_sides
  after_results
  rfl
theorem V_wt : V m c main_v1 = wt m c := by
  unfold_abbrev_sides
  after_results
  rfl

/-- A block of rows of the gradient. -/
theorem blk0 (i : Fin 2176) (k : Fin 1024) : (iblk m c 0 (pt p q) : Vec Ideal S2176x1024 .bf16) (ix2 i k) = grad m c (ix2 (tile rfl p i) k) := by
  unfold iblk
  rw [View.read_apply]
  refine (congrFun (V_grad m c) _).trans (congrArg _ (funext fun a => Fin.ext ?_))
  match a with
  | ⟨0, _⟩ => show win0_0.index (pt p q) 0 * 2176 + 1 * i.val = p.val * 2176 + i.val; rw [idx0]; simp
  | ⟨1, _⟩ => show win0_0.index (pt p q) 1 * 1024 + 1 * k.val = k.val; rw [idx0]; simp

/-- A block of rows of the weight. -/
theorem blk1 (j : Fin 512) (k : Fin 1024) : (iblk m c 1 (pt p q) : Vec Ideal S512x1024 .bf16) (ix2 j k) = wt m c (ix2 (tile rfl q j) k) := by
  unfold iblk
  rw [View.read_apply]
  refine (congrFun (V_wt m c) _).trans (congrArg _ (funext fun a => Fin.ext ?_))
  match a with
  | ⟨0, _⟩ => show win0_1.index (pt p q) 0 * 512 + 1 * j.val = q.val * 512 + j.val; rw [idx1]; simp
  | ⟨1, _⟩ => show win0_1.index (pt p q) 1 * 1024 + 1 * k.val = k.val; rw [idx1]; simp

/-- What a point leaves of its blocks. -/
theorem out_apply (x0 : Vec Ideal S2176x1024 .bf16) (x1 : Vec Ideal S512x1024 .bf16) (i : Fin 2176) (j : Fin 512) :
    out0_2 x0 x1 (ix2 i j) = ∑ k : Fin 1024, x0 (ix2 i k) * x1 (ix2 j k) := by
  unfold out0_2
  rw [View.canon_unit_zero hz2, View.ld_unit_zero (S := S2176x1024) hz2, View.ld_unit_zero (S := S512x1024) hz2]
  unfold_payloads
  pointwise

/-- The array of the gradient, element by element. -/
theorem arr (i : Fin 2176) (j : Fin 512) : ((dats m 0 c).arrAt 2 cfg0.N : Vec Ideal S4352x1536 .f32) (ix2 (tile rfl p i) (tile rfl q j))
    = ∑ k : Fin 1024, grad m c (ix2 (tile rfl p i) k) * wt m c (ix2 (tile rfl q j) k) := by
  have e := congrFun (blocks2 m c (pt p q) (flush0_2 _)) (ix2 i j)
  rw [flushed2, View.read_apply] at e
  refine Eq.trans (congrArg _ (funext fun a => Fin.ext ?_)) (e.trans ((out_apply _ _ i j).trans ?_))
  · match a with
    | ⟨0, _⟩ => show p.val * 2176 + i.val = win0_2.index (pt p q) 0 * 2176 + 1 * i.val; rw [idx2]; simp
    | ⟨1, _⟩ => show q.val * 512 + j.val = win0_2.index (pt p q) 1 * 512 + 1 * j.val; rw [idx2]; simp
  · simp only [blk0, blk1]

/-- It is the reference's. -/
theorem same : (dats m 0 c).arrAt 2 cfg0.N = Cert.ReferenceEvOutDxIdeal.Read.val_main_v2 (F := Ideal) (wt m c) (grad m c) := by
  funext y
  obtain ⟨p, q, i, j, rfl⟩ := both_tiled (n := 2) (t := 2176) (n' := 3) (t' := 512) rfl rfl y
  refine (arr m c p q i j).trans (Eq.symm ?_)
  open Cert.ReferenceEvOutDxIdeal.Read in
  unfold val_main_v2
  pointwise

/-- The value claim. -/
theorem algebraic : Cert.algebraic_KernelEvOutDxIdeal_ReferenceEvOutDxIdeal (hKernelEvOutDxIdeal := Cert.KernelEvOutDxIdeal.Gen.facts)
    (hReferenceEvOutDxIdeal := Cert.ReferenceEvOutDxIdeal.Gen.facts) := by
  intro m g m' g' _ hin
  refine ⟨fun c => (dats m 0 c).arrAt 2 cfg0.N, run_blocks m g, ?_⟩
  refine (θ_run _ _ _).mono (fun r h c => ?_) (Cert.ReferenceEvOutDxIdeal.Value.run m' g')
  obtain ⟨i0, i1⟩ := hin c
  obtain ⟨h0, hk⟩ := h c
  refine ⟨h0.trans ?_, hk⟩
  rw [Cert.ReferenceEvOutDxIdeal.Read.val_main_v2_eq, i0, i1]
  exact (same m c).symm

end Cert.KernelEvOutDxIdeal.Prod

end
-- ==== Proof.LnBwd.lean ====
module

public import proofs.«01_k».proof.Defs
public import proofs.«01_k».proof.Proof.Gen.KernelLnBwdIdeal
public import proofs.«01_k».proof.Proof.Gen.ReferenceLnBwdIdeal
public import proofs.«01_k».proof.Proof.Gen.KernelLnBwdIdeal.Value
public import proofs.«01_k».proof.Proof.Gen.ReferenceLnBwdIdeal.Run
public import proofs.«01_k».proof.Proof.Gen.ReferenceLnBwdIdeal.Read
public import proofs.«01_k».proof.Proof.ProdMath
public import proofs.«01_k».proof.Proof.RetReal

@[expose] public section

noncomputable section

namespace Cert.KernelLnBwdIdeal.Ln

open Cert.Prod Cert.KernelLnBwdIdeal Cert.KernelLnBwdIdeal.Gen Cert.KernelLnBwdIdeal.Value
open Idealize.ShloMosaic Idealize.ShloMosaic.TcCoe Idealize.SL.Sem

/-- A row of a matrix. -/
abbrev row {n w : ℕ} (x : Vec Ideal ⟨2, ![n, w]⟩ .f32) (i : Fin n) (k : Fin w) : EReal := x (ix2 i k)

/-- A row of the sum that is normalised, less its mean. -/
def cen (h x : Fin 1024 → EReal) (k : Fin 1024) : EReal :=
  Ideal.ofBits .f32 0x3FB504F3#32 * h k + x k
    - Ideal.div (∑ l, (Ideal.ofBits .f32 0x3FB504F3#32 * h l + x l)) (Ideal.ofBits .f32 0x44800000#32)
/-- Its variance and the small constant, and the inverse root of that. -/
def var (h x : Fin 1024 → EReal) : EReal :=
  Ideal.div (∑ l, cen h x l * cen h x l) (Ideal.ofBits .f32 0x44800000#32) + Ideal.ofBits .f32 0x3727C5AC#32
def inv (h x : Fin 1024 → EReal) : EReal := Ideal.rsqrt (var h x)
/-- The derivative of the inverse root. -/
def slope (h x : Fin 1024 → EReal) : EReal := Ideal.ofBits .f32 0xBF000000#32 * Ideal.div (inv h x) (var h x)
/-- The gradient that reaches the normalised row. -/
def scaled (g d e : Fin 1024 → EReal) (k : Fin 1024) : EReal := (d k + e k) * g k
/-- What reaches the variance, over the row's length. -/
def toVar (h x g d e : Fin 1024 → EReal) : EReal :=
  Ideal.div ((∑ l, cen h x l * scaled g d e l) * slope h x) (Ideal.ofBits .f32 0x44800000#32)
/-- The gradient of the centred row, and of the row. -/
def dcen (h x g d e : Fin 1024 → EReal) (k : Fin 1024) : EReal :=
  scaled g d e k * inv h x + cen h x k * toVar h x g d e + toVar h x g d e * cen h x k
def drow (h x g d e : Fin 1024 → EReal) (k : Fin 1024) : EReal :=
  dcen h x g d e k + Ideal.div (∑ l, -dcen h x g d e l) (Ideal.ofBits .f32 0x44800000#32)

/-! The operations of the kernel's body, on a block of rows. -/

section
variable (h x d e : FVec Ideal S544x1024 .f32) (g : FVec Ideal S1x1024 .f32) (i : Fin 544) (k : Fin 1024)

theorem pay3 : k0_pay3 (F := Ideal) h x (ix2 i k) = cen (row h i) (row x i) k := by
  unfold k0_pay3
  pointwise
  rfl
theorem pay4 : k0_pay4 (F := Ideal) h x (ix2 i 0) = var (row h i) (row x i) := by
  unfold k0_pay4
  pointwise
  simp only [pay3]
  rfl
theorem pay5 : k0_pay5 (F := Ideal) h x (ix2 i 0) = inv (row h i) (row x i) := by
  unfold k0_pay5
  pointwise
  rw [pay4]
  rfl
theorem pay6 : k0_pay6 (F := Ideal) h x (ix2 i 0) = slope (row h i) (row x i) := by
  unfold k0_pay6
  pointwise
  rw [pay4, pay5]
  rfl
theorem pay7 : k0_pay7 (F := Ideal) d e (ix2 0 k) = ∑ i, (row d i k + row e i k) := by
  unfold k0_pay7 k0_pay2
  pointwise
theorem pay8 : k0_pay8 (F := Ideal) h x d e (ix2 0 k) = ∑ i, cen (row h i) (row x i) k * inv (row h i) (row x i) * (row d i k + row e i k) := by
  unfold k0_pay8 k0_pay2
  pointwise
  simp only [pay3, pay5]
theorem pay9 : k0_pay9 (F := Ideal) g d e (ix2 i k) = scaled (row g 0) (row d i) (row e i) k := by
  unfold k0_pay9 k0_pay2
  pointwise
  rfl
theorem pay10 : k0_pay10 (F := Ideal) h x g d e (ix2 i 0) = ∑ l, cen (row h i) (row x i) l * scaled (row g 0) (row d i) (row e i) l := by
  unfold k0_pay10
  pointwise
  simp only [pay3, pay9]
theorem pay11 : k0_pay11 (F := Ideal) h x (ix2 i k) = inv (row h i) (row x i) := by
  unfold k0_pay11
  pointwise
  rw [pay5]
theorem pay12 : k0_pay12 (F := Ideal) (k0_pay3 h x) (k0_pay6 h x) (k0_pay9 g d e) (k0_pay10 h x g d e) (k0_pay11 h x) (ix2 i k)
    = drow (row h i) (row x i) (row g 0) (row d i) (row e i) k := by
  unfold k0_pay12
  pointwise
  simp only [pay3, pay6, pay9, pay10, pay11]
  simp only [Finset.univ_unique, Finset.sum_singleton, Fin.default_eq_zero, pay6, pay10, zero_sub]
  rfl
theorem pay13 : k0_pay13 (F := Ideal) (k0_pay3 h x) (k0_pay6 h x) (k0_pay9 g d e) (k0_pay10 h x g d e) (k0_pay11 h x) (ix2 i k)
    = Ideal.ofBits .f32 0x3FB504F3#32 * drow (row h i) (row x i) (row g 0) (row d i) (row e i) k := by
  unfold k0_pay13
  pointwise
  rw [pay12]
theorem pay14 : k0_pay14 (F := Ideal) (k0_pay3 h x) (k0_pay6 h x) (k0_pay9 g d e) (k0_pay10 h x g d e) (k0_pay11 h x) (ix2 i k)
    = drow (row h i) (row x i) (row g 0) (row d i) (row e i) k := by
  unfold k0_pay14
  pointwise
  rw [pay12]
end

/-! The same of the reference, on all rows. -/

section
open Cert.ReferenceLnBwdIdeal.Read

/-- Twice a value is it and itself, at the infinities too. -/
theorem twice (a b : EReal) : b * (Ideal.ofBits .f32 0x40000000#32 * a) = a * b + b * a := by
  have h : Ideal.ofBits .f32 0x40000000#32 = 1 + 1 := Cert.Ret.ofBits_two.trans (by rw [← EReal.coe_one, ← EReal.coe_add]; norm_num)
  rw [h, ← mul_assoc, mul_comm b, mul_assoc, EReal.right_distrib_of_nonneg zero_le_one zero_le_one, one_mul, mul_comm a]

variable (h x d e : FVec Ideal S4352x1024 .f32) (g : FVec Ideal S1x1024 .f32) (i : Fin 4352) (k : Fin 1024)

theorem ref_cen : val_main_v8 (F := Ideal) h x (ix2 i k) = cen (row h i) (row x i) k := by
  unfold val_main_v8 val_main_v7 val_main_v6 val_main_v5 val_main_v4 val_main_v3 val_main_v2 val_main_v1 val_main_v0 val_main_cst_0 val_main_cst_1 val_main_cst
  pointwise
  rfl
theorem ref_var : val_main_v17 (F := Ideal) h x (ix2 i 0) = var (row h i) (row x i) := by
  unfold val_main_v17 val_main_v16 val_main_v15 val_main_v14 val_main_v13 val_main_v12 val_main_v9 val_main_cst_3 val_main_cst_4 val_main_cst_5
  pointwise
  simp only [ref_cen]
  rfl
theorem ref_inv : val_main_v18 (F := Ideal) h x (ix2 i 0) = inv (row h i) (row x i) := by
  unfold val_main_v18
  pointwise
  rw [ref_var]
  rfl
theorem ref_slope : val_main_v21 (F := Ideal) h x (ix2 i 0) = slope (row h i) (row x i) := by
  unfold val_main_v21 val_main_v20 val_main_v19 val_main_cst_6
  pointwise
  rw [ref_var, ref_inv]
  rfl
theorem ref_scaled : val_main_v35 (F := Ideal) g d e (ix2 i k) = scaled (row g 0) (row d i) (row e i) k := by
  unfold val_main_v35 val_main_v34 val_main_v28
  pointwise
  rfl
theorem ref_toVar : val_main_v45 (F := Ideal) h x g d e (ix2 i k) = toVar (row h i) (row x i) (row g 0) (row d i) (row e i) := by
  unfold val_main_v45 val_main_v44 val_main_v43 val_main_v42 val_main_v41 val_main_v38 val_main_v37 val_main_v36 val_main_cst_9 val_main_cst_10 val_main_cst_11
  pointwise
  simp only [Finset.univ_unique, Finset.sum_singleton, Fin.default_eq_zero, ref_cen, ref_slope, ref_scaled]
  rfl
theorem ref_dcen : val_main_v47 (F := Ideal) h x g d e (ix2 i k) = dcen (row h i) (row x i) (row g 0) (row d i) (row e i) k := by
  unfold val_main_v47 val_main_v46 val_main_v40 val_main_v39 val_main_v11 val_main_v10 val_main_cst_2
  pointwise
  rw [ref_inv, ref_scaled, ref_toVar, ref_cen, twice, ← add_assoc]
  rfl
theorem ref_drow : val_main_v55 (F := Ideal) h x g d e (ix2 i k) = drow (row h i) (row x i) (row g 0) (row d i) (row e i) k := by
  unfold val_main_v55 val_main_v54 val_main_v53 val_main_v52 val_main_v51 val_main_v50 val_main_v49 val_main_v48 val_main_cst_12 val_main_cst_13 val_main_cst_14
  pointwise
  simp only [Finset.univ_unique, Finset.sum_singleton, Fin.default_eq_zero, ref_dcen]
  rfl
theorem ref_db : val_main_v30 (F := Ideal) d e (ix2 0 k) = ∑ i, (row d i k + row e i k) := by
  unfold val_main_v30 val_main_v29 val_main_v28 val_main_cst_7
  pointwise
theorem ref_dg : val_main_v33 (F := Ideal) h x d e (ix2 0 k) = ∑ i, cen (row h i) (row x i) k * inv (row h i) (row x i) * (row d i k + row e i k) := by
  unfold val_main_v33 val_main_v32 val_main_v31 val_main_v28 val_main_v23 val_main_v22 val_main_cst_8
  pointwise
  simp only [ref_cen, ref_inv]
end

/-! The grid. -/

/-- The point of a block of rows. -/
abbrev pt (p : Fin 8) : Fin cfg0.N := tile (show cfg0.N = 1 * 8 from N_0) 0 p
theorem pt_val (p : Fin 8) : (pt p).val = p.val := by simp [pt, tile_val]

theorem idx0 : ∀ p : Fin 8, win0_0.index (pt p) = ![p.val, 0] := by decide +kernel
theorem idx1 : ∀ p : Fin 8, win0_1.index (pt p) = ![p.val, 0] := by decide +kernel
theorem idx4 : ∀ p : Fin 8, win0_4.index (pt p) = ![p.val, 0] := by decide +kernel
theorem idx5 : ∀ p : Fin 8, win0_5.index (pt p) = ![p.val, 0] := by decide +kernel
theorem idx6 : ∀ p : Fin 8, win0_6.index (pt p) = ![p.val, 0] := by decide +kernel
theorem idx7 : ∀ p : Fin 8, win0_7.index (pt p) = ![p.val, 0] := by decide +kernel
theorem idx2 : ∀ p : Fin 8, win0_2.index (pt p) = ![0, 0] := by decide +kernel
theorem idx8 : ∀ p : Fin 8, win0_8.index (pt p) = ![0, 0] := by decide +kernel
theorem idx9 : ∀ p : Fin 8, win0_9.index (pt p) = ![0, 0] := by decide +kernel
/-- The gradients of the scale and the shift are written back after the last point only. -/
theorem disjoint8 (t t' : Fin cfg0.N) (h : (cfg0.win 8).flush t = true) (h' : (cfg0.win 8).flush t' = true) (hne : t ≠ t') :
    Disjoint ((cfg0.win 8).blk t).view.set ((cfg0.win 8).blk t').view.set :=
  absurd (Fin.ext (by have := (flush0_8 t).mp h; have := (flush0_8 t').mp h'; have := lt_of_lt_of_eq t.isLt N_0; have := lt_of_lt_of_eq t'.isLt N_0; omega)) hne
theorem disjoint9 (t t' : Fin cfg0.N) (h : (cfg0.win 9).flush t = true) (h' : (cfg0.win 9).flush t' = true) (hne : t ≠ t') :
    Disjoint ((cfg0.win 9).blk t).view.set ((cfg0.win 9).blk t').view.set :=
  disjoint8 t t' ((flush0_8 t).mpr ((flush0_9 t).mp h)) ((flush0_8 t').mpr ((flush0_9 t').mp h')) hne

variable (m : (ℓ : Loc nD τ sig) → Buf (Elt Ideal) ℓ) (c : Dev nD) (p : Fin 8)

/-- The layer's input, the mixer's output, the scale, the gradient of the result and what is added to it, as launched. -/
abbrev inp : Vec Ideal S4352x1024 .f32 := m ((c : Thread nD τ).loc main_arg0)
abbrev mix : Vec Ideal S4352x1024 .f32 := m ((c : Thread nD τ).loc main_arg1)
abbrev gain : Vec Ideal S1x1024 .f32 := m ((c : Thread nD τ).loc main_arg2)
abbrev grad : Vec Ideal S4352x1024 .f32 := m ((c : Thread nD τ).loc main_arg4)
abbrev more : Vec Ideal S4352x1024 .f32 := m ((c : Thread nD τ).loc main_arg5)

/-- The rows of the blocks. -/
theorem blk0 (i : Fin 544) : row (iblk m c 0 (pt p) : Vec Ideal S544x1024 .f32) i = row (inp m c) (tile rfl p i) := by
  funext k
  unfold row iblk
  rw [View.read_apply]
  refine (congrFun (V_main_arg0 m c) _).trans (congrArg _ (funext fun a => Fin.ext ?_))
  match a with
  | ⟨0, _⟩ => show win0_0.index (pt p) 0 * 544 + 1 * i.val = p.val * 544 + i.val; rw [idx0]; simp
  | ⟨1, _⟩ => show win0_0.index (pt p) 1 * 1024 + 1 * k.val = k.val; rw [idx0]; simp
theorem blk1 (i : Fin 544) : row (iblk m c 1 (pt p) : Vec Ideal S544x1024 .f32) i = row (mix m c) (tile rfl p i) := by
  funext k
  unfold row iblk
  rw [View.read_apply]
  refine (congrFun (V_main_arg1 m c) _).trans (congrArg _ (funext fun a => Fin.ext ?_))
  match a with
  | ⟨0, _⟩ => show win0_1.index (pt p) 0 * 544 + 1 * i.val = p.val * 544 + i.val; rw [idx1]; simp
  | ⟨1, _⟩ => show win0_1.index (pt p) 1 * 1024 + 1 * k.val = k.val; rw [idx1]; simp
theorem blk4 (i : Fin 544) : row (iblk m c 4 (pt p) : Vec Ideal S544x1024 .f32) i = row (grad m c) (tile rfl p i) := by
  funext k
  unfold row iblk
  rw [View.read_apply]
  refine (congrFun (V_main_arg4 m c) _).trans (congrArg _ (funext fun a => Fin.ext ?_))
  match a with
  | ⟨0, _⟩ => show win0_4.index (pt p) 0 * 544 + 1 * i.val = p.val * 544 + i.val; rw [idx4]; simp
  | ⟨1, _⟩ => show win0_4.index (pt p) 1 * 1024 + 1 * k.val = k.val; rw [idx4]; simp
theorem blk5 (i : Fin 544) : row (iblk m c 5 (pt p) : Vec Ideal S544x1024 .f32) i = row (more m c) (tile rfl p i) := by
  funext k
  unfold row iblk
  rw [View.read_apply]
  refine (congrFun (V_main_arg5 m c) _).trans (congrArg _ (funext fun a => Fin.ext ?_))
  match a with
  | ⟨0, _⟩ => show win0_5.index (pt p) 0 * 544 + 1 * i.val = p.val * 544 + i.val; rw [idx5]; simp
  | ⟨1, _⟩ => show win0_5.index (pt p) 1 * 1024 + 1 * k.val = k.val; rw [idx5]; simp
theorem blk2 : row (iblk m c 2 (pt p) : Vec Ideal S1x1024 .f32) 0 = row (gain m c) 0 := by
  funext k
  unfold row iblk
  rw [View.read_apply]
  refine (congrFun (V_main_arg2 m c) _).trans (congrArg _ (funext fun a => Fin.ext ?_))
  match a with
  | ⟨0, _⟩ => show win0_2.index (pt p) 0 * 1 + 1 * 0 = 0; rw [idx2]; simp
  | ⟨1, _⟩ => show win0_2.index (pt p) 1 * 1024 + 1 * k.val = k.val; rw [idx2]; simp

set_option maxHeartbeats 2000000 in
/-- What the first point leaves. -/
theorem first (t : Fin cfg0.N) (h : t.val % 8 = 0) : outsAt0 m c t.val t.isLt
    = (k0_pay13 (k0_pay3 (iblk m c 0 t) (iblk m c 1 t)) (k0_pay6 (iblk m c 0 t) (iblk m c 1 t)) (k0_pay9 (iblk m c 2 t) (iblk m c 4 t) (iblk m c 5 t))
        (k0_pay10 (iblk m c 0 t) (iblk m c 1 t) (iblk m c 2 t) (iblk m c 4 t) (iblk m c 5 t)) (k0_pay11 (iblk m c 0 t) (iblk m c 1 t)),
      k0_pay14 (k0_pay3 (iblk m c 0 t) (iblk m c 1 t)) (k0_pay6 (iblk m c 0 t) (iblk m c 1 t)) (k0_pay9 (iblk m c 2 t) (iblk m c 4 t) (iblk m c 5 t))
        (k0_pay10 (iblk m c 0 t) (iblk m c 1 t) (iblk m c 2 t) (iblk m c 4 t) (iblk m c 5 t)) (k0_pay11 (iblk m c 0 t) (iblk m c 1 t)),
      k0_pay8 (iblk m c 0 t) (iblk m c 1 t) (iblk m c 4 t) (iblk m c 5 t),
      k0_pay7 (iblk m c 4 t) (iblk m c 5 t)) := by
  have hN := lt_of_lt_of_eq t.isLt N_0
  rw [outsAt0_A m c t h (by omega) h (by omega)]
  unfold out0_A_6 out0_A_7 out0_A_8 out0_A_9
  rw [View.read_writes_eq_canon _ _ _ (fun y => cover0_A_6 (y := y) ..), View.read_writes_eq_canon _ _ _ (fun y => cover0_A_7 (y := y) ..),
    View.read_writes_eq_canon _ _ _ (fun y => cover0_A_8 (y := y) ..), View.read_writes_eq_canon _ _ _ (fun y => cover0_A_9 (y := y) ..)]
  unfold kernelRun0_A
  dsimp only
  sl_unfold_words
  simp only [View.canon_unit_zero (S := S544x1024) hz2, View.canon_unit_zero (S := S1x1024) hz2, View.readAt_eq_ld, (hs0_0 t).read_unread, (hs0_1 t).read_unread, (hs0_2 t).read_unread, (hs0_4 t).read_unread,
    (hs0_5 t).read_unread, View.ld_unit_zero (S := S544x1024) hz2, View.ld_unit_zero (S := S1x1024) hz2]

set_option maxHeartbeats 2000000 in
/-- What a later one leaves over what it finds. -/
theorem later (t : Fin cfg0.N) (h : ¬t.val % 8 = 0) : outsAt0 m c t.val t.isLt
    = (k0_pay13 (k0_pay3 (iblk m c 0 t) (iblk m c 1 t)) (k0_pay6 (iblk m c 0 t) (iblk m c 1 t)) (k0_pay9 (iblk m c 2 t) (iblk m c 4 t) (iblk m c 5 t))
        (k0_pay10 (iblk m c 0 t) (iblk m c 1 t) (iblk m c 2 t) (iblk m c 4 t) (iblk m c 5 t)) (k0_pay11 (iblk m c 0 t) (iblk m c 1 t)),
      k0_pay14 (k0_pay3 (iblk m c 0 t) (iblk m c 1 t)) (k0_pay6 (iblk m c 0 t) (iblk m c 1 t)) (k0_pay9 (iblk m c 2 t) (iblk m c 4 t) (iblk m c 5 t))
        (k0_pay10 (iblk m c 0 t) (iblk m c 1 t) (iblk m c 2 t) (iblk m c 4 t) (iblk m c 5 t)) (k0_pay11 (iblk m c 0 t) (iblk m c 1 t)),
      k0_pay15 (k0_pay8 (iblk m c 0 t) (iblk m c 1 t) (iblk m c 4 t) (iblk m c 5 t)) (outsAt0 m c (t.val - 1) (Nat.lt_of_le_of_lt (Nat.sub_le _ _) t.isLt)).2.2.1,
      k0_pay1 (k0_pay7 (iblk m c 4 t) (iblk m c 5 t)) (outsAt0 m c (t.val - 1) (Nat.lt_of_le_of_lt (Nat.sub_le _ _) t.isLt)).2.2.2) := by
  rw [outsAt0_B m c t h (by omega) h (by omega)]
  generalize (outsAt0 m c (t.val - 1) _).2.2.1 = a
  generalize (outsAt0 m c (t.val - 1) _).2.2.2 = b
  unfold out0_B_6 out0_B_7 out0_B_8 out0_B_9
  rw [View.read_writes_eq_canon _ _ _ (fun y => cover0_B_6 (y := y) ..), View.read_writes_eq_canon _ _ _ (fun y => cover0_B_7 (y := y) ..),
    View.read_writes_eq_canon _ _ _ (fun y => cover0_B_8 (y := y) ..), View.read_writes_eq_canon _ _ _ (fun y => cover0_B_9 (y := y) ..)]
  unfold kernelRun0_B
  dsimp only
  sl_unfold_words
  simp only [View.canon_unit_zero (S := S544x1024) hz2, View.canon_unit_zero (S := S1x1024) hz2, View.readAt_eq_ld, (hs0_0 t).read_unread, (hs0_1 t).read_unread, (hs0_2 t).read_unread, (hs0_4 t).read_unread,
    (hs0_5 t).read_unread, (hs0_8 t).read_unread, (hs0_9 t).read_unread, View.ld_unit_zero (S := S544x1024) hz2, View.ld_unit_zero (S := S1x1024) hz2]

/-- The gradient of a row of the sum that was normalised. -/
abbrev dsum (i : Fin 4352) (k : Fin 1024) : EReal := drow (row (inp m c) i) (row (mix m c) i) (row (gain m c) 0) (row (grad m c) i) (row (more m c) i) k

theorem body6 (i : Fin 544) (k : Fin 1024) : (outsAt0 m c (pt p).val (pt p).isLt).1 (ix2 i k) = Ideal.ofBits .f32 0x3FB504F3#32 * dsum m c (tile rfl p i) k := by
  by_cases h : (pt p).val % 8 = 0
  · rw [first m c _ h]; dsimp only; rw [pay13, blk0, blk1, blk2, blk4, blk5]
  · rw [later m c _ h]; dsimp only; rw [pay13, blk0, blk1, blk2, blk4, blk5]
theorem body7 (i : Fin 544) (k : Fin 1024) : (outsAt0 m c (pt p).val (pt p).isLt).2.1 (ix2 i k) = dsum m c (tile rfl p i) k := by
  by_cases h : (pt p).val % 8 = 0
  · rw [first m c _ h]; dsimp only; rw [pay14, blk0, blk1, blk2, blk4, blk5]
  · rw [later m c _ h]; dsimp only; rw [pay14, blk0, blk1, blk2, blk4, blk5]

/-- The arrays of the results, element by element. -/
theorem arr6 (i : Fin 544) (k : Fin 1024) : ((dats m 0 c).arrAt 6 cfg0.N : Vec Ideal S4352x1024 .f32) (ix2 (tile rfl p i) k)
    = Ideal.ofBits .f32 0x3FB504F3#32 * dsum m c (tile rfl p i) k := by
  have e := congrFun (blocks6 m c (pt p) (flush0_6 _)) (ix2 i k)
  rw [flushed6, View.read_apply] at e
  refine Eq.trans (congrArg _ (funext fun a => Fin.ext ?_)) (e.trans (body6 m c p i k))
  match a with
  | ⟨0, _⟩ => show p.val * 544 + i.val = win0_6.index (pt p) 0 * 544 + 1 * i.val; rw [idx6]; simp
  | ⟨1, _⟩ => show k.val = win0_6.index (pt p) 1 * 1024 + 1 * k.val; rw [idx6]; simp
theorem arr7 (i : Fin 544) (k : Fin 1024) : ((dats m 0 c).arrAt 7 cfg0.N : Vec Ideal S4352x1024 .bf16) (ix2 (tile rfl p i) k)
    = dsum m c (tile rfl p i) k := by
  have e := congrFun (blocks7 m c (pt p) (flush0_7 _)) (ix2 i k)
  rw [flushed7, View.read_apply] at e
  refine Eq.trans (congrArg _ (funext fun a => Fin.ext ?_)) (e.trans (body7 m c p i k))
  match a with
  | ⟨0, _⟩ => show p.val * 544 + i.val = win0_7.index (pt p) 0 * 544 + 1 * i.val; rw [idx7]; simp
  | ⟨1, _⟩ => show k.val = win0_7.index (pt p) 1 * 1024 + 1 * k.val; rw [idx7]; simp
theorem arr8 (k : Fin 1024) : ((dats m 0 c).arrAt 8 cfg0.N : Vec Ideal S1x1024 .f32) (ix2 0 k)
    = ∑ i, cen (row (inp m c) i) (row (mix m c) i) k * inv (row (inp m c) i) (row (mix m c) i) * (row (grad m c) i k + row (more m c) i k) := by
  have e := congrFun ((dats m 0 c).read_blk_arrAt_eq_flushed 8 disjoint8 cfg0.N (pt 7) (pt 7).isLt ((flush0_8 _).mpr (by rw [pt_val]; rfl))) (ix2 0 k)
  rw [flushed8, View.read_apply] at e
  refine Eq.trans (congrArg _ (funext fun a => Fin.ext ?_)) (e.trans ((running_sum (show cfg0.N = 1 * 8 from N_0) (by decide) (fun n hn => (outsAt0 m c n hn).2.2.1 (ix2 0 k))
    (fun t => k0_pay8 (F := Ideal) (iblk m c 0 t) (iblk m c 1 t) (iblk m c 4 t) (iblk m c 5 t) (ix2 0 k))
    (fun t h => by rw [first m c t h]) (fun t h => by rw [later m c t h]; unfold k0_pay15; pointwise) 0 7 rfl).trans ?_))
  · match a with
    | ⟨0, _⟩ => show 0 = win0_8.index (pt 7) 0 * 1 + 1 * 0; rw [idx8]; simp
    | ⟨1, _⟩ => show k.val = win0_8.index (pt 7) 1 * 1024 + 1 * k.val; rw [idx8]; simp
  · rw [sum_tiles (n := 8) (t := 544) rfl]
    refine Finset.sum_congr rfl fun s _ => ?_
    rw [pay8]
    simp only [blk0 m c s, blk1 m c s, fun i => congrFun (blk4 m c s i) k, fun i => congrFun (blk5 m c s i) k]
theorem arr9 (k : Fin 1024) : ((dats m 0 c).arrAt 9 cfg0.N : Vec Ideal S1x1024 .f32) (ix2 0 k) = ∑ i, (row (grad m c) i k + row (more m c) i k) := by
  have e := congrFun ((dats m 0 c).read_blk_arrAt_eq_flushed 9 disjoint9 cfg0.N (pt 7) (pt 7).isLt ((flush0_9 _).mpr (by rw [pt_val]; rfl))) (ix2 0 k)
  rw [flushed9, View.read_apply] at e
  refine Eq.trans (congrArg _ (funext fun a => Fin.ext ?_)) (e.trans ((running_sum (show cfg0.N = 1 * 8 from N_0) (by decide) (fun n hn => (outsAt0 m c n hn).2.2.2 (ix2 0 k))
    (fun t => k0_pay7 (F := Ideal) (iblk m c 4 t) (iblk m c 5 t) (ix2 0 k))
    (fun t h => by rw [first m c t h]) (fun t h => by rw [later m c t h]; unfold k0_pay1; pointwise) 0 7 rfl).trans ?_))
  · match a with
    | ⟨0, _⟩ => show 0 = win0_9.index (pt 7) 0 * 1 + 1 * 0; rw [idx9]; simp
    | ⟨1, _⟩ => show k.val = win0_9.index (pt 7) 1 * 1024 + 1 * k.val; rw [idx9]; simp
  · rw [sum_tiles (n := 8) (t := 544) rfl]
    refine Finset.sum_congr rfl fun s _ => ?_
    rw [pay7]
    simp only [fun i => congrFun (blk4 m c s i) k, fun i => congrFun (blk5 m c s i) k]

/-- They are the reference's. -/
theorem same6 : (dats m 0 c).arrAt 6 cfg0.N = Cert.ReferenceLnBwdIdeal.Read.val_main_v57 (F := Ideal) (inp m c) (mix m c) (gain m c) (grad m c) (more m c) := by
  funext y
  obtain ⟨p, i, k, rfl⟩ := rows_tiled (n := 8) (t := 544) rfl y
  refine (arr6 m c p i k).trans (Eq.symm ?_)
  open Cert.ReferenceLnBwdIdeal.Read in
  unfold val_main_v57 val_main_v56 val_main_cst_15
  pointwise
  rw [ref_drow]
theorem same7 : (dats m 0 c).arrAt 7 cfg0.N = Cert.ReferenceLnBwdIdeal.Read.val_main_v58 (F := Ideal) (inp m c) (mix m c) (gain m c) (grad m c) (more m c) := by
  funext y
  obtain ⟨p, i, k, rfl⟩ := rows_tiled (n := 8) (t := 544) rfl y
  refine (arr7 m c p i k).trans (Eq.symm ?_)
  open Cert.ReferenceLnBwdIdeal.Read in
  unfold val_main_v58
  pointwise
  rw [ref_drow]
theorem same8 : (dats m 0 c).arrAt 8 cfg0.N = Cert.ReferenceLnBwdIdeal.Read.val_main_v33 (F := Ideal) (inp m c) (mix m c) (grad m c) (more m c) := by
  funext y
  obtain ⟨z, k, rfl⟩ : ∃ (z : Fin 1) (k : Fin 1024), y = ix2 z k := ⟨_, _, eq_ix2 y⟩
  obtain rfl := Fin.eq_zero z
  exact (arr8 m c k).trans (ref_dg ..).symm
theorem same9 : (dats m 0 c).arrAt 9 cfg0.N = Cert.ReferenceLnBwdIdeal.Read.val_main_v30 (F := Ideal) (grad m c) (more m c) := by
  funext y
  obtain ⟨z, k, rfl⟩ : ∃ (z : Fin 1) (k : Fin 1024), y = ix2 z k := ⟨_, _, eq_ix2 y⟩
  obtain rfl := Fin.eq_zero z
  exact (arr9 m c k).trans (ref_db ..).symm

/-- The value claim. -/
theorem algebraic : Cert.algebraic_KernelLnBwdIdeal_ReferenceLnBwdIdeal (hKernelLnBwdIdeal := Cert.KernelLnBwdIdeal.Gen.facts)
    (hReferenceLnBwdIdeal := Cert.ReferenceLnBwdIdeal.Gen.facts) := by
  intro m g m' g' _ hin
  refine ⟨fun c => (dats m 0 c).arrAt 6 cfg0.N, fun c => (dats m 0 c).arrAt 7 cfg0.N, fun c => (dats m 0 c).arrAt 8 cfg0.N, fun c => (dats m 0 c).arrAt 9 cfg0.N,
    run_blocks m g, ?_⟩
  refine (θ_run _ _ _).mono (fun r h c => ?_) (Cert.ReferenceLnBwdIdeal.Value.run m' g')
  obtain ⟨i0, i1, i2, _, i4, i5⟩ := hin c
  obtain ⟨h0, h1, h2, h3, hk⟩ := h c
  refine ⟨h0.trans ?_, h1.trans ?_, h2.trans ?_, h3.trans ?_, hk⟩
  · rw [Cert.ReferenceLnBwdIdeal.Read.val_main_v57_eq, i0, i1, i2, i4, i5]
    exact (same6 m c).symm
  · rw [Cert.ReferenceLnBwdIdeal.Read.val_main_v58_eq, i0, i1, i2, i4, i5]
    exact (same7 m c).symm
  · rw [Cert.ReferenceLnBwdIdeal.Read.val_main_v33_eq, i0, i1, i4, i5]
    exact (same8 m c).symm
  · rw [Cert.ReferenceLnBwdIdeal.Read.val_main_v30_eq, i4, i5]
    exact (same9 m c).symm

end Cert.KernelLnBwdIdeal.Ln

end
-- ==== Proof.AttnMath.lean ====
module

public import proofs.«01_k».proof.Proof.RetReal

@[expose] public section

noncomputable section

/-! # Softmax of a row of masked scores, and its gradient

A masked score is minus infinity.  Its power is zero, so a row may be worked out over the keys it sees alone or over all of them. -/

namespace Cert.Attn

open Idealize.ShloMosaic Idealize.ShloMosaic.Ideal Cert.Ret

/-- The scores' scale, the inverse root of the number of places of a query. -/
def scale : EReal := (((Real.sqrt 96)⁻¹ : ℝ) : EReal)

section Row
variable {n : ℕ}

/-- The gradient of key `j`'s weight: the product of the result's gradient `g` and the value, which are in the last 64 places. -/
def dweight (g : Fin 128 → EReal) (V : Fin n → Fin 128 → EReal) (j : Fin n) : EReal := ∑ x : Fin 128, Scalar.select (IntOp.cmpi .sge (BitVec.ofNat 32 x.val) 64#32) (g x * V j x) 0
/-- A score's exponential, and its share of the row's sum. -/
def power (sc : Fin n → EReal) (j : Fin n) : EReal := Ideal.exp (sc j - Finset.fold max (ofBits .f32 4286578688#32) (fun x => sc x) Finset.univ)
def weight (sc : Fin n → EReal) (j : Fin n) : EReal := power sc j * div 1 (∑ x, power sc x)
/-- The gradient of a product of a query and a key, from the gradients `dp` of the row's weights. -/
def dscore (sc dp : Fin n → EReal) (j : Fin n) : EReal := weight sc j * (dp j - ∑ x, dp x * weight sc x) * scale

theorem neg_inf : ofBits .f32 4286578688#32 = ⊥ := by simp [Ideal.ofBits, Ideal.ieee]

/-- The greatest score of a row. -/
theorem greatest (sc : Fin n → EReal) : Finset.fold max (ofBits .f32 4286578688#32) (fun x => sc x) Finset.univ = Finset.univ.sup sc := by
  rw [neg_inf]; rfl

variable (sc : Fin n → EReal) (j : Fin n)

theorem power_masked (h : sc j = ⊥) : power sc j = 0 := by
  unfold power
  rw [h, EReal.bot_sub]
  rfl
theorem weight_masked (h : sc j = ⊥) : weight sc j = 0 := by rw [weight, power_masked sc j h, zero_mul]
theorem dscore_masked (dp : Fin n → EReal) (h : sc j = ⊥) : dscore sc dp j = 0 := by rw [dscore, weight_masked sc j h, zero_mul, zero_mul]

end Row

/-! ## Over the first keys alone -/

section Extend
variable {n N : ℕ} (hn : n ≤ N)

theorem sum_castLE (f : Fin N → EReal) (h : ∀ j, n ≤ j.val → f j = 0) : ∑ j, f (Fin.castLE hn j) = ∑ j, f j := by
  obtain ⟨k, rfl⟩ := Nat.exists_eq_add_of_le hn
  rw [Fin.sum_univ_add, Finset.sum_eq_zero (s := Finset.univ) (f := fun i : Fin k => f (Fin.natAdd n i)) (fun i _ => h _ (Nat.le_add_right _ _)), add_zero]
  rfl

variable (sc dp : Fin N → EReal) (h : ∀ j, n ≤ j.val → sc j = ⊥)
include h

theorem sup_castLE : Finset.univ.sup (fun j => sc (Fin.castLE hn j)) = Finset.univ.sup sc := by
  refine le_antisymm (Finset.sup_le fun j _ => Finset.le_sup (f := sc) (Finset.mem_univ _)) (Finset.sup_le fun j _ => ?_)
  by_cases hj : j.val < n
  · exact Finset.le_sup (f := fun j => sc (Fin.castLE hn j)) (Finset.mem_univ (⟨j.val, hj⟩ : Fin n))
  · rw [h j (not_lt.mp hj)]; exact bot_le
theorem power_castLE (j : Fin n) : power (fun j => sc (Fin.castLE hn j)) j = power sc (Fin.castLE hn j) := by
  unfold power
  rw [greatest, greatest, sup_castLE hn sc h]
theorem weight_castLE (j : Fin n) : weight (fun j => sc (Fin.castLE hn j)) j = weight sc (Fin.castLE hn j) := by
  unfold weight
  simp only [power_castLE hn sc h]
  rw [sum_castLE hn (power sc) fun j hj => power_masked sc j (h j hj)]
theorem dscore_castLE (j : Fin n) : dscore (fun j => sc (Fin.castLE hn j)) (fun j => dp (Fin.castLE hn j)) j = dscore sc dp (Fin.castLE hn j) := by
  unfold dscore
  simp only [weight_castLE hn sc h]
  rw [sum_castLE hn (fun j => dp j * weight sc j) fun j hj => by rw [weight_masked sc j (h j hj), mul_zero]]

end Extend

/-! ## Over the reals -/

theorem div_coe (a b : ℝ) (hb : b ≠ 0) : div ((a : ℝ) : EReal) ((b : ℝ) : EReal) = ((a / b : ℝ) : EReal) := by
  unfold div
  rw [if_neg (by exact_mod_cast hb), ← EReal.coe_inv, ← EReal.coe_mul, div_eq_mul_inv]

/-- A nonnegative real goes into a sum of any numbers. -/
theorem mul_sum (a : ℝ) (ha : 0 ≤ a) {k : ℕ} (f : Fin k → EReal) : (a : EReal) * ∑ x, f x = ∑ x, (a : EReal) * f x := by
  induction (Finset.univ : Finset (Fin k)) using Finset.induction_on with
  | empty => simp
  | insert x s hx ih => rw [Finset.sum_insert hx, Finset.sum_insert hx, EReal.left_distrib_of_nonneg_of_ne_top (by exact_mod_cast ha) (EReal.coe_ne_top _), ih]

section Real
variable {n : ℕ} (sc : Fin n → EReal) (hs : ∀ j, sc j = ⊥ ∨ ∃ r : ℝ, sc j = (r : EReal)) (j0 : Fin n) (h0 : ∃ r : ℝ, sc j0 = (r : EReal))
include hs h0

/-- The powers of a row with a score that is not masked are reals, and not all zero. -/
theorem power_real : ∃ e : Fin n → ℝ, (∀ j, power sc j = ((e j : ℝ) : EReal)) ∧ 0 < ∑ j, e j := by
  obtain ⟨i, -, hi⟩ := Finset.exists_mem_eq_sup Finset.univ ⟨j0, Finset.mem_univ _⟩ sc
  obtain ⟨r0, h0⟩ := h0
  have hr : ∃ r : ℝ, Finset.univ.sup sc = (r : EReal) := by
    rcases hs i with h | ⟨r, h⟩
    · exfalso
      have : sc j0 ≤ Finset.univ.sup sc := Finset.le_sup (Finset.mem_univ _)
      rw [hi, h, h0] at this
      exact absurd (le_bot_iff.mp this) (EReal.coe_ne_bot _)
    · exact ⟨r, hi.trans h⟩
  obtain ⟨r, hr⟩ := hr
  have hp : ∀ j, ∃ e : ℝ, power sc j = (e : EReal) ∧ 0 ≤ e := fun j => by
    rcases hs j with h | ⟨x, h⟩
    · exact ⟨0, power_masked sc j h, le_rfl⟩
    · refine ⟨Real.exp (x - r), ?_, (Real.exp_pos _).le⟩
      unfold power
      rw [greatest, hr, h, ← EReal.coe_sub, Ret.exp_coe]
  choose e he hpos using hp
  refine ⟨e, he, Finset.sum_pos' (fun j _ => hpos j) ⟨j0, Finset.mem_univ _, ?_⟩⟩
  have : power sc j0 = ((Real.exp (r0 - r) : ℝ) : EReal) := by
    unfold power
    rw [greatest, hr, h0, ← EReal.coe_sub, Ret.exp_coe]
  rw [he] at this
  rw [EReal.coe_eq_coe_iff.mp this]
  exact Real.exp_pos _

/-- A weight is the quotient of the power and the sum. -/
theorem weight_eq_div (j : Fin n) : weight sc j = div (power sc j) (∑ x, power sc x) := by
  obtain ⟨e, he, hL⟩ := power_real sc hs j0 h0
  unfold weight
  simp only [he]
  rw [← coe_sum, div_coe _ _ hL.ne', show (1 : EReal) = ((1 : ℝ) : EReal) from rfl, div_coe _ _ hL.ne', ← EReal.coe_mul, _root_.mul_one_div]

theorem weight_real (j : Fin n) : ∃ w : ℝ, weight sc j = (w : EReal) := by
  obtain ⟨e, he, hL⟩ := power_real sc hs j0 h0
  exact ⟨e j / ∑ x, e x, by rw [weight_eq_div sc hs j0 h0]; simp only [he]; rw [← coe_sum, div_coe _ _ hL.ne']⟩

/-- The gradient of a quotient of the power and the sum of the powers. -/
theorem dscore_eq (dp : Fin n → EReal) (j : Fin n) :
    dscore sc dp j = (div (dp j) (∑ x, power sc x) + -∑ x, dp x * div 1 ((∑ x, power sc x) * ∑ x, power sc x) * power sc x) * power sc j
      * scale := by
  obtain ⟨e, he, hL⟩ := power_real sc hs j0 h0
  unfold dscore
  simp only [weight_eq_div sc hs j0 h0, he]
  simp only [← coe_sum, ← EReal.coe_mul, show (1 : EReal) = ((1 : ℝ) : EReal) from rfl, div_coe _ _ hL.ne', div_coe _ _ (mul_ne_zero hL.ne' hL.ne')]
  set L := ∑ x, e x
  have hd : ∀ a : EReal, div a (L : EReal) = ((1 / L : ℝ) : EReal) * a := fun a => by
    unfold div
    rw [if_neg (by exact_mod_cast hL.ne'), ← EReal.coe_inv, one_div, mul_comm]
  have e2 : ∑ x, dp x * ((1 / (L * L) : ℝ) : EReal) * (e x : EReal) = ((1 / L : ℝ) : EReal) * ∑ x, dp x * ((e x / L : ℝ) : EReal) := by
    rw [mul_sum _ (one_div_pos.mpr hL).le]
    refine Finset.sum_congr rfl fun x _ => ?_
    rw [mul_assoc, ← EReal.coe_mul, mul_left_comm, ← EReal.coe_mul, show 1 / (L * L) * e x = 1 / L * (e x / L) by field_simp]
  rw [hd, e2, ← mul_neg, ← EReal.left_distrib_of_nonneg_of_ne_top (by exact_mod_cast (one_div_pos.mpr hL).le) (EReal.coe_ne_top _), ← sub_eq_add_neg]
  congr 1
  rw [mul_right_comm, ← EReal.coe_mul, one_div_mul_eq_div]

end Real

/-- A signed comparison of two small row numbers. -/
theorem select_sle {α : Type} (r c : ℕ) (hr : r < 2 ^ 31) (hc : c < 2 ^ 31) (x y : α) :
    Scalar.select (IntOp.cmpi .sle (BitVec.ofNat 32 c) (BitVec.ofNat 32 r)) x y = if c ≤ r then x else y := by
  exact select_sge r c hr hc x y
theorem addi_ofNat (a b : ℕ) : IntOp.addi (BitVec.ofNat 32 a) (BitVec.ofNat 32 b) = BitVec.ofNat 32 (a + b) := by
  simp [IntOp.addi, BitVec.ofNat_add]

/-! ## The attention of one head, over rows of 128 places -/

section Head
variable {N : ℕ} (Q K G V : Fin N → Fin 128 → EReal)

/-- The scores of row `i`; a later key is masked. -/
def scores (i j : Fin N) : EReal := if j.val ≤ i.val then (∑ x, Q i x * K j x) * scale else ⊥
/-- The gradients of the products of query `i` and key `j`. -/
def dscores (i : Fin N) : Fin N → EReal := dscore (scores Q K i) (dweight (G i) V)
def headDq (i : Fin N) (d : Fin 128) : EReal := ∑ j, dscores Q K G V i j * K j d
def headDk (j : Fin N) (d : Fin 128) : EReal := ∑ i, dscores Q K G V i j * Q i d
/-- The gradient of the values, in the last 64 places. -/
def headDv (j : Fin N) (d : Fin 128) : EReal := ∑ i, Scalar.select (IntOp.cmpi .sge (BitVec.ofNat 32 d.val) 64#32) (weight (scores Q K i) j * G i d) 0

theorem scores_later (i j : Fin N) (h : i.val < j.val) : scores Q K i j = ⊥ := if_neg (by omega)

end Head

end Cert.Attn

end
-- ==== Proof.AttnBlocks.lean ====
module

public import proofs.«01_k».proof.Defs
public import proofs.«01_k».proof.Proof.Gen.KernelAttnBwdIdeal
public import proofs.«01_k».proof.Proof.Gen.KernelAttnBwdIdeal.Value
public import proofs.«01_k».proof.Proof.ProdMath
public import proofs.«01_k».proof.Proof.AttnMath

@[expose] public section

noncomputable section

namespace Cert.KernelAttnBwdIdeal.Attn

open Cert Cert.Prod Cert.Attn Cert.KernelAttnBwdIdeal Cert.KernelAttnBwdIdeal.Gen Idealize.ShloMosaic Idealize.ShloMosaic.TcCoe Idealize.ShloMosaic.Tactic Idealize.ShloMosaic.Ideal
open Idealize.ShloMosaic.Pipeline (Dat Window)

variable (m : (ℓ : Loc nD τ sig) → Buf (Elt Ideal) ℓ) (c : Dev nD)

abbrev pos : IVec S2176x128 32 := iota .tc S2176x128 32 [1] iota_S2176x128_d1_w32

/-! ## One block of query rows, at one head

`q` is a query row, `g` the gradient of its result (in the places of the values), `K` and `V` the keys and values it sees. -/

section Row
variable {n : ℕ}

/-- The score of key `j` for row `r` of a block that starts at row `s`; a later key is masked. -/
def score (s r : ℕ) (q : Fin 128 → EReal) (K : Fin n → Fin 128 → EReal) (j : Fin n) : EReal :=
  Scalar.select (IntOp.cmpi .sle (BitVec.ofNat 32 j.val) (IntOp.addi (BitVec.ofNat 32 s) (BitVec.ofNat 32 r)))
    ((∑ x, q x * K j x) * scale) (Named.named κ "mask" 4048155338#32 : Ideal .f32)
end Row

/-! ## What the body computes from each block of rows: the block's dq, and what it adds to dk and to dv -/

section Block
variable {R n : ℕ} (s : ℕ) (q g : FVec Ideal (⟨3, ![1, R, 128]⟩ : Shape) .f32) (kk vv : FVec Ideal (⟨2, ![n, 128]⟩ : Shape) .bf16)
abbrev bscore (i : Fin R) : Fin n → EReal := score s i.val (fun x => q (ix3 0 i x)) (fun j x => kk (ix2 j x))
abbrev bdscore (i : Fin R) : Fin n → EReal := dscore (bscore s q kk i) (dweight (fun x => g (ix3 0 i x)) (fun j x => vv (ix2 j x)))
def bdq (i : Fin R) (d : Fin 128) : EReal := ∑ j, bdscore s q g kk vv i j * kk (ix2 j d)
def bdk (j : Fin n) (d : Fin 128) : EReal := ∑ i, bdscore s q g kk vv i j * q (ix3 0 i d)
def bdv (j : Fin n) (d : Fin 128) : EReal := ∑ i, Scalar.select (IntOp.cmpi .sge (BitVec.ofNat 32 d.val) 64#32) (weight (bscore s q kk i) j * g (ix3 0 i d)) 0
end Block

theorem dq1 (q g : FVec Ideal S1x128x128 .f32) (kk vv : FVec Ideal S2176x128 .bf16) (i : Fin 128) (d : Fin 128) :
    k0_pay13 (F := Ideal) (k0_pay9 g) kk vv (k0_pay10 q kk) (ix3 0 i d) = bdq 2048 q g kk vv i d := by
  unfold k0_pay13 k0_pay12 k0_pay11 k0_pay10 k0_pay9 k0_pay8; pointwise; rfl
theorem dk1 (q g : FVec Ideal S1x128x128 .f32) (kk vv : FVec Ideal S2176x128 .bf16) (j : Fin 2176) (d : Fin 128) :
    k0_pay14 (F := Ideal) (k0_pay8 q) (k0_pay9 g) vv (k0_pay10 q kk) (ix2 j d) = bdk 2048 q g kk vv j d := by
  unfold k0_pay14 k0_pay12 k0_pay11 k0_pay10 k0_pay9 k0_pay8; pointwise; rfl
theorem dv1 (q g : FVec Ideal S1x128x128 .f32) (kk : FVec Ideal S2176x128 .bf16) (j : Fin 2176) (d : Fin 128) :
    k0_pay16 (F := Ideal) (k0_pay15 (k0_pay9 g) (k0_pay10 q kk)) (ix2 j d) = bdv 2048 q g kk j d := by
  unfold k0_pay16 k0_pay15 k0_pay11 k0_pay10 k0_pay9 k0_pay8; pointwise; rfl
theorem dq2 (q g : FVec Ideal S1x256x128 .f32) (kk vv : FVec Ideal S2048x128 .bf16) (i : Fin 256) (d : Fin 128) :
    k0_pay22 (F := Ideal) kk vv (k0_pay19 q kk) (k0_pay20 pos g) (constant S256x2048 .f32 0#32) (ix3 0 i d) = bdq 1792 q g kk vv i d := by
  unfold k0_pay22 k0_pay21 k0_pay20 k0_pay19 k0_pay18 k0_pay17; pointwise; rfl
theorem dk2 (q g : FVec Ideal S1x256x128 .f32) (kk vv : FVec Ideal S2048x128 .bf16) (a : FVec Ideal S2048x128 .f32) (j : Fin 2048) (d : Fin 128) :
    k0_pay23 (F := Ideal) (k0_pay17 q) vv (k0_pay19 q kk) (k0_pay20 pos g) (constant S256x2048 .f32 0#32) a (ix2 j d) = a (ix2 j d) + bdk 1792 q g kk vv j d := by
  unfold k0_pay23 k0_pay21 k0_pay20 k0_pay19 k0_pay18 k0_pay17; pointwise; rfl
theorem dv2 (q g : FVec Ideal S1x256x128 .f32) (kk : FVec Ideal S2048x128 .bf16) (a : FVec Ideal S2048x128 .f32) (j : Fin 2048) (d : Fin 128) :
    k0_pay24 (F := Ideal) (k0_pay18 pos g) (k0_pay19 q kk) a (ix2 j d) = a (ix2 j d) + bdv 1792 q g kk j d := by
  unfold k0_pay24 k0_pay19 k0_pay18 k0_pay17; pointwise; rfl
theorem dq3 (q g : FVec Ideal S1x256x128 .f32) (kk vv : FVec Ideal S1792x128 .bf16) (i : Fin 256) (d : Fin 128) :
    k0_pay31 (F := Ideal) (k0_pay30 (k0_pay25 q) (k0_pay26 pos) g kk vv) (ix3 0 i d) = bdq 1536 q g kk vv i d := by
  unfold k0_pay31 k0_pay30 k0_pay29 k0_pay28 k0_pay27 k0_pay26 k0_pay25; pointwise; rfl
theorem dk3 (q g : FVec Ideal S1x256x128 .f32) (kk vv : FVec Ideal S1792x128 .bf16) (a : FVec Ideal S1792x128 .f32) (j : Fin 1792) (d : Fin 128) :
    k0_pay32 (F := Ideal) (k0_pay25 q) (k0_pay29 (k0_pay25 q) (k0_pay26 pos) g kk vv) a (ix2 j d) = a (ix2 j d) + bdk 1536 q g kk vv j d := by
  unfold k0_pay32 k0_pay29 k0_pay28 k0_pay27 k0_pay26 k0_pay25; pointwise; rfl
theorem dv3 (q g : FVec Ideal S1x256x128 .f32) (kk : FVec Ideal S1792x128 .bf16) (a : FVec Ideal S1792x128 .f32) (j : Fin 1792) (d : Fin 128) :
    k0_pay33 (F := Ideal) (k0_pay27 (k0_pay26 pos) g) (k0_pay28 (k0_pay25 q) kk) a (ix2 j d) = a (ix2 j d) + bdv 1536 q g kk j d := by
  unfold k0_pay33 k0_pay28 k0_pay27 k0_pay26 k0_pay25; pointwise; rfl
theorem dq4 (q g : FVec Ideal S1x256x128 .f32) (kk vv : FVec Ideal S1536x128 .bf16) (i : Fin 256) (d : Fin 128) :
    k0_pay40 (F := Ideal) (k0_pay35 pos g) kk vv (k0_pay36 q kk) k0_pay37 (ix3 0 i d) = bdq 1280 q g kk vv i d := by
  unfold k0_pay40 k0_pay39 k0_pay38 k0_pay37 k0_pay36 k0_pay35 k0_pay34; pointwise; rfl
theorem dk4 (q g : FVec Ideal S1x256x128 .f32) (kk vv : FVec Ideal S1536x128 .bf16) (a : FVec Ideal S1536x128 .f32) (j : Fin 1536) (d : Fin 128) :
    k0_pay41 (F := Ideal) (k0_pay34 q) (k0_pay35 pos g) vv (k0_pay36 q kk) k0_pay37 a (ix2 j d) = a (ix2 j d) + bdk 1280 q g kk vv j d := by
  unfold k0_pay41 k0_pay39 k0_pay38 k0_pay37 k0_pay36 k0_pay35 k0_pay34; pointwise; rfl
theorem dv4 (q g : FVec Ideal S1x256x128 .f32) (kk : FVec Ideal S1536x128 .bf16) (a : FVec Ideal S1536x128 .f32) (j : Fin 1536) (d : Fin 128) :
    k0_pay42 (F := Ideal) (k0_pay35 pos g) (k0_pay38 (k0_pay36 q kk) k0_pay37) a (ix2 j d) = a (ix2 j d) + bdv 1280 q g kk j d := by
  unfold k0_pay42 k0_pay38 k0_pay37 k0_pay36 k0_pay35 k0_pay34; pointwise; rfl
theorem dq5 (q g : FVec Ideal S1x256x128 .f32) (kk vv : FVec Ideal S1280x128 .bf16) (i : Fin 256) (d : Fin 128) :
    k0_pay48 (F := Ideal) (k0_pay44 pos g) kk vv (k0_pay45 q kk) (ix3 0 i d) = bdq 1024 q g kk vv i d := by
  unfold k0_pay48 k0_pay47 k0_pay46 k0_pay45 k0_pay44 k0_pay43; pointwise; rfl
theorem dk5 (q g : FVec Ideal S1x256x128 .f32) (kk vv : FVec Ideal S1280x128 .bf16) (a : FVec Ideal S1280x128 .f32) (j : Fin 1280) (d : Fin 128) :
    k0_pay49 (F := Ideal) (k0_pay43 q) (k0_pay44 pos g) vv (k0_pay45 q kk) a (ix2 j d) = a (ix2 j d) + bdk 1024 q g kk vv j d := by
  unfold k0_pay49 k0_pay47 k0_pay46 k0_pay45 k0_pay44 k0_pay43; pointwise; rfl
theorem dv5 (q g : FVec Ideal S1x256x128 .f32) (kk : FVec Ideal S1280x128 .bf16) (a : FVec Ideal S1280x128 .f32) (j : Fin 1280) (d : Fin 128) :
    k0_pay50 (F := Ideal) (k0_pay44 pos g) (k0_pay45 q kk) a (ix2 j d) = a (ix2 j d) + bdv 1024 q g kk j d := by
  unfold k0_pay50 k0_pay46 k0_pay45 k0_pay44 k0_pay43; pointwise; rfl
theorem dq6 (q g : FVec Ideal S1x256x128 .f32) (kk vv : FVec Ideal S1024x128 .bf16) (i : Fin 256) (d : Fin 128) :
    k0_pay56 (F := Ideal) kk (k0_pay54 pos q g kk vv) (ix3 0 i d) = bdq 768 q g kk vv i d := by
  unfold k0_pay56 k0_pay55 k0_pay54 k0_pay53 k0_pay52 k0_pay51; pointwise; rfl
theorem dk6 (q g : FVec Ideal S1x256x128 .f32) (kk vv : FVec Ideal S1024x128 .bf16) (a : FVec Ideal S1024x128 .f32) (j : Fin 1024) (d : Fin 128) :
    k0_pay57 (F := Ideal) (k0_pay51 q) (k0_pay54 pos q g kk vv) a (ix2 j d) = a (ix2 j d) + bdk 768 q g kk vv j d := by
  unfold k0_pay57 k0_pay55 k0_pay54 k0_pay53 k0_pay52 k0_pay51; pointwise; rfl
theorem dv6 (q g : FVec Ideal S1x256x128 .f32) (kk : FVec Ideal S1024x128 .bf16) (a : FVec Ideal S1024x128 .f32) (j : Fin 1024) (d : Fin 128) :
    k0_pay58 (F := Ideal) (k0_pay52 pos g) (k0_pay53 q kk) a (ix2 j d) = a (ix2 j d) + bdv 768 q g kk j d := by
  unfold k0_pay58 k0_pay53 k0_pay52 k0_pay51; pointwise; rfl
theorem dq7 (q g : FVec Ideal S1x256x128 .f32) (kk vv : FVec Ideal S768x128 .bf16) (i : Fin 256) (d : Fin 128) :
    k0_pay63 (F := Ideal) (k0_pay59 q) (k0_pay60 pos g) kk vv (ix3 0 i d) = bdq 512 q g kk vv i d := by
  unfold k0_pay63 k0_pay62 k0_pay61 k0_pay60 k0_pay59; pointwise; rfl
theorem dk7 (q g : FVec Ideal S1x256x128 .f32) (kk vv : FVec Ideal S768x128 .bf16) (a : FVec Ideal S768x128 .f32) (j : Fin 768) (d : Fin 128) :
    k0_pay65 (F := Ideal) (k0_pay59 q) a (k0_pay64 (k0_pay59 q) (k0_pay60 pos g) kk vv) (ix2 j d) = a (ix2 j d) + bdk 512 q g kk vv j d := by
  unfold k0_pay65 k0_pay64 k0_pay62 k0_pay61 k0_pay60 k0_pay59; pointwise; rfl
theorem dv7 (q g : FVec Ideal S1x256x128 .f32) (kk : FVec Ideal S768x128 .bf16) (a : FVec Ideal S768x128 .f32) (j : Fin 768) (d : Fin 128) :
    k0_pay66 (F := Ideal) (k0_pay60 pos g) (k0_pay61 (k0_pay59 q) kk) a (ix2 j d) = a (ix2 j d) + bdv 512 q g kk j d := by
  unfold k0_pay66 k0_pay61 k0_pay60 k0_pay59; pointwise; rfl
theorem dq8 (q g : FVec Ideal S1x256x128 .f32) (kk vv : FVec Ideal S512x128 .bf16) (i : Fin 256) (d : Fin 128) :
    k0_pay73 (F := Ideal) (k0_pay68 pos g) kk vv (k0_pay69 q kk) k0_pay70 (Named.named κ "mask" 4048155338#32) (ix3 0 i d) = bdq 256 q g kk vv i d := by
  unfold k0_pay73 k0_pay72 k0_pay71 k0_pay70 k0_pay69 k0_pay68 k0_pay67; pointwise; rfl
theorem dk8 (q g : FVec Ideal S1x256x128 .f32) (kk vv : FVec Ideal S512x128 .bf16) (a : FVec Ideal S512x128 .f32) (j : Fin 512) (d : Fin 128) :
    k0_pay74 (F := Ideal) (k0_pay67 q) (k0_pay68 pos g) vv (k0_pay69 q kk) k0_pay70 (Named.named κ "mask" 4048155338#32) a (ix2 j d) = a (ix2 j d) + bdk 256 q g kk vv j d := by
  unfold k0_pay74 k0_pay72 k0_pay71 k0_pay70 k0_pay69 k0_pay68 k0_pay67; pointwise; rfl
theorem dv8 (q g : FVec Ideal S1x256x128 .f32) (kk : FVec Ideal S512x128 .bf16) (a : FVec Ideal S512x128 .f32) (j : Fin 512) (d : Fin 128) :
    k0_pay76 (F := Ideal) a (k0_pay75 (k0_pay68 pos g) (k0_pay69 q kk) k0_pay70 (Named.named κ "mask" 4048155338#32)) (ix2 j d) = a (ix2 j d) + bdv 256 q g kk j d := by
  unfold k0_pay76 k0_pay75 k0_pay71 k0_pay70 k0_pay69 k0_pay68 k0_pay67; pointwise; rfl
theorem dq9 (q g : FVec Ideal S1x256x128 .f32) (kk vv : FVec Ideal S256x128 .bf16) (i : Fin 256) (d : Fin 128) :
    k0_pay82 (F := Ideal) kk vv (k0_pay79 q kk) (k0_pay80 pos g) (ix3 0 i d) = bdq 0 q g kk vv i d := by
  unfold k0_pay82 k0_pay81 k0_pay80 k0_pay79 k0_pay78 k0_pay77; pointwise; rfl
theorem dk9 (q g : FVec Ideal S1x256x128 .f32) (kk vv : FVec Ideal S256x128 .bf16) (a : FVec Ideal S256x128 .f32) (j : Fin 256) (d : Fin 128) :
    k0_pay83 (F := Ideal) (k0_pay77 q) vv (k0_pay79 q kk) (k0_pay80 pos g) a (ix2 j d) = a (ix2 j d) + bdk 0 q g kk vv j d := by
  unfold k0_pay83 k0_pay81 k0_pay80 k0_pay79 k0_pay78 k0_pay77; pointwise; rfl
theorem dv9 (q g : FVec Ideal S1x256x128 .f32) (kk : FVec Ideal S256x128 .bf16) (a : FVec Ideal S256x128 .f32) (j : Fin 256) (d : Fin 128) :
    k0_pay84 (F := Ideal) (k0_pay78 pos g) (k0_pay79 q kk) a (ix2 j d) = a (ix2 j d) + bdv 0 q g kk j d := by
  unfold k0_pay84 k0_pay79 k0_pay78 k0_pay77; pointwise; rfl

/-! ## A block's sums as sums over all keys

A block of `R` rows that starts at row `s` of the head's rows, over the first `n` keys. -/

section Whole
variable {R n s : ℕ}

/-- Row `i` of the block. -/
def row (hs : s + R ≤ n) (hn : n ≤ 2176) (i : Fin R) : Fin 2176 := ⟨s + i.val, by have := i.isLt; omega⟩

variable (Q K G V : Fin 2176 → Fin 128 → EReal) (hs : s + R ≤ n) (hn : n ≤ 2176)

variable (q g : FVec Ideal (⟨3, ![1, R, 128]⟩ : Shape) .f32) (kk vv : FVec Ideal (⟨2, ![n, 128]⟩ : Shape) .bf16)
  (hq : ∀ i d, q (ix3 0 i d) = Q (row hs hn i) d) (hg : ∀ i d, g (ix3 0 i d) = G (row hs hn i) d)
  (hk : ∀ j d, kk (ix2 j d) = K (Fin.castLE hn j) d) (hv : ∀ j d, vv (ix2 j d) = V (Fin.castLE hn j) d)

theorem later (i : Fin R) (j : Fin 2176) (h : n ≤ j.val) : scores Q K (row hs hn i) j = ⊥ :=
  scores_later Q K _ _ (by have := i.isLt; show s + i.val < j.val; omega)

include hq hk
theorem bscore_eq (i : Fin R) : bscore s q kk i = fun j => scores Q K (row hs hn i) (Fin.castLE hn j) := by
  funext j
  have hi := i.isLt
  have hj := j.isLt
  unfold bscore score
  rw [addi_ofNat, select_sle _ _ (by omega) (by omega)]
  simp only [hq, hk]
  rfl
theorem bweight_eq (i : Fin R) (j : Fin n) : weight (bscore s q kk i) j = weight (scores Q K (row hs hn i)) (Fin.castLE hn j) := by
  rw [bscore_eq Q K hs hn q kk hq hk]
  exact weight_castLE hn _ (later Q K hs hn i) j
theorem bdv_eq (hg : ∀ i d, g (ix3 0 i d) = G (row hs hn i) d) (j : Fin n) (d : Fin 128) : bdv s q g kk j d
    = ∑ i : Fin R, Scalar.select (IntOp.cmpi .sge (BitVec.ofNat 32 d.val) 64#32) (weight (scores Q K (row hs hn i)) (Fin.castLE hn j) * G (row hs hn i) d) 0 := by
  unfold bdv
  simp only [bweight_eq Q K hs hn q kk hq hk, hg]
include hg hv
theorem bdscore_eq (i : Fin R) (j : Fin n) : bdscore s q g kk vv i j = dscores Q K G V (row hs hn i) (Fin.castLE hn j) := by
  unfold bdscore
  rw [bscore_eq Q K hs hn q kk hq hk]
  simp only [hg, hv]
  exact dscore_castLE hn _ (dweight (G (row hs hn i)) V) (later Q K hs hn i) j
theorem bdk_eq (j : Fin n) (d : Fin 128) : bdk s q g kk vv j d = ∑ i : Fin R, dscores Q K G V (row hs hn i) (Fin.castLE hn j) * Q (row hs hn i) d := by
  unfold bdk
  simp only [bdscore_eq Q K G V hs hn q g kk vv hq hg hk hv, hq]
theorem bdq_eq (i : Fin R) (d : Fin 128) : bdq s q g kk vv i d = headDq Q K G V (row hs hn i) d := by
  unfold bdq headDq
  simp only [bdscore_eq Q K G V hs hn q g kk vv hq hg hk hv, hk]
  exact sum_castLE hn (fun j => dscores Q K G V (row hs hn i) j * K j d) fun j hj => by
    rw [dscores, dscore_masked _ _ _ (later Q K hs hn i j hj), zero_mul]

end Whole

end Cert.KernelAttnBwdIdeal.Attn

end
-- ==== Proof.AttnBwd.lean ====
module

public import proofs.«01_k».proof.Defs
public import proofs.«01_k».proof.Proof.Gen.KernelAttnBwdIdeal
public import proofs.«01_k».proof.Proof.Gen.KernelAttnBwdIdeal.Value
public import proofs.«01_k».proof.Proof.ProdMath
public import proofs.«01_k».proof.Proof.AttnBlocks
public import Idealize.ShloMosaic.Lib.Pipeline.ValueKit

@[expose] public section

noncomputable section

namespace Cert.KernelAttnBwdIdeal.Attn

open Cert Cert.Prod Cert.Attn Cert.KernelAttnBwdIdeal Cert.KernelAttnBwdIdeal.Gen Idealize.ShloMosaic Idealize.ShloMosaic.TcCoe Idealize.ShloMosaic.Tactic Idealize.ShloMosaic.Ideal
open Idealize.ShloMosaic.Pipeline (Dat Window)

variable (m : (ℓ : Loc nD τ sig) → Buf (Elt Ideal) ℓ) (c : Dev nD)

/-! ## Reading and adding up rows

A buffer of 2176 rows is read and written in its first `n` rows, the rows of the keys that a block sees. -/

section Rows
variable {s R n : ℕ}

theorem rows_at (a : Memref sig .tc .vmem S1x2176x128 .f32) (ha : a.IsWhole) (x : Vec Ideal S1x2176x128 .f32) (hs : s + R ≤ n) (hn : n ≤ 2176)
    (inb : ∀ y, (![0, s, 0] : Fin 3 → ℕ) y + (⟨3, ![1, R, 128]⟩ : Shape).size y ≤ S1x2176x128.size y) (i : Fin R) (d : Fin 128) :
    View.readAt (Elt Ideal) a.view (Rect.unit (s := S1x2176x128) ![0, s, 0] (⟨3, ![1, R, 128]⟩ : Shape).size inb).toLoadRect (ha.unread x) (ix3 0 i d)
      = x (ix3 0 (row hs hn i) d) := by
  rw [View.readAt_eq_ld, ha.read_unread]
  refine View.ld_unit_apply_of x _ _ inb _ (ix3 0 (row hs hn i) d) fun y => ?_
  fin_cases y
  · rfl
  · rfl
  · exact (Nat.zero_add _).symm

theorem first_at {e : EltTy} (a : Memref sig .tc .vmem S2176x128 e) (L : List (View.Piece (Elt Ideal) S2176x128 e)) (hn : n ≤ 2176)
    (inb : ∀ y, (![0, 0] : Fin 2 → ℕ) y + (⟨2, ![n, 128]⟩ : Shape).size y ≤ S2176x128.size y) (j : Fin n) (d : Fin 128) :
    a.view.readCov L (Rect.unit (s := S2176x128) ![0, 0] (⟨2, ![n, 128]⟩ : Shape).size inb).toLoadRect (ix2 j d) = View.canon L (ix2 (Fin.castLE hn j) d) := by
  rw [View.readCov_eq_canon']
  refine congrArg (View.canon L) (funext fun y => Fin.ext ((Rect.idx_unit_val _ _ inb (ix2 j d) y).trans ?_))
  fin_cases y
  · exact Nat.zero_add _
  · exact Nat.zero_add _

/-- The sum of `R` rows from row `s`. -/
def rowSum (F : Fin 2176 → Fin 2176 → Fin 128 → EReal) (s R : ℕ) (h : s + R ≤ 2176) (j : Fin 2176) (d : Fin 128) : EReal :=
  ∑ i : Fin R, F ⟨s + i.val, by have := i.isLt; omega⟩ j d

theorem rowSum_all (F : Fin 2176 → Fin 2176 → Fin 128 → EReal) (j : Fin 2176) (d : Fin 128) : rowSum F 0 2176 (by omega) j d = ∑ i, F i j d :=
  Finset.sum_congr rfl fun i _ => congrArg (fun i => F i j d) (Fin.ext (Nat.zero_add _))

theorem rowSum_back (F : Fin 2176 → Fin 2176 → Fin 128 → EReal) (R' : ℕ) (h : s + (R + R') ≤ 2176) (j : Fin 2176) (d : Fin 128) :
    rowSum F (s + R) R' (by omega) j d + rowSum F s R (by omega) j d = rowSum F s (R + R') h j d := by
  unfold rowSum
  rw [Fin.sum_univ_add, add_comm]
  congr 1
  exact Finset.sum_congr rfl fun i _ => congrArg (fun i => F i j d) (Fin.ext (Nat.add_assoc _ _ _))

/-- A block's addend to the first `n` rows of a sum is its addend to all of them, where later keys add zero. -/
theorem grow (F : Fin 2176 → Fin 2176 → Fin 128 → EReal) (hF : ∀ i j d, i.val < j.val → F i j d = 0) (hs : s + R ≤ n) (hn : n ≤ 2176) {R' : ℕ} (hR : s + (R + R') ≤ 2176)
    {inb : ∀ y, (![0, 0] : Fin 2 → ℕ) y + (⟨2, ![n, 128]⟩ : Shape).size y ≤ S2176x128.size y} {w a : FVec Ideal (⟨2, ![n, 128]⟩ : Shape) .f32}
    {L : List (View.Piece (Elt Ideal) S2176x128 .f32)} {e : Fin n → Fin 128 → EReal}
    (hw : ∀ j d, w (ix2 j d) = a (ix2 j d) + e j d) (ha : ∀ j d, a (ix2 j d) = View.canon L (ix2 (Fin.castLE hn j) d))
    (he : ∀ j d, e j d = ∑ i : Fin R, F (row hs hn i) (Fin.castLE hn j) d)
    (hL : ∀ j d, View.canon L (ix2 j d) = rowSum F (s + R) R' (by omega) j d) (j : Fin 2176) (d : Fin 128) :
    View.canon ((⟨Rect.unit (s := S2176x128) ![0, 0] (⟨2, ![n, 128]⟩ : Shape).size inb, w⟩ : View.Piece (Elt Ideal) S2176x128 .f32) :: L) (ix2 j d)
      = rowSum F s (R + R') hR j d := by
  rw [← rowSum_back, ← hL]
  by_cases hj : j.val < n
  · have := View.canon_cons_emb (Val := Elt Ideal) (Rect.unit (s := S2176x128) ![0, 0] (⟨2, ![n, 128]⟩ : Shape).size inb) w L (ix2 ⟨j.val, hj⟩ d)
    rw [show (Rect.unit (s := S2176x128) ![0, 0] (⟨2, ![n, 128]⟩ : Shape).size inb).emb (ix2 ⟨j.val, hj⟩ d) = ix2 j d from funext fun y => Fin.ext (by
      rw [Rect.emb_apply]
      fin_cases y
      · show 0 + 1 * j.val = j.val; omega
      · show 0 + 1 * d.val = d.val; omega)] at this
    rw [this, hw, ha, he]
    rfl
  · rw [View.canon_cons_of_not_mem]
    · rw [show rowSum F s R (by omega) j d = 0 from Finset.sum_eq_zero fun i _ => hF _ _ _ (by have := i.isLt; show s + i.val < j.val; omega), add_zero]
    · intro hy
      have h0 := ((Rect.mem_set_unit (inb := inb)).mp hy 0).2
      have h1 : j.val < 0 + n := h0
      omega

/-- A piece of rows at an index. -/
theorem tile_rows (H : Fin 2176 → Fin 128 → EReal) (hs : s + R ≤ n) (hn : n ≤ 2176) (w : FVec Ideal (⟨3, ![1, R, 128]⟩ : Shape) .f32)
    (hw : ∀ i d, w (ix3 0 i d) = H (row hs hn i) d) (i : Fin 2176) (d : Fin 128) :
    View.TileAt (Val := Elt Ideal) (S := S1x2176x128) (e := .f32) (ix3 0 i d) ![0, s, 0] (⟨3, ![1, R, 128]⟩ : Shape).size w (H i d) := by
  intro x hx
  obtain ⟨x0, x1, x2, rfl⟩ : ∃ (x0 : Fin 1) (x1 : Fin R) (x2 : Fin 128), x = ix3 x0 x1 x2 := ⟨_, _, _, eq_ix3 x⟩
  obtain rfl : x0 = 0 := Subsingleton.elim _ _
  have h1 : i.val = s + x1.val := hx 1
  have h2 : d.val = 0 + x2.val := hx 2
  rw [hw, show row hs hn x1 = i from Fin.ext h1.symm, show x2 = d from Fin.ext (by omega)]

end Rows

/-! ## One head: the sums in scratch after each block of rows -/

variable (i : grid0.Coords) (arg2 : Memref sig .tc .vmem S1x2176x128 .f32) (harg2 : arg2.IsWhole) (arg3 : Memref sig .tc .vmem S1x2176x128 .f32) (harg3 : arg3.IsWhole)
  (arg4 : Memref sig .tc .vmem S1x2176x128 .f32) (harg4 : arg4.IsWhole) (arg5 : Memref sig .tc .vmem S1x2176x128 .f32) (harg5 : arg5.IsWhole)
  (arg6 : Memref sig .tc .vmem S1x2176x128 .f32) (harg6 : arg6.IsWhole) (arg7 : Memref sig .tc .vmem S1x2176x128 .f32) (harg7 : arg7.IsWhole)
  (arg8 : Memref sig .tc .vmem S1x2176x128 .f32) (harg8 : arg8.IsWhole) (arg9 : Memref sig .tc .vmem S2176x128 .bf16) (harg9 : arg9.IsWhole)
  (arg10 : Memref sig .tc .vmem S2176x128 .bf16) (harg10 : arg10.IsWhole) (arg11 : Memref sig .tc .vmem S2176x128 .f32) (harg11 : arg11.IsWhole)
  (arg12 : Memref sig .tc .vmem S2176x128 .f32) (harg12 : arg12.IsWhole)
  (x0 x1 x2 x3 : Vec Ideal S1x2176x128 .f32)

/-- The queries, keys, values and gradients of the head, from its blocks of the arguments. -/
def hQ (i : Fin 2176) (d : Fin 128) : EReal := x0 (ix3 0 i d)
def hK (i : Fin 2176) (d : Fin 128) : EReal := Scalar.select (IntOp.cmpi .slt (BitVec.ofNat 32 d.val) 64#32) (x1 (ix3 0 i d)) (x2 (ix3 0 i d))
/-- What row `i` adds to the gradient of key `j`, and of its value. -/
def addDk (i j : Fin 2176) (d : Fin 128) : EReal := dscores (hQ x0) (hK x1 x2) (hQ x3) (hQ x1) i j * hQ x0 i d
def addDv (i j : Fin 2176) (d : Fin 128) : EReal :=
  Scalar.select (IntOp.cmpi .sge (BitVec.ofNat 32 d.val) 64#32) (weight (scores (hQ x0) (hK x1 x2) i) j * hQ x3 i d) 0

theorem addDk_later (i j : Fin 2176) (d : Fin 128) (h : i.val < j.val) : addDk x0 x1 x2 x3 i j d = 0 := by
  rw [addDk, dscores, dscore_masked _ _ _ (scores_later _ _ _ _ h), zero_mul]
theorem addDv_later (i j : Fin 2176) (d : Fin 128) (h : i.val < j.val) : addDv x0 x1 x2 x3 i j d = 0 := by
  rw [addDv, weight_masked _ _ (scores_later _ _ _ _ h), zero_mul]
  unfold Scalar.select
  split <;> rfl

theorem pay_keys (v w : FVec Ideal S1x2176x128 .f32) (i : Fin 2176) (d : Fin 128) : k0_pay6 (F := Ideal) v w (ix2 i d) = hK v w i d := by
  unfold k0_pay6 k0_pay5; pointwise; rfl
theorem pay_values (v : FVec Ideal S1x2176x128 .f32) (i : Fin 2176) (d : Fin 128) : k0_pay7 (F := Ideal) v (ix2 i d) = hQ v i d := by
  unfold k0_pay7 k0_pay5; pointwise; rfl

section Steps
variable {n : ℕ} (hn : n ≤ 2176) (inb : ∀ y, (![0, 0] : Fin 2 → ℕ) y + (⟨2, ![n, 128]⟩ : Shape).size y ≤ S2176x128.size y)

theorem keys (j : Fin n) (d : Fin 128) : arg9.view.readCov (kernelRun0_A.sl.HS0_1 (F := Ideal) c arg3 harg3 arg4 harg4 x1 x2)
    (Rect.unit (s := S2176x128) ![0, 0] (⟨2, ![n, 128]⟩ : Shape).size inb).toLoadRect (ix2 j d) = hK x1 x2 (Fin.castLE hn j) d := by
  rw [first_at arg9 _ hn, kernelRun0_A.sl.HS0_1, View.canon_unit_zero hz2]
  simp only [View.readAt_eq_ld, harg3.read_unread, harg4.read_unread, View.ld_unit_zero (S := S1x2176x128) hz3]
  exact pay_keys x1 x2 _ d
theorem vals (j : Fin n) (d : Fin 128) : arg10.view.readCov (kernelRun0_A.sl.HS1_1 (F := Ideal) c arg3 harg3 x1)
    (Rect.unit (s := S2176x128) ![0, 0] (⟨2, ![n, 128]⟩ : Shape).size inb).toLoadRect (ix2 j d) = hQ x1 (Fin.castLE hn j) d := by
  rw [first_at arg10 _ hn, kernelRun0_A.sl.HS1_1, View.canon_unit_zero hz2]
  simp only [View.readAt_eq_ld, harg3.read_unread, View.ld_unit_zero (S := S1x2176x128) hz3]
  exact pay_values x1 _ d

end Steps

section Step
variable {s R n R' : ℕ} (hs : s + R ≤ n) (hn : n ≤ 2176) (hR : s + (R + R') ≤ 2176)
  {inb : ∀ y, (![0, 0] : Fin 2 → ℕ) y + (⟨2, ![n, 128]⟩ : Shape).size y ≤ S2176x128.size y} {w a : FVec Ideal (⟨2, ![n, 128]⟩ : Shape) .f32}
  {L : List (View.Piece (Elt Ideal) S2176x128 .f32)} {q g : FVec Ideal (⟨3, ![1, R, 128]⟩ : Shape) .f32} {kk vv : FVec Ideal (⟨2, ![n, 128]⟩ : Shape) .bf16}

theorem dkStep (hw : ∀ j d, w (ix2 j d) = a (ix2 j d) + bdk s q g kk vv j d) (ha : ∀ j d, a (ix2 j d) = View.canon L (ix2 (Fin.castLE hn j) d))
    (hq : ∀ i d, q (ix3 0 i d) = hQ x0 (row hs hn i) d) (hg : ∀ i d, g (ix3 0 i d) = hQ x3 (row hs hn i) d)
    (hk : ∀ j d, kk (ix2 j d) = hK x1 x2 (Fin.castLE hn j) d) (hv : ∀ j d, vv (ix2 j d) = hQ x1 (Fin.castLE hn j) d)
    (hL : ∀ j d, View.canon L (ix2 j d) = rowSum (addDk x0 x1 x2 x3) (s + R) R' (by omega) j d) (j : Fin 2176) (d : Fin 128) :
    View.canon ((⟨Rect.unit (s := S2176x128) ![0, 0] (⟨2, ![n, 128]⟩ : Shape).size inb, w⟩ : View.Piece (Elt Ideal) S2176x128 .f32) :: L) (ix2 j d)
      = rowSum (addDk x0 x1 x2 x3) s (R + R') hR j d :=
  grow _ (addDk_later x0 x1 x2 x3) hs hn hR hw ha (bdk_eq _ _ _ _ hs hn q g kk vv hq hg hk hv) hL j d
theorem dvStep (hw : ∀ j d, w (ix2 j d) = a (ix2 j d) + bdv s q g kk j d) (ha : ∀ j d, a (ix2 j d) = View.canon L (ix2 (Fin.castLE hn j) d))
    (hq : ∀ i d, q (ix3 0 i d) = hQ x0 (row hs hn i) d) (hg : ∀ i d, g (ix3 0 i d) = hQ x3 (row hs hn i) d)
    (hk : ∀ j d, kk (ix2 j d) = hK x1 x2 (Fin.castLE hn j) d)
    (hL : ∀ j d, View.canon L (ix2 j d) = rowSum (addDv x0 x1 x2 x3) (s + R) R' (by omega) j d) (j : Fin 2176) (d : Fin 128) :
    View.canon ((⟨Rect.unit (s := S2176x128) ![0, 0] (⟨2, ![n, 128]⟩ : Shape).size inb, w⟩ : View.Piece (Elt Ideal) S2176x128 .f32) :: L) (ix2 j d)
      = rowSum (addDv x0 x1 x2 x3) s (R + R') hR j d :=
  grow _ (addDv_later x0 x1 x2 x3) hs hn hR hw ha (bdv_eq _ _ _ hs hn q g kk hq hk hg) hL j d

end Step

theorem dk_1 (j : Fin 2176) (d : Fin 128) : View.canon (kernelRun0_A.sl.HS2_1 (F := Ideal) c arg2 harg2 arg3 harg3 arg4 harg4 arg5 harg5 arg9 arg10 x0 x1 x2 x3) (ix2 j d)
    = rowSum (addDk x0 x1 x2 x3) 2048 128 (by omega) j d := by
  rw [kernelRun0_A.sl.HS2_1, View.canon_unit_zero hz2]
  exact (dk1 _ _ _ _ j d).trans (bdk_eq (s := 2048) (hQ x0) (hK x1 x2) (hQ x3) (hQ x1) (by omega) le_rfl _ _ _ _ (rows_at arg2 harg2 x0 _ _ _) (rows_at arg5 harg5 x3 _ _ _) (keys c arg3 harg3 arg4 harg4 arg9 x1 x2 _ _) (vals c arg3 harg3 arg10 x1 _ _) j d)
theorem dv_1 (j : Fin 2176) (d : Fin 128) : View.canon (kernelRun0_A.sl.HS3_1 (F := Ideal) c arg2 harg2 arg3 harg3 arg4 harg4 arg5 harg5 arg9 x0 x1 x2 x3) (ix2 j d)
    = rowSum (addDv x0 x1 x2 x3) 2048 128 (by omega) j d := by
  rw [kernelRun0_A.sl.HS3_1, View.canon_unit_zero hz2]
  exact (dv1 _ _ _ j d).trans (bdv_eq (s := 2048) (hQ x0) (hK x1 x2) (hQ x3) (by omega) le_rfl _ _ _ (rows_at arg2 harg2 x0 _ _ _) (keys c arg3 harg3 arg4 harg4 arg9 x1 x2 _ _) (rows_at arg5 harg5 x3 _ _ _) j d)
theorem dk_2 (j : Fin 2176) (d : Fin 128) : View.canon (kernelRun0_A.sl.HS2_2 (F := Ideal) c arg2 harg2 arg3 harg3 arg4 harg4 arg5 harg5 arg9 arg10 arg11 x0 x1 x2 x3) (ix2 j d)
    = rowSum (addDk x0 x1 x2 x3) 1792 384 (by omega) j d :=
  dkStep x0 x1 x2 x3 (s := 1792) (R := 256) (n := 2048) (R' := 128) (by omega) (by omega) (by omega) (dk2 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_1 c arg2 harg2 arg3 harg3 arg4 harg4 arg5 harg5 arg9 arg10 x0 x1 x2 x3) j d
theorem dv_2 (j : Fin 2176) (d : Fin 128) : View.canon (kernelRun0_A.sl.HS3_2 (F := Ideal) c arg2 harg2 arg3 harg3 arg4 harg4 arg5 harg5 arg9 arg12 x0 x1 x2 x3) (ix2 j d)
    = rowSum (addDv x0 x1 x2 x3) 1792 384 (by omega) j d :=
  dvStep x0 x1 x2 x3 (s := 1792) (R := 256) (n := 2048) (R' := 128) (by omega) (by omega) (by omega) (dv2 _ _ _ _) (first_at arg12 _ _ _)
    (rows_at arg2 harg2 x0 _ _ _) (rows_at arg5 harg5 x3 _ _ _) (keys c arg3 harg3 arg4 harg4 arg9 x1 x2 _ _)
    (dv_1 c arg2 harg2 arg3 harg3 arg4 harg4 arg5 harg5 arg9 x0 x1 x2 x3) j d
theorem dk_3 (j : Fin 2176) (d : Fin 128) : View.canon (kernelRun0_A.sl.HS2_3 (F := Ideal) c arg2 harg2 arg3 harg3 arg4 harg4 arg5 harg5 arg9 arg10 arg11 x0 x1 x2 x3) (ix2 j d)
    = rowSum (addDk x0 x1 x2 x3) 1536 640 (by omega) j d :=
  dkStep x0 x1 x2 x3 (s := 1536) (R := 256) (n := 1792) (R' := 384) (by omega) (by omega) (by omega) (dk3 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_2 c arg2 harg2 arg3 harg3 arg4 harg4 arg5 harg5 arg9 arg10 arg11 x0 x1 x2 x3) j d
theorem dv_3 (j : Fin 2176) (d : Fin 128) : View.canon (kernelRun0_A.sl.HS3_3 (F := Ideal) c arg2 harg2 arg3 harg3 arg4 harg4 arg5 harg5 arg9 arg12 x0 x1 x2 x3) (ix2 j d)
    = rowSum (addDv x0 x1 x2 x3) 1536 640 (by omega) j d :=
  dvStep x0 x1 x2 x3 (s := 1536) (R := 256) (n := 1792) (R' := 384) (by omega) (by omega) (by omega) (dv3 _ _ _ _) (first_at arg12 _ _ _)
    (rows_at arg2 harg2 x0 _ _ _) (rows_at arg5 harg5 x3 _ _ _) (keys c arg3 harg3 arg4 harg4 arg9 x1 x2 _ _)
    (dv_2 c arg2 harg2 arg3 harg3 arg4 harg4 arg5 harg5 arg9 arg12 x0 x1 x2 x3) j d
theorem dk_4 (j : Fin 2176) (d : Fin 128) : View.canon (kernelRun0_A.sl.HS2_4 (F := Ideal) c arg2 harg2 arg3 harg3 arg4 harg4 arg5 harg5 arg9 arg10 arg11 x0 x1 x2 x3) (ix2 j d)
    = rowSum (addDk x0 x1 x2 x3) 1280 896 (by omega) j d :=
  dkStep x0 x1 x2 x3 (s := 1280) (R := 256) (n := 1536) (R' := 640) (by omega) (by omega) (by omega) (dk4 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_3 c arg2 harg2 arg3 harg3 arg4 harg4 arg5 harg5 arg9 arg10 arg11 x0 x1 x2 x3) j d
theorem dv_4 (j : Fin 2176) (d : Fin 128) : View.canon (kernelRun0_A.sl.HS3_4 (F := Ideal) c arg2 harg2 arg3 harg3 arg4 harg4 arg5 harg5 arg9 arg12 x0 x1 x2 x3) (ix2 j d)
    = rowSum (addDv x0 x1 x2 x3) 1280 896 (by omega) j d :=
  dvStep x0 x1 x2 x3 (s := 1280) (R := 256) (n := 1536) (R' := 640) (by omega) (by omega) (by omega) (dv4 _ _ _ _) (first_at arg12 _ _ _)
    (rows_at arg2 harg2 x0 _ _ _) (rows_at arg5 harg5 x3 _ _ _) (keys c arg3 harg3 arg4 harg4 arg9 x1 x2 _ _)
    (dv_3 c arg2 harg2 arg3 harg3 arg4 harg4 arg5 harg5 arg9 arg12 x0 x1 x2 x3) j d
theorem dk_5 (j : Fin 2176) (d : Fin 128) : View.canon (kernelRun0_A.sl.HS2_5 (F := Ideal) c arg2 harg2 arg3 harg3 arg4 harg4 arg5 harg5 arg9 arg10 arg11 x0 x1 x2 x3) (ix2 j d)
    = rowSum (addDk x0 x1 x2 x3) 1024 1152 (by omega) j d :=
  dkStep x0 x1 x2 x3 (s := 1024) (R := 256) (n := 1280) (R' := 896) (by omega) (by omega) (by omega) (dk5 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_4 c arg2 harg2 arg3 harg3 arg4 harg4 arg5 harg5 arg9 arg10 arg11 x0 x1 x2 x3) j d
theorem dv_5 (j : Fin 2176) (d : Fin 128) : View.canon (kernelRun0_A.sl.HS3_5 (F := Ideal) c arg2 harg2 arg3 harg3 arg4 harg4 arg5 harg5 arg9 arg12 x0 x1 x2 x3) (ix2 j d)
    = rowSum (addDv x0 x1 x2 x3) 1024 1152 (by omega) j d :=
  dvStep x0 x1 x2 x3 (s := 1024) (R := 256) (n := 1280) (R' := 896) (by omega) (by omega) (by omega) (dv5 _ _ _ _) (first_at arg12 _ _ _)
    (rows_at arg2 harg2 x0 _ _ _) (rows_at arg5 harg5 x3 _ _ _) (keys c arg3 harg3 arg4 harg4 arg9 x1 x2 _ _)
    (dv_4 c arg2 harg2 arg3 harg3 arg4 harg4 arg5 harg5 arg9 arg12 x0 x1 x2 x3) j d
theorem dk_6 (j : Fin 2176) (d : Fin 128) : View.canon (kernelRun0_A.sl.HS2_6 (F := Ideal) c arg2 harg2 arg3 harg3 arg4 harg4 arg5 harg5 arg9 arg10 arg11 x0 x1 x2 x3) (ix2 j d)
    = rowSum (addDk x0 x1 x2 x3) 768 1408 (by omega) j d :=
  dkStep x0 x1 x2 x3 (s := 768) (R := 256) (n := 1024) (R' := 1152) (by omega) (by omega) (by omega) (dk6 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_5 c arg2 harg2 arg3 harg3 arg4 harg4 arg5 harg5 arg9 arg10 arg11 x0 x1 x2 x3) j d
theorem dv_6 (j : Fin 2176) (d : Fin 128) : View.canon (kernelRun0_A.sl.HS3_6 (F := Ideal) c arg2 harg2 arg3 harg3 arg4 harg4 arg5 harg5 arg9 arg12 x0 x1 x2 x3) (ix2 j d)
    = rowSum (addDv x0 x1 x2 x3) 768 1408 (by omega) j d :=
  dvStep x0 x1 x2 x3 (s := 768) (R := 256) (n := 1024) (R' := 1152) (by omega) (by omega) (by omega) (dv6 _ _ _ _) (first_at arg12 _ _ _)
    (rows_at arg2 harg2 x0 _ _ _) (rows_at arg5 harg5 x3 _ _ _) (keys c arg3 harg3 arg4 harg4 arg9 x1 x2 _ _)
    (dv_5 c arg2 harg2 arg3 harg3 arg4 harg4 arg5 harg5 arg9 arg12 x0 x1 x2 x3) j d
theorem dk_7 (j : Fin 2176) (d : Fin 128) : View.canon (kernelRun0_A.sl.HS2_7 (F := Ideal) c arg2 harg2 arg3 harg3 arg4 harg4 arg5 harg5 arg9 arg10 arg11 x0 x1 x2 x3) (ix2 j d)
    = rowSum (addDk x0 x1 x2 x3) 512 1664 (by omega) j d :=
  dkStep x0 x1 x2 x3 (s := 512) (R := 256) (n := 768) (R' := 1408) (by omega) (by omega) (by omega) (dk7 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_6 c arg2 harg2 arg3 harg3 arg4 harg4 arg5 harg5 arg9 arg10 arg11 x0 x1 x2 x3) j d
theorem dv_7 (j : Fin 2176) (d : Fin 128) : View.canon (kernelRun0_A.sl.HS3_7 (F := Ideal) c arg2 harg2 arg3 harg3 arg4 harg4 arg5 harg5 arg9 arg12 x0 x1 x2 x3) (ix2 j d)
    = rowSum (addDv x0 x1 x2 x3) 512 1664 (by omega) j d :=
  dvStep x0 x1 x2 x3 (s := 512) (R := 256) (n := 768) (R' := 1408) (by omega) (by omega) (by omega) (dv7 _ _ _ _) (first_at arg12 _ _ _)
    (rows_at arg2 harg2 x0 _ _ _) (rows_at arg5 harg5 x3 _ _ _) (keys c arg3 harg3 arg4 harg4 arg9 x1 x2 _ _)
    (dv_6 c arg2 harg2 arg3 harg3 arg4 harg4 arg5 harg5 arg9 arg12 x0 x1 x2 x3) j d
theorem dk_8 (j : Fin 2176) (d : Fin 128) : View.canon (kernelRun0_A.sl.HS2_8 (F := Ideal) c arg2 harg2 arg3 harg3 arg4 harg4 arg5 harg5 arg9 arg10 arg11 x0 x1 x2 x3) (ix2 j d)
    = rowSum (addDk x0 x1 x2 x3) 256 1920 (by omega) j d :=
  dkStep x0 x1 x2 x3 (s := 256) (R := 256) (n := 512) (R' := 1664) (by omega) (by omega) (by omega) (dk8 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_7 c arg2 harg2 arg3 harg3 arg4 harg4 arg5 harg5 arg9 arg10 arg11 x0 x1 x2 x3) j d
theorem dv_8 (j : Fin 2176) (d : Fin 128) : View.canon (kernelRun0_A.sl.HS3_8 (F := Ideal) c arg2 harg2 arg3 harg3 arg4 harg4 arg5 harg5 arg9 arg12 x0 x1 x2 x3) (ix2 j d)
    = rowSum (addDv x0 x1 x2 x3) 256 1920 (by omega) j d :=
  dvStep x0 x1 x2 x3 (s := 256) (R := 256) (n := 512) (R' := 1664) (by omega) (by omega) (by omega) (dv8 _ _ _ _) (first_at arg12 _ _ _)
    (rows_at arg2 harg2 x0 _ _ _) (rows_at arg5 harg5 x3 _ _ _) (keys c arg3 harg3 arg4 harg4 arg9 x1 x2 _ _)
    (dv_7 c arg2 harg2 arg3 harg3 arg4 harg4 arg5 harg5 arg9 arg12 x0 x1 x2 x3) j d
theorem dk_9 (j : Fin 2176) (d : Fin 128) : View.canon (kernelRun0_A.sl.HS2_9 (F := Ideal) c arg2 harg2 arg3 harg3 arg4 harg4 arg5 harg5 arg9 arg10 arg11 x0 x1 x2 x3) (ix2 j d)
    = rowSum (addDk x0 x1 x2 x3) 0 2176 (by omega) j d :=
  dkStep x0 x1 x2 x3 (s := 0) (R := 256) (n := 256) (R' := 1920) (by omega) (by omega) (by omega) (dk9 _ _ _ _ _) (first_at arg11 _ _ _)
    (rows_at arg2 harg2 x0 _ _ _) (rows_at arg5 harg5 x3 _ _ _) (keys c arg3 harg3 arg4 harg4 arg9 x1 x2 _ _) (vals c arg3 harg3 arg10 x1 _ _)
    (dk_8 c arg2 harg2 arg3 harg3 arg4 harg4 arg5 harg5 arg9 arg10 arg11 x0 x1 x2 x3) j d
theorem dv_9 (j : Fin 2176) (d : Fin 128) : View.canon (kernelRun0_A.sl.HS3_9 (F := Ideal) c arg2 harg2 arg3 harg3 arg4 harg4 arg5 harg5 arg9 arg12 x0 x1 x2 x3) (ix2 j d)
    = rowSum (addDv x0 x1 x2 x3) 0 2176 (by omega) j d :=
  dvStep x0 x1 x2 x3 (s := 0) (R := 256) (n := 256) (R' := 1920) (by omega) (by omega) (by omega) (dv9 _ _ _ _) (first_at arg12 _ _ _)
    (rows_at arg2 harg2 x0 _ _ _) (rows_at arg5 harg5 x3 _ _ _) (keys c arg3 harg3 arg4 harg4 arg9 x1 x2 _ _)
    (dv_8 c arg2 harg2 arg3 harg3 arg4 harg4 arg5 harg5 arg9 arg12 x0 x1 x2 x3) j d

/-! ## The three results at a grid point -/

theorem sum_dk (j : Fin 2176) (d : Fin 128) : arg11.view.readCov (kernelRun0_A.sl.HS2_9 (F := Ideal) c arg2 harg2 arg3 harg3 arg4 harg4 arg5 harg5 arg9 arg10 arg11 x0 x1 x2 x3)
    (Rect.unit ![0, 0] S2176x128.size inb_S2176x128_S2176x128_0_0).toLoadRect (ix2 j d) = headDk (hQ x0) (hK x1 x2) (hQ x3) (hQ x1) j d :=
  (first_at arg11 _ le_rfl _ j d).trans ((dk_9 c arg2 harg2 arg3 harg3 arg4 harg4 arg5 harg5 arg9 arg10 arg11 x0 x1 x2 x3 j d).trans (rowSum_all _ j d))
theorem sum_dv (j : Fin 2176) (d : Fin 128) : arg12.view.readCov (kernelRun0_A.sl.HS3_9 (F := Ideal) c arg2 harg2 arg3 harg3 arg4 harg4 arg5 harg5 arg9 arg12 x0 x1 x2 x3)
    (Rect.unit ![0, 0] S2176x128.size inb_S2176x128_S2176x128_0_0).toLoadRect (ix2 j d) = headDv (hQ x0) (hK x1 x2) (hQ x3) j d :=
  (first_at arg12 _ le_rfl _ j d).trans ((dv_9 c arg2 harg2 arg3 harg3 arg4 harg4 arg5 harg5 arg9 arg12 x0 x1 x2 x3 j d).trans (rowSum_all _ j d))

theorem pay_dkv (a e : FVec Ideal S2176x128 .f32) (i : Fin 2176) (d : Fin 128) : k0_pay1 (F := Ideal) (k0_pay85 pos a e) (ix3 0 i d)
    = Scalar.select (IntOp.cmpi .slt (BitVec.ofNat 32 d.val) 64#32) (a (ix2 i d)) (e (ix2 i d)) := by
  unfold k0_pay1 k0_pay85; pointwise
theorem pay_first (a : FVec Ideal S2176x128 .f32) (i : Fin 2176) (d : Fin 128) : k0_pay3 (F := Ideal) pos a (ix3 0 i d)
    = Scalar.select (IntOp.cmpi .sge (BitVec.ofNat 32 d.val) 64#32) (a (ix2 i d)) 0 := by
  unfold k0_pay3 k0_pay2; pointwise
theorem pay_next (a : FVec Ideal S2176x128 .f32) (v : FVec Ideal S1x2176x128 .f32) (i : Fin 2176) (d : Fin 128) : k0_pay4 (F := Ideal) pos a v (ix3 0 i d)
    = v (ix3 0 i d) + Scalar.select (IntOp.cmpi .sge (BitVec.ofNat 32 d.val) 64#32) (a (ix2 i d)) 0 := by
  unfold k0_pay4 k0_pay2; pointwise

/-- The pieces of the queries' gradient, block of rows by block of rows. -/
theorem pieces_dq (hc0 : cond0_0 i) (hc1 : ¬cond0_1 i) (r : Fin 2176) (d : Fin 128) :
    View.AllAt (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3).1
      (ix3 0 r d) (headDq (hQ x0) (hK x1 x2) (hQ x3) (hQ x1) r d) := by
  unfold kernelRun0_A
  dsimp only
  refine View.allAt_cons_unit _ _ _ _ _ (tile_rows (s := 0) (R := 256) (n := 256) _ (by omega) (by omega) _ (fun i d => (dq9 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 256) (R := 256) (n := 512) _ (by omega) (by omega) _ (fun i d => (dq8 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 512) (R := 256) (n := 768) _ (by omega) (by omega) _ (fun i d => (dq7 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 768) (R := 256) (n := 1024) _ (by omega) (by omega) _ (fun i d => (dq6 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 1024) (R := 256) (n := 1280) _ (by omega) (by omega) _ (fun i d => (dq5 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 1280) (R := 256) (n := 1536) _ (by omega) (by omega) _ (fun i d => (dq4 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 1536) (R := 256) (n := 1792) _ (by omega) (by omega) _ (fun i d => (dq3 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 1792) (R := 256) (n := 2048) _ (by omega) (by omega) _ (fun i d => (dq2 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  refine View.allAt_cons_unit _ _ _ _ _ (tile_rows (s := 2048) (R := 128) (n := 2176) _ (by omega) (by omega) _ (fun i d => (dq1 _ _ _ _ i d).trans
    (bdq_eq _ _ _ _ (by omega) (by omega) _ _ _ _ (rows_at arg2 harg2 x0 _ _ _) (rows_at arg5 harg5 x3 _ _ _) (keys c arg3 harg3 arg4 harg4 arg9 x1 x2 _ _) (vals c arg3 harg3 arg10 x1 _ _) i d)) r d) ?_
  exact View.allAt_nil _ _

/-- The shared keys' part of a head: the last 64 places of its keys' gradient. -/
def shared (Q K G V : Fin 2176 → Fin 128 → EReal) (r : Fin 2176) (d : Fin 128) : EReal :=
  Scalar.select (IntOp.cmpi .sge (BitVec.ofNat 32 d.val) 64#32) (headDk Q K G V r d) 0
/-- The keys' and the values' gradient side by side. -/
def beside (Q K G V : Fin 2176 → Fin 128 → EReal) (r : Fin 2176) (d : Fin 128) : EReal :=
  Scalar.select (IntOp.cmpi .slt (BitVec.ofNat 32 d.val) 64#32) (headDk Q K G V r d) (headDv Q K G r d)

section First
variable (hc0 : cond0_0 i) (hc1 : ¬cond0_1 i) (r : Fin 2176) (d : Fin 128)

theorem first4 : out0_A_4 (F := Ideal) c i arg2 harg2 arg3 harg3 arg4 harg4 arg5 harg5 arg6 harg6 arg7 harg7 arg8 harg8 arg9 harg9 arg10 harg10 arg11 harg11 arg12 harg12 hc0 hc1 x0 x1 x2 x3 (ix3 0 r d) = headDq (hQ x0) (hK x1 x2) (hQ x3) (hQ x1) r d := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 hc0 hc1 x0 x1 x2 x3)]
  exact View.canon_eq_of_allAt _ _ _ (cover0_A_4 c i arg2 harg2 arg3 harg3 arg4 harg4 arg5 harg5 arg6 harg6 arg7 harg7 arg8 harg8 arg9 harg9 arg10 harg10 arg11 harg11 arg12 harg12 hc0 hc1 x0 x1 x2 x3 _) (pieces_dq c i arg2 harg2 arg3 harg3 arg4 harg4 arg5 harg5 arg6 harg6 arg7 harg7 arg8 harg8 arg9 harg9 arg10 harg10 arg11 harg11 arg12 harg12 x0 x1 x2 x3 hc0 hc1 r d)
theorem first5 : out0_A_5 (F := Ideal) c i arg2 harg2 arg3 harg3 arg4 harg4 arg5 harg5 arg6 harg6 arg7 harg7 arg8 harg8 arg9 harg9 arg10 harg10 arg11 harg11 arg12 harg12 hc0 hc1 x0 x1 x2 x3 (ix3 0 r d) = beside (hQ x0) (hK x1 x2) (hQ x3) (hQ x1) r d := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  rw [View.canon_unit_zero hz3]
  refine (pay_dkv _ _ r d).trans ?_
  exact congrArg₂ (Scalar.select _) (sum_dk ..) (sum_dv ..)
theorem first6 : out0_A_6 (F := Ideal) c i arg2 harg2 arg3 harg3 arg4 harg4 arg5 harg5 arg6 harg6 arg7 harg7 arg8 harg8 arg9 harg9 arg10 harg10 arg11 harg11 arg12 harg12 hc0 hc1 x0 x1 x2 x3 (ix3 0 r d) = shared (hQ x0) (hK x1 x2) (hQ x3) (hQ x1) r d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  rw [View.canon_unit_zero hz3]
  refine (pay_first _ r d).trans ?_
  exact congrArg (Scalar.select _ · 0) (sum_dk ..)

end First

/-- The first point is a first head. -/
theorem zero_first : cond0_0 (grid0.coords ⟨0, by decide⟩) := (hcond0_0 ⟨0, by decide⟩).mpr rfl
theorem zero_not_later : ¬cond0_1 (grid0.coords ⟨0, by decide⟩) := fun h => absurd ((hcond0_1 ⟨0, by decide⟩).mp h) (by decide)

section Later
variable (hc0 : ¬cond0_0 i) (hc1 : cond0_1 i) (xo : Vec Ideal S1x2176x128 .f32) (r : Fin 2176) (d : Fin 128)

theorem later4 : out0_B_4 (F := Ideal) c i arg2 harg2 arg3 harg3 arg4 harg4 arg5 harg5 arg6 harg6 arg7 harg7 arg8 harg8 arg9 harg9 arg10 harg10 arg11 harg11 arg12 harg12 hc0 hc1 x0 x1 x2 x3 xo (ix3 0 r d) = headDq (hQ x0) (hK x1 x2) (hQ x3) (hQ x1) r d := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 hc0 hc1 x0 x1 x2 x3 xo)]
  exact View.canon_eq_of_allAt _ _ _ (cover0_B_4 c i arg2 harg2 arg3 harg3 arg4 harg4 arg5 harg5 arg6 harg6 arg7 harg7 arg8 harg8 arg9 harg9 arg10 harg10 arg11 harg11 arg12 harg12 hc0 hc1 x0 x1 x2 x3 xo _)
    (pieces_dq c (grid0.coords ⟨0, by decide⟩) arg2 harg2 arg3 harg3 arg4 harg4 arg5 harg5 arg6 harg6 arg7 harg7 arg8 harg8 arg9 harg9 arg10 harg10 arg11 harg11 arg12 harg12 x0 x1 x2 x3 zero_first zero_not_later r d)
theorem later5 : out0_B_5 (F := Ideal) c i arg2 harg2 arg3 harg3 arg4 harg4 arg5 harg5 arg6 harg6 arg7 harg7 arg8 harg8 arg9 harg9 arg10 harg10 arg11 harg11 arg12 harg12 hc0 hc1 x0 x1 x2 x3 xo (ix3 0 r d) = beside (hQ x0) (hK x1 x2) (hQ x3) (hQ x1) r d := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 xo)]
  unfold kernelRun0_B
  dsimp only
  rw [View.canon_unit_zero hz3]
  refine (pay_dkv _ _ r d).trans ?_
  exact congrArg₂ (Scalar.select _) (sum_dk c arg2 harg2 arg3 harg3 arg4 harg4 arg5 harg5 arg9 arg10 arg11 x0 x1 x2 x3 r d) (sum_dv c arg2 harg2 arg3 harg3 arg4 harg4 arg5 harg5 arg9 arg12 x0 x1 x2 x3 r d)
theorem later6 : out0_B_6 (F := Ideal) c i arg2 harg2 arg3 harg3 arg4 harg4 arg5 harg5 arg6 harg6 arg7 harg7 arg8 harg8 arg9 harg9 arg10 harg10 arg11 harg11 arg12 harg12 hc0 hc1 x0 x1 x2 x3 xo (ix3 0 r d) = xo (ix3 0 r d) + shared (hQ x0) (hK x1 x2) (hQ x3) (hQ x1) r d := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 xo)]
  unfold kernelRun0_B
  dsimp only
  rw [View.canon_unit_zero hz3]
  refine (pay_next _ _ r d).trans ?_
  rw [View.readAt_eq_ld, harg8.read_unread, View.ld_unit_zero (S := S1x2176x128) hz3]
  exact congrArg (xo (ix3 0 r d) + Scalar.select _ · 0) (sum_dk c arg2 harg2 arg3 harg3 arg4 harg4 arg5 harg5 arg9 arg10 arg11 x0 x1 x2 x3 r d)

end Later

end Cert.KernelAttnBwdIdeal.Attn

end
-- ==== Proof.AttnRows.lean ====
module

public import proofs.«01_k».proof.Proof.AttnMath
public import proofs.«01_k».proof.Proof.ProdMath
public import Idealize.ShloMosaic.Lib.Pointwise

@[expose] public section

noncomputable section

/-! # The rows of one head

The queries, the keys, the gradients and the values of one head, each a row of 128 places, read from the four arguments. -/

namespace Cert.Attn

open Idealize.ShloMosaic Cert.Prod

variable (q : Vec Ideal ⟨4, ![2, 2176, 8, 96]⟩ .f32) (kv : Vec Ideal ⟨4, ![2, 2176, 8, 128]⟩ .f32) (kpe : Vec Ideal ⟨3, ![2, 2176, 32]⟩ .f32)
  (g : Vec Ideal ⟨4, ![2, 2176, 8, 64]⟩ .f32) (b : Fin 2) (h : Fin 8)

def rowQ (i : Fin 2176) (d : Fin 128) : EReal := if hd : d.val < 96 then q (ix4 b i h ⟨d.val, hd⟩) else 0
def rowK (i : Fin 2176) (d : Fin 128) : EReal :=
  if d.val < 64 then kv (ix4 b i h d) else if hd : d.val < 96 then kpe (ix3 b i ⟨d.val - 64, by omega⟩) else 0
def rowG (i : Fin 2176) (d : Fin 128) : EReal := if hd : 64 ≤ d.val then g (ix4 b i h ⟨d.val - 64, by omega⟩) else 0
def rowV (i : Fin 2176) (d : Fin 128) : EReal := kv (ix4 b i h d)

/-! ## Places -/

theorem tile_div (h : Fin 8) (d : Fin 128) : (tile (show 1024 = 8 * 128 from rfl) h d).val / 128 = h.val := by
  rw [tile_val]
  omega
theorem tile_mod (h : Fin 8) (d : Fin 128) : (tile (show 1024 = 8 * 128 from rfl) h d).val % 128 = d.val := by
  rw [tile_val]
  omega
theorem from_int : FloatOps.sitofp (F := Ideal) .f32 (0#32) = (0 : EReal) := by simp [FloatOps.sitofp]

theorem slt_64 {α : Type} (d : Fin 128) (x y : α) : Scalar.select (IntOp.cmpi .slt (BitVec.ofNat 32 d.val) 64#32) x y = if d.val < 64 then x else y := by
  revert d
  have e : ∀ d : Fin 128, (IntOp.cmpi .slt (BitVec.ofNat 32 d.val) 64#32) = if d.val < 64 then 1#1 else 0#1 := by decide
  intro d
  rw [e]
  split <;> rfl
theorem sge_64 {α : Type} (d : Fin 128) (x y : α) : Scalar.select (IntOp.cmpi .sge (BitVec.ofNat 32 d.val) 64#32) x y = if 64 ≤ d.val then x else y := by
  revert d
  have e : ∀ d : Fin 128, (IntOp.cmpi .sge (BitVec.ofNat 32 d.val) 64#32) = if 64 ≤ d.val then 1#1 else 0#1 := by decide
  intro d
  rw [e]
  split <;> rfl

end Cert.Attn

end
-- ==== Proof.AttnRun.lean ====
module

public import proofs.«01_k».proof.Proof.AttnBwd
public import proofs.«01_k».proof.Proof.AttnRows

@[expose] public section

noncomputable section

/-! # What the grid leaves

A grid point takes one head of one batch: it writes that head's columns of the gradients of the queries and of the keys and
values, and adds the head's gradient of the shared keys to what the heads before it left. -/

namespace Cert.KernelAttnBwdIdeal.Attn

open Cert Cert.Prod Cert.Attn Cert.KernelAttnBwdIdeal Cert.KernelAttnBwdIdeal.Gen Cert.KernelAttnBwdIdeal.Value
open Idealize.ShloMosaic Idealize.ShloMosaic.TcCoe Idealize.ShloMosaic.Tactic Idealize.SL.Sem

variable (m : (ℓ : Loc nD τ sig) → Buf (Elt Ideal) ℓ) (c : Dev nD) (b : Fin 2) (h : Fin 8) (i : Fin 2176) (d : Fin 128)

/-- The arguments, as launched. -/
abbrev aq : Vec Ideal S2x2176x8x96 .f32 := m ((c : Thread nD τ).loc main_arg0)
abbrev akv : Vec Ideal S2x2176x8x128 .f32 := m ((c : Thread nD τ).loc main_arg1)
abbrev akpe : Vec Ideal S2x2176x32 .f32 := m ((c : Thread nD τ).loc main_arg2)
abbrev ado : Vec Ideal S2x2176x8x64 .f32 := m ((c : Thread nD τ).loc main_arg3)

/-! ## The arguments as the call reads them

The host pads the queries, the shared keys and the gradient with zeros to 128 places and lays the heads side by side. -/

theorem pad_q (x : FVec Ideal S2x2176x8x96 .f32) : shapeCast S2x2176x1024 (pad S2x2176x8x128 ![0, 0, 0, 0] ![0, 0, 0, 32] ![0, 0, 0, 0] x (sitofp .f32 (constantI S_ 32 0#32)) pads_S2x2176x8x96_S2x2176x8x128_000_000_000_0320 h_S_) shapeCasts_S2x2176x8x128_S2x2176x1024 (ix3 b i (tile rfl h d)) = rowQ x b h i d := by
  pointwise
  rw [rowQ]
  by_cases hd : d.val < 96
  · rw [dif_pos ⟨by rw [tile_div]; exact h.isLt, by rw [tile_mod]; exact hd⟩, dif_pos hd]
    exact congrArg x (congrArg₂ (ix4 b i) (Fin.ext (tile_div h d)) (Fin.ext (tile_mod h d)))
  · rw [dif_neg (by rw [tile_mod]; exact fun e => hd e.2), dif_neg hd, from_int]
theorem pad_kpe (x : FVec Ideal S2x2176x32 .f32) : pad S2x2176x128 ![0, 0, 64] ![0, 0, 32] ![0, 0, 0] x (sitofp .f32 (constantI S_ 32 0#32)) pads_S2x2176x32_S2x2176x128_000_000_64320 h_S_ (ix3 b i d) = if hd : 64 ≤ d.val ∧ d.val < 96 then x (ix3 b i ⟨d.val - 64, by omega⟩) else 0 := by
  pointwise
  by_cases hd : 64 ≤ d.val ∧ d.val < 96
  · rw [dif_pos ⟨hd.1, by omega⟩, dif_pos hd]
  · rw [dif_neg (by omega), dif_neg hd, from_int]
theorem pad_do (x : FVec Ideal S2x2176x8x64 .f32) : shapeCast S2x2176x1024 (pad S2x2176x8x128 ![0, 0, 0, 64] ![0, 0, 0, 0] ![0, 0, 0, 0] x (sitofp .f32 (constantI S_ 32 0#32)) pads_S2x2176x8x64_S2x2176x8x128_000_000_000_6400 h_S_) shapeCasts_S2x2176x8x128_S2x2176x1024 (ix3 b i (tile rfl h d)) = rowG x b h i d := by
  pointwise
  rw [rowG]
  by_cases hd : 64 ≤ d.val
  · rw [dif_pos ⟨by rw [tile_div]; exact h.isLt, by rw [tile_mod]; exact hd, by rw [tile_mod]; omega⟩, dif_pos hd]
    exact congrArg x (congrArg₂ (ix4 b i) (Fin.ext (tile_div h d)) (Fin.ext (congrArg (· - 64) (tile_mod h d))))
  · rw [dif_neg (by rw [tile_mod]; exact fun e => hd e.2.1), dif_neg hd, from_int]
theorem side_kv (x : FVec Ideal S2x2176x8x128 .f32) : shapeCast S2x2176x1024 x shapeCasts_S2x2176x8x128_S2x2176x1024 (ix3 b i (tile rfl h d)) = rowV x b h i d := by
  pointwise
  exact congrArg x (congrArg₂ (ix4 b i) (Fin.ext (tile_div h d)) (Fin.ext (tile_mod h d)))

theorem V_q : (V m c main_v3 : Vec Ideal S2x2176x1024 .f32) (ix3 b i (tile rfl h d)) = rowQ (aq m c) b h i d := by
  unfold_abbrev_sides
  simp only [List.flatten_cons, List.flatten_nil, hostOps0, hostOps0_1, hostOps0_2, hostOps0_3, hostOps0_4, hostOps0_5, hostOps0_6, List.cons_append, List.nil_append, List.append_nil]
  after_results
  exact pad_q b h i d (aq m c)
theorem V_kv : (V m c main_v4 : Vec Ideal S2x2176x1024 .f32) (ix3 b i (tile rfl h d)) = rowV (akv m c) b h i d := by
  unfold_abbrev_sides
  simp only [List.flatten_cons, List.flatten_nil, hostOps0, hostOps0_1, hostOps0_2, hostOps0_3, hostOps0_4, hostOps0_5, hostOps0_6, List.cons_append, List.nil_append, List.append_nil]
  after_results
  exact side_kv b h i d (akv m c)
theorem V_kpe : (V m c main_v1 : Vec Ideal S2x2176x128 .f32) (ix3 b i d) = if hd : 64 ≤ d.val ∧ d.val < 96 then akpe m c (ix3 b i ⟨d.val - 64, by omega⟩) else 0 := by
  unfold_abbrev_sides
  simp only [List.flatten_cons, List.flatten_nil, hostOps0, hostOps0_1, hostOps0_2, hostOps0_3, hostOps0_4, hostOps0_5, hostOps0_6, List.cons_append, List.nil_append, List.append_nil]
  after_results
  exact pad_kpe b i d (akpe m c)
theorem V_do : (V m c main_v5 : Vec Ideal S2x2176x1024 .f32) (ix3 b i (tile rfl h d)) = rowG (ado m c) b h i d := by
  unfold_abbrev_sides
  simp only [List.flatten_cons, List.flatten_nil, hostOps0, hostOps0_1, hostOps0_2, hostOps0_3, hostOps0_4, hostOps0_5, hostOps0_6, List.cons_append, List.nil_append, List.append_nil]
  after_results
  exact pad_do b h i d (ado m c)

/-! ## Blocks -/

/-- The point of a batch and a head. -/
def pt (b : Fin 2) (h : Fin 8) : Fin cfg0.N := tile (show cfg0.N = 2 * 8 from N_0) b h

theorem idx0 : ∀ (b : Fin 2) (h : Fin 8), win0_0.index (pt b h) = ![b.val, 0, h.val] := by decide +kernel
theorem idx1 : ∀ (b : Fin 2) (h : Fin 8), win0_1.index (pt b h) = ![b.val, 0, h.val] := by decide +kernel
theorem idx2 : ∀ (b : Fin 2) (h : Fin 8), win0_2.index (pt b h) = ![b.val, 0, 0] := by decide +kernel
theorem idx3 : ∀ (b : Fin 2) (h : Fin 8), win0_3.index (pt b h) = ![b.val, 0, h.val] := by decide +kernel
theorem idx4 : ∀ (b : Fin 2) (h : Fin 8), win0_4.index (pt b h) = ![b.val, 0, h.val] := by decide +kernel
theorem idx5 : ∀ (b : Fin 2) (h : Fin 8), win0_5.index (pt b h) = ![b.val, 0, h.val] := by decide +kernel
theorem idx6 : ∀ (b : Fin 2) (h : Fin 8), win0_6.index (pt b h) = ![b.val, 0, 0] := by decide +kernel
/-- The shared keys' gradient of a batch is written back after its last head only, and each by its own. -/
theorem flush6 : ∀ b : Fin 2, (cfg0.win 6).flush (pt b 7) = true := by decide +kernel
theorem inj6 : ∀ t t' : Fin cfg0.N, (cfg0.win 6).flush t = true → (cfg0.win 6).flush t' = true →
    (cfg0.win 6).index t = (cfg0.win 6).index t' → t = t' := by decide +kernel
theorem disjoint6 (t t' : Fin cfg0.N) (h : (cfg0.win 6).flush t = true) (h' : (cfg0.win 6).flush t' = true) (hne : t ≠ t') :
    Disjoint ((cfg0.win 6).blk t).view.set ((cfg0.win 6).blk t').view.set :=
  (cfg0.win 6).disjoint_blk fun e => hne (inj6 t t' h h' e)

theorem read0 (A : Vec Ideal S2x2176x1024 .f32) : ((cfg0.win 0).blk (pt b h)).view.read (Elt Ideal) A (ix3 0 i d) = A (ix3 b i (tile rfl h d)) := by
  rw [View.read_apply]
  refine congrArg A (funext fun a => Fin.ext ?_)
  match a with
  | ⟨0, _⟩ => show win0_0.index (pt b h) 0 * 1 + 1 * 0 = b.val; rw [idx0]; simp
  | ⟨1, _⟩ => show win0_0.index (pt b h) 1 * 2176 + 1 * i.val = i.val; rw [idx0]; simp
  | ⟨2, _⟩ => show win0_0.index (pt b h) 2 * 128 + 1 * d.val = h.val * 128 + d.val; rw [idx0]; simp
theorem blk0 : (iblk m c 0 (pt b h) : Vec Ideal S1x2176x128 .f32) (ix3 0 i d) = rowQ (aq m c) b h i d :=
  (read0 b h i d (V m c main_v3)).trans (V_q m c b h i d)
theorem read1 (A : Vec Ideal S2x2176x1024 .f32) : ((cfg0.win 1).blk (pt b h)).view.read (Elt Ideal) A (ix3 0 i d) = A (ix3 b i (tile rfl h d)) := by
  rw [View.read_apply]
  refine congrArg A (funext fun a => Fin.ext ?_)
  match a with
  | ⟨0, _⟩ => show win0_1.index (pt b h) 0 * 1 + 1 * 0 = b.val; rw [idx1]; simp
  | ⟨1, _⟩ => show win0_1.index (pt b h) 1 * 2176 + 1 * i.val = i.val; rw [idx1]; simp
  | ⟨2, _⟩ => show win0_1.index (pt b h) 2 * 128 + 1 * d.val = h.val * 128 + d.val; rw [idx1]; simp
theorem blk1 : (iblk m c 1 (pt b h) : Vec Ideal S1x2176x128 .f32) (ix3 0 i d) = rowV (akv m c) b h i d :=
  (read1 b h i d (V m c main_v4)).trans (V_kv m c b h i d)
theorem read2 (A : Vec Ideal S2x2176x128 .f32) : ((cfg0.win 2).blk (pt b h)).view.read (Elt Ideal) A (ix3 0 i d) = A (ix3 b i d) := by
  rw [View.read_apply]
  refine congrArg A (funext fun a => Fin.ext ?_)
  match a with
  | ⟨0, _⟩ => show win0_2.index (pt b h) 0 * 1 + 1 * 0 = b.val; rw [idx2]; simp
  | ⟨1, _⟩ => show win0_2.index (pt b h) 1 * 2176 + 1 * i.val = i.val; rw [idx2]; simp
  | ⟨2, _⟩ => show win0_2.index (pt b h) 2 * 128 + 1 * d.val = d.val; rw [idx2]; simp
theorem blk2 : (iblk m c 2 (pt b h) : Vec Ideal S1x2176x128 .f32) (ix3 0 i d) = if hd : 64 ≤ d.val ∧ d.val < 96 then akpe m c (ix3 b i ⟨d.val - 64, by omega⟩) else 0 :=
  (read2 b h i d (V m c main_v1)).trans (V_kpe m c b i d)
theorem read3 (A : Vec Ideal S2x2176x1024 .f32) : ((cfg0.win 3).blk (pt b h)).view.read (Elt Ideal) A (ix3 0 i d) = A (ix3 b i (tile rfl h d)) := by
  rw [View.read_apply]
  refine congrArg A (funext fun a => Fin.ext ?_)
  match a with
  | ⟨0, _⟩ => show win0_3.index (pt b h) 0 * 1 + 1 * 0 = b.val; rw [idx3]; simp
  | ⟨1, _⟩ => show win0_3.index (pt b h) 1 * 2176 + 1 * i.val = i.val; rw [idx3]; simp
  | ⟨2, _⟩ => show win0_3.index (pt b h) 2 * 128 + 1 * d.val = h.val * 128 + d.val; rw [idx3]; simp
theorem blk3 : (iblk m c 3 (pt b h) : Vec Ideal S1x2176x128 .f32) (ix3 0 i d) = rowG (ado m c) b h i d :=
  (read3 b h i d (V m c main_v5)).trans (V_do m c b h i d)

/-! ## The rows of a point -/

theorem pQ : hQ (iblk m c 0 (pt b h)) = rowQ (aq m c) b h := funext fun i => funext fun d => blk0 m c b h i d
theorem pV : hQ (iblk m c 1 (pt b h)) = rowV (akv m c) b h := funext fun i => funext fun d => blk1 m c b h i d
theorem pG : hQ (iblk m c 3 (pt b h)) = rowG (ado m c) b h := funext fun i => funext fun d => blk3 m c b h i d
theorem pK : hK (iblk m c 1 (pt b h)) (iblk m c 2 (pt b h)) = rowK (akv m c) (akpe m c) b h := by
  funext i d
  refine (slt_64 d _ _).trans ?_
  rw [blk1, blk2, rowK, rowV]
  by_cases h1 : d.val < 64
  · rw [if_pos h1, if_pos h1]
  · rw [if_neg h1, if_neg h1]
    by_cases h2 : d.val < 96
    · rw [dif_pos ⟨by omega, h2⟩, dif_pos h2]
    · rw [dif_neg (by omega), dif_neg h2]

/-! ## The three arrays -/

section Point
variable (t : Fin cfg0.N)

theorem start4 (h0 : t.val % 8 = 0) (h1 : ¬1 ≤ t.val % 8) : (outsAt0 m c t.val t.isLt).1 (ix3 0 i d)
    = headDq (hQ (iblk m c 0 t)) (hK (iblk m c 1 t) (iblk m c 2 t)) (hQ (iblk m c 3 t)) (hQ (iblk m c 1 t)) i d := by
  rw [outsAt0_A m c t h0 h1]
  dsimp only
  exact first4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)) i d
theorem step4 (h0 : ¬t.val % 8 = 0) (h1 : 1 ≤ t.val % 8) : (outsAt0 m c t.val t.isLt).1 (ix3 0 i d)
    = headDq (hQ (iblk m c 0 t)) (hK (iblk m c 1 t) (iblk m c 2 t)) (hQ (iblk m c 3 t)) (hQ (iblk m c 1 t)) i d := by
  rw [outsAt0_B m c t h0 h1]
  dsimp only
  exact later4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2.2 i d
theorem start5 (h0 : t.val % 8 = 0) (h1 : ¬1 ≤ t.val % 8) : (outsAt0 m c t.val t.isLt).2.1 (ix3 0 i d)
    = beside (hQ (iblk m c 0 t)) (hK (iblk m c 1 t) (iblk m c 2 t)) (hQ (iblk m c 3 t)) (hQ (iblk m c 1 t)) i d := by
  rw [outsAt0_A m c t h0 h1]
  dsimp only
  exact first5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)) i d
theorem step5 (h0 : ¬t.val % 8 = 0) (h1 : 1 ≤ t.val % 8) : (outsAt0 m c t.val t.isLt).2.1 (ix3 0 i d)
    = beside (hQ (iblk m c 0 t)) (hK (iblk m c 1 t) (iblk m c 2 t)) (hQ (iblk m c 3 t)) (hQ (iblk m c 1 t)) i d := by
  rw [outsAt0_B m c t h0 h1]
  dsimp only
  exact later5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2.2 i d
theorem start6 (h0 : t.val % 8 = 0) (h1 : ¬1 ≤ t.val % 8) : (outsAt0 m c t.val t.isLt).2.2 (ix3 0 i d)
    = shared (hQ (iblk m c 0 t)) (hK (iblk m c 1 t) (iblk m c 2 t)) (hQ (iblk m c 3 t)) (hQ (iblk m c 1 t)) i d := by
  rw [outsAt0_A m c t h0 h1]
  dsimp only
  exact first6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)) i d
theorem step6 (h0 : ¬t.val % 8 = 0) (h1 : 1 ≤ t.val % 8) : (outsAt0 m c t.val t.isLt).2.2 (ix3 0 i d)
    = (outsAt0 m c (t.val - 1) (Nat.lt_of_le_of_lt (Nat.sub_le _ _) t.isLt)).2.2 (ix3 0 i d) + shared (hQ (iblk m c 0 t)) (hK (iblk m c 1 t) (iblk m c 2 t)) (hQ (iblk m c 3 t)) (hQ (iblk m c 1 t)) i d := by
  rw [outsAt0_B m c t h0 h1]
  dsimp only
  exact later6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (fun h => h0 ((hcond0_0 t).mp h)) ((hcond0_1 t).mpr h1) (outsAt0 m c (t.val - 1) (Nat.lt_of_le_of_lt (Nat.sub_le _ _) t.isLt)).2.2 i d
theorem body4 : (outsAt0 m c t.val t.isLt).1 (ix3 0 i d) = headDq (hQ (iblk m c 0 t)) (hK (iblk m c 1 t) (iblk m c 2 t)) (hQ (iblk m c 3 t)) (hQ (iblk m c 1 t)) i d := by
  by_cases h0 : t.val % 8 = 0
  · exact start4 m c i d t h0 (by omega)
  · exact step4 m c i d t h0 (by omega)
theorem body5 : (outsAt0 m c t.val t.isLt).2.1 (ix3 0 i d) = beside (hQ (iblk m c 0 t)) (hK (iblk m c 1 t) (iblk m c 2 t)) (hQ (iblk m c 3 t)) (hQ (iblk m c 1 t)) i d := by
  by_cases h0 : t.val % 8 = 0
  · exact start5 m c i d t h0 (by omega)
  · exact step5 m c i d t h0 (by omega)

end Point

theorem read4 (A : Vec Ideal S2x2176x1024 .f32) : ((cfg0.win 4).blk (pt b h)).view.read (Elt Ideal) A (ix3 0 i d) = A (ix3 b i (tile rfl h d)) := by
  rw [View.read_apply]
  refine congrArg A (funext fun a => Fin.ext ?_)
  match a with
  | ⟨0, _⟩ => show win0_4.index (pt b h) 0 * 1 + 1 * 0 = b.val; rw [idx4]; simp
  | ⟨1, _⟩ => show win0_4.index (pt b h) 1 * 2176 + 1 * i.val = i.val; rw [idx4]; simp
  | ⟨2, _⟩ => show win0_4.index (pt b h) 2 * 128 + 1 * d.val = h.val * 128 + d.val; rw [idx4]; simp
theorem cut4 (t : Fin cfg0.N) (o : Vec Ideal S1x2176x128 .f32) : (cfg0.win 4).cut (grid0.coords t) o (ix3 0 i d) = o (ix3 0 i d) := rfl
theorem read5 (A : Vec Ideal S2x2176x1024 .f32) : ((cfg0.win 5).blk (pt b h)).view.read (Elt Ideal) A (ix3 0 i d) = A (ix3 b i (tile rfl h d)) := by
  rw [View.read_apply]
  refine congrArg A (funext fun a => Fin.ext ?_)
  match a with
  | ⟨0, _⟩ => show win0_5.index (pt b h) 0 * 1 + 1 * 0 = b.val; rw [idx5]; simp
  | ⟨1, _⟩ => show win0_5.index (pt b h) 1 * 2176 + 1 * i.val = i.val; rw [idx5]; simp
  | ⟨2, _⟩ => show win0_5.index (pt b h) 2 * 128 + 1 * d.val = h.val * 128 + d.val; rw [idx5]; simp
theorem cut5 (t : Fin cfg0.N) (o : Vec Ideal S1x2176x128 .f32) : (cfg0.win 5).cut (grid0.coords t) o (ix3 0 i d) = o (ix3 0 i d) := rfl
theorem read6 (A : Vec Ideal S2x2176x128 .f32) : ((cfg0.win 6).blk (pt b h)).view.read (Elt Ideal) A (ix3 0 i d) = A (ix3 b i d) := by
  rw [View.read_apply]
  refine congrArg A (funext fun a => Fin.ext ?_)
  match a with
  | ⟨0, _⟩ => show win0_6.index (pt b h) 0 * 1 + 1 * 0 = b.val; rw [idx6]; simp
  | ⟨1, _⟩ => show win0_6.index (pt b h) 1 * 2176 + 1 * i.val = i.val; rw [idx6]; simp
  | ⟨2, _⟩ => show win0_6.index (pt b h) 2 * 128 + 1 * d.val = d.val; rw [idx6]; simp
theorem cut6 (t : Fin cfg0.N) (o : Vec Ideal S1x2176x128 .f32) : (cfg0.win 6).cut (grid0.coords t) o (ix3 0 i d) = o (ix3 0 i d) := rfl
theorem arr4 : ((dats m 0 c).arrAt 4 cfg0.N : Vec Ideal S2x2176x1024 .f32) (ix3 b i (tile rfl h d))
    = headDq (rowQ (aq m c) b h) (rowK (akv m c) (akpe m c) b h) (rowG (ado m c) b h) (rowV (akv m c) b h) i d := by
  have e := congrFun (blocks4 m c (pt b h) (flush0_4 _)) (ix3 0 i d)
  rw [flushed4, cut4, body4, pQ, pK, pG, pV] at e
  exact (read4 b h i d _).symm.trans e
theorem arr5 : ((dats m 0 c).arrAt 5 cfg0.N : Vec Ideal S2x2176x1024 .f32) (ix3 b i (tile rfl h d))
    = beside (rowQ (aq m c) b h) (rowK (akv m c) (akpe m c) b h) (rowG (ado m c) b h) (rowV (akv m c) b h) i d := by
  have e := congrFun (blocks5 m c (pt b h) (flush0_5 _)) (ix3 0 i d)
  rw [flushed5, cut5, body5, pQ, pK, pG, pV] at e
  exact (read5 b h i d _).symm.trans e
theorem arr6 : ((dats m 0 c).arrAt 6 cfg0.N : Vec Ideal S2x2176x128 .f32) (ix3 b i d)
    = ∑ h, shared (rowQ (aq m c) b h) (rowK (akv m c) (akpe m c) b h) (rowG (ado m c) b h) (rowV (akv m c) b h) i d := by
  have e := congrFun ((dats m 0 c).read_blk_arrAt_eq_flushed 6 disjoint6 cfg0.N (pt b 7) (pt b 7).isLt (flush6 b)) (ix3 0 i d)
  have sum := running_sum (show cfg0.N = 2 * 8 from N_0) (by decide) (fun k hk => (outsAt0 m c k hk).2.2 (ix3 0 i d)) _
    (fun t h => start6 m c i d t h (by omega)) (fun t h => step6 m c i d t h (by omega)) b 7 rfl
  rw [flushed6, cut6] at e
  refine (read6 b 7 i d _).symm.trans (e.trans (sum.trans (Finset.sum_congr rfl fun h _ => ?_)))
  rw [← pQ, ← pK, ← pG, ← pV]
  rfl

end Cert.KernelAttnBwdIdeal.Attn

end
-- ==== Proof.AttnRef.lean ====
module

public import proofs.«01_k».proof.Defs
public import proofs.«01_k».proof.Proof.Gen.ReferenceAttnBwdIdeal
public import proofs.«01_k».proof.Proof.Gen.ReferenceAttnBwdIdeal.Read
public import proofs.«01_k».proof.Proof.ProdMath
public import proofs.«01_k».proof.Proof.AttnRows

@[expose] public section

noncomputable section

/-! # What the reference computes

The reference's arrays, element by element, as the attention of one head over rows of 128 places. -/

namespace Cert.ReferenceAttnBwdIdeal.AttnRef

open Cert Cert.Prod Cert.Attn Cert.ReferenceAttnBwdIdeal Cert.ReferenceAttnBwdIdeal.Gen Cert.ReferenceAttnBwdIdeal.Read
open Idealize.ShloMosaic Idealize.ShloMosaic.Ideal

variable (x0 : FVec Ideal S2x2176x8x96 .f32) (x1 : FVec Ideal S2x2176x8x128 .f32) (x2 : FVec Ideal S2x2176x32 .f32) (x3 : FVec Ideal S2x2176x8x64 .f32)
  (b : Fin 2) (h : Fin 8) (i j : Fin 2176)

/-- A sum over 128 places whose terms past the first 96 are zero, or whose first 64 are. -/
theorem sum_96 (f : Fin 128 → EReal) (hf : ∀ x, 96 ≤ x.val → f x = 0) : ∑ x, f x = ∑ x : Fin 96, f ⟨x.val, by omega⟩ := by
  rw [Fin.sum_univ_add (a := 96) (b := 32) f]
  rw [Finset.sum_eq_zero (s := Finset.univ) (f := fun x : Fin 32 => f (Fin.natAdd 96 x)) fun x _ => hf _ (by simp), add_zero]
  rfl
theorem sum_64 (f : Fin 128 → EReal) (hf : ∀ x, x.val < 64 → f x = 0) : ∑ x, f x = ∑ x : Fin 64, f ⟨64 + x.val, by omega⟩ := by
  rw [Fin.sum_univ_add (a := 64) (b := 64) f]
  rw [Finset.sum_eq_zero (s := Finset.univ) (f := fun x : Fin 64 => f (Fin.castAdd 64 x)) fun x _ => hf _ (by simp), zero_add]
  rfl

/-! ## The scores and their powers -/

theorem host_scale : val_main_v7 (F := Ideal) = fun _ => scale := by
  have e : ofBits .f32 1119879168#32 = ((96 : ℝ) : EReal) := by
    simp [Ideal.ofBits, Ideal.ieee, -EReal.coe_mul]; norm_num
  have o : ofBits .f32 1065353216#32 = ((1 : ℝ) : EReal) := by
    simp [Ideal.ofBits, Ideal.ieee, -EReal.coe_mul]; norm_num
  funext y
  refine (show val_main_v7 (F := Ideal) y = div (ofBits .f32 1065353216#32) (Ideal.sqrt (ofBits .f32 1119879168#32)) from rfl).trans ?_
  rw [e, o, Ideal.sqrt_coe, if_neg (by norm_num), Ideal.div_coe (Real.sqrt_pos.mpr (by norm_num)).ne', ← EReal.coe_mul, one_mul, one_div, scale]

theorem key (d : Fin 96) : val_main_v4 (F := Ideal) x1 x2 (ix4 b i h d) = rowK x1 x2 b h i ⟨d.val, by omega⟩ := by
  unfold val_main_v4 val_main_v3 val_main_v2 val_main_v1
  pointwise
  rw [rowK]
  by_cases hd : d.val < 64
  · rw [dif_pos hd, if_pos (show (⟨d.val, by omega⟩ : Fin 128).val < 64 from hd)]
  · rw [dif_neg hd, if_neg (show ¬(⟨d.val, by omega⟩ : Fin 128).val < 64 from hd), dif_pos (show (⟨d.val, by omega⟩ : Fin 128).val < 96 from d.isLt)]

theorem score : val_main_v17_0 (F := Ideal) x0 x1 x2 (ix4 b h i j) = scores (rowQ x0 b h) (rowK x1 x2 b h) i j := by
  have e : val_main_v17_0 (F := Ideal) x0 x1 x2 (ix4 b h i j)
      = Scalar.select (IntOp.cmpi .sle (BitVec.ofNat 32 j.val) (BitVec.ofNat 32 i.val)) ((∑ x, x0 (ix4 b i h x) * val_main_v4 (F := Ideal) x1 x2 (ix4 b j h x)) * scale) (ofBits .f32 4286578688#32) := by
    unfold val_main_v17_0 val_main_v17_1 val_main_call0_v2 val_main_call0_v0 val_main_cst_1 val_main_v16 val_main_v15 val_main_v14 val_main_v13 val_main_v12 val_main_v11 val_main_v10 val_main_v9 val_main_v8 val_main_v0
    rw [host_scale]
    pointwise
    rfl
  rw [e, select_sle _ _ (by omega) (by omega), scores, neg_inf]
  congr 2
  rw [sum_96 _ fun x hx => by rw [rowQ, dif_neg (by omega), zero_mul]]
  refine Finset.sum_congr rfl fun x _ => ?_
  rw [key, rowQ, dif_pos (show (⟨x.val, by omega⟩ : Fin 128).val < 96 from x.isLt)]

theorem top : val_main_v25 (F := Ideal) x0 x1 x2 (ix3 b h i)
    = Finset.fold max (ofBits .f32 4286578688#32) (fun x => scores (rowQ x0 b h) (rowK x1 x2 b h) i x) Finset.univ := by
  have e : val_main_v18 (F := Ideal) x0 x1 x2 (ix3 b h i) = Finset.fold max (ofBits .f32 4286578688#32) (fun x => val_main_v17_0 (F := Ideal) x0 x1 x2 (ix4 b h i x)) Finset.univ := by
    unfold val_main_v18 val_main_cst_2
    generalize val_main_v17_0 (F := Ideal) x0 x1 x2 = s
    pointwise
  rw [val_main_v25_apply, val_main_v24_apply, val_main_cst_4_apply, e]
  refine (show max (ofBits .f32 4286578688#32) _ = _ from ?_).trans (congrArg (fun f => Finset.fold max (ofBits .f32 4286578688#32) f Finset.univ) (funext fun x => score x0 x1 x2 b h i x))
  rw [neg_inf]
  exact max_eq_right bot_le

theorem powers : val_main_v38 (F := Ideal) x0 x1 x2 (ix4 b h i j) = power (scores (rowQ x0 b h) (rowK x1 x2 b h) i) j := by
  have e : val_main_v38 (F := Ideal) x0 x1 x2 (ix4 b h i j) = Ideal.exp (val_main_v17_0 (F := Ideal) x0 x1 x2 (ix4 b h i j) - val_main_v25 (F := Ideal) x0 x1 x2 (ix3 b h i)) := by
    unfold val_main_v38 val_main_v37 val_main_v36 val_main_v35
    generalize val_main_v17_0 (F := Ideal) x0 x1 x2 = s
    generalize val_main_v25 (F := Ideal) x0 x1 x2 = t
    pointwise
  rw [e, score, top, power]

theorem dweights : val_main_v49 (F := Ideal) x1 x3 (ix4 b h i j) = dweight (rowG x3 b h i) (rowV x1 b h) j := by
  have e : val_main_v49 (F := Ideal) x1 x3 (ix4 b h i j) = ∑ x : Fin 64, x3 (ix4 b i h x) * x1 (ix4 b j h ⟨64 + x.val, by omega⟩) := by
    unfold val_main_v49 val_main_v48 val_main_v5
    pointwise
  rw [e, dweight, sum_64]
  · refine Finset.sum_congr rfl fun x _ => ?_
    rw [sge_64, if_pos (by simp), rowG, dif_pos (by simp), rowV]
    congr 2
    exact congrArg (ix4 b i h) (Fin.ext (Nat.add_sub_cancel_left ..).symm)
  · intro x hx
    rw [sge_64, if_neg (by omega)]

/-! ## The gradients, for finite queries and keys -/

section Finite
variable (fq : ∀ y, ∃ r : ℝ, x0 y = (r : EReal)) (fkv : ∀ b i h (d : Fin 128), d.val < 64 → ∃ r : ℝ, x1 (ix4 b i h d) = (r : EReal)) (fkpe : ∀ y, ∃ r : ℝ, x2 y = (r : EReal))

include fq in
theorem real_q (x : Fin 128) : ∃ r : ℝ, rowQ x0 b h i x = (r : EReal) := by
  unfold rowQ
  split
  · exact fq _
  · exact ⟨0, rfl⟩
include fkv fkpe in
theorem real_k (x : Fin 128) : ∃ r : ℝ, rowK x1 x2 b h i x = (r : EReal) := by
  unfold rowK
  split
  · exact fkv _ _ _ _ ‹_›
  · split
    · exact fkpe _
    · exact ⟨0, rfl⟩

include fq fkv fkpe
theorem real_score (hij : j.val ≤ i.val) : ∃ r : ℝ, scores (rowQ x0 b h) (rowK x1 x2 b h) i j = (r : EReal) := by
  choose q hq using real_q x0 b h i fq
  choose k hk using real_k x1 x2 b h j fkv fkpe
  refine ⟨(∑ x, q x * k x) * (Real.sqrt 96)⁻¹, ?_⟩
  rw [scores, if_pos hij, scale]
  simp only [hq, hk]
  rw [EReal.coe_mul, Ret.coe_sum]
  simp only [EReal.coe_mul]
theorem real_scores (j : Fin 2176) : scores (rowQ x0 b h) (rowK x1 x2 b h) i j = ⊥ ∨ ∃ r : ℝ, scores (rowQ x0 b h) (rowK x1 x2 b h) i j = (r : EReal) := by
  by_cases hij : j.val ≤ i.val
  · exact Or.inr (real_score x0 x1 x2 b h i j fq fkv fkpe hij)
  · exact Or.inl (scores_later _ _ i j (by omega))

theorem weights : val_main_v42 (F := Ideal) x0 x1 x2 (ix4 b h i j) = weight (scores (rowQ x0 b h) (rowK x1 x2 b h) i) j := by
  have e : val_main_v42 (F := Ideal) x0 x1 x2 (ix4 b h i j) = div (val_main_v38 (F := Ideal) x0 x1 x2 (ix4 b h i j)) (∑ x, val_main_v38 (F := Ideal) x0 x1 x2 (ix4 b h i x)) := by
    unfold val_main_v42 val_main_v41 val_main_v40 val_main_v39 val_main_cst_10
    generalize val_main_v38 (F := Ideal) x0 x1 x2 = s
    pointwise
  rw [e, weight_eq_div _ (real_scores x0 x1 x2 b h i fq fkv fkpe) i (real_score x0 x1 x2 b h i i fq fkv fkpe le_rfl)]
  simp only [powers]

theorem products : val_main_v66 (F := Ideal) x0 x1 x2 x3 (ix4 b h i j) = dscores (rowQ x0 b h) (rowK x1 x2 b h) (rowG x3 b h) (rowV x1 b h) i j := by
  have e : val_main_v66 (F := Ideal) x0 x1 x2 x3 (ix4 b h i j) = Scalar.select (IntOp.cmpi .sle (BitVec.ofNat 32 j.val) (BitVec.ofNat 32 i.val))
      ((div (val_main_v49 (F := Ideal) x1 x3 (ix4 b h i j)) (∑ x, val_main_v38 (F := Ideal) x0 x1 x2 (ix4 b h i x))
        + -∑ x, val_main_v49 (F := Ideal) x1 x3 (ix4 b h i x) * div 1 ((∑ x, val_main_v38 (F := Ideal) x0 x1 x2 (ix4 b h i x)) * ∑ x, val_main_v38 (F := Ideal) x0 x1 x2 (ix4 b h i x)) * val_main_v38 (F := Ideal) x0 x1 x2 (ix4 b h i x))
        * val_main_v38 (F := Ideal) x0 x1 x2 (ix4 b h i j) * scale) 0 := by
    unfold val_main_v66 val_main_v65 val_main_v64 val_main_v17_1 val_main_v16 val_main_v15 val_main_v14 val_main_v13 val_main_v12 val_main_v11 val_main_v0 val_main_v63 val_main_call1_v0 val_main_call1_cst val_main_v62 val_main_v61 val_main_v60 val_main_cst_13 val_main_v59 val_main_v58 val_main_v57 val_main_v56 val_main_v55 val_main_cst_12 val_main_v54 val_main_v53 val_main_v52 val_main_v45 val_main_v44 val_main_cst_11 val_main_v43 val_main_v40 val_main_v39 val_main_cst_10
    rw [host_scale]
    generalize val_main_v38 (F := Ideal) x0 x1 x2 = s
    generalize val_main_v49 (F := Ideal) x1 x3 = t
    pointwise
    exact congrArg (fun u => Scalar.select _ ((_ + u) * _ * _) 0) (Fin.sum_univ_one _)
  rw [e, select_sle _ _ (by omega) (by omega), dscores]
  by_cases hij : j.val ≤ i.val
  · rw [if_pos hij, dscore_eq _ (real_scores x0 x1 x2 b h i fq fkv fkpe) i (real_score x0 x1 x2 b h i i fq fkv fkpe le_rfl)]
    simp only [powers, dweights]
  · rw [if_neg hij, dscore_masked _ _ _ (scores_later _ _ i j (by omega))]

theorem dq (d : Fin 128) : val_main_v80 (F := Ideal) x0 x1 x2 x3 (ix3 b i (tile rfl h d)) = headDq (rowQ x0 b h) (rowK x1 x2 b h) (rowG x3 b h) (rowV x1 b h) i d := by
  have e : val_main_v80 (F := Ideal) x0 x1 x2 x3 (ix3 b i (tile rfl h d)) = if hd : d.val < 96 then ∑ x, val_main_v66 (F := Ideal) x0 x1 x2 x3 (ix4 b h i x) * val_main_v4 (F := Ideal) x1 x2 (ix4 b x h ⟨d.val, hd⟩) else 0 := by
    unfold val_main_v80 val_main_v79 val_main_call2_v0 val_main_c val_main_v70 val_main_v69
    generalize val_main_v66 (F := Ideal) x0 x1 x2 x3 = s
    generalize val_main_v4 (F := Ideal) x1 x2 = t
    pointwise
    simp only [tile_div, tile_mod, h.isLt, true_and, Fin.eta, from_int]
  rw [e, headDq]
  by_cases hd : d.val < 96
  · rw [dif_pos hd]
    exact Finset.sum_congr rfl fun x _ => by rw [products x0 x1 x2 x3 b h i x fq fkv fkpe, key]
  · rw [dif_neg hd]
    exact (Finset.sum_eq_zero fun x _ => by rw [rowK, if_neg (by omega), dif_neg hd, mul_zero]).symm

theorem dkv (d : Fin 128) : val_main_v81 (F := Ideal) x0 x1 x2 x3 (ix3 b j (tile rfl h d))
    = if d.val < 64 then headDk (rowQ x0 b h) (rowK x1 x2 b h) (rowG x3 b h) (rowV x1 b h) j d else headDv (rowQ x0 b h) (rowK x1 x2 b h) (rowG x3 b h) j d := by
  have e : val_main_v81 (F := Ideal) x0 x1 x2 x3 (ix3 b j (tile rfl h d))
      = (if hd : 64 ≤ d.val then ∑ x, x3 (ix4 b x h ⟨d.val - 64, by omega⟩) * val_main_v42 (F := Ideal) x0 x1 x2 (ix4 b h x j) else 0)
        + (if hd : d.val < 64 then ∑ x, val_main_v66 (F := Ideal) x0 x1 x2 x3 (ix4 b h x j) * x0 (ix4 b x h ⟨d.val, by omega⟩) else 0) := by
    unfold val_main_v81 val_main_v78 val_main_v77 val_main_v72 val_main_cst_17 val_main_v71 val_main_cst_14 val_main_v51 val_main_v50 val_main_v48 val_main_v68 val_main_v67
    generalize val_main_v66 (F := Ideal) x0 x1 x2 x3 = s
    generalize val_main_v42 (F := Ideal) x0 x1 x2 = t
    pointwise
    have h2 : d.val - 64 < 64 := by omega
    simp only [tile_div, tile_mod, h.isLt, h2, true_and, and_true, Fin.eta]
  rw [e]
  by_cases hd : d.val < 64
  · rw [dif_neg (by omega), dif_pos hd, if_pos hd, zero_add, headDk]
    exact Finset.sum_congr rfl fun x _ => by rw [products x0 x1 x2 x3 b h x j fq fkv fkpe, rowQ, dif_pos (by omega)]
  · rw [dif_pos (by omega), dif_neg hd, if_neg hd, add_zero, headDv]
    exact Finset.sum_congr rfl fun x _ => by
      rw [sge_64, if_pos (by omega), weights x0 x1 x2 b h x j fq fkv fkpe, rowG, dif_pos (by omega), mul_comm]

theorem dkpe (d : Fin 128) : val_main_v82 (F := Ideal) x0 x1 x2 x3 (ix3 b j d)
    = ∑ h, if 64 ≤ d.val then headDk (rowQ x0 b h) (rowK x1 x2 b h) (rowG x3 b h) (rowV x1 b h) j d else 0 := by
  have e : val_main_v82 (F := Ideal) x0 x1 x2 x3 (ix3 b j d)
      = if hd : 64 ≤ d.val ∧ d.val < 96 then ∑ h, ∑ x, val_main_v66 (F := Ideal) x0 x1 x2 x3 (ix4 b h x j) * x0 (ix4 b x h ⟨d.val, hd.2⟩) else 0 := by
    unfold val_main_v82 val_main_call3_v0 val_main_c_18 val_main_v76 val_main_cst_16 val_main_v75 val_main_v74 val_main_cst_15 val_main_v73 val_main_v68 val_main_v67
    generalize val_main_v66 (F := Ideal) x0 x1 x2 x3 = s
    pointwise
    by_cases hd : 64 ≤ d.val ∧ d.val < 96
    · rw [dif_pos ⟨hd.1, by omega⟩, dif_pos hd]
      refine (Fin.sum_univ_one _).trans (Finset.sum_congr rfl fun h _ => Finset.sum_congr rfl fun x _ => congrArg (s (ix4 b h x j) * ·) (congrArg x0 (congrArg (ix4 b x h) (Fin.ext ?_))))
      exact Nat.add_sub_cancel' hd.1
    · rw [dif_neg (by omega), dif_neg hd, from_int]
  rw [e]
  by_cases h1 : 64 ≤ d.val
  · simp only [if_pos h1]
    by_cases h2 : d.val < 96
    · rw [dif_pos ⟨h1, h2⟩]
      exact Finset.sum_congr rfl fun h _ => Finset.sum_congr rfl fun x _ => by rw [products x0 x1 x2 x3 b h x j fq fkv fkpe, rowQ, dif_pos h2]
    · rw [dif_neg (by omega)]
      exact (Finset.sum_eq_zero fun h _ => Finset.sum_eq_zero fun x _ => by rw [rowQ, dif_neg h2, mul_zero]).symm
  · rw [dif_neg (by omega)]
    simp only [if_neg h1, Finset.sum_const_zero]

end Finite

end Cert.ReferenceAttnBwdIdeal.AttnRef

end
-- ==== Proof.AttnFinal.lean ====
module

public import proofs.«01_k».proof.Proof.AttnRun
public import proofs.«01_k».proof.Proof.AttnRef
public import proofs.«01_k».proof.Proof.RetFinite
public import proofs.«01_k».proof.Proof.Gen.Pre_finite_attn_args

@[expose] public section

noncomputable section

/-! # The gradient of attention

The kernel's three arrays are the reference's, when the queries and the keys are finite. -/

namespace Cert.KernelAttnBwdIdeal.Attn

open Cert Cert.Prod Cert.Attn Cert.KernelAttnBwdIdeal Cert.KernelAttnBwdIdeal.Gen Cert.KernelAttnBwdIdeal.Value
open Idealize.ShloMosaic Idealize.ShloMosaic.TcCoe Idealize.SL.Sem

/-! ## What the precondition says -/

section Finite
open Cert.Pre_finite_attn_args
variable [Facts] (x0 : Vec Ideal S2x2176x8x96 .f32) (x1 : Vec Ideal S2x2176x8x128 .f32) (x2 : Vec Ideal S2x2176x32 .f32) (x3 : Vec Ideal S2x2176x8x64 .f32)

theorem finite_q (h : (fn (F := Ideal) x0 x1 x2 x3).1 = fun _ => 1#1) (y : S2x2176x8x96.Idx) : ∃ r : ℝ, x0 y = (r : EReal) :=
  ⟨_, Ret.real_of_finite _ (congrFun h y)⟩
theorem finite_k (h : (fn (F := Ideal) x0 x1 x2 x3).2.1 = fun _ => 1#1) (b : Fin 2) (i : Fin 2176) (k : Fin 8) (d : Fin 128) (hd : d.val < 64) :
    ∃ r : ℝ, x1 (ix4 b i k d) = (r : EReal) := by
  have e : ∀ y : EReal, x1 (ix4 b i k d) = y → FloatOps.cmpf (F := Ideal) (φ := .f32) .olt (FloatOps.absf (F := Ideal) (φ := .f32) y) (FloatOps.ofBits (F := Ideal) .f32 0x7F800000#32) = 1#1 → y = ((y.toReal : ℝ) : EReal) :=
    fun y _ => Ret.real_of_finite y
  refine ⟨_, e _ rfl ?_⟩
  have h' := congrFun h (ix4 b i k ⟨d.val, hd⟩)
  unfold fn at h'
  pointwise at h'
  exact h'
theorem finite_kpe (h : (fn (F := Ideal) x0 x1 x2 x3).2.2 = fun _ => 1#1) (y : S2x2176x32.Idx) : ∃ r : ℝ, x2 y = (r : EReal) :=
  ⟨_, Ret.real_of_finite _ (congrFun h y)⟩

end Finite

/-! ## The arrays -/

variable (m : (ℓ : Loc nD τ sig) → Buf (Elt Ideal) ℓ) (c : Dev nD)

theorem wide_tiled (y : S2x2176x1024.Idx) : ∃ (b : Fin 2) (i : Fin 2176) (h : Fin 8) (d : Fin 128), y = ix3 b i (tile rfl h d) := by
  obtain ⟨h, d, e⟩ := exists_tile (show 1024 = 8 * 128 from rfl) (y 2)
  exact ⟨y 0, y 1, h, d, by rw [← e]; exact eq_ix3 y⟩

theorem sum_shared (Q K G V : Fin 8 → Fin 2176 → Fin 128 → EReal) (i : Fin 2176) (d : Fin 128) : ∑ h, shared (Q h) (K h) (G h) (V h) i d
    = ∑ h, if 64 ≤ d.val then headDk (Q h) (K h) (G h) (V h) i d else 0 := Finset.sum_congr rfl fun _ _ => sge_64 d _ _

section Same
variable (fq : ∀ y, ∃ r : ℝ, aq m c y = (r : EReal)) (fkv : ∀ b i h (d : Fin 128), d.val < 64 → ∃ r : ℝ, akv m c (ix4 b i h d) = (r : EReal))
  (fkpe : ∀ y, ∃ r : ℝ, akpe m c y = (r : EReal))
include fq fkv fkpe

theorem same4 : (dats m 0 c).arrAt 4 cfg0.N = Cert.ReferenceAttnBwdIdeal.Read.val_main_v80 (F := Ideal) (aq m c) (akv m c) (akpe m c) (ado m c) := by
  funext y
  obtain ⟨b, i, h, d, rfl⟩ := wide_tiled y
  exact (arr4 m c b h i d).trans (Cert.ReferenceAttnBwdIdeal.AttnRef.dq _ _ _ _ b h i fq fkv fkpe d).symm
theorem same5 : (dats m 0 c).arrAt 5 cfg0.N = Cert.ReferenceAttnBwdIdeal.Read.val_main_v81 (F := Ideal) (aq m c) (akv m c) (akpe m c) (ado m c) := by
  funext y
  obtain ⟨b, i, h, d, rfl⟩ := wide_tiled y
  refine (arr5 m c b h i d).trans (Eq.trans ?_ (Cert.ReferenceAttnBwdIdeal.AttnRef.dkv _ _ _ _ b h i fq fkv fkpe d).symm)
  exact slt_64 d _ _
theorem same6 : (dats m 0 c).arrAt 6 cfg0.N = Cert.ReferenceAttnBwdIdeal.Read.val_main_v82 (F := Ideal) (aq m c) (akv m c) (akpe m c) (ado m c) := by
  funext y
  obtain ⟨b, i, d, rfl⟩ : ∃ (b : Fin 2) (i : Fin 2176) (d : Fin 128), y = ix3 b i d := ⟨y 0, y 1, y 2, eq_ix3 y⟩
  refine (arr6 m c b i d).trans (Eq.trans ?_ (Cert.ReferenceAttnBwdIdeal.AttnRef.dkpe _ _ _ _ b i fq fkv fkpe d).symm)
  exact sum_shared _ _ _ _ i d

end Same

/-- The mask's stand-in is read as minus infinity, the scale's as the inverse root of 96. -/
theorem preserves : Cert.preserves_KernelAttnBwd_KernelAttnBwdIdeal :=
  ⟨IdealRules.named_const.statement Cert.KernelAttnBwdIdeal.κ "scale" .f32 0x3DD105EC#32 (((Real.sqrt 96)⁻¹ : ℝ) : EReal) rfl,
    IdealRules.named_const.statement Cert.KernelAttnBwdIdeal.κ "mask" .f32 0xF149F2CA#32 ⊥ rfl⟩

/-- The value claim: from equal arguments with finite queries and keys both programs end, with equal gradients. -/
theorem algebraic : Cert.algebraic_KernelAttnBwdIdeal_ReferenceAttnBwdIdeal_pre_finite_attn_args (hKernelAttnBwdIdeal := Cert.KernelAttnBwdIdeal.Gen.facts)
    (hReferenceAttnBwdIdeal := Cert.ReferenceAttnBwdIdeal.Gen.facts) (hPre_finite_attn_args := Cert.Pre_finite_attn_args.Gen.facts) := by
  intro m g m' g' hpre hin
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ?_) (Cert.ReferenceAttnBwdIdeal.Value.run m' g')
  obtain ⟨p0, p1, p2⟩ := hpre c
  obtain ⟨i0, i1, i2, i3⟩ := hin c
  obtain ⟨h0, h1, h2, hk⟩ := h c
  have fq := finite_q _ _ _ _ p0
  have fkv := finite_k _ _ _ _ p1
  have fkpe := finite_kpe _ _ _ _ p2
  refine ⟨h0.trans ?_, h1.trans ?_, h2.trans ?_, hk⟩
  · rw [Cert.ReferenceAttnBwdIdeal.Read.val_main_v80_eq, i0, i1, i2, i3]; exact (same4 m c fq fkv fkpe).symm
  · rw [Cert.ReferenceAttnBwdIdeal.Read.val_main_v81_eq, i0, i1, i2, i3]; exact (same5 m c fq fkv fkpe).symm
  · rw [Cert.ReferenceAttnBwdIdeal.Read.val_main_v82_eq, i0, i1, i2, i3]; exact (same6 m c fq fkv fkpe).symm

end Cert.KernelAttnBwdIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_args
public import proofs.«01_k».proof.Proof.Gen.KernelW1Fwd
public import proofs.«01_k».proof.Proof.Gen.KernelW1Fwd.Skeleton
public import proofs.«01_k».proof.Proof.Gen.KernelW1Fwd.Launch
public import proofs.«01_k».proof.Proof.Gen.KernelW1Fwd.Points
public import proofs.«01_k».proof.Proof.Gen.KernelW1Fwd.Frame
public import proofs.«01_k».proof.Proof.Gen.KernelW1FwdIdeal
public import proofs.«01_k».proof.Proof.Gen.KernelW1FwdIdeal.Skeleton
public import proofs.«01_k».proof.Proof.Gen.KernelW1FwdIdeal.Launch
public import proofs.«01_k».proof.Proof.Gen.KernelW1FwdIdeal.Points
public import proofs.«01_k».proof.Proof.Gen.KernelW1FwdIdeal.Frame
public import proofs.«01_k».proof.Proof.Gen.KernelW1FwdIdeal.Value
public import proofs.«01_k».proof.Proof.Gen.ReferenceW1FwdIdeal
public import proofs.«01_k».proof.Proof.Gen.ReferenceW1FwdIdeal.Run
public import proofs.«01_k».proof.Proof.Gen.ReferenceW1FwdIdeal.Read
public import proofs.«01_k».proof.Proof.Gen.KernelW2Fwd
public import proofs.«01_k».proof.Proof.Gen.KernelW2Fwd.Skeleton
public import proofs.«01_k».proof.Proof.Gen.KernelW2Fwd.Launch
public import proofs.«01_k».proof.Proof.Gen.KernelW2Fwd.Points
public import proofs.«01_k».proof.Proof.Gen.KernelW2Fwd.Frame
public import proofs.«01_k».proof.Proof.Gen.KernelW2FwdIdeal
public import proofs.«01_k».proof.Proof.Gen.KernelW2FwdIdeal.Skeleton
public import proofs.«01_k».proof.Proof.Gen.KernelW2FwdIdeal.Launch
public import proofs.«01_k».proof.Proof.Gen.KernelW2FwdIdeal.Points
public import proofs.«01_k».proof.Proof.Gen.KernelW2FwdIdeal.Frame
public import proofs.«01_k».proof.Proof.Gen.KernelW2FwdIdeal.Value
public import proofs.«01_k».proof.Proof.Gen.ReferenceW2FwdIdeal
public import proofs.«01_k».proof.Proof.Gen.ReferenceW2FwdIdeal.Run
public import proofs.«01_k».proof.Proof.Gen.ReferenceW2FwdIdeal.Read
public import proofs.«01_k».proof.Proof.Gen.KernelW2Dw
public import proofs.«01_k».proof.Proof.Gen.KernelW2Dw.Skeleton
public import proofs.«01_k».proof.Proof.Gen.KernelW2Dw.Launch
public import proofs.«01_k».proof.Proof.Gen.KernelW2Dw.Points
public import proofs.«01_k».proof.Proof.Gen.KernelW2Dw.Frame
public import proofs.«01_k».proof.Proof.Gen.KernelW2DwIdeal
public import proofs.«01_k».proof.Proof.Gen.KernelW2DwIdeal.Skeleton
public import proofs.«01_k».proof.Proof.Gen.KernelW2DwIdeal.Launch
public import proofs.«01_k».proof.Proof.Gen.KernelW2DwIdeal.Points
public import proofs.«01_k».proof.Proof.Gen.KernelW2DwIdeal.Frame
public import proofs.«01_k».proof.Proof.Gen.KernelW2DwIdeal.Value
public import proofs.«01_k».proof.Proof.Gen.ReferenceW2DwIdeal
public import proofs.«01_k».proof.Proof.Gen.ReferenceW2DwIdeal.Run
public import proofs.«01_k».proof.Proof.Gen.ReferenceW2DwIdeal.Read
public import proofs.«01_k».proof.Proof.Gen.KernelW2Dx
public import proofs.«01_k».proof.Proof.Gen.KernelW2Dx.Skeleton
public import proofs.«01_k».proof.Proof.Gen.KernelW2Dx.Launch
public import proofs.«01_k».proof.Proof.Gen.KernelW2Dx.Points
public import proofs.«01_k».proof.Proof.Gen.KernelW2Dx.Frame
public import proofs.«01_k».proof.Proof.Gen.KernelW2DxIdeal
public import proofs.«01_k».proof.Proof.Gen.KernelW2DxIdeal.Skeleton
public import proofs.«01_k».proof.Proof.Gen.KernelW2DxIdeal.Launch
public import proofs.«01_k».proof.Proof.Gen.KernelW2DxIdeal.Points
public import proofs.«01_k».proof.Proof.Gen.KernelW2DxIdeal.Frame
public import proofs.«01_k».proof.Proof.Gen.KernelW2DxIdeal.Value
public import proofs.«01_k».proof.Proof.Gen.ReferenceW2DxIdeal
public import proofs.«01_k».proof.Proof.Gen.ReferenceW2DxIdeal.Run
public import proofs.«01_k».proof.Proof.Gen.ReferenceW2DxIdeal.Read
public import proofs.«01_k».proof.Proof.Gen.KernelW1Dw
public import proofs.«01_k».proof.Proof.Gen.KernelW1Dw.Skeleton
public import proofs.«01_k».proof.Proof.Gen.KernelW1Dw.Launch
public import proofs.«01_k».proof.Proof.Gen.KernelW1Dw.Points
public import proofs.«01_k».proof.Proof.Gen.KernelW1Dw.Frame
public import proofs.«01_k».proof.Proof.Gen.KernelW1DwIdeal
public import proofs.«01_k».proof.Proof.Gen.KernelW1DwIdeal.Skeleton
public import proofs.«01_k».proof.Proof.Gen.KernelW1DwIdeal.Launch
public import proofs.«01_k».proof.Proof.Gen.KernelW1DwIdeal.Points
public import proofs.«01_k».proof.Proof.Gen.KernelW1DwIdeal.Frame
public import proofs.«01_k».proof.Proof.Gen.KernelW1DwIdeal.Value
public import proofs.«01_k».proof.Proof.Gen.ReferenceW1DwIdeal
public import proofs.«01_k».proof.Proof.Gen.ReferenceW1DwIdeal.Run
public import proofs.«01_k».proof.Proof.Gen.ReferenceW1DwIdeal.Read
public import proofs.«01_k».proof.Proof.Gen.KernelW1Dx
public import proofs.«01_k».proof.Proof.Gen.KernelW1Dx.Skeleton
public import proofs.«01_k».proof.Proof.Gen.KernelW1Dx.Launch
public import proofs.«01_k».proof.Proof.Gen.KernelW1Dx.Points
public import proofs.«01_k».proof.Proof.Gen.KernelW1Dx.Frame
public import proofs.«01_k».proof.Proof.Gen.KernelW1DxIdeal
public import proofs.«01_k».proof.Proof.Gen.KernelW1DxIdeal.Skeleton
public import proofs.«01_k».proof.Proof.Gen.KernelW1DxIdeal.Launch
public import proofs.«01_k».proof.Proof.Gen.KernelW1DxIdeal.Points
public import proofs.«01_k».proof.Proof.Gen.KernelW1DxIdeal.Frame
public import proofs.«01_k».proof.Proof.Gen.KernelW1DxIdeal.Value
public import proofs.«01_k».proof.Proof.Gen.ReferenceW1DxIdeal
public import proofs.«01_k».proof.Proof.Gen.ReferenceW1DxIdeal.Run
public import proofs.«01_k».proof.Proof.Gen.ReferenceW1DxIdeal.Read
public import proofs.«01_k».proof.Proof.Gen.KernelInFwd
public import proofs.«01_k».proof.Proof.Gen.KernelInFwd.Skeleton
public import proofs.«01_k».proof.Proof.Gen.KernelInFwd.Launch
public import proofs.«01_k».proof.Proof.Gen.KernelInFwd.Points
public import proofs.«01_k».proof.Proof.Gen.KernelInFwd.Frame
public import proofs.«01_k».proof.Proof.Gen.KernelInFwdIdeal
public import proofs.«01_k».proof.Proof.Gen.KernelInFwdIdeal.Skeleton
public import proofs.«01_k».proof.Proof.Gen.KernelInFwdIdeal.Launch
public import proofs.«01_k».proof.Proof.Gen.KernelInFwdIdeal.Points
public import proofs.«01_k».proof.Proof.Gen.KernelInFwdIdeal.Frame
public import proofs.«01_k».proof.Proof.Gen.KernelInFwdIdeal.Value
public import proofs.«01_k».proof.Proof.Gen.ReferenceInFwdIdeal
public import proofs.«01_k».proof.Proof.Gen.ReferenceInFwdIdeal.Run
public import proofs.«01_k».proof.Proof.Gen.ReferenceInFwdIdeal.Read
public import proofs.«01_k».proof.Proof.Gen.KernelInDw
public import proofs.«01_k».proof.Proof.Gen.KernelInDw.Skeleton
public import proofs.«01_k».proof.Proof.Gen.KernelInDw.Launch
public import proofs.«01_k».proof.Proof.Gen.KernelInDw.Points
public import proofs.«01_k».proof.Proof.Gen.KernelInDw.Frame
public import proofs.«01_k».proof.Proof.Gen.KernelInDwIdeal
public import proofs.«01_k».proof.Proof.Gen.KernelInDwIdeal.Skeleton
public import proofs.«01_k».proof.Proof.Gen.KernelInDwIdeal.Launch
public import proofs.«01_k».proof.Proof.Gen.KernelInDwIdeal.Points
public import proofs.«01_k».proof.Proof.Gen.KernelInDwIdeal.Frame
public import proofs.«01_k».proof.Proof.Gen.KernelInDwIdeal.Value
public import proofs.«01_k».proof.Proof.Gen.ReferenceInDwIdeal
public import proofs.«01_k».proof.Proof.Gen.ReferenceInDwIdeal.Run
public import proofs.«01_k».proof.Proof.Gen.ReferenceInDwIdeal.Read
public import proofs.«01_k».proof.Proof.Gen.KernelInDx
public import proofs.«01_k».proof.Proof.Gen.KernelInDx.Skeleton
public import proofs.«01_k».proof.Proof.Gen.KernelInDx.Launch
public import proofs.«01_k».proof.Proof.Gen.KernelInDx.Points
public import proofs.«01_k».proof.Proof.Gen.KernelInDx.Frame
public import proofs.«01_k».proof.Proof.Gen.KernelInDxIdeal
public import proofs.«01_k».proof.Proof.Gen.KernelInDxIdeal.Skeleton
public import proofs.«01_k».proof.Proof.Gen.KernelInDxIdeal.Launch
public import proofs.«01_k».proof.Proof.Gen.KernelInDxIdeal.Points
public import proofs.«01_k».proof.Proof.Gen.KernelInDxIdeal.Frame
public import proofs.«01_k».proof.Proof.Gen.KernelInDxIdeal.Value
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.Gen.KernelOutFwd
public import proofs.«01_k».proof.Proof.Gen.KernelOutFwd.Skeleton
public import proofs.«01_k».proof.Proof.Gen.KernelOutFwd.Launch
public import proofs.«01_k».proof.Proof.Gen.KernelOutFwd.Points
public import proofs.«01_k».proof.Proof.Gen.KernelOutFwd.Frame
public import proofs.«01_k».proof.Proof.Gen.KernelOutFwdIdeal
public import proofs.«01_k».proof.Proof.Gen.KernelOutFwdIdeal.Skeleton
public import proofs.«01_k».proof.Proof.Gen.KernelOutFwdIdeal.Launch
public import proofs.«01_k».proof.Proof.Gen.KernelOutFwdIdeal.Points
public import proofs.«01_k».proof.Proof.Gen.KernelOutFwdIdeal.Frame
public import proofs.«01_k».proof.Proof.Gen.KernelOutFwdIdeal.Value
public import proofs.«01_k».proof.Proof.Gen.ReferenceOutFwdIdeal
public import proofs.«01_k».proof.Proof.Gen.ReferenceOutFwdIdeal.Run
public import proofs.«01_k».proof.Proof.Gen.ReferenceOutFwdIdeal.Read
public import proofs.«01_k».proof.Proof.Gen.KernelOutDw
public import proofs.«01_k».proof.Proof.Gen.KernelOutDw.Skeleton
public import proofs.«01_k».proof.Proof.Gen.KernelOutDw.Launch
public import proofs.«01_k».proof.Proof.Gen.KernelOutDw.Points
public import proofs.«01_k».proof.Proof.Gen.KernelOutDw.Frame
public import proofs.«01_k».proof.Proof.Gen.KernelOutDwIdeal
public import proofs.«01_k».proof.Proof.Gen.KernelOutDwIdeal.Skeleton
public import proofs.«01_k».proof.Proof.Gen.KernelOutDwIdeal.Launch
public import proofs.«01_k».proof.Proof.Gen.KernelOutDwIdeal.Points
public import proofs.«01_k».proof.Proof.Gen.KernelOutDwIdeal.Frame
public import proofs.«01_k».proof.Proof.Gen.KernelOutDwIdeal.Value
public import proofs.«01_k».proof.Proof.Gen.ReferenceOutDwIdeal
public import proofs.«01_k».proof.Proof.Gen.ReferenceOutDwIdeal.Run
public import proofs.«01_k».proof.Proof.Gen.ReferenceOutDwIdeal.Read
public import proofs.«01_k».proof.Proof.Gen.KernelOutDx
public import proofs.«01_k».proof.Proof.Gen.KernelOutDx.Skeleton
public import proofs.«01_k».proof.Proof.Gen.KernelOutDx.Launch
public import proofs.«01_k».proof.Proof.Gen.KernelOutDx.Points
public import proofs.«01_k».proof.Proof.Gen.KernelOutDx.Frame
public import proofs.«01_k».proof.Proof.Gen.KernelOutDxIdeal
public import proofs.«01_k».proof.Proof.Gen.KernelOutDxIdeal.Skeleton
public import proofs.«01_k».proof.Proof.Gen.KernelOutDxIdeal.Launch
public import proofs.«01_k».proof.Proof.Gen.KernelOutDxIdeal.Points
public import proofs.«01_k».proof.Proof.Gen.KernelOutDxIdeal.Frame
public import proofs.«01_k».proof.Proof.Gen.KernelOutDxIdeal.Value
public import proofs.«01_k».proof.Proof.Gen.ReferenceOutDxIdeal
public import proofs.«01_k».proof.Proof.Gen.ReferenceOutDxIdeal.Run
public import proofs.«01_k».proof.Proof.Gen.ReferenceOutDxIdeal.Read
public import proofs.«01_k».proof.Proof.RetAlgebra
public import proofs.«01_k».proof.Proof.MlpW1Fwd
public import proofs.«01_k».proof.Proof.MlpW2Fwd
public import proofs.«01_k».proof.Proof.MlpW2Dw
public import proofs.«01_k».proof.Proof.MlpW2Dx
public import proofs.«01_k».proof.Proof.MlpW1Dw
public import proofs.«01_k».proof.Proof.MlpW1Dx
public import proofs.«01_k».proof.Proof.MixInFwd
public import proofs.«01_k».proof.Proof.MixInDw
public import proofs.«01_k».proof.Proof.MixInDx
public import proofs.«01_k».proof.Proof.MixOutFwd
public import proofs.«01_k».proof.Proof.MixOutDw
public import proofs.«01_k».proof.Proof.MixOutDx
public import proofs.«01_k».proof.Proof.Gen.KernelEvInFwd
public import proofs.«01_k».proof.Proof.Gen.KernelEvInFwd.Skeleton
public import proofs.«01_k».proof.Proof.Gen.KernelEvInFwd.Launch
public import proofs.«01_k».proof.Proof.Gen.KernelEvInFwd.Points
public import proofs.«01_k».proof.Proof.Gen.KernelEvInFwd.Frame
public import proofs.«01_k».proof.Proof.Gen.KernelEvInFwdIdeal
public import proofs.«01_k».proof.Proof.Gen.KernelEvInFwdIdeal.Skeleton
public import proofs.«01_k».proof.Proof.Gen.KernelEvInFwdIdeal.Launch
public import proofs.«01_k».proof.Proof.Gen.KernelEvInFwdIdeal.Points
public import proofs.«01_k».proof.Proof.Gen.KernelEvInFwdIdeal.Frame
public import proofs.«01_k».proof.Proof.Gen.KernelEvInFwdIdeal.Value
public import proofs.«01_k».proof.Proof.Gen.ReferenceEvInFwdIdeal
public import proofs.«01_k».proof.Proof.Gen.ReferenceEvInFwdIdeal.Run
public import proofs.«01_k».proof.Proof.Gen.ReferenceEvInFwdIdeal.Read
public import proofs.«01_k».proof.Proof.Gen.KernelEvInDw
public import proofs.«01_k».proof.Proof.Gen.KernelEvInDw.Skeleton
public import proofs.«01_k».proof.Proof.Gen.KernelEvInDw.Launch
public import proofs.«01_k».proof.Proof.Gen.KernelEvInDw.Points
public import proofs.«01_k».proof.Proof.Gen.KernelEvInDw.Frame
public import proofs.«01_k».proof.Proof.Gen.KernelEvInDwIdeal
public import proofs.«01_k».proof.Proof.Gen.KernelEvInDwIdeal.Skeleton
public import proofs.«01_k».proof.Proof.Gen.KernelEvInDwIdeal.Launch
public import proofs.«01_k».proof.Proof.Gen.KernelEvInDwIdeal.Points
public import proofs.«01_k».proof.Proof.Gen.KernelEvInDwIdeal.Frame
public import proofs.«01_k».proof.Proof.Gen.KernelEvInDwIdeal.Value
public import proofs.«01_k».proof.Proof.Gen.ReferenceEvInDwIdeal
public import proofs.«01_k».proof.Proof.Gen.ReferenceEvInDwIdeal.Run
public import proofs.«01_k».proof.Proof.Gen.ReferenceEvInDwIdeal.Read
public import proofs.«01_k».proof.Proof.Gen.KernelEvInDx
public import proofs.«01_k».proof.Proof.Gen.KernelEvInDx.Skeleton
public import proofs.«01_k».proof.Proof.Gen.KernelEvInDx.Launch
public import proofs.«01_k».proof.Proof.Gen.KernelEvInDx.Points
public import proofs.«01_k».proof.Proof.Gen.KernelEvInDx.Frame
public import proofs.«01_k».proof.Proof.Gen.KernelEvInDxIdeal
public import proofs.«01_k».proof.Proof.Gen.KernelEvInDxIdeal.Skeleton
public import proofs.«01_k».proof.Proof.Gen.KernelEvInDxIdeal.Launch
public import proofs.«01_k».proof.Proof.Gen.KernelEvInDxIdeal.Points
public import proofs.«01_k».proof.Proof.Gen.KernelEvInDxIdeal.Frame
public import proofs.«01_k».proof.Proof.Gen.KernelEvInDxIdeal.Value
public import proofs.«01_k».proof.Proof.Gen.ReferenceEvInDxIdeal
public import proofs.«01_k».proof.Proof.Gen.ReferenceEvInDxIdeal.Run
public import proofs.«01_k».proof.Proof.Gen.ReferenceEvInDxIdeal.Read
public import proofs.«01_k».proof.Proof.Gen.KernelEvOutFwd
public import proofs.«01_k».proof.Proof.Gen.KernelEvOutFwd.Skeleton
public import proofs.«01_k».proof.Proof.Gen.KernelEvOutFwd.Launch
public import proofs.«01_k».proof.Proof.Gen.KernelEvOutFwd.Points
public import proofs.«01_k».proof.Proof.Gen.KernelEvOutFwd.Frame
public import proofs.«01_k».proof.Proof.Gen.KernelEvOutFwdIdeal
public import proofs.«01_k».proof.Proof.Gen.KernelEvOutFwdIdeal.Skeleton
public import proofs.«01_k».proof.Proof.Gen.KernelEvOutFwdIdeal.Launch
public import proofs.«01_k».proof.Proof.Gen.KernelEvOutFwdIdeal.Points
public import proofs.«01_k».proof.Proof.Gen.KernelEvOutFwdIdeal.Frame
public import proofs.«01_k».proof.Proof.Gen.KernelEvOutFwdIdeal.Value
public import proofs.«01_k».proof.Proof.Gen.ReferenceEvOutFwdIdeal
public import proofs.«01_k».proof.Proof.Gen.ReferenceEvOutFwdIdeal.Run
public import proofs.«01_k».proof.Proof.Gen.ReferenceEvOutFwdIdeal.Read
public import proofs.«01_k».proof.Proof.Gen.KernelEvOutDw
public import proofs.«01_k».proof.Proof.Gen.KernelEvOutDw.Skeleton
public import proofs.«01_k».proof.Proof.Gen.KernelEvOutDw.Launch
public import proofs.«01_k».proof.Proof.Gen.KernelEvOutDw.Points
public import proofs.«01_k».proof.Proof.Gen.KernelEvOutDw.Frame
public import proofs.«01_k».proof.Proof.Gen.KernelEvOutDwIdeal
public import proofs.«01_k».proof.Proof.Gen.KernelEvOutDwIdeal.Skeleton
public import proofs.«01_k».proof.Proof.Gen.KernelEvOutDwIdeal.Launch
public import proofs.«01_k».proof.Proof.Gen.KernelEvOutDwIdeal.Points
public import proofs.«01_k».proof.Proof.Gen.KernelEvOutDwIdeal.Frame
public import proofs.«01_k».proof.Proof.Gen.KernelEvOutDwIdeal.Value
public import proofs.«01_k».proof.Proof.Gen.ReferenceEvOutDwIdeal
public import proofs.«01_k».proof.Proof.Gen.ReferenceEvOutDwIdeal.Run
public import proofs.«01_k».proof.Proof.Gen.ReferenceEvOutDwIdeal.Read
public import proofs.«01_k».proof.Proof.Gen.KernelEvOutDx
public import proofs.«01_k».proof.Proof.Gen.KernelEvOutDx.Skeleton
public import proofs.«01_k».proof.Proof.Gen.KernelEvOutDx.Launch
public import proofs.«01_k».proof.Proof.Gen.KernelEvOutDx.Points
public import proofs.«01_k».proof.Proof.Gen.KernelEvOutDx.Frame
public import proofs.«01_k».proof.Proof.Gen.KernelEvOutDxIdeal
public import proofs.«01_k».proof.Proof.Gen.KernelEvOutDxIdeal.Skeleton
public import proofs.«01_k».proof.Proof.Gen.KernelEvOutDxIdeal.Launch
public import proofs.«01_k».proof.Proof.Gen.KernelEvOutDxIdeal.Points
public import proofs.«01_k».proof.Proof.Gen.KernelEvOutDxIdeal.Frame
public import proofs.«01_k».proof.Proof.Gen.KernelEvOutDxIdeal.Value
public import proofs.«01_k».proof.Proof.Gen.ReferenceEvOutDxIdeal
public import proofs.«01_k».proof.Proof.Gen.ReferenceEvOutDxIdeal.Run
public import proofs.«01_k».proof.Proof.Gen.ReferenceEvOutDxIdeal.Read
public import proofs.«01_k».proof.Proof.Gen.KernelLnBwd
public import proofs.«01_k».proof.Proof.Gen.KernelLnBwd.Skeleton
public import proofs.«01_k».proof.Proof.Gen.KernelLnBwd.Launch
public import proofs.«01_k».proof.Proof.Gen.KernelLnBwd.Points
public import proofs.«01_k».proof.Proof.Gen.KernelLnBwd.Frame
public import proofs.«01_k».proof.Proof.Gen.KernelLnBwdIdeal
public import proofs.«01_k».proof.Proof.Gen.KernelLnBwdIdeal.Skeleton
public import proofs.«01_k».proof.Proof.Gen.KernelLnBwdIdeal.Launch
public import proofs.«01_k».proof.Proof.Gen.KernelLnBwdIdeal.Points
public import proofs.«01_k».proof.Proof.Gen.KernelLnBwdIdeal.Frame
public import proofs.«01_k».proof.Proof.Gen.KernelLnBwdIdeal.Value
public import proofs.«01_k».proof.Proof.Gen.ReferenceLnBwdIdeal
public import proofs.«01_k».proof.Proof.Gen.ReferenceLnBwdIdeal.Run
public import proofs.«01_k».proof.Proof.Gen.ReferenceLnBwdIdeal.Read
public import proofs.«01_k».proof.Proof.Gen.KernelAttnBwd
public import proofs.«01_k».proof.Proof.Gen.KernelAttnBwd.Skeleton
public import proofs.«01_k».proof.Proof.Gen.KernelAttnBwd.Launch
public import proofs.«01_k».proof.Proof.Gen.KernelAttnBwd.Points
public import proofs.«01_k».proof.Proof.Gen.KernelAttnBwd.Frame
public import proofs.«01_k».proof.Proof.Gen.KernelAttnBwdIdeal
public import proofs.«01_k».proof.Proof.Gen.KernelAttnBwdIdeal.Skeleton
public import proofs.«01_k».proof.Proof.Gen.KernelAttnBwdIdeal.Launch
public import proofs.«01_k».proof.Proof.Gen.KernelAttnBwdIdeal.Points
public import proofs.«01_k».proof.Proof.Gen.KernelAttnBwdIdeal.Frame
public import proofs.«01_k».proof.Proof.Gen.KernelAttnBwdIdeal.Value
public import proofs.«01_k».proof.Proof.Gen.ReferenceAttnBwdIdeal
public import proofs.«01_k».proof.Proof.Gen.ReferenceAttnBwdIdeal.Run
public import proofs.«01_k».proof.Proof.Gen.ReferenceAttnBwdIdeal.Read
public import proofs.«01_k».proof.Proof.Gen.Pre_finite_attn_args
public import proofs.«01_k».proof.Proof.MixEvInFwd
public import proofs.«01_k».proof.Proof.MixEvInDw
public import proofs.«01_k».proof.Proof.MixEvInDx
public import proofs.«01_k».proof.Proof.MixEvOutFwd
public import proofs.«01_k».proof.Proof.MixEvOutDw
public import proofs.«01_k».proof.Proof.MixEvOutDx
public import proofs.«01_k».proof.Proof.LnBwd
public import proofs.«01_k».proof.Proof.AttnFinal
public import Idealize.ShloMosaic.Adequacy
public import Idealize.ShloMosaic.Init

@[expose] public section

noncomputable section

namespace Cert.Proof

open Idealize.ShloMosaic Idealize.SL.Sem Cert.Kernel

/-- The reference ends with its arguments unchanged and, declaring no semaphore, every counter at zero. -/
theorem frame_ref : Cert.quiescent_ReferenceIdeal (hReferenceIdeal := Cert.ReferenceIdeal.Gen.facts) :=
  fun m ρ _ => (θ_run (Cert.ReferenceIdeal.defs (F := Ideal)) _ _).mono (fun r h => And.intro (fun c => (h c).2.2.2)
      (Idealize.ShloMosaic.sem_eq_zero_of_no_sems (by decide) r.2))
    (Cert.ReferenceIdeal.Value.run (F := Ideal) m ρ)

/-- Every claim of the certificate: the frames are the generated ones, the values those of the modules imported above. -/
theorem claim : Cert.Claim := ⟨Cert.Kernel.Gen.facts, Cert.KernelIdeal.Gen.facts, Cert.ReferenceIdeal.Gen.facts,
  Cert.KernelW1Fwd.Gen.facts, Cert.KernelW1FwdIdeal.Gen.facts, Cert.ReferenceW1FwdIdeal.Gen.facts,
  Cert.KernelW2Fwd.Gen.facts, Cert.KernelW2FwdIdeal.Gen.facts, Cert.ReferenceW2FwdIdeal.Gen.facts,
  Cert.KernelW2Dw.Gen.facts, Cert.KernelW2DwIdeal.Gen.facts, Cert.ReferenceW2DwIdeal.Gen.facts,
  Cert.KernelW2Dx.Gen.facts, Cert.KernelW2DxIdeal.Gen.facts, Cert.ReferenceW2DxIdeal.Gen.facts,
  Cert.KernelW1Dw.Gen.facts, Cert.KernelW1DwIdeal.Gen.facts, Cert.ReferenceW1DwIdeal.Gen.facts,
  Cert.KernelW1Dx.Gen.facts, Cert.KernelW1DxIdeal.Gen.facts, Cert.ReferenceW1DxIdeal.Gen.facts,
  Cert.KernelInFwd.Gen.facts, Cert.KernelInFwdIdeal.Gen.facts, Cert.ReferenceInFwdIdeal.Gen.facts,
  Cert.KernelInDw.Gen.facts, Cert.KernelInDwIdeal.Gen.facts, Cert.ReferenceInDwIdeal.Gen.facts,
  Cert.KernelInDx.Gen.facts, Cert.KernelInDxIdeal.Gen.facts, Cert.ReferenceInDxIdeal.Gen.facts,
  Cert.KernelOutFwd.Gen.facts, Cert.KernelOutFwdIdeal.Gen.facts, Cert.ReferenceOutFwdIdeal.Gen.facts,
  Cert.KernelOutDw.Gen.facts, Cert.KernelOutDwIdeal.Gen.facts, Cert.ReferenceOutDwIdeal.Gen.facts,
  Cert.KernelOutDx.Gen.facts, Cert.KernelOutDxIdeal.Gen.facts, Cert.ReferenceOutDxIdeal.Gen.facts,
  Cert.KernelEvInFwd.Gen.facts, Cert.KernelEvInFwdIdeal.Gen.facts, Cert.ReferenceEvInFwdIdeal.Gen.facts,
  Cert.KernelEvInDw.Gen.facts, Cert.KernelEvInDwIdeal.Gen.facts, Cert.ReferenceEvInDwIdeal.Gen.facts,
  Cert.KernelEvInDx.Gen.facts, Cert.KernelEvInDxIdeal.Gen.facts, Cert.ReferenceEvInDxIdeal.Gen.facts,
  Cert.KernelEvOutFwd.Gen.facts, Cert.KernelEvOutFwdIdeal.Gen.facts, Cert.ReferenceEvOutFwdIdeal.Gen.facts,
  Cert.KernelEvOutDw.Gen.facts, Cert.KernelEvOutDwIdeal.Gen.facts, Cert.ReferenceEvOutDwIdeal.Gen.facts,
  Cert.KernelEvOutDx.Gen.facts, Cert.KernelEvOutDxIdeal.Gen.facts, Cert.ReferenceEvOutDxIdeal.Gen.facts,
  Cert.KernelLnBwd.Gen.facts, Cert.KernelLnBwdIdeal.Gen.facts, Cert.ReferenceLnBwdIdeal.Gen.facts,
  Cert.KernelAttnBwd.Gen.facts, Cert.KernelAttnBwdIdeal.Gen.facts, Cert.ReferenceAttnBwdIdeal.Gen.facts,
  Cert.Pre_finite_args.Gen.facts,
  Cert.Pre_finite_attn_args.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.KernelW1Fwd.Gen.frame m ρ,
  fun m ρ _ => Cert.KernelW1FwdIdeal.Gen.frame m ρ,
  fun m ρ _ => (θ_run _ _ _).mono (fun r h => And.intro (fun c => (h c).2) (sem_eq_zero_of_no_sems (by decide) r.2)) (Cert.ReferenceW1FwdIdeal.Value.run (F := Ideal) m ρ),
  fun m ρ _ => Cert.KernelW2Fwd.Gen.frame m ρ,
  fun m ρ _ => Cert.KernelW2FwdIdeal.Gen.frame m ρ,
  fun m ρ _ => (θ_run _ _ _).mono (fun r h => And.intro (fun c => (h c).2) (sem_eq_zero_of_no_sems (by decide) r.2)) (Cert.ReferenceW2FwdIdeal.Value.run (F := Ideal) m ρ),
  fun m ρ _ => Cert.KernelW2Dw.Gen.frame m ρ,
  fun m ρ _ => Cert.KernelW2DwIdeal.Gen.frame m ρ,
  fun m ρ _ => (θ_run _ _ _).mono (fun r h => And.intro (fun c => (h c).2) (sem_eq_zero_of_no_sems (by decide) r.2)) (Cert.ReferenceW2DwIdeal.Value.run (F := Ideal) m ρ),
  fun m ρ _ => Cert.KernelW2Dx.Gen.frame m ρ,
  fun m ρ _ => Cert.KernelW2DxIdeal.Gen.frame m ρ,
  fun m ρ _ => (θ_run _ _ _).mono (fun r h => And.intro (fun c => (h c).2) (sem_eq_zero_of_no_sems (by decide) r.2)) (Cert.ReferenceW2DxIdeal.Value.run (F := Ideal) m ρ),
  fun m ρ _ => Cert.KernelW1Dw.Gen.frame m ρ,
  fun m ρ _ => Cert.KernelW1DwIdeal.Gen.frame m ρ,
  fun m ρ _ => (θ_run _ _ _).mono (fun r h => And.intro (fun c => (h c).2) (sem_eq_zero_of_no_sems (by decide) r.2)) (Cert.ReferenceW1DwIdeal.Value.run (F := Ideal) m ρ),
  fun m ρ _ => Cert.KernelW1Dx.Gen.frame m ρ,
  fun m ρ _ => Cert.KernelW1DxIdeal.Gen.frame m ρ,
  fun m ρ _ => (θ_run _ _ _).mono (fun r h => And.intro (fun c => (h c).2) (sem_eq_zero_of_no_sems (by decide) r.2)) (Cert.ReferenceW1DxIdeal.Value.run (F := Ideal) m ρ),
  fun m ρ _ => Cert.KernelInFwd.Gen.frame m ρ,
  fun m ρ _ => Cert.KernelInFwdIdeal.Gen.frame m ρ,
  fun m ρ _ => (θ_run _ _ _).mono (fun r h => And.intro (fun c => (h c).2) (sem_eq_zero_of_no_sems (by decide) r.2)) (Cert.ReferenceInFwdIdeal.Value.run (F := Ideal) m ρ),
  fun m ρ _ => Cert.KernelInDw.Gen.frame m ρ,
  fun m ρ _ => Cert.KernelInDwIdeal.Gen.frame m ρ,
  fun m ρ _ => (θ_run _ _ _).mono (fun r h => And.intro (fun c => (h c).2) (sem_eq_zero_of_no_sems (by decide) r.2)) (Cert.ReferenceInDwIdeal.Value.run (F := Ideal) m ρ),
  fun m ρ _ => Cert.KernelInDx.Gen.frame m ρ,
  fun m ρ _ => Cert.KernelInDxIdeal.Gen.frame m ρ,
  fun m ρ _ => (θ_run _ _ _).mono (fun r h => And.intro (fun c => (h c).2) (sem_eq_zero_of_no_sems (by decide) r.2)) (Cert.ReferenceInDxIdeal.Value.run (F := Ideal) m ρ),
  fun m ρ _ => Cert.KernelOutFwd.Gen.frame m ρ,
  fun m ρ _ => Cert.KernelOutFwdIdeal.Gen.frame m ρ,
  fun m ρ _ => (θ_run _ _ _).mono (fun r h => And.intro (fun c => (h c).2) (sem_eq_zero_of_no_sems (by decide) r.2)) (Cert.ReferenceOutFwdIdeal.Value.run (F := Ideal) m ρ),
  fun m ρ _ => Cert.KernelOutDw.Gen.frame m ρ,
  fun m ρ _ => Cert.KernelOutDwIdeal.Gen.frame m ρ,
  fun m ρ _ => (θ_run _ _ _).mono (fun r h => And.intro (fun c => (h c).2) (sem_eq_zero_of_no_sems (by decide) r.2)) (Cert.ReferenceOutDwIdeal.Value.run (F := Ideal) m ρ),
  fun m ρ _ => Cert.KernelOutDx.Gen.frame m ρ,
  fun m ρ _ => Cert.KernelOutDxIdeal.Gen.frame m ρ,
  fun m ρ _ => (θ_run _ _ _).mono (fun r h => And.intro (fun c => (h c).2) (sem_eq_zero_of_no_sems (by decide) r.2)) (Cert.ReferenceOutDxIdeal.Value.run (F := Ideal) m ρ),
  fun m ρ _ => Cert.KernelEvInFwd.Gen.frame m ρ,
  fun m ρ _ => Cert.KernelEvInFwdIdeal.Gen.frame m ρ,
  fun m ρ _ => (θ_run _ _ _).mono (fun r h => And.intro (fun c => (h c).2) (sem_eq_zero_of_no_sems (by decide) r.2)) (Cert.ReferenceEvInFwdIdeal.Value.run (F := Ideal) m ρ),
  fun m ρ _ => Cert.KernelEvInDw.Gen.frame m ρ,
  fun m ρ _ => Cert.KernelEvInDwIdeal.Gen.frame m ρ,
  fun m ρ _ => (θ_run _ _ _).mono (fun r h => And.intro (fun c => (h c).2) (sem_eq_zero_of_no_sems (by decide) r.2)) (Cert.ReferenceEvInDwIdeal.Value.run (F := Ideal) m ρ),
  fun m ρ _ => Cert.KernelEvInDx.Gen.frame m ρ,
  fun m ρ _ => Cert.KernelEvInDxIdeal.Gen.frame m ρ,
  fun m ρ _ => (θ_run _ _ _).mono (fun r h => And.intro (fun c => (h c).2) (sem_eq_zero_of_no_sems (by decide) r.2)) (Cert.ReferenceEvInDxIdeal.Value.run (F := Ideal) m ρ),
  fun m ρ _ => Cert.KernelEvOutFwd.Gen.frame m ρ,
  fun m ρ _ => Cert.KernelEvOutFwdIdeal.Gen.frame m ρ,
  fun m ρ _ => (θ_run _ _ _).mono (fun r h => And.intro (fun c => (h c).2) (sem_eq_zero_of_no_sems (by decide) r.2)) (Cert.ReferenceEvOutFwdIdeal.Value.run (F := Ideal) m ρ),
  fun m ρ _ => Cert.KernelEvOutDw.Gen.frame m ρ,
  fun m ρ _ => Cert.KernelEvOutDwIdeal.Gen.frame m ρ,
  fun m ρ _ => (θ_run _ _ _).mono (fun r h => And.intro (fun c => (h c).2) (sem_eq_zero_of_no_sems (by decide) r.2)) (Cert.ReferenceEvOutDwIdeal.Value.run (F := Ideal) m ρ),
  fun m ρ _ => Cert.KernelEvOutDx.Gen.frame m ρ,
  fun m ρ _ => Cert.KernelEvOutDxIdeal.Gen.frame m ρ,
  fun m ρ _ => (θ_run _ _ _).mono (fun r h => And.intro (fun c => (h c).2) (sem_eq_zero_of_no_sems (by decide) r.2)) (Cert.ReferenceEvOutDxIdeal.Value.run (F := Ideal) m ρ),
  fun m ρ _ => Cert.KernelLnBwd.Gen.frame m ρ,
  fun m ρ _ => Cert.KernelLnBwdIdeal.Gen.frame m ρ,
  fun m ρ _ => (θ_run _ _ _).mono (fun r h => And.intro (fun c => (h c).2.2.2.2) (sem_eq_zero_of_no_sems (by decide) r.2)) (Cert.ReferenceLnBwdIdeal.Value.run (F := Ideal) m ρ),
  fun m ρ _ => Cert.KernelAttnBwd.Gen.frame m ρ,
  fun m ρ _ => Cert.KernelAttnBwdIdeal.Gen.frame m ρ,
  fun m ρ _ => Cert.KernelAttnBwdIdeal.Gen.frame m ρ,
  fun m ρ _ => (θ_run _ _ _).mono (fun r h => And.intro (fun c => (h c).2.2.2) (sem_eq_zero_of_no_sems (by decide) r.2)) (Cert.ReferenceAttnBwdIdeal.Value.run (F := Ideal) m ρ),
  fun m ρ _ => (θ_run _ _ _).mono (fun r h => And.intro (fun c => (h c).2.2.2) (sem_eq_zero_of_no_sems (by decide) r.2)) (Cert.ReferenceAttnBwdIdeal.Value.run (F := Ideal) m ρ),
  trivial,
  Cert.RetAlgebra.algebraic,
  trivial,
  Cert.KernelW1FwdIdeal.Prod.algebraic,
  trivial,
  Cert.KernelW2FwdIdeal.Prod.algebraic,
  trivial,
  Cert.KernelW2DwIdeal.Prod.algebraic,
  trivial,
  Cert.KernelW2DxIdeal.Prod.algebraic,
  trivial,
  Cert.KernelW1DwIdeal.Prod.algebraic,
  trivial,
  Cert.KernelW1DxIdeal.Prod.algebraic,
  trivial,
  Cert.KernelInFwdIdeal.Prod.algebraic,
  trivial,
  Cert.KernelInDwIdeal.Prod.algebraic,
  trivial,
  Cert.KernelInDxIdeal.Prod.algebraic,
  trivial,
  Cert.KernelOutFwdIdeal.Prod.algebraic,
  trivial,
  Cert.KernelOutDwIdeal.Prod.algebraic,
  trivial,
  Cert.KernelOutDxIdeal.Prod.algebraic,
  trivial,
  Cert.KernelEvInFwdIdeal.Prod.algebraic,
  trivial,
  Cert.KernelEvInDwIdeal.Prod.algebraic,
  trivial,
  Cert.KernelEvInDxIdeal.Prod.algebraic,
  trivial,
  Cert.KernelEvOutFwdIdeal.Prod.algebraic,
  trivial,
  Cert.KernelEvOutDwIdeal.Prod.algebraic,
  trivial,
  Cert.KernelEvOutDxIdeal.Prod.algebraic,
  trivial,
  Cert.KernelLnBwdIdeal.Ln.algebraic,
  Cert.KernelAttnBwdIdeal.Attn.preserves,
  Cert.KernelAttnBwdIdeal.Attn.algebraic⟩

end Cert.Proof

end
